-- ==== Defs.lean ====
def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))) = (fun _ => 1#1)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)) →
    ∃ (v0 : (c : Dev Cert.ReluIdeal.nD) → Buf (Elt Ideal) ((c.tc : Thread Cert.ReluIdeal.nD Cert.ReluIdeal.τ).loc Cert.ReluIdeal.main_v2)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v2) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v12) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v1)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v1) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v5) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)) (v2 : (c : Dev Cert.ConvIdeal.nD) → Buf (Elt Ideal) ((c.tc : Thread Cert.ConvIdeal.nD Cert.ConvIdeal.τ).loc Cert.ConvIdeal.main_v4_2)) (v3 : (c : Dev Cert.ConvIdeal.nD) → Buf (Elt Ideal) ((c.tc : Thread Cert.ConvIdeal.nD Cert.ConvIdeal.τ).loc Cert.ConvIdeal.main_v4_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_v4_2) = v2 c
          ∧ r.2.mem ((c.tc : Thread Cert.ConvIdeal.nD Cert.ConvIdeal.τ).loc Cert.ConvIdeal.main_v4_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v67) = v0 c
          ∧ r.2.mem ((c.tc : Thread Cert.ConvRefIdeal.nD Cert.ConvRefIdeal.τ).loc Cert.ConvRefIdeal.main_v69) = v1 c
          ∧ r.2.mem ((c.tc : Thread Cert.ConvRefIdeal.nD Cert.ConvRefIdeal.τ).loc Cert.ConvRefIdeal.main_v71) = v2 c
          ∧ r.2.mem ((c.tc : Thread Cert.ConvRefIdeal.nD Cert.ConvRefIdeal.τ).loc Cert.ConvRefIdeal.main_v61) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)) →
    ∃ (v0 : (c : Dev Cert.Norm2Ideal.nD) → Buf (Elt Ideal) ((c.tc : Thread Cert.Norm2Ideal.nD Cert.Norm2Ideal.τ).loc Cert.Norm2Ideal.main_v5_0)) (v1 : (c : Dev Cert.Norm2Ideal.nD) → Buf (Elt Ideal) ((c.tc : Thread Cert.Norm2Ideal.nD Cert.Norm2Ideal.τ).loc Cert.Norm2Ideal.main_v5_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v5_0) = v0 c
          ∧ r.2.mem ((c.tc : Thread Cert.Norm2Ideal.nD Cert.Norm2Ideal.τ).loc Cert.Norm2Ideal.main_v5_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v38) = v0 c
          ∧ r.2.mem ((c.tc : Thread Cert.Norm2RefIdeal.nD Cert.Norm2RefIdeal.τ).loc Cert.Norm2RefIdeal.main_v39) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)) →
    ∃ (v0 : (c : Dev Cert.Norm1Ideal.nD) → Buf (Elt Ideal) ((c.tc : Thread Cert.Norm1Ideal.nD Cert.Norm1Ideal.τ).loc Cert.Norm1Ideal.main_v3_0)) (v1 : (c : Dev Cert.Norm1Ideal.nD) → Buf (Elt Ideal) ((c.tc : Thread Cert.Norm1Ideal.nD Cert.Norm1Ideal.τ).loc Cert.Norm1Ideal.main_v3_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v3_0) = v0 c
          ∧ r.2.mem ((c.tc : Thread Cert.Norm1Ideal.nD Cert.Norm1Ideal.τ).loc Cert.Norm1Ideal.main_v3_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v38) = v0 c
          ∧ r.2.mem ((c.tc : Thread Cert.Norm1RefIdeal.nD Cert.Norm1RefIdeal.τ).loc Cert.Norm1RefIdeal.main_v39) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4_0)) (v1 : (c : Dev Cert.PleIdeal.nD) → Buf (Elt Ideal) ((c.tc : Thread Cert.PleIdeal.nD Cert.PleIdeal.τ).loc Cert.PleIdeal.main_v4_1)) (v2 : (c : Dev Cert.PleIdeal.nD) → Buf (Elt Ideal) ((c.tc : Thread Cert.PleIdeal.nD Cert.PleIdeal.τ).loc Cert.PleIdeal.main_v4_2)) (v3 : (c : Dev Cert.PleIdeal.nD) → Buf (Elt Ideal) ((c.tc : Thread Cert.PleIdeal.nD Cert.PleIdeal.τ).loc Cert.PleIdeal.main_v4_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4_0) = v0 c
          ∧ r.2.mem ((c.tc : Thread Cert.PleIdeal.nD Cert.PleIdeal.τ).loc Cert.PleIdeal.main_v4_1) = v1 c
          ∧ r.2.mem ((c.tc : Thread Cert.PleIdeal.nD Cert.PleIdeal.τ).loc Cert.PleIdeal.main_v4_2) = v2 c
          ∧ r.2.mem ((c.tc : Thread Cert.PleIdeal.nD Cert.PleIdeal.τ).loc Cert.PleIdeal.main_v4_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v52) = v0 c
          ∧ r.2.mem ((c.tc : Thread Cert.PleRefIdeal.nD Cert.PleRefIdeal.τ).loc Cert.PleRefIdeal.main_v53) = v1 c
          ∧ r.2.mem ((c.tc : Thread Cert.PleRefIdeal.nD Cert.PleRefIdeal.τ).loc Cert.PleRefIdeal.main_v51) = v2 c
          ∧ r.2.mem ((c.tc : Thread Cert.PleRefIdeal.nD Cert.PleRefIdeal.τ).loc Cert.PleRefIdeal.main_v54) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Sgu_SguIdeal : Prop :=
  IdealRules.named_const.Statement Cert.SguIdeal.κ "root_half" .f32 0x3F3504F3#32 ((Real.sqrt (1 / 2) : ℝ) : EReal)
  ∧ IdealRules.named_const.Statement Cert.SguIdeal.κ "gauss" .f32 0x3ECC422A#32 (((9465531 / 16777216) * (Real.sqrt (1 / 2)) : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v8_0)) (v1 : (c : Dev Cert.SguIdeal.nD) → Buf (Elt Ideal) ((c.tc : Thread Cert.SguIdeal.nD Cert.SguIdeal.τ).loc Cert.SguIdeal.main_v8_1)) (v2 : (c : Dev Cert.SguIdeal.nD) → Buf (Elt Ideal) ((c.tc : Thread Cert.SguIdeal.nD Cert.SguIdeal.τ).loc Cert.SguIdeal.main_v8_2)) (v3 : (c : Dev Cert.SguIdeal.nD) → Buf (Elt Ideal) ((c.tc : Thread Cert.SguIdeal.nD Cert.SguIdeal.τ).loc Cert.SguIdeal.main_v8_3)) (v4 : (c : Dev Cert.SguIdeal.nD) → Buf (Elt Ideal) ((c.tc : Thread Cert.SguIdeal.nD Cert.SguIdeal.τ).loc Cert.SguIdeal.main_v8_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v8_0) = v0 c
          ∧ r.2.mem ((c.tc : Thread Cert.SguIdeal.nD Cert.SguIdeal.τ).loc Cert.SguIdeal.main_v8_1) = v1 c
          ∧ r.2.mem ((c.tc : Thread Cert.SguIdeal.nD Cert.SguIdeal.τ).loc Cert.SguIdeal.main_v8_2) = v2 c
          ∧ r.2.mem ((c.tc : Thread Cert.SguIdeal.nD Cert.SguIdeal.τ).loc Cert.SguIdeal.main_v8_3) = v3 c
          ∧ r.2.mem ((c.tc : Thread Cert.SguIdeal.nD Cert.SguIdeal.τ).loc Cert.SguIdeal.main_v8_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v120) = v0 c
          ∧ r.2.mem ((c.tc : Thread Cert.SguRefIdeal.nD Cert.SguRefIdeal.τ).loc Cert.SguRefIdeal.main_v122) = v1 c
          ∧ r.2.mem ((c.tc : Thread Cert.SguRefIdeal.nD Cert.SguRefIdeal.τ).loc Cert.SguRefIdeal.main_v72) = v2 c
          ∧ r.2.mem ((c.tc : Thread Cert.SguRefIdeal.nD Cert.SguRefIdeal.τ).loc Cert.SguRefIdeal.main_v124) = v3 c
          ∧ r.2.mem ((c.tc : Thread Cert.SguRefIdeal.nD Cert.SguRefIdeal.τ).loc Cert.SguRefIdeal.main_v125) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Attn_AttnIdeal : Prop :=
  IdealRules.named_const.Statement Cert.AttnIdeal.κ "masked" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v62_0)) (v1 : (c : Dev Cert.AttnIdeal.nD) → Buf (Elt Ideal) ((c.tc : Thread Cert.AttnIdeal.nD Cert.AttnIdeal.τ).loc Cert.AttnIdeal.main_v62_1)) (v2 : (c : Dev Cert.AttnIdeal.nD) → Buf (Elt Ideal) ((c.tc : Thread Cert.AttnIdeal.nD Cert.AttnIdeal.τ).loc Cert.AttnIdeal.main_v62_2)) (v3 : (c : Dev Cert.AttnIdeal.nD) → Buf (Elt Ideal) ((c.tc : Thread Cert.AttnIdeal.nD Cert.AttnIdeal.τ).loc Cert.AttnIdeal.main_v62_3)) (v4 : (c : Dev Cert.AttnIdeal.nD) → Buf (Elt Ideal) ((c.tc : Thread Cert.AttnIdeal.nD Cert.AttnIdeal.τ).loc Cert.AttnIdeal.main_v62_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v62_0) = v0 c
          ∧ r.2.mem ((c.tc : Thread Cert.AttnIdeal.nD Cert.AttnIdeal.τ).loc Cert.AttnIdeal.main_v62_1) = v1 c
          ∧ r.2.mem ((c.tc : Thread Cert.AttnIdeal.nD Cert.AttnIdeal.τ).loc Cert.AttnIdeal.main_v62_2) = v2 c
          ∧ r.2.mem ((c.tc : Thread Cert.AttnIdeal.nD Cert.AttnIdeal.τ).loc Cert.AttnIdeal.main_v62_3) = v3 c
          ∧ r.2.mem ((c.tc : Thread Cert.AttnIdeal.nD Cert.AttnIdeal.τ).loc Cert.AttnIdeal.main_v62_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v128) = v0 c
          ∧ r.2.mem ((c.tc : Thread Cert.AttnRefIdeal.nD Cert.AttnRefIdeal.τ).loc Cert.AttnRefIdeal.main_v130) = v1 c
          ∧ r.2.mem ((c.tc : Thread Cert.AttnRefIdeal.nD Cert.AttnRefIdeal.τ).loc Cert.AttnRefIdeal.main_v132) = v2 c
          ∧ r.2.mem ((c.tc : Thread Cert.AttnRefIdeal.nD Cert.AttnRefIdeal.τ).loc Cert.AttnRefIdeal.main_v136) = v3 c
          ∧ r.2.mem ((c.tc : Thread Cert.AttnRefIdeal.nD Cert.AttnRefIdeal.τ).loc Cert.AttnRefIdeal.main_v140) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v3) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)) →
    ∃ (v0 : (c : Dev Cert.EmbedIdeal.nD) → Buf (Elt Ideal) ((c.tc : Thread Cert.EmbedIdeal.nD Cert.EmbedIdeal.τ).loc Cert.EmbedIdeal.main_v5_0)) (v1 : (c : Dev Cert.EmbedIdeal.nD) → Buf (Elt Ideal) ((c.tc : Thread Cert.EmbedIdeal.nD Cert.EmbedIdeal.τ).loc Cert.EmbedIdeal.main_v5_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v5_0) = v0 c
          ∧ r.2.mem ((c.tc : Thread Cert.EmbedIdeal.nD Cert.EmbedIdeal.τ).loc Cert.EmbedIdeal.main_v5_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v8) = v0 c
          ∧ r.2.mem ((c.tc : Thread Cert.EmbedRefIdeal.nD Cert.EmbedRefIdeal.τ).loc Cert.EmbedRefIdeal.main_v9) = v1 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)) →
    ∃ (v0 : (c : Dev Cert.GatedIdeal.nD) → Buf (Elt Ideal) ((c.tc : Thread Cert.GatedIdeal.nD Cert.GatedIdeal.τ).loc Cert.GatedIdeal.main_v3)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v3) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v28) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1))

def preserves_Mix_MixIdeal : Prop :=
  IdealRules.named_const.Statement Cert.MixIdeal.κ "root_half" .f32 0x3F3504F3#32 ((Real.sqrt (1 / 2) : ℝ) : EReal)

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v51) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def Claim : Prop :=
  ∃ (hRelu : Cert.Relu.Facts) (hReluIdeal : Cert.ReluIdeal.Facts) (hReluRefIdeal : Cert.ReluRefIdeal.Facts) (hDw2 : Cert.Dw2.Facts) (hDw2Ideal : Cert.Dw2Ideal.Facts) (hDw2RefIdeal : Cert.Dw2RefIdeal.Facts) (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hNorm2 : Cert.Norm2.Facts) (hNorm2Ideal : Cert.Norm2Ideal.Facts) (hNorm2RefIdeal : Cert.Norm2RefIdeal.Facts) (hNorm1 : Cert.Norm1.Facts) (hNorm1Ideal : Cert.Norm1Ideal.Facts) (hNorm1RefIdeal : Cert.Norm1RefIdeal.Facts) (hPle : Cert.Ple.Facts) (hPleIdeal : Cert.PleIdeal.Facts) (hPleRefIdeal : Cert.PleRefIdeal.Facts) (hSgu : Cert.Sgu.Facts) (hSguIdeal : Cert.SguIdeal.Facts) (hSguRefIdeal : Cert.SguRefIdeal.Facts) (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hEmbed : Cert.Embed.Facts) (hEmbedIdeal : Cert.EmbedIdeal.Facts) (hEmbedRefIdeal : Cert.EmbedRefIdeal.Facts) (hGated : Cert.Gated.Facts) (hGatedIdeal : Cert.GatedIdeal.Facts) (hGatedRefIdeal : Cert.GatedRefIdeal.Facts) (hMix : Cert.Mix.Facts) (hMixIdeal : Cert.MixIdeal.Facts) (hMixRefIdeal : Cert.MixRefIdeal.Facts) (hPre_finite_sgu : Cert.Pre_finite_sgu.Facts) (hPre_finite_attn : Cert.Pre_finite_attn.Facts) (hPre_finite_mix : Cert.Pre_finite_mix.Facts),
    quiescent_Relu (hRelu := hRelu)
    ∧ quiescent_ReluIdeal (hReluIdeal := hReluIdeal)
    ∧ quiescent_ReluRefIdeal (hReluRefIdeal := hReluRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Conv (hConv := hConv)
    ∧ quiescent_ConvIdeal (hConvIdeal := hConvIdeal)
    ∧ quiescent_ConvRefIdeal (hConvRefIdeal := hConvRefIdeal)
    ∧ quiescent_Loss (hLoss := hLoss)
    ∧ quiescent_LossIdeal (hLossIdeal := hLossIdeal)
    ∧ quiescent_LossRefIdeal (hLossRefIdeal := hLossRefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Ple (hPle := hPle)
    ∧ quiescent_PleIdeal (hPleIdeal := hPleIdeal)
    ∧ quiescent_PleRefIdeal (hPleRefIdeal := hPleRefIdeal)
    ∧ quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ffn (hFfn := hFfn)
    ∧ quiescent_FfnIdeal (hFfnIdeal := hFfnIdeal)
    ∧ quiescent_FfnRefIdeal (hFfnRefIdeal := hFfnRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Gated (hGated := hGated)
    ∧ quiescent_GatedIdeal (hGatedIdeal := hGatedIdeal)
    ∧ quiescent_GatedRefIdeal (hGatedRefIdeal := hGatedRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ preserves_Relu_ReluIdeal
    ∧ algebraic_ReluIdeal_ReluRefIdeal (hReluIdeal := hReluIdeal) (hReluRefIdeal := hReluRefIdeal)
    ∧ preserves_Dw2_Dw2Ideal
    ∧ algebraic_Dw2Ideal_Dw2RefIdeal (hDw2Ideal := hDw2Ideal) (hDw2RefIdeal := hDw2RefIdeal)
    ∧ preserves_Conv_ConvIdeal
    ∧ algebraic_ConvIdeal_ConvRefIdeal (hConvIdeal := hConvIdeal) (hConvRefIdeal := hConvRefIdeal)
    ∧ preserves_Loss_LossIdeal
    ∧ algebraic_LossIdeal_LossRefIdeal (hLossIdeal := hLossIdeal) (hLossRefIdeal := hLossRefIdeal)
    ∧ preserves_Norm2_Norm2Ideal
    ∧ algebraic_Norm2Ideal_Norm2RefIdeal (hNorm2Ideal := hNorm2Ideal) (hNorm2RefIdeal := hNorm2RefIdeal)
    ∧ preserves_Norm1_Norm1Ideal
    ∧ algebraic_Norm1Ideal_Norm1RefIdeal (hNorm1Ideal := hNorm1Ideal) (hNorm1RefIdeal := hNorm1RefIdeal)
    ∧ preserves_Ple_PleIdeal
    ∧ algebraic_PleIdeal_PleRefIdeal (hPleIdeal := hPleIdeal) (hPleRefIdeal := hPleRefIdeal)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ffn_FfnIdeal
    ∧ algebraic_FfnIdeal_FfnRefIdeal (hFfnIdeal := hFfnIdeal) (hFfnRefIdeal := hFfnRefIdeal)
    ∧ preserves_Embed_EmbedIdeal
    ∧ algebraic_EmbedIdeal_EmbedRefIdeal (hEmbedIdeal := hEmbedIdeal) (hEmbedRefIdeal := hEmbedRefIdeal)
    ∧ preserves_Gated_GatedIdeal
    ∧ algebraic_GatedIdeal_GatedRefIdeal (hGatedIdeal := hGatedIdeal) (hGatedRefIdeal := hGatedRefIdeal)
    ∧ preserves_Mix_MixIdeal
    ∧ algebraic_MixIdeal_MixRefIdeal_pre_finite_mix (hMixIdeal := hMixIdeal) (hMixRefIdeal := hMixRefIdeal) (hPre_finite_mix := hPre_finite_mix)
-- ==== Pre_finite_attn.lean ====
abbrev S1x2048x2816 : Shape := ⟨3, ![1, 2048, 2816]⟩
abbrev S64 : Shape := ⟨1, ![64]⟩
abbrev S1x2048x1024 : Shape := ⟨3, ![1, 2048, 1024]⟩
abbrev S_ : Shape := ⟨0, ![]⟩

class Facts : Prop where
  bcast_S_S1x2048x2816 : S_.BroadcastsInDim S1x2048x2816 (![] : Fin 0 → Fin S1x2048x2816.rank)
  bcast_S_S64 : S_.BroadcastsInDim S64 (![] : Fin 0 → Fin S64.rank)
  bcast_S_S1x2048x1024 : S_.BroadcastsInDim S1x2048x1024 (![] : Fin 0 → Fin S1x2048x1024.rank)

variable [Facts]

def fn_part1 {F : FTy → Type} [FloatOps F] (main_arg3 : FVec F S1x2048x1024 .f32) (main_v4 : IVec S1x2048x2816 1) (main_v9 : IVec S64 1) (main_v14 : IVec S64 1) (main_v16 : IVec S1x2048x1024 1) : IVec S1x2048x2816 1 × IVec S64 1 × IVec S64 1 × IVec S1x2048x1024 1 :=
  let main_cst_6 : FVec F S_ .f32 := constant S_ .f32 0xFF800000#32
  let main_v17 : FVec F S1x2048x1024 .f32 := broadcastInDim S1x2048x1024 ![] bcast_S_S1x2048x1024 main_cst_6
  let main_v18 : IVec S1x2048x1024 1 := cmpf .ogt main_arg3 main_v17
  let main_v19 : IVec S1x2048x1024 1 := andi main_v16 main_v18
  (main_v4, main_v9, main_v14, main_v19)

def fn {F : FTy → Type} [FloatOps F] (main_arg0 : FVec F S1x2048x2816 .f32) (main_arg1 : FVec F S64 .f32) (main_arg2 : FVec F S64 .f32) (main_arg3 : FVec F S1x2048x1024 .f32) : IVec S1x2048x2816 1 × IVec S64 1 × IVec S64 1 × IVec S1x2048x1024 1 :=
  let main_cst : FVec F S_ .f32 := constant S_ .f32 0x7F800000#32
  let main_v0 : FVec F S1x2048x2816 .f32 := broadcastInDim S1x2048x2816 ![] bcast_S_S1x2048x2816 main_cst
  let main_v1 : IVec S1x2048x2816 1 := cmpf .olt main_arg0 main_v0
  let main_cst_0 : FVec F S_ .f32 := constant S_ .f32 0xFF800000#32
  let main_v2 : FVec F S1x2048x2816 .f32 := broadcastInDim S1x2048x2816 ![] bcast_S_S1x2048x2816 main_cst_0
  let main_v3 : IVec S1x2048x2816 1 := cmpf .ogt main_arg0 main_v2
  let main_v4 : IVec S1x2048x2816 1 := andi main_v1 main_v3
  let main_cst_1 : FVec F S_ .f32 := constant S_ .f32 0x7F800000#32
  let main_v5 : FVec F S64 .f32 := broadcastInDim S64 ![] bcast_S_S64 main_cst_1
  let main_v6 : IVec S64 1 := cmpf .olt main_arg1 main_v5
  let main_cst_2 : FVec F S_ .f32 := constant S_ .f32 0xFF800000#32
  let main_v7 : FVec F S64 .f32 := broadcastInDim S64 ![] bcast_S_S64 main_cst_2
  let main_v8 : IVec S64 1 := cmpf .ogt main_arg1 main_v7
  let main_v9 : IVec S64 1 := andi main_v6 main_v8
  let main_cst_3 : FVec F S_ .f32 := constant S_ .f32 0x7F800000#32
  let main_v10 : FVec F S64 .f32 := broadcastInDim S64 ![] bcast_S_S64 main_cst_3
  let main_v11 : IVec S64 1 := cmpf .olt main_arg2 main_v10
  let main_cst_4 : FVec F S_ .f32 := constant S_ .f32 0xFF800000#32
  let main_v12 : FVec F S64 .f32 := broadcastInDim S64 ![] bcast_S_S64 main_cst_4
  let main_v13 : IVec S64 1 := cmpf .ogt main_arg2 main_v12
  let main_v14 : IVec S64 1 := andi main_v11 main_v13
  let main_cst_5 : FVec F S_ .f32 := constant S_ .f32 0x7F800000#32
  let main_v15 : FVec F S1x2048x1024 .f32 := broadcastInDim S1x2048x1024 ![] bcast_S_S1x2048x1024 main_cst_5
  let main_v16 : IVec S1x2048x1024 1 := cmpf .olt main_arg3 main_v15
  fn_part1 (F := F) main_arg3 main_v4 main_v9 main_v14 main_v16
-- ==== Pre_finite_mix.lean ====
abbrev S1x2048x2816 : Shape := ⟨3, ![1, 2048, 2816]⟩
abbrev S256 : Shape := ⟨1, ![256]⟩
abbrev S4x128x128 : Shape := ⟨3, ![4, 128, 128]⟩
abbrev S4x128 : Shape := ⟨2, ![4, 128]⟩
abbrev S1x2048x1024 : Shape := ⟨3, ![1, 2048, 1024]⟩
abbrev S1x2048x256 : Shape := ⟨3, ![1, 2048, 256]⟩
abbrev S_ : Shape := ⟨0, ![]⟩

class Facts : Prop where
  slices_S1x2048x2816_S1x2048x256_0_0_2560 : S1x2048x2816.Slices ![0, 0, 2560] S1x2048x256
  bcast_S_S1x2048x256 : S_.BroadcastsInDim S1x2048x256 (![] : Fin 0 → Fin S1x2048x256.rank)

variable [Facts]

def fn {F : FTy → Type} [FloatOps F] (main_arg0 : FVec F S1x2048x2816 .f32) (main_arg1 : FVec F S256 .f32) (main_arg2 : FVec F S4x128x128 .f32) (main_arg3 : FVec F S4x128 .f32) (main_arg4 : FVec F S1x2048x1024 .f32) : IVec S1x2048x256 1 :=
  let main_v0 : FVec F S1x2048x256 .f32 := (extractStridedSlice S1x2048x256 ![0, 0, 2560] · slices_S1x2048x2816_S1x2048x256_0_0_2560) main_arg0
  let main_cst : FVec F S_ .f32 := constant S_ .f32 0x7F800000#32
  let main_v1 : FVec F S1x2048x256 .f32 := broadcastInDim S1x2048x256 ![] bcast_S_S1x2048x256 main_cst
  let main_v2 : IVec S1x2048x256 1 := cmpf .olt main_v0 main_v1
  let main_cst_0 : FVec F S_ .f32 := constant S_ .f32 0xFF800000#32
  let main_v3 : FVec F S1x2048x256 .f32 := broadcastInDim S1x2048x256 ![] bcast_S_S1x2048x256 main_cst_0
  let main_v4 : IVec S1x2048x256 1 := cmpf .ogt main_v0 main_v3
  let main_v5 : IVec S1x2048x256 1 := andi main_v2 main_v4
  main_v5
-- ==== Pre_finite_sgu.lean ====
abbrev S1x2048x2816 : Shape := ⟨3, ![1, 2048, 2816]⟩
abbrev S256 : Shape := ⟨1, ![256]⟩
abbrev S4x128x128 : Shape := ⟨3, ![4, 128, 128]⟩
abbrev S4x128 : Shape := ⟨2, ![4, 128]⟩
abbrev S1x2048x1024 : Shape := ⟨3, ![1, 2048, 1024]⟩
abbrev S_ : Shape := ⟨0, ![]⟩

class Facts : Prop where
  bcast_S_S1x2048x2816 : S_.BroadcastsInDim S1x2048x2816 (![] : Fin 0 → Fin S1x2048x2816.rank)
  bcast_S_S256 : S_.BroadcastsInDim S256 (![] : Fin 0 → Fin S256.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S1x2048x1024 : S_.BroadcastsInDim S1x2048x1024 (![] : Fin 0 → Fin S1x2048x1024.rank)

variable [Facts]

def fn_part1 {F : FTy → Type} [FloatOps F] (main_arg3 : FVec F S4x128 .f32) (main_arg4 : FVec F S1x2048x1024 .f32) (main_v4 : IVec S1x2048x2816 1) (main_v9 : IVec S256 1) (main_v14 : IVec S4x128x128 1) (main_v16 : IVec S4x128 1) : IVec S1x2048x2816 1 × IVec S256 1 × IVec S4x128x128 1 × IVec S4x128 1 × IVec S1x2048x1024 1 :=
  let main_cst_6 : FVec F S_ .f32 := constant S_ .f32 0xFF800000#32
  let main_v17 : FVec F S4x128 .f32 := broadcastInDim S4x128 ![] bcast_S_S4x128 main_cst_6
  let main_v18 : IVec S4x128 1 := cmpf .ogt main_arg3 main_v17
  let main_v19 : IVec S4x128 1 := andi main_v16 main_v18
  let main_cst_7 : FVec F S_ .f32 := constant S_ .f32 0x7F800000#32
  let main_v20 : FVec F S1x2048x1024 .f32 := broadcastInDim S1x2048x1024 ![] bcast_S_S1x2048x1024 main_cst_7
  let main_v21 : IVec S1x2048x1024 1 := cmpf .olt main_arg4 main_v20
  let main_cst_8 : FVec F S_ .f32 := constant S_ .f32 0xFF800000#32
  let main_v22 : FVec F S1x2048x1024 .f32 := broadcastInDim S1x2048x1024 ![] bcast_S_S1x2048x1024 main_cst_8
  let main_v23 : IVec S1x2048x1024 1 := cmpf .ogt main_arg4 main_v22
  let main_v24 : IVec S1x2048x1024 1 := andi main_v21 main_v23
  (main_v4, main_v9, main_v14, main_v19, main_v24)

def fn {F : FTy → Type} [FloatOps F] (main_arg0 : FVec F S1x2048x2816 .f32) (main_arg1 : FVec F S256 .f32) (main_arg2 : FVec F S4x128x128 .f32) (main_arg3 : FVec F S4x128 .f32) (main_arg4 : FVec F S1x2048x1024 .f32) : IVec S1x2048x2816 1 × IVec S256 1 × IVec S4x128x128 1 × IVec S4x128 1 × IVec S1x2048x1024 1 :=
  let main_cst : FVec F S_ .f32 := constant S_ .f32 0x7F800000#32
  let main_v0 : FVec F S1x2048x2816 .f32 := broadcastInDim S1x2048x2816 ![] bcast_S_S1x2048x2816 main_cst
  let main_v1 : IVec S1x2048x2816 1 := cmpf .olt main_arg0 main_v0
  let main_cst_0 : FVec F S_ .f32 := constant S_ .f32 0xFF800000#32
  let main_v2 : FVec F S1x2048x2816 .f32 := broadcastInDim S1x2048x2816 ![] bcast_S_S1x2048x2816 main_cst_0
  let main_v3 : IVec S1x2048x2816 1 := cmpf .ogt main_arg0 main_v2
  let main_v4 : IVec S1x2048x2816 1 := andi main_v1 main_v3
  let main_cst_1 : FVec F S_ .f32 := constant S_ .f32 0x7F800000#32
  let main_v5 : FVec F S256 .f32 := broadcastInDim S256 ![] bcast_S_S256 main_cst_1
  let main_v6 : IVec S256 1 := cmpf .olt main_arg1 main_v5
  let main_cst_2 : FVec F S_ .f32 := constant S_ .f32 0xFF800000#32
  let main_v7 : FVec F S256 .f32 := broadcastInDim S256 ![] bcast_S_S256 main_cst_2
  let main_v8 : IVec S256 1 := cmpf .ogt main_arg1 main_v7
  let main_v9 : IVec S256 1 := andi main_v6 main_v8
  let main_cst_3 : FVec F S_ .f32 := constant S_ .f32 0x7F800000#32
  let main_v10 : FVec F S4x128x128 .f32 := broadcastInDim S4x128x128 ![] bcast_S_S4x128x128 main_cst_3
  let main_v11 : IVec S4x128x128 1 := cmpf .olt main_arg2 main_v10
  let main_cst_4 : FVec F S_ .f32 := constant S_ .f32 0xFF800000#32
  let main_v12 : FVec F S4x128x128 .f32 := broadcastInDim S4x128x128 ![] bcast_S_S4x128x128 main_cst_4
  let main_v13 : IVec S4x128x128 1 := cmpf .ogt main_arg2 main_v12
  let main_v14 : IVec S4x128x128 1 := andi main_v11 main_v13
  let main_cst_5 : FVec F S_ .f32 := constant S_ .f32 0x7F800000#32
  let main_v15 : FVec F S4x128 .f32 := broadcastInDim S4x128 ![] bcast_S_S4x128 main_cst_5
  let main_v16 : IVec S4x128 1 := cmpf .olt main_arg3 main_v15
  fn_part1 (F := F) main_arg3 main_arg4 main_v4 main_v9 main_v14 main_v16
-- ==== Relu.lean ====
abbrev S2048x4096 : Shape := ⟨2, ![2048, 4096]⟩
abbrev S4096x1024 : Shape := ⟨2, ![4096, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S4096x1024, .bf16⟩
  | .hbm, ⟨4, _⟩ => ⟨S2048x4096, .bf16⟩
  | .hbm, ⟨5, _⟩ => ⟨S2048x4096, .bf16⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReluRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dw2.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x4096, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw2RefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Conv.lean ====
abbrev S1x2048x2816 : Shape := ⟨3, ![1, 2048, 2816]⟩
abbrev S3x256 : Shape := ⟨2, ![3, 256]⟩
abbrev S1x2048x1024 : Shape := ⟨3, ![1, 2048, 1024]⟩
abbrev S2048x1024 : Shape := ⟨2, ![2048, 1024]⟩
abbrev S2048x2816 : Shape := ⟨2, ![2048, 2816]⟩
abbrev S2048x256 : Shape := ⟨2, ![2048, 256]⟩
abbrev S1x256 : Shape := ⟨2, ![1, 256]⟩
abbrev S256 : Shape := ⟨1, ![256]⟩

abbrev nBuf : Space → Nat
  | .hbm => 11
  | .vmem => 9
  | .smem => 0
  | _ => 0

abbrev bufTy : (tb : Table) → Fin (tcTables nBuf tb) → BufTy
  | .hbm, ⟨0, _⟩ => ⟨S1x2048x2816, .f32⟩
  | .hbm, ⟨1, _⟩ => ⟨S3x256, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S2048x2816, .f32⟩
  | .hbm, ⟨6, _⟩ => ⟨S2048x2816, .bf16⟩
  | .hbm, ⟨7, _⟩ => ⟨S2048x256, .bf16⟩
  | .hbm, ⟨8, _⟩ => ⟨S2048x256, .bf16⟩
  | .hbm, ⟨9, _⟩ => ⟨S2048x256, .bf16⟩
  | .hbm, ⟨10, _⟩ => ⟨S3x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvRefIdeal.lean ====
abbrev S1x2048x2816 : Shape := ⟨3, ![1, 2048, 2816]⟩
abbrev S3x256 : Shape := ⟨2, ![3, 256]⟩
abbrev S1x2048x1024 : Shape := ⟨3, ![1, 2048, 1024]⟩
abbrev S1x2048x256 : Shape := ⟨3, ![1, 2048, 256]⟩
abbrev S_ : Shape := ⟨0, ![]⟩
abbrev S1x2x256 : Shape := ⟨3, ![1, 2, 256]⟩
abbrev S1x2050x256 : Shape := ⟨3, ![1, 2050, 256]⟩
abbrev S1x256 : Shape := ⟨2, ![1, 256]⟩
abbrev S256 : Shape := ⟨1, ![256]⟩
abbrev S1x1x256 : Shape := ⟨3, ![1, 1, 256]⟩
abbrev S2048x256 : Shape := ⟨2, ![2048, 256]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S3x256, .f32⟩
  | .hbm, ⟨2, _⟩ => ⟨S1x2048x1024, .f32⟩
  | .hbm, ⟨3, _⟩ => ⟨S1x2048x256, .f32⟩
  | .hbm, ⟨4, _⟩ => ⟨S1x2048x256, .f32⟩
  | .hbm, ⟨5, _⟩ => ⟨S1x2048x256, .f32⟩
  | .hbm, ⟨6, _⟩ => ⟨S1x2048x256, .f32⟩
  | .hbm, ⟨7, _⟩ => ⟨S_, .f32⟩
  | .hbm, ⟨8, _⟩ => ⟨S1x2x256, .f32⟩
  | .hbm, ⟨9, _⟩ => ⟨S1x2050x256, .f32⟩
  | .hbm, ⟨10, _⟩ => ⟨S_, .f32⟩
  | .hbm, ⟨11, _⟩ => ⟨S1x2x256, .f32⟩
  | .hbm, ⟨12, _⟩ => ⟨S1x256, .f32⟩
  | .hbm, ⟨13, _⟩ => ⟨S256, .f32⟩
  | .hbm, ⟨14, _⟩ => ⟨S1x2048x256, .f32⟩
  | .hbm, ⟨15, _⟩ => ⟨S1x1x256, .f32⟩
  | .hbm, ⟨16, _⟩ => ⟨S1x2048x256, .f32⟩
  | .hbm, ⟨17, _⟩ => ⟨S1x2048x256, .f32⟩
  | .hbm, ⟨18, _⟩ => ⟨S1x256, .f32⟩
  | .hbm, ⟨19, _⟩ => ⟨S256, .f32⟩
  | .hbm, ⟨20, _⟩ => ⟨S1x2048x256, .f32⟩
  | .hbm, ⟨21, _⟩ => ⟨S1x1x256, .f32⟩
  | .hbm, ⟨22, _⟩ => ⟨S1x2048x256, .f32⟩
  | .hbm, ⟨23, _⟩ => ⟨S1x2048x256, .f32⟩
  | .hbm, ⟨24, _⟩ => ⟨S1x2048x256, .f32⟩
  | .hbm, ⟨25, _⟩ => ⟨S1x256, .f32⟩
  | .hbm, ⟨26, _⟩ => ⟨S256, .f32⟩
  | .hbm, ⟨27, _⟩ => ⟨S1x2048x256, .f32⟩
  | .hbm, ⟨28, _⟩ => ⟨S1x1x256, .f32⟩
  | .hbm, ⟨29, _⟩ => ⟨S1x2048x256, .f32⟩
  | .hbm, ⟨30, _⟩ => ⟨S1x2048x256, .f32⟩
  | .hbm, ⟨31, _⟩ => ⟨S1x2048x256, .f32⟩
  | .hbm, ⟨32, _⟩ => ⟨S1x2048x256, .f32⟩
  | .hbm, ⟨33, _⟩ => ⟨S1x2048x256, .f32⟩
  | .hbm, ⟨34, _⟩ => ⟨S1x2048x256, .f32⟩
  | .hbm, ⟨35, _⟩ => ⟨S1x2048x256, .f32⟩
  | .hbm, ⟨36, _⟩ => ⟨S1x2048x256, .f32⟩
  | .hbm, ⟨37, _⟩ => ⟨S1x2048x256, .f32⟩
  | .hbm, ⟨38, _⟩ => ⟨S1x2048x256, .f32⟩
  | .hbm, ⟨39, _⟩ => ⟨S_, .f32⟩
  | .hbm, ⟨40, _⟩ => ⟨S1x256, .f32⟩
  | .hbm, ⟨41, _⟩ => ⟨S1x1x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S1x2050x256, .f32⟩
  | .hbm, ⟨46, _⟩ => ⟨S1x256, .f32⟩
  | .hbm, ⟨47, _⟩ => ⟨S_, .f32⟩
  | .hbm, ⟨48, _⟩ => ⟨S3x256, .f32⟩
  | .hbm, ⟨49, _⟩ => ⟨S1x2048x256, .f32⟩
  | .hbm, ⟨50, _⟩ => ⟨S1x2048x256, .f32⟩
  | .hbm, ⟨51, _⟩ => ⟨S1x2048x256, .f32⟩
  | .hbm, ⟨52, _⟩ => ⟨S_, .f32⟩
  | .hbm, ⟨53, _⟩ => ⟨S1x256, .f32⟩
  | .hbm, ⟨54, _⟩ => ⟨S1x1x256, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S1x2050x256, .f32⟩
  | .hbm, ⟨59, _⟩ => ⟨S1x2050x256, .f32⟩
  | .hbm, ⟨60, _⟩ => ⟨S1x256, .f32⟩
  | .hbm, ⟨61, _⟩ => ⟨S_, .f32⟩
  | .hbm, ⟨62, _⟩ => ⟨S3x256, .f32⟩
  | .hbm, ⟨63, _⟩ => ⟨S3x256, .f32⟩
  | .hbm, ⟨64, _⟩ => ⟨S1x2048x256, .f32⟩
  | .hbm, ⟨65, _⟩ => ⟨S1x2048x256, .f32⟩
  | .hbm, ⟨66, _⟩ => ⟨S1x2048x256, .f32⟩
  | .hbm, ⟨67, _⟩ => ⟨S_, .f32⟩
  | .hbm, ⟨68, _⟩ => ⟨S1x256, .f32⟩
  | .hbm, ⟨69, _⟩ => ⟨S1x1x256, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S1x2050x256, .f32⟩
  | .hbm, ⟨74, _⟩ => ⟨S1x2050x256, .f32⟩
  | .hbm, ⟨75, _⟩ => ⟨S1x256, .f32⟩
  | .hbm, ⟨76, _⟩ => ⟨S_, .f32⟩
  | .hbm, ⟨77, _⟩ => ⟨S3x256, .f32⟩
  | .hbm, ⟨78, _⟩ => ⟨S3x256, .f32⟩
  | .hbm, ⟨79, _⟩ => ⟨S1x2x256, .f32⟩
  | .hbm, ⟨80, _⟩ => ⟨S1x2048x256, .f32⟩
  | .hbm, ⟨81, _⟩ => ⟨S1x2048x256, .f32⟩
  | .hbm, ⟨82, _⟩ => ⟨S1x2048x256, .f32⟩
  | .hbm, ⟨83, _⟩ => ⟨S2048x256, .f32⟩
  | .hbm, ⟨84, _⟩ => ⟨S2048x256, .bf16⟩
  | .hbm, ⟨85, _⟩ => ⟨S2048x256, .f32⟩
  | .hbm, ⟨86, _⟩ => ⟨S2048x256, .bf16⟩
  | .hbm, ⟨87, _⟩ => ⟨S2048x256, .f32⟩
  | .hbm, ⟨88, _⟩ => ⟨S2048x256, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Loss.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg0 : BitVec 32 := BitVec.ofNat 32 (i 0).val
  let c0_i32_11 : BitVec 32 := 0#32
  let v22 : BitVec 1 := Scalar.cmpi .sgt arg0 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1024, .f32⟩
  | .hbm, ⟨25, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Norm2.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S2048x4096, .bf16⟩
  | .hbm, ⟨9, _⟩ => ⟨S1x1024, .f32⟩
  | .hbm, ⟨10, _⟩ => ⟨S2048x1024, .f32⟩
  | .hbm, ⟨11, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_30 : BitVec 32 := 0#32
  let v60 : BitVec 1 := Scalar.cmpi .ne v59 c0_i32_30
  v60

def k0_cond2 (i : grid0.Coords) : BitVec 1 :=
  let arg0 : BitVec 32 := BitVec.ofNat 32 (i 0).val
  let c0_i32_31 : BitVec 32 := 0#32
  let v61 : BitVec 1 := Scalar.cmpi .sgt arg0 c0_i32_31
  let v62 : BitVec 32 := Scalar.extui v61
  let c0_i32_32 : BitVec 32 := 0#32
  let v63 : BitVec 1 := Scalar.cmpi .ne v62 c0_i32_32
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm2RefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Norm1.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S2048x2816, .f32⟩
  | .hbm, ⟨4, _⟩ => ⟨S2048x1024, .f32⟩
  | .hbm, ⟨5, _⟩ => ⟨S2048x2816, .bf16⟩
  | .hbm, ⟨6, _⟩ => ⟨S1024x2816, .bf16⟩
  | .hbm, ⟨7, _⟩ => ⟨S1x1024, .f32⟩
  | .hbm, ⟨8, _⟩ => ⟨S2048x1024, .f32⟩
  | .hbm, ⟨9, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .sgt arg0 c0_i32_18
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm1RefIdeal.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S2048x2816, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Ple.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S1024x1024, .bf16⟩
  | .hbm, ⟨9, _⟩ => ⟨S1x1024, .f32⟩
  | .hbm, ⟨10, _⟩ => ⟨S2048x1024, .bf16⟩
  | .hbm, ⟨11, _⟩ => ⟨S2048x1024, .bf16⟩
  | .hbm, ⟨12, _⟩ => ⟨S2048x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_24 : BitVec 32 := 0#32
  let v57 : BitVec 1 := Scalar.cmpi .ne v56 c0_i32_24
  v57

def k0_cond2 (i : grid0.Coords) : BitVec 1 :=
  let arg0 : BitVec 32 := BitVec.ofNat 32 (i 0).val
  let c0_i32_25 : BitVec 32 := 0#32
  let v58 : BitVec 1 := Scalar.cmpi .sgt arg0 c0_i32_25
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | .hbm, ⟨71, _⟩ => ⟨S2048x1024, .bf16⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Sgu.lean ====
abbrev S1x2048x2816 : Shape := ⟨3, ![1, 2048, 2816]⟩
abbrev S256 : Shape := ⟨1, ![256]⟩
abbrev S4x128x128 : Shape := ⟨3, ![4, 128, 128]⟩
abbrev S4x128 : Shape := ⟨2, ![4, 128]⟩
abbrev S1x2048x1024 : Shape := ⟨3, ![1, 2048, 1024]⟩
abbrev S128x4 : Shape := ⟨2, ![128, 4]⟩
abbrev S128x4x64 : Shape := ⟨3, ![128, 4, 64]⟩
abbrev S128x256 : Shape := ⟨2, ![128, 256]⟩
abbrev S2048x1024 : Shape := ⟨2, ![2048, 1024]⟩
abbrev S2048x2816 : Shape := ⟨2, ![2048, 2816]⟩
abbrev S1x256 : Shape := ⟨2, ![1, 256]⟩
abbrev S2048x256 : Shape := ⟨2, ![2048, 256]⟩
abbrev S128x128 : Shape := ⟨2, ![128, 128]⟩
abbrev S512x256 : Shape := ⟨2, ![512, 256]⟩
abbrev S256x256 : Shape := ⟨2, ![256, 256]⟩
abbrev S1024x256 : Shape := ⟨2, ![1024, 256]⟩
abbrev S256x128 : Shape := ⟨2, ![256, 128]⟩
abbrev S1x128x128 : Shape := ⟨3, ![1, 128, 128]⟩

abbrev nBuf : Space → Nat
  | .hbm => 18
  | .vmem => 17
  | .smem => 0
  | _ => 0

abbrev bufTy : (tb : Table) → Fin (tcTables nBuf tb) → BufTy
  | .hbm, ⟨0, _⟩ => ⟨S1x2048x2816, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S1x2048x1024, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S2048x1024, .f32⟩
  | .hbm, ⟨9, _⟩ => ⟨S2048x1024, .bf16⟩
  | .hbm, ⟨10, _⟩ => ⟨S2048x2816, .f32⟩
  | .hbm, ⟨11, _⟩ => ⟨S2048x2816, .bf16⟩
  | .hbm, ⟨12, _⟩ => ⟨S1x256, .f32⟩
  | .hbm, ⟨13, _⟩ => ⟨S2048x256, .bf16⟩
  | .hbm, ⟨14, _⟩ => ⟨S2048x256, .bf16⟩
  | .hbm, ⟨15, _⟩ => ⟨S4x128x128, .f32⟩
  | .hbm, ⟨16, _⟩ => ⟨S128x128, .f32⟩
  | .hbm, ⟨17, _⟩ => ⟨S1x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1x256, .f32⟩
  | .local _ .vmem, ⟨7, _⟩ => ⟨S4x128x128, .f32⟩
  | .local _ .vmem, ⟨8, _⟩ => ⟨S128x256, .f32⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S4x128x128, .f32⟩
  | .local _ .vmem, ⟨14, _⟩ => ⟨S128x128, .f32⟩
  | .local _ .vmem, ⟨15, _⟩ => ⟨S1x256, .f32⟩
  | .local _ .vmem, ⟨16, _⟩ => ⟨S512x256, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_343 : BitVec 32 := 0#32
  let v788 : BitVec 1 := Scalar.cmpi .eq arg0 c0_i32_343
  let v789 : BitVec 32 := Scalar.extui v788
  let c0_i32_344 : BitVec 32 := 0#32
  let v790 : BitVec 1 := Scalar.cmpi .ne v789 c0_i32_344
  v790

def k0_cond2 (i : grid0.Coords) : BitVec 1 :=
  let arg0 : BitVec 32 := BitVec.ofNat 32 (i 0).val
  let c0_i32_345 : BitVec 32 := 0#32
  let v791 : BitVec 1 := Scalar.cmpi .sgt arg0 c0_i32_345
  let v792 : BitVec 32 := Scalar.extui v791
  let c0_i32_346 : BitVec 32 := 0#32
  let v793 : BitVec 1 := Scalar.cmpi .ne v792 c0_i32_346
  v793

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguIdeal.lean ====
variable {F : FTy → Type} [FloatOps F] [Named F]
def κ : String → Option EReal := fun
  | "gauss" => some (((9465531 / 16777216) * (Real.sqrt (1 / 2)) : ℝ) : EReal)
  | "root_half" => some ((Real.sqrt (1 / 2) : ℝ) : EReal)
  | _ => none
-- ==== SguRefIdeal.lean ====
abbrev S1x2048x2816 : Shape := ⟨3, ![1, 2048, 2816]⟩
abbrev S256 : Shape := ⟨1, ![256]⟩
abbrev S4x128x128 : Shape := ⟨3, ![4, 128, 128]⟩
abbrev S4x128 : Shape := ⟨2, ![4, 128]⟩
abbrev S1x2048x1024 : Shape := ⟨3, ![1, 2048, 1024]⟩
abbrev S1x2048x256 : Shape := ⟨3, ![1, 2048, 256]⟩
abbrev S_ : Shape := ⟨0, ![]⟩
abbrev S1x2048x4x64 : Shape := ⟨4, ![1, 2048, 4, 64]⟩
abbrev S4x64 : Shape := ⟨2, ![4, 64]⟩
abbrev S1x2048x4 : Shape := ⟨3, ![1, 2048, 4]⟩
abbrev S1x2048x4x1 : Shape := ⟨4, ![1, 2048, 4, 1]⟩
abbrev S1x1x4x64 : Shape := ⟨4, ![1, 1, 4, 64]⟩
abbrev S1x16x128x4x64 : Shape := ⟨5, ![1, 16, 128, 4, 64]⟩
abbrev S128x128 : Shape := ⟨2, ![128, 128]⟩
abbrev S1x128x128 : Shape := ⟨3, ![1, 128, 128]⟩
abbrev S4x1x16x64x128 : Shape := ⟨5, ![4, 1, 16, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x4x64 : Shape := ⟨3, ![1, 4, 64]⟩
abbrev S2048x4 : Shape := ⟨2, ![2048, 4]⟩
abbrev S2048x256 : Shape := ⟨2, ![2048, 256]⟩
abbrev S1x256 : Shape := ⟨2, ![1, 256]⟩

abbrev nBuf : Space → Nat
  | .hbm => 162
  | .vmem => 0
  | .smem => 0
  | _ => 0

abbrev hbmTy0_0 (i : Nat) : BufTy := match i % 128 with
  | 0 => ⟨S1x2048x2816, .f32⟩
  | 1 => ⟨S256, .f32⟩
  | 2 => ⟨S4x128x128, .f32⟩
  | 3 => ⟨S4x128, .f32⟩
  | 4 => ⟨S1x2048x1024, .f32⟩
  | 5 => ⟨S1x2048x256, .f32⟩
  | 6 => ⟨S1x2048x256, .f32⟩
  | 7 => ⟨S_, .f32⟩
  | 8 => ⟨S1x2048x256, .f32⟩
  | 9 => ⟨S1x2048x256, .f32⟩
  | 10 => ⟨S1x2048x256, .f32⟩
  | 11 => ⟨S_, .f32⟩
  | 12 => ⟨S_, .f32⟩
  | 13 => ⟨S1x2048x256, .f32⟩
  | 14 => ⟨S1x2048x256, .f32⟩
  | 15 => ⟨S1x2048x256, .f32⟩
  | 16 => ⟨S1x2048x256, .f32⟩
  | 17 => ⟨S1x2048x256, .f32⟩
  | 18 => ⟨S1x2048x256, .f32⟩
  | 19 => ⟨S1x2048x256, .f32⟩
  | 20 => ⟨S_, .f32⟩
  | 21 => ⟨S1x2048x256, .f32⟩
  | 22 => ⟨S1x2048x256, .f32⟩
  | 23 => ⟨S1x2048x256, .f32⟩
  | 24 => ⟨S_, .f32⟩
  | 25 => ⟨S_, .f32⟩
  | 26 => ⟨S1x2048x256, .f32⟩
  | 27 => ⟨S1x2048x256, .f32⟩
  | 28 => ⟨S1x2048x256, .f32⟩
  | 29 => ⟨S1x2048x256, .f32⟩
  | 30 => ⟨S1x2048x256, .f32⟩
  | 31 => ⟨S1x2048x256, .f32⟩
  | 32 => ⟨S1x2048x256, .f32⟩
  | 33 => ⟨S1x2048x4x64, .f32⟩
  | 34 => ⟨S4x64, .f32⟩
  | 35 => ⟨S1x2048x4x64, .f32⟩
  | 36 => ⟨S_, .f32⟩
  | 37 => ⟨S1x2048x4, .f32⟩
  | 38 => ⟨S1x2048x4x1, .f32⟩
  | 39 => ⟨S_, .f32⟩
  | 40 => ⟨S1x2048x4x1, .f32⟩
  | 41 => ⟨S1x2048x4x1, .f32⟩
  | 42 => ⟨S_, .f32⟩
  | 43 => ⟨S1x2048x4x1, .f32⟩
  | 44 => ⟨S1x2048x4x1, .f32⟩
  | 45 => ⟨S1x2048x4x1, .f32⟩
  | 46 => ⟨S1x2048x4x1, .f32⟩
  | 47 => ⟨S_, .f32⟩
  | 48 => ⟨S1x2048x4x1, .f32⟩
  | 49 => ⟨S1x2048x4x1, .f32⟩
  | 50 => ⟨S1x2048x4x64, .f32⟩
  | 51 => ⟨S1x2048x4x64, .f32⟩
  | 52 => ⟨S1x1x4x64, .f32⟩
  | 53 => ⟨S1x2048x4x64, .f32⟩
  | 54 => ⟨S1x2048x4x64, .f32⟩
  | 55 => ⟨S1x16x128x4x64, .f32⟩
  | 56 => ⟨S_, .f32⟩
  | 57 => ⟨S128x128, .f32⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .f32⟩
  | 65 => ⟨S128x128, .f32⟩
  | 66 => ⟨S128x128, .f32⟩
  | 67 => ⟨S1x128x128, .f32⟩
  | 68 => ⟨S4x128x128, .f32⟩
  | 69 => ⟨S4x128x128, .f32⟩
  | 70 => ⟨S4x1x16x64x128, .f32⟩
  | 71 => ⟨S1x16x128x4x64, .f32⟩
  | 72 => ⟨S128x4, .f32⟩
  | 73 => ⟨S128x4x1, .f32⟩
  | 74 => ⟨S1x1x128x4x1, .f32⟩
  | 75 => ⟨S1x16x128x4x64, .f32⟩
  | 76 => ⟨S1x16x128x4x64, .f32⟩
  | 77 => ⟨S1x2048x256, .f32⟩
  | 78 => ⟨S1x2048x256, .f32⟩
  | 79 => ⟨S1x2048x256, .f32⟩
  | 80 => ⟨S1x2048x256, .f32⟩
  | 81 => ⟨S1x2048x256, .f32⟩
  | 82 => ⟨S1x16x128x4x64, .f32⟩
  | 83 => ⟨S_, .f32⟩
  | 84 => ⟨S1x128x4, .f32⟩
  | 85 => ⟨S1x1x128x4x1, .f32⟩
  | 86 => ⟨S_, .f32⟩
  | 87 => ⟨S128x4, .f32⟩
  | 88 => ⟨S128x4x1, .f32⟩
  | 89 => ⟨S_, .f32⟩
  | 90 => ⟨S128x4, .f32⟩
  | 91 => ⟨S4x128, .f32⟩
  | 92 => ⟨S4x1x16x64x128, .f32⟩
  | 93 => ⟨S4x128x128, .f32⟩
  | 94 => ⟨S4x1x16x64x128, .f32⟩
  | 95 => ⟨S1x16x128x4x64, .f32⟩
  | 96 => ⟨S4x128x128, .f32⟩
  | 97 => ⟨S4x128x128, .f32⟩
  | 98 => ⟨S1x2048x4x64, .f32⟩
  | 99 => ⟨S1x2048x4x64, .f32⟩
  | 100 => ⟨S_, .f32⟩
  | 101 => ⟨S1x4x64, .f32⟩
  | 102 => ⟨S1x1x4x64, .f32⟩
  | 103 => ⟨S1x2048x4x64, .f32⟩
  | 104 => ⟨S1x2048x4x64, .f32⟩
  | 105 => ⟨S_, .f32⟩
  | 106 => ⟨S4x64, .f32⟩
  | 107 => ⟨S1x2048x4x64, .f32⟩
  | 108 => ⟨S_, .f32⟩
  | 109 => ⟨S1x2048x4, .f32⟩
  | 110 => ⟨S1x2048x4x1, .f32⟩
  | 111 => ⟨S1x2048x4x64, .f32⟩
  | 112 => ⟨S1x2048x4x64, .f32⟩
  | 113 => ⟨S1x2048x4x1, .f32⟩
  | 114 => ⟨S_, .f32⟩
  | 115 => ⟨S1x2048x4x1, .f32⟩
  | 116 => ⟨S1x2048x4x1, .f32⟩
  | 117 => ⟨S_, .f32⟩
  | 118 => ⟨S2048x4, .f32⟩
  | 119 => ⟨S1x2048x4, .f32⟩
  | 120 => ⟨S1x2048x4x64, .f32⟩
  | 121 => ⟨S1x2048x4x64, .f32⟩
  | 122 => ⟨S1x2048x4x64, .f32⟩
  | 123 => ⟨S1x2048x4x64, .f32⟩
  | 124 => ⟨S1x2048x4x64, .f32⟩
  | 125 => ⟨S256, .f32⟩
  | 126 => ⟨S1x2048x256, .f32⟩
  | 127 => ⟨S1x2048x256, .f32⟩
  | _ => ⟨S1x2048x2816, .f32⟩

abbrev hbmTy0_1 (i : Nat) : BufTy := match i % 128 with
  | 0 => ⟨S1x2048x256, .f32⟩
  | 1 => ⟨S_, .f32⟩
  | 2 => ⟨S1x2048x256, .f32⟩
  | 3 => ⟨S1x2048x256, .f32⟩
  | 4 => ⟨S1x2048x256, .f32⟩
  | 5 => ⟨S1x2048x256, .f32⟩
  | 6 => ⟨S1x2048x256, .f32⟩
  | 7 => ⟨S1x2048x256, .f32⟩
  | 8 => ⟨S_, .f32⟩
  | 9 => ⟨S1x2048x256, .f32⟩
  | 10 => ⟨S1x2048x256, .f32⟩
  | 11 => ⟨S1x2048x256, .f32⟩
  | 12 => ⟨S1x2048x256, .f32⟩
  | 13 => ⟨S1x2048x256, .f32⟩
  | 14 => ⟨S_, .f32⟩
  | 15 => ⟨S1x2048x256, .f32⟩
  | 16 => ⟨S1x2048x256, .f32⟩
  | 17 => ⟨S1x2048x256, .f32⟩
  | 18 => ⟨S1x2048x256, .f32⟩
  | 19 => ⟨S1x2048x256, .f32⟩
  | 20 => ⟨S1x2048x256, .f32⟩
  | 21 => ⟨S_, .f32⟩
  | 22 => ⟨S1x2048x256, .f32⟩
  | 23 => ⟨S1x2048x256, .f32⟩
  | 24 => ⟨S1x2048x256, .f32⟩
  | 25 => ⟨S2048x256, .f32⟩
  | 26 => ⟨S2048x256, .bf16⟩
  | 27 => ⟨S2048x256, .f32⟩
  | 28 => ⟨S2048x256, .bf16⟩
  | 29 => ⟨S128x4, .f32⟩
  | 30 => ⟨S_, .i32⟩
  | 31 => ⟨S_, .f32⟩
  | 32 => ⟨S128x128, .f32⟩
  | 33 => ⟨S1x256, .f32⟩
  | _ => ⟨S1x2048x2816, .f32⟩

abbrev hbmTy (i : Nat) : BufTy := match i / 128 with
  | 0 => hbmTy0_0 i
  | 1 => hbmTy0_1 i
  | _ => ⟨S1x2048x2816, .f32⟩

abbrev bufTy : (tb : Table) → Fin (tcTables nBuf tb) → BufTy
  | .hbm, ⟨i, _⟩ => hbmTy i
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_cst : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_18 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_19 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c : Ref sig .tc := ⟨.hbm, 158, rfl⟩
abbrev main_call1_v0 : Ref sig .tc := ⟨.hbm, 159, rfl⟩
abbrev main_v124 : Ref sig .tc := ⟨.hbm, 160, rfl⟩
abbrev main_v125 : Ref sig .tc := ⟨.hbm, 161, rfl⟩

abbrev nD : Nat := 1
abbrev τ : Topo := Topo.v7x

variable {F : FTy → Type} [FloatOps F]
-- ==== Attn.lean ====
abbrev S1x2048x2816 : Shape := ⟨3, ![1, 2048, 2816]⟩
abbrev S64 : Shape := ⟨1, ![64]⟩
abbrev S1x2048x1024 : Shape := ⟨3, ![1, 2048, 1024]⟩
abbrev S1x2048x512 : Shape := ⟨3, ![1, 2048, 512]⟩
abbrev S1x2048x8x64 : Shape := ⟨4, ![1, 2048, 8, 64]⟩
abbrev S_ : Shape := ⟨0, ![]⟩
abbrev S1x2048x8 : Shape := ⟨3, ![1, 2048, 8]⟩
abbrev S1x2048x8x1 : Shape := ⟨4, ![1, 2048, 8, 1]⟩
abbrev S1x1x1x64 : Shape := ⟨4, ![1, 1, 1, 64]⟩
abbrev S1x8x2048x2048 : Shape := ⟨4, ![1, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S8x2048 : Shape := ⟨2, ![8, 2048]⟩
abbrev S2048x8 : Shape := ⟨2, ![2048, 8]⟩
abbrev S2048x8x64 : Shape := ⟨3, ![2048, 8, 64]⟩
abbrev S2048x512 : Shape := ⟨2, ![2048, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2048x1024 : Shape := ⟨2, ![2048, 1024]⟩
abbrev S2048x2816 : Shape := ⟨2, ![2048, 2816]⟩
abbrev S256x128 : Shape := ⟨2, ![256, 128]⟩
abbrev S2048x128 : Shape := ⟨2, ![2048, 128]⟩
abbrev S3x512x256 : Shape := ⟨3, ![3, 512, 256]⟩
abbrev S512x256 : Shape := ⟨2, ![512, 256]⟩
abbrev S512x128 : Shape := ⟨2, ![512, 128]⟩
abbrev S128x128 : Shape := ⟨2, ![128, 128]⟩
abbrev S4096x128 : Shape := ⟨2, ![4096, 128]⟩
abbrev S256x1 : Shape := ⟨2, ![256, 1]⟩
abbrev S512x1 : Shape := ⟨2, ![512, 1]⟩
abbrev S256x256 : Shape := ⟨2, ![256, 256]⟩
abbrev S1x512x256 : Shape := ⟨3, ![1, 512, 256]⟩
abbrev S1024x256 : Shape := ⟨2, ![1024, 256]⟩

abbrev nBuf : Space → Nat
  | .hbm => 99
  | .vmem => 32
  | .smem => 0
  | _ => 0

abbrev bufTy : (tb : Table) → Fin (tcTables nBuf tb) → BufTy
  | .hbm, ⟨0, _⟩ => ⟨S1x2048x2816, .f32⟩
  | .hbm, ⟨1, _⟩ => ⟨S64, .f32⟩
  | .hbm, ⟨2, _⟩ => ⟨S64, .f32⟩
  | .hbm, ⟨3, _⟩ => ⟨S1x2048x1024, .f32⟩
  | .hbm, ⟨4, _⟩ => ⟨S1x2048x512, .f32⟩
  | .hbm, ⟨5, _⟩ => ⟨S1x2048x8x64, .f32⟩
  | .hbm, ⟨6, _⟩ => ⟨S1x2048x8x64, .f32⟩
  | .hbm, ⟨7, _⟩ => ⟨S_, .f32⟩
  | .hbm, ⟨8, _⟩ => ⟨S1x2048x8, .f32⟩
  | .hbm, ⟨9, _⟩ => ⟨S1x2048x8x1, .f32⟩
  | .hbm, ⟨10, _⟩ => ⟨S_, .f32⟩
  | .hbm, ⟨11, _⟩ => ⟨S1x2048x8x1, .f32⟩
  | .hbm, ⟨12, _⟩ => ⟨S1x2048x8x1, .f32⟩
  | .hbm, ⟨13, _⟩ => ⟨S_, .f32⟩
  | .hbm, ⟨14, _⟩ => ⟨S1x2048x8x1, .f32⟩
  | .hbm, ⟨15, _⟩ => ⟨S1x2048x8x1, .f32⟩
  | .hbm, ⟨16, _⟩ => ⟨S1x2048x8x1, .f32⟩
  | .hbm, ⟨17, _⟩ => ⟨S1x2048x8x64, .f32⟩
  | .hbm, ⟨18, _⟩ => ⟨S1x2048x8x64, .f32⟩
  | .hbm, ⟨19, _⟩ => ⟨S1x1x1x64, .f32⟩
  | .hbm, ⟨20, _⟩ => ⟨S1x2048x8x64, .f32⟩
  | .hbm, ⟨21, _⟩ => ⟨S1x2048x8x64, .f32⟩
  | .hbm, ⟨22, _⟩ => ⟨S1x2048x512, .f32⟩
  | .hbm, ⟨23, _⟩ => ⟨S1x2048x8x64, .f32⟩
  | .hbm, ⟨24, _⟩ => ⟨S1x2048x8x64, .f32⟩
  | .hbm, ⟨25, _⟩ => ⟨S_, .f32⟩
  | .hbm, ⟨26, _⟩ => ⟨S1x2048x8, .f32⟩
  | .hbm, ⟨27, _⟩ => ⟨S1x2048x8x1, .f32⟩
  | .hbm, ⟨28, _⟩ => ⟨S_, .f32⟩
  | .hbm, ⟨29, _⟩ => ⟨S1x2048x8x1, .f32⟩
  | .hbm, ⟨30, _⟩ => ⟨S1x2048x8x1, .f32⟩
  | .hbm, ⟨31, _⟩ => ⟨S_, .f32⟩
  | .hbm, ⟨32, _⟩ => ⟨S1x2048x8x1, .f32⟩
  | .hbm, ⟨33, _⟩ => ⟨S1x2048x8x1, .f32⟩
  | .hbm, ⟨34, _⟩ => ⟨S1x2048x8x1, .f32⟩
  | .hbm, ⟨35, _⟩ => ⟨S1x2048x8x64, .f32⟩
  | .hbm, ⟨36, _⟩ => ⟨S1x2048x8x64, .f32⟩
  | .hbm, ⟨37, _⟩ => ⟨S1x1x1x64, .f32⟩
  | .hbm, ⟨38, _⟩ => ⟨S1x2048x8x64, .f32⟩
  | .hbm, ⟨39, _⟩ => ⟨S1x2048x8x64, .f32⟩
  | .hbm, ⟨40, _⟩ => ⟨S1x8x2048x2048, .f32⟩
  | .hbm, ⟨41, _⟩ => ⟨S_, .f32⟩
  | .hbm, ⟨42, _⟩ => ⟨S1x8x2048x2048, .f32⟩
  | .hbm, ⟨43, _⟩ => ⟨S1x8x2048x2048, .f32⟩
  | .hbm, ⟨44, _⟩ => ⟨S2048, .i32⟩
  | .hbm, ⟨45, _⟩ => ⟨S1x2048, .i32⟩
  | .hbm, ⟨46, _⟩ => ⟨S2048, .i32⟩
  | .hbm, ⟨47, _⟩ => ⟨S2048x1, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S1x8x2048x2048, .f32⟩
  | .hbm, ⟨52, _⟩ => ⟨S1x8x2048x2048, .f32⟩
  | .hbm, ⟨53, _⟩ => ⟨S_, .f32⟩
  | .hbm, ⟨54, _⟩ => ⟨S1x8x2048x2048, .f32⟩
  | .hbm, ⟨55, _⟩ => ⟨S1x8x2048x2048, .f32⟩
  | .hbm, ⟨56, _⟩ => ⟨S1x8x2048x2048, .f32⟩
  | .hbm, ⟨57, _⟩ => ⟨S1x8x2048x2048, .f32⟩
  | .hbm, ⟨58, _⟩ => ⟨S1x8x2048x2048, .i1⟩
  | .hbm, ⟨59, _⟩ => ⟨S1x8x2048x2048, .f32⟩
  | .hbm, ⟨60, _⟩ => ⟨S1x8x2048x2048, .f32⟩
  | .hbm, ⟨61, _⟩ => ⟨S1x8x2048x2048, .f32⟩
  | .hbm, ⟨62, _⟩ => ⟨S1x8x2048x2048, .f32⟩
  | .hbm, ⟨63, _⟩ => ⟨S1x8x2048x2048, .f32⟩
  | .hbm, ⟨64, _⟩ => ⟨S1x8x2048x2048, .f32⟩
  | .hbm, ⟨65, _⟩ => ⟨S1x8x2048x2048, .f32⟩
  | .hbm, ⟨66, _⟩ => ⟨S1x8x2048x2048, .f32⟩
  | .hbm, ⟨67, _⟩ => ⟨S1x8x2048x2048, .f32⟩
  | .hbm, ⟨68, _⟩ => ⟨S_, .f32⟩
  | .hbm, ⟨69, _⟩ => ⟨S_, .f32⟩
  | .hbm, ⟨70, _⟩ => ⟨S1x8x2048x2048, .i1⟩
  | .hbm, ⟨71, _⟩ => ⟨S1x8x2048x2048, .f32⟩
  | .hbm, ⟨72, _⟩ => ⟨S1x8x2048x2048, .f32⟩
  | .hbm, ⟨73, _⟩ => ⟨S_, .f32⟩
  | .hbm, ⟨74, _⟩ => ⟨S1x8x2048, .f32⟩
  | .hbm, ⟨75, _⟩ => ⟨S8x2048, .f32⟩
  | .hbm, ⟨76, _⟩ => ⟨S2048x8, .f32⟩
  | .hbm, ⟨77, _⟩ => ⟨S2048x8x64, .f32⟩
  | .hbm, ⟨78, _⟩ => ⟨S2048x512, .f32⟩
  | .hbm, ⟨79, _⟩ => ⟨S1x64, .f32⟩
  | .hbm, ⟨80, _⟩ => ⟨S2x64, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S1x64, .f32⟩
  | .hbm, ⟨87, _⟩ => ⟨S2x64, .f32⟩
  | .hbm, ⟨88, _⟩ => ⟨S128, .f32⟩
  | .hbm, ⟨89, _⟩ => ⟨S1x128, .f32⟩
  | .hbm, ⟨90, _⟩ => ⟨S2048x1024, .f32⟩
  | .hbm, ⟨91, _⟩ => ⟨S2048x1024, .bf16⟩
  | .hbm, ⟨92, _⟩ => ⟨S2048x2816, .f32⟩
  | .hbm, ⟨93, _⟩ => ⟨S2048x2816, .bf16⟩
  | .hbm, ⟨94, _⟩ => ⟨S2048x512, .bf16⟩
  | .hbm, ⟨95, _⟩ => ⟨S2048x512, .bf16⟩
  | .hbm, ⟨96, _⟩ => ⟨S2048x512, .bf16⟩
  | .hbm, ⟨97, _⟩ => ⟨S1x128, .f32⟩
  | .hbm, ⟨98, _⟩ => ⟨S1x128, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S1x128, .f32⟩
  | .local _ .vmem, ⟨11, _⟩ => ⟨S1x128, .f32⟩
  | .local _ .vmem, ⟨12, _⟩ => ⟨S256x128, .bf16⟩
  | .local _ .vmem, ⟨13, _⟩ => ⟨S256x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x128, .f32⟩
  | .local _ .vmem, ⟨19, _⟩ => ⟨S1x128, .f32⟩
  | .local _ .vmem, ⟨20, _⟩ => ⟨S2048x128, .bf16⟩
  | .local _ .vmem, ⟨21, _⟩ => ⟨S2048x128, .f32⟩
  | .local _ .vmem, ⟨22, _⟩ => ⟨S2048x128, .f32⟩
  | .local _ .vmem, ⟨23, _⟩ => ⟨S3x512x256, .f32⟩
  | .local _ .vmem, ⟨24, _⟩ => ⟨S512x256, .f32⟩
  | .local _ .vmem, ⟨25, _⟩ => ⟨S512x256, .f32⟩
  | .local _ .vmem, ⟨26, _⟩ => ⟨S512x128, .f32⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v41 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62_0 : Ref sig .tc := ⟨.hbm, 94, rfl⟩
abbrev main_v62_1 : Ref sig .tc := ⟨.hbm, 95, rfl⟩
abbrev main_v62_2 : Ref sig .tc := ⟨.hbm, 96, rfl⟩
abbrev main_v62_3 : Ref sig .tc := ⟨.hbm, 97, rfl⟩
abbrev main_v62_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c0_i32_53 : BitVec 32 := 0#32
  let c0_i32_52 : BitVec 32 := 0#32
  let v148 : BitVec 32 := Scalar.maxsi c0_i32_53 c0_i32_52
  let v149 : BitVec 32 := Scalar.minsi arg1 v148
  let c256_i32 : BitVec 32 := 256#32
  let v150 : BitVec 32 := Scalar.muli v149 c256_i32
  v150
def k0_off1 (i : grid0.Coords) (c0_i32_52 : BitVec 32) : Fin 2 → Nat :=
  let arg1 : BitVec 32 := BitVec.ofNat 32 (i 1).val
  let c0_i32_53 : BitVec 32 := 0#32
  let v148 : BitVec 32 := Scalar.maxsi c0_i32_53 c0_i32_52
  let v149 : BitVec 32 := Scalar.minsi arg1 v148
  let c256_i32 : BitVec 32 := 256#32
  let v150 : BitVec 32 := Scalar.muli v149 c256_i32
  let v151 : BitVec 32 := v150
  let v152 : Index := Scalar.indexCast v151
  let c0_54 : Index := 0#32
  ![v152.toNat, 0]
def k0_mult2 (i : grid0.Coords) : BitVec 32 :=
  let arg1 : BitVec 32 := BitVec.ofNat 32 (i 1).val
  let c0_i32_71 : BitVec 32 := 0#32
  let c1_i32_70 : BitVec 32 := 1#32
  let v185 : BitVec 32 := Scalar.maxsi c0_i32_71 c1_i32_70
  let v186 : BitVec 32 := Scalar.minsi arg1 v185
  let c256_i32_72 : BitVec 32 := 256#32
  let v187 : BitVec 32 := Scalar.muli v186 c256_i32_72
  v187
@[reducible] def k0_t1_loop (i : grid0.Coords) : Scf.Loop 32 :=
  let c0_i32_80 : BitVec 32 := 0#32
  let arg1 : BitVec 32 := BitVec.ofNat 32 (i 1).val
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_82 : BitVec 32 := 1#32
  ⟨c0_i32_80, v202, c1_i32_82⟩
def k0_mult3 (i : grid0.Coords) (k0_t1 : Fin (k0_t1_loop i).trips) : BitVec 32 :=
  let arg1 : BitVec 32 := BitVec.ofNat 32 (i 1).val
  let c0_i32_140 : BitVec 32 := 0#32
  let c0_i32_80 : BitVec 32 := 0#32
  let c1_i32_82 : BitVec 32 := 1#32
  let arg26 : BitVec 32 := Scf.iv c0_i32_80 c1_i32_82 k0_t1
  let v321 : BitVec 32 := Scalar.maxsi c0_i32_140 arg26
  let v322 : BitVec 32 := Scalar.minsi arg1 v321
  let c256_i32_141 : BitVec 32 := 256#32
  let v323 : BitVec 32 := Scalar.muli v322 c256_i32_141
  v323
def k0_off2 (i : grid0.Coords) (k0_t1 : Fin (k0_t1_loop i).trips) : Fin 2 → Nat :=
  let arg1 : BitVec 32 := BitVec.ofNat 32 (i 1).val
  let c0_i32_140 : BitVec 32 := 0#32
  let c0_i32_80 : BitVec 32 := 0#32
  let c1_i32_82 : BitVec 32 := 1#32
  let arg26 : BitVec 32 := Scf.iv c0_i32_80 c1_i32_82 k0_t1
  let v321 : BitVec 32 := Scalar.maxsi c0_i32_140 arg26
  let v322 : BitVec 32 := Scalar.minsi arg1 v321
  let c256_i32_141 : BitVec 32 := 256#32
  let v323 : BitVec 32 := Scalar.muli v322 c256_i32_141
  let v324 : BitVec 32 := v323
  let v325 : Index := Scalar.indexCast v324
  let c0_142 : Index := 0#32
  ![v325.toNat, 0]
def k0_mult4 (i : grid0.Coords) (k0_t1 : Fin (k0_t1_loop i).trips) : BitVec 32 :=
  let arg1 : BitVec 32 := BitVec.ofNat 32 (i 1).val
  let c0_i32_145 : BitVec 32 := 0#32
  let c0_i32_80 : BitVec 32 := 0#32
  let c1_i32_82 : BitVec 32 := 1#32
  let arg26 : BitVec 32 := Scf.iv c0_i32_80 c1_i32_82 k0_t1
  let c1_i32_144 : BitVec 32 := 1#32
  let v329 : BitVec 32 := Scalar.subi arg26 c1_i32_144
  let v330 : BitVec 32 := Scalar.maxsi c0_i32_145 v329
  let v331 : BitVec 32 := Scalar.minsi arg1 v330
  let c256_i32_146 : BitVec 32 := 256#32
  let v332 : BitVec 32 := Scalar.muli v331 c256_i32_146
  v332
def k0_off3 (i : grid0.Coords) (k0_t1 : Fin (k0_t1_loop i).trips) : Fin 2 → Nat :=
  let arg1 : BitVec 32 := BitVec.ofNat 32 (i 1).val
  let c0_i32_145 : BitVec 32 := 0#32
  let c0_i32_80 : BitVec 32 := 0#32
  let c1_i32_82 : BitVec 32 := 1#32
  let arg26 : BitVec 32 := Scf.iv c0_i32_80 c1_i32_82 k0_t1
  let c1_i32_144 : BitVec 32 := 1#32
  let v329 : BitVec 32 := Scalar.subi arg26 c1_i32_144
  let v330 : BitVec 32 := Scalar.maxsi c0_i32_145 v329
  let v331 : BitVec 32 := Scalar.minsi arg1 v330
  let c256_i32_146 : BitVec 32 := 256#32
  let v332 : BitVec 32 := Scalar.muli v331 c256_i32_146
  let v333 : BitVec 32 := v332
  let v334 : Index := Scalar.indexCast v333
  let c0_147 : Index := 0#32
  ![v334.toNat, 0]
def k0_mult5 (i : grid0.Coords) (k0_t1 : Fin (k0_t1_loop i).trips) : BitVec 32 :=
  let arg1 : BitVec 32 := BitVec.ofNat 32 (i 1).val
  let c0_i32_152 : BitVec 32 := 0#32
  let c0_i32_80 : BitVec 32 := 0#32
  let c1_i32_82 : BitVec 32 := 1#32
  let arg26 : BitVec 32 := Scf.iv c0_i32_80 c1_i32_82 k0_t1
  let c2_i32 : BitVec 32 := 2#32
  let v343 : BitVec 32 := Scalar.addi arg26 c2_i32
  let v344 : BitVec 32 := Scalar.maxsi c0_i32_152 v343
  let v345 : BitVec 32 := Scalar.minsi arg1 v344
  let c256_i32_153 : BitVec 32 := 256#32
  let v346 : BitVec 32 := Scalar.muli v345 c256_i32_153
  v346
def k0_off4 (i : grid0.Coords) (k0_t1 : Fin (k0_t1_loop i).trips) : Fin 2 → Nat :=
  let arg1 : BitVec 32 := BitVec.ofNat 32 (i 1).val
  let c0_i32_152 : BitVec 32 := 0#32
  let c0_i32_80 : BitVec 32 := 0#32
  let c1_i32_82 : BitVec 32 := 1#32
  let arg26 : BitVec 32 := Scf.iv c0_i32_80 c1_i32_82 k0_t1
  let c2_i32 : BitVec 32 := 2#32
  let v343 : BitVec 32 := Scalar.addi arg26 c2_i32
  let v344 : BitVec 32 := Scalar.maxsi c0_i32_152 v343
  let v345 : BitVec 32 := Scalar.minsi arg1 v344
  let c256_i32_153 : BitVec 32 := 256#32
  let v346 : BitVec 32 := Scalar.muli v345 c256_i32_153
  let v347 : BitVec 32 := v346
  let v348 : Index := Scalar.indexCast v347
  let c0_154 : Index := 0#32
  ![v348.toNat, 0]
def k0_off5 (i : grid0.Coords) (k0_t1 : Fin (k0_t1_loop i).trips) (c1_i32_156 : BitVec 32) : Fin 3 → Nat :=
  let c0_i32_80 : BitVec 32 := 0#32
  let c1_i32_82 : BitVec 32 := 1#32
  let arg26 : BitVec 32 := Scf.iv c0_i32_80 c1_i32_82 k0_t1
  let v351 : BitVec 32 := Scalar.addi arg26 c1_i32_156
  let c3_i32_164 : BitVec 32 := 3#32
  let c0_i32_165 : BitVec 32 := 0#32
  let v374 : BitVec 1 := Scalar.cmpi .eq c3_i32_164 c0_i32_165
  let c1_i32_166 : BitVec 32 := 1#32
  let v375 : BitVec 32 := Scalar.select v374 c1_i32_166 c3_i32_164
  let v376 : BitVec 32 := Scalar.remsi v351 v375
  let c0_i32_168 : BitVec 32 := 0#32
  let v378 : BitVec 1 := Scalar.cmpi .slt v376 c0_i32_168
  let c0_i32_169 : BitVec 32 := 0#32
  let v379 : BitVec 1 := Scalar.cmpi .slt v375 c0_i32_169
  let v380 : BitVec 1 := Scalar.xori v378 v379
  let c0_i32_167 : BitVec 32 := 0#32
  let v377 : BitVec 1 := Scalar.cmpi .ne v376 c0_i32_167
  let v381 : BitVec 1 := Scalar.andi v380 v377
  let v382 : BitVec 32 := Scalar.addi v376 v375
  let v383 : BitVec 32 := Scalar.select v381 v382 v376
  let v384 : Index := Scalar.indexCast v383
  let c0_170 : Index := 0#32
  let c0_171 : Index := 0#32
  ![v384.toNat, 0, 0]
def k0_mult6 (i : grid0.Coords) (k0_t1 : Fin (k0_t1_loop i).trips) : BitVec 32 :=
  let arg1 : BitVec 32 := BitVec.ofNat 32 (i 1).val
  let c0_i32_190 : BitVec 32 := 0#32
  let c0_i32_80 : BitVec 32 := 0#32
  let c1_i32_82 : BitVec 32 := 1#32
  let arg26 : BitVec 32 := Scf.iv c0_i32_80 c1_i32_82 k0_t1
  let c1_i32_189 : BitVec 32 := 1#32
  let v420 : BitVec 32 := Scalar.subi arg26 c1_i32_189
  let v421 : BitVec 32 := Scalar.maxsi c0_i32_190 v420
  let v422 : BitVec 32 := Scalar.minsi arg1 v421
  let c256_i32_191 : BitVec 32 := 256#32
  let v423 : BitVec 32 := Scalar.muli v422 c256_i32_191
  v423
def k0_mult7 (i : grid0.Coords) (k0_t1 : Fin (k0_t1_loop i).trips) : BitVec 32 :=
  let arg1 : BitVec 32 := BitVec.ofNat 32 (i 1).val
  let c0_i32_197 : BitVec 32 := 0#32
  let c0_i32_80 : BitVec 32 := 0#32
  let c1_i32_82 : BitVec 32 := 1#32
  let arg26 : BitVec 32 := Scf.iv c0_i32_80 c1_i32_82 k0_t1
  let c1_i32_196 : BitVec 32 := 1#32
  let v432 : BitVec 32 := Scalar.subi arg26 c1_i32_196
  let v433 : BitVec 32 := Scalar.maxsi c0_i32_197 v432
  let v434 : BitVec 32 := Scalar.minsi arg1 v433
  let c256_i32_198 : BitVec 32 := 256#32
  let v435 : BitVec 32 := Scalar.muli v434 c256_i32_198
  v435
def k0_off6 (i : grid0.Coords) (k0_t1 : Fin (k0_t1_loop i).trips) : Fin 3 → Nat :=
  let c0_i32_80 : BitVec 32 := 0#32
  let c1_i32_82 : BitVec 32 := 1#32
  let arg26 : BitVec 32 := Scf.iv c0_i32_80 c1_i32_82 k0_t1
  let c3_i32_202 : BitVec 32 := 3#32
  let c0_i32_203 : BitVec 32 := 0#32
  let v452 : BitVec 1 := Scalar.cmpi .eq c3_i32_202 c0_i32_203
  let c1_i32_204 : BitVec 32 := 1#32
  let v453 : BitVec 32 := Scalar.select v452 c1_i32_204 c3_i32_202
  let v454 : BitVec 32 := Scalar.remsi arg26 v453
  let c0_i32_206 : BitVec 32 := 0#32
  let v456 : BitVec 1 := Scalar.cmpi .slt v454 c0_i32_206
  let c0_i32_207 : BitVec 32 := 0#32
  let v457 : BitVec 1 := Scalar.cmpi .slt v453 c0_i32_207
  let v458 : BitVec 1 := Scalar.xori v456 v457
  let c0_i32_205 : BitVec 32 := 0#32
  let v455 : BitVec 1 := Scalar.cmpi .ne v454 c0_i32_205
  let v459 : BitVec 1 := Scalar.andi v458 v455
  let v460 : BitVec 32 := Scalar.addi v454 v453
  let v461 : BitVec 32 := Scalar.select v459 v460 v454
  let v462 : Index := Scalar.indexCast v461
  let c0_208 : Index := 0#32
  let c0_209 : Index := 0#32
  ![v462.toNat, 0, 0]
@[reducible] def k0_t2_loop (i : grid0.Coords) : Scf.Loop 32 :=
  let c0_i32_80 : BitVec 32 := 0#32
  let arg1 : BitVec 32 := BitVec.ofNat 32 (i 1).val
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let v199 : BitVec 32 := Scalar.addi c0_i32_80 v198
  let c1_i32_83 : BitVec 32 := 1#32
  ⟨v202, v199, c1_i32_83⟩
def k0_mult8 (i : grid0.Coords) (k0_t2 : Fin (k0_t2_loop i).trips) : BitVec 32 :=
  let arg1 : BitVec 32 := BitVec.ofNat 32 (i 1).val
  let c0_i32_140 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let v321 : BitVec 32 := Scalar.maxsi c0_i32_140 arg26
  let v322 : BitVec 32 := Scalar.minsi arg1 v321
  let c256_i32_141 : BitVec 32 := 256#32
  let v323 : BitVec 32 := Scalar.muli v322 c256_i32_141
  v323
def k0_off7 (i : grid0.Coords) (k0_t2 : Fin (k0_t2_loop i).trips) : Fin 2 → Nat :=
  let arg1 : BitVec 32 := BitVec.ofNat 32 (i 1).val
  let c0_i32_140 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let v321 : BitVec 32 := Scalar.maxsi c0_i32_140 arg26
  let v322 : BitVec 32 := Scalar.minsi arg1 v321
  let c256_i32_141 : BitVec 32 := 256#32
  let v323 : BitVec 32 := Scalar.muli v322 c256_i32_141
  let v324 : BitVec 32 := v323
  let v325 : Index := Scalar.indexCast v324
  let c0_142 : Index := 0#32
  ![v325.toNat, 0]
def k0_mult9 (i : grid0.Coords) (k0_t2 : Fin (k0_t2_loop i).trips) : BitVec 32 :=
  let arg1 : BitVec 32 := BitVec.ofNat 32 (i 1).val
  let c0_i32_145 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c1_i32_144 : BitVec 32 := 1#32
  let v329 : BitVec 32 := Scalar.subi arg26 c1_i32_144
  let v330 : BitVec 32 := Scalar.maxsi c0_i32_145 v329
  let v331 : BitVec 32 := Scalar.minsi arg1 v330
  let c256_i32_146 : BitVec 32 := 256#32
  let v332 : BitVec 32 := Scalar.muli v331 c256_i32_146
  v332
def k0_off8 (i : grid0.Coords) (k0_t2 : Fin (k0_t2_loop i).trips) : Fin 2 → Nat :=
  let arg1 : BitVec 32 := BitVec.ofNat 32 (i 1).val
  let c0_i32_145 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c1_i32_144 : BitVec 32 := 1#32
  let v329 : BitVec 32 := Scalar.subi arg26 c1_i32_144
  let v330 : BitVec 32 := Scalar.maxsi c0_i32_145 v329
  let v331 : BitVec 32 := Scalar.minsi arg1 v330
  let c256_i32_146 : BitVec 32 := 256#32
  let v332 : BitVec 32 := Scalar.muli v331 c256_i32_146
  let v333 : BitVec 32 := v332
  let v334 : Index := Scalar.indexCast v333
  let c0_147 : Index := 0#32
  ![v334.toNat, 0]
def k0_mult10 (i : grid0.Coords) (k0_t2 : Fin (k0_t2_loop i).trips) : BitVec 32 :=
  let arg1 : BitVec 32 := BitVec.ofNat 32 (i 1).val
  let c0_i32_152 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c2_i32 : BitVec 32 := 2#32
  let v343 : BitVec 32 := Scalar.addi arg26 c2_i32
  let v344 : BitVec 32 := Scalar.maxsi c0_i32_152 v343
  let v345 : BitVec 32 := Scalar.minsi arg1 v344
  let c256_i32_153 : BitVec 32 := 256#32
  let v346 : BitVec 32 := Scalar.muli v345 c256_i32_153
  v346
def k0_off9 (i : grid0.Coords) (k0_t2 : Fin (k0_t2_loop i).trips) : Fin 2 → Nat :=
  let arg1 : BitVec 32 := BitVec.ofNat 32 (i 1).val
  let c0_i32_152 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c2_i32 : BitVec 32 := 2#32
  let v343 : BitVec 32 := Scalar.addi arg26 c2_i32
  let v344 : BitVec 32 := Scalar.maxsi c0_i32_152 v343
  let v345 : BitVec 32 := Scalar.minsi arg1 v344
  let c256_i32_153 : BitVec 32 := 256#32
  let v346 : BitVec 32 := Scalar.muli v345 c256_i32_153
  let v347 : BitVec 32 := v346
  let v348 : Index := Scalar.indexCast v347
  let c0_154 : Index := 0#32
  ![v348.toNat, 0]
def k0_off10 (i : grid0.Coords) (k0_t2 : Fin (k0_t2_loop i).trips) (c1_i32_156 : BitVec 32) : Fin 3 → Nat :=
  let c0_i32_80 : BitVec 32 := 0#32
  let arg1 : BitVec 32 := BitVec.ofNat 32 (i 1).val
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let v351 : BitVec 32 := Scalar.addi arg26 c1_i32_156
  let c3_i32_164 : BitVec 32 := 3#32
  let c0_i32_165 : BitVec 32 := 0#32
  let v374 : BitVec 1 := Scalar.cmpi .eq c3_i32_164 c0_i32_165
  let c1_i32_166 : BitVec 32 := 1#32
  let v375 : BitVec 32 := Scalar.select v374 c1_i32_166 c3_i32_164
  let v376 : BitVec 32 := Scalar.remsi v351 v375
  let c0_i32_168 : BitVec 32 := 0#32
  let v378 : BitVec 1 := Scalar.cmpi .slt v376 c0_i32_168
  let c0_i32_169 : BitVec 32 := 0#32
  let v379 : BitVec 1 := Scalar.cmpi .slt v375 c0_i32_169
  let v380 : BitVec 1 := Scalar.xori v378 v379
  let c0_i32_167 : BitVec 32 := 0#32
  let v377 : BitVec 1 := Scalar.cmpi .ne v376 c0_i32_167
  let v381 : BitVec 1 := Scalar.andi v380 v377
  let v382 : BitVec 32 := Scalar.addi v376 v375
  let v383 : BitVec 32 := Scalar.select v381 v382 v376
  let v384 : Index := Scalar.indexCast v383
  let c0_170 : Index := 0#32
  let c0_171 : Index := 0#32
  ![v384.toNat, 0, 0]
def k0_mult11 (i : grid0.Coords) (k0_t2 : Fin (k0_t2_loop i).trips) : BitVec 32 :=
  let arg1 : BitVec 32 := BitVec.ofNat 32 (i 1).val
  let c0_i32_190 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c1_i32_189 : BitVec 32 := 1#32
  let v420 : BitVec 32 := Scalar.subi arg26 c1_i32_189
  let v421 : BitVec 32 := Scalar.maxsi c0_i32_190 v420
  let v422 : BitVec 32 := Scalar.minsi arg1 v421
  let c256_i32_191 : BitVec 32 := 256#32
  let v423 : BitVec 32 := Scalar.muli v422 c256_i32_191
  v423
def k0_mult12 (i : grid0.Coords) (k0_t2 : Fin (k0_t2_loop i).trips) : BitVec 32 :=
  let arg1 : BitVec 32 := BitVec.ofNat 32 (i 1).val
  let c0_i32_197 : BitVec 32 := 0#32
  let c0_i32_80 : BitVec 32 := 0#32
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c1_i32_196 : BitVec 32 := 1#32
  let v432 : BitVec 32 := Scalar.subi arg26 c1_i32_196
  let v433 : BitVec 32 := Scalar.maxsi c0_i32_197 v432
  let v434 : BitVec 32 := Scalar.minsi arg1 v433
  let c256_i32_198 : BitVec 32 := 256#32
  let v435 : BitVec 32 := Scalar.muli v434 c256_i32_198
  v435
def k0_off11 (i : grid0.Coords) (k0_t2 : Fin (k0_t2_loop i).trips) : Fin 3 → Nat :=
  let c0_i32_80 : BitVec 32 := 0#32
  let arg1 : BitVec 32 := BitVec.ofNat 32 (i 1).val
  let c1_i32_77 : BitVec 32 := 1#32
  let v195 : BitVec 32 := Scalar.addi arg1 c1_i32_77
  let v198 : BitVec 32 := Scalar.subi v195 c0_i32_80
  let c1_i32_81 : BitVec 32 := 1#32
  let v200 : BitVec 32 := Scalar.divsi v198 c1_i32_81
  let v201 : BitVec 32 := Scalar.muli v200 c1_i32_81
  let v202 : BitVec 32 := Scalar.addi c0_i32_80 v201
  let c1_i32_83 : BitVec 32 := 1#32
  let arg26 : BitVec 32 := Scf.iv v202 c1_i32_83 k0_t2
  let c3_i32_202 : BitVec 32 := 3#32
  let c0_i32_203 : BitVec 32 := 0#32
  let v452 : BitVec 1 := Scalar.cmpi .eq c3_i32_202 c0_i32_203
  let c1_i32_204 : BitVec 32 := 1#32
  let v453 : BitVec 32 := Scalar.select v452 c1_i32_204 c3_i32_202
  let v454 : BitVec 32 := Scalar.remsi arg26 v453
  let c0_i32_206 : BitVec 32 := 0#32
  let v456 : BitVec 1 := Scalar.cmpi .slt v454 c0_i32_206
  let c0_i32_207 : BitVec 32 := 0#32
  let v457 : BitVec 1 := Scalar.cmpi .slt v453 c0_i32_207
  let v458 : BitVec 1 := Scalar.xori v456 v457
  let c0_i32_205 : BitVec 32 := 0#32
  let v455 : BitVec 1 := Scalar.cmpi .ne v454 c0_i32_205
  let v459 : BitVec 1 := Scalar.andi v458 v455
  let v460 : BitVec 32 := Scalar.addi v454 v453
  let v461 : BitVec 32 := Scalar.select v459 v460 v454
  let v462 : Index := Scalar.indexCast v461
  let c0_208 : Index := 0#32
  let c0_209 : Index := 0#32
  ![v462.toNat, 0, 0]
def k0_mult13 (i : grid0.Coords) : BitVec 32 :=
  let arg1 : BitVec 32 := BitVec.ofNat 32 (i 1).val
  let c0_i32_89 : BitVec 32 := 0#32
  let v209 : BitVec 32 := Scalar.maxsi c0_i32_89 arg1
  let v210 : BitVec 32 := Scalar.minsi arg1 v209
  let c256_i32_90 : BitVec 32 := 256#32
  let v211 : BitVec 32 := Scalar.muli v210 c256_i32_90
  v211
def k0_off12 (i : grid0.Coords) : Fin 2 → Nat :=
  let arg1 : BitVec 32 := BitVec.ofNat 32 (i 1).val
  let c0_i32_89 : BitVec 32 := 0#32
  let v209 : BitVec 32 := Scalar.maxsi c0_i32_89 arg1
  let v210 : BitVec 32 := Scalar.minsi arg1 v209
  let c256_i32_90 : BitVec 32 := 256#32
  let v211 : BitVec 32 := Scalar.muli v210 c256_i32_90
  let v212 : BitVec 32 := v211
  let v213 : Index := Scalar.indexCast v212
  let c0_91 : Index := 0#32
  ![v213.toNat, 0]
def k0_off13 (i : grid0.Coords) : Fin 3 → Nat :=
  let arg1 : BitVec 32 := BitVec.ofNat 32 (i 1).val
  let c3_i32 : BitVec 32 := 3#32
  let c0_i32_98 : BitVec 32 := 0#32
  let v226 : BitVec 1 := Scalar.cmpi .eq c3_i32 c0_i32_98
  let c1_i32_99 : BitVec 32 := 1#32
  let v227 : BitVec 32 := Scalar.select v226 c1_i32_99 c3_i32
  let v228 : BitVec 32 := Scalar.remsi arg1 v227
  let c0_i32_101 : BitVec 32 := 0#32
  let v230 : BitVec 1 := Scalar.cmpi .slt v228 c0_i32_101
  let c0_i32_102 : BitVec 32 := 0#32
  let v231 : BitVec 1 := Scalar.cmpi .slt v227 c0_i32_102
  let v232 : BitVec 1 := Scalar.xori v230 v231
  let c0_i32_100 : BitVec 32 := 0#32
  let v229 : BitVec 1 := Scalar.cmpi .ne v228 c0_i32_100
  let v233 : BitVec 1 := Scalar.andi v232 v229
  let v234 : BitVec 32 := Scalar.addi v228 v227
  let v235 : BitVec 32 := Scalar.select v233 v234 v228
  let v236 : Index := Scalar.indexCast v235
  let c0_103 : Index := 0#32
  let c0_104 : Index := 0#32
  ![v236.toNat, 0, 0]
def k0_mult14 (i : grid0.Coords) : BitVec 32 :=
  let arg1 : BitVec 32 := BitVec.ofNat 32 (i 1).val
  let c0_i32_105 : BitVec 32 := 0#32
  let v246 : BitVec 32 := Scalar.maxsi c0_i32_105 arg1
  let v247 : BitVec 32 := Scalar.minsi arg1 v246
  let c256_i32_106 : BitVec 32 := 256#32
  let v248 : BitVec 32 := Scalar.muli v247 c256_i32_106
  v248
def k0_mult15 (i : grid0.Coords) : BitVec 32 :=
  let arg1 : BitVec 32 := BitVec.ofNat 32 (i 1).val
  let c0_i32_112 : BitVec 32 := 0#32
  let v259 : BitVec 32 := Scalar.maxsi c0_i32_112 arg1
  let v260 : BitVec 32 := Scalar.minsi arg1 v259
  let c256_i32_113 : BitVec 32 := 256#32
  let v261 : BitVec 32 := Scalar.muli v260 c256_i32_113
  v261
def k0_cond4 (i : grid0.Coords) : BitVec 1 :=
  let arg1 : BitVec 32 := BitVec.ofNat 32 (i 1).val
  let c7_i32 : BitVec 32 := 7#32
  let v310 : BitVec 1 := Scalar.cmpi .eq arg1 c7_i32
  let v311 : BitVec 32 := Scalar.extui v310
  let c0_i32_129 : BitVec 32 := 0#32
  let v312 : BitVec 1 := Scalar.cmpi .ne v311 c0_i32_129
  v312

def k0_cond2 (i : grid0.Coords) : BitVec 1 :=
  let arg0 : BitVec 32 := BitVec.ofNat 32 (i 0).val
  let c0_i32_125 : BitVec 32 := 0#32
  let v302 : BitVec 1 := Scalar.cmpi .eq arg0 c0_i32_125
  let arg1 : BitVec 32 := BitVec.ofNat 32 (i 1).val
  let c0_i32_126 : BitVec 32 := 0#32
  let v303 : BitVec 1 := Scalar.cmpi .eq arg1 c0_i32_126
  let v304 : BitVec 1 := Scalar.andi v302 v303
  let v305 : BitVec 32 := Scalar.extui v304
  let c0_i32_127 : BitVec 32 := 0#32
  let v306 : BitVec 1 := Scalar.cmpi .ne v305 c0_i32_127
  v306

def k0_cond3 (i : grid0.Coords) : BitVec 1 :=
  let arg0 : BitVec 32 := BitVec.ofNat 32 (i 0).val
  let c0_i32_125 : BitVec 32 := 0#32
  let v302 : BitVec 1 := Scalar.cmpi .eq arg0 c0_i32_125
  let arg1 : BitVec 32 := BitVec.ofNat 32 (i 1).val
  let c0_i32_126 : BitVec 32 := 0#32
  let v303 : BitVec 1 := Scalar.cmpi .eq arg1 c0_i32_126
  let v304 : BitVec 1 := Scalar.andi v302 v303
  let v_true : BitVec 1 := 1#1
  let v307 : BitVec 1 := Scalar.xori v304 v_true
  let v308 : BitVec 32 := Scalar.extui v307
  let c0_i32_128 : BitVec 32 := 0#32
  let v309 : BitVec 1 := Scalar.cmpi .ne v308 c0_i32_128
  v309

def k0_cond7 (i : grid0.Coords) : BitVec 1 :=
  let arg0 : BitVec 32 := BitVec.ofNat 32 (i 0).val
  let c3_i32_152 : BitVec 32 := 3#32
  let v369 : BitVec 1 := Scalar.cmpi .eq arg0 c3_i32_152
  let v370 : BitVec 32 := Scalar.extui v369
  let c0_i32_153 : BitVec 32 := 0#32
  let v371 : BitVec 1 := Scalar.cmpi .ne v370 c0_i32_153
  v371

def k0_cond5 (i : grid0.Coords) : BitVec 1 :=
  let arg0 : BitVec 32 := BitVec.ofNat 32 (i 0).val
  let c0_i32_148 : BitVec 32 := 0#32
  let v363 : BitVec 1 := Scalar.cmpi .eq arg0 c0_i32_148
  let v364 : BitVec 32 := Scalar.extui v363
  let c0_i32_149 : BitVec 32 := 0#32
  let v365 : BitVec 1 := Scalar.cmpi .ne v364 c0_i32_149
  v365

def k0_cond6 (i : grid0.Coords) : BitVec 1 :=
  let arg0 : BitVec 32 := BitVec.ofNat 32 (i 0).val
  let c0_i32_150 : BitVec 32 := 0#32
  let v366 : BitVec 1 := Scalar.cmpi .sgt arg0 c0_i32_150
  let v367 : BitVec 32 := Scalar.extui v366
  let c0_i32_151 : BitVec 32 := 0#32
  let v368 : BitVec 1 := Scalar.cmpi .ne v367 c0_i32_151
  v368

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== AttnIdeal.lean ====
variable {F : FTy → Type} [FloatOps F] [Named F]
def κ : String → Option EReal := fun
  | "masked" => some ⊥
  | _ => none
-- ==== AttnRefIdeal.lean ====
abbrev S1x2048x2816 : Shape := ⟨3, ![1, 2048, 2816]⟩
abbrev S64 : Shape := ⟨1, ![64]⟩
abbrev S1x2048x1024 : Shape := ⟨3, ![1, 2048, 1024]⟩
abbrev S1x2048x512 : Shape := ⟨3, ![1, 2048, 512]⟩
abbrev S1x2048x8x64 : Shape := ⟨4, ![1, 2048, 8, 64]⟩
abbrev S_ : Shape := ⟨0, ![]⟩
abbrev S1x2048x8 : Shape := ⟨3, ![1, 2048, 8]⟩
abbrev S1x2048x8x1 : Shape := ⟨4, ![1, 2048, 8, 1]⟩
abbrev S1x1x1x64 : Shape := ⟨4, ![1, 1, 1, 64]⟩
abbrev S1x8x2048x2048 : Shape := ⟨4, ![1, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x64x2048 : Shape := ⟨4, ![1, 8, 64, 2048]⟩
abbrev S1x8x2048x64 : Shape := ⟨4, ![1, 8, 2048, 64]⟩
abbrev S1x64 : Shape := ⟨2, ![1, 64]⟩
abbrev S2048x8 : Shape := ⟨2, ![2048, 8]⟩
abbrev S2048x512 : Shape := ⟨2, ![2048, 512]⟩
abbrev S2x64 : Shape := ⟨2, ![2, 64]⟩
abbrev S128 : Shape := ⟨1, ![128]⟩
abbrev S1x128 : Shape := ⟨2, ![1, 128]⟩

abbrev nBuf : Space → Nat
  | .hbm => 283
  | .vmem => 0
  | .smem => 0
  | _ => 0

abbrev hbmTy0_0 (i : Nat) : BufTy := match i % 128 with
  | 0 => ⟨S1x2048x2816, .f32⟩
  | 1 => ⟨S64, .f32⟩
  | 2 => ⟨S64, .f32⟩
  | 3 => ⟨S1x2048x1024, .f32⟩
  | 4 => ⟨S1x2048x512, .f32⟩
  | 5 => ⟨S1x2048x512, .f32⟩
  | 6 => ⟨S1x2048x512, .f32⟩
  | 7 => ⟨S1x2048x8x64, .f32⟩
  | 8 => ⟨S1x2048x8x64, .f32⟩
  | 9 => ⟨S_, .f32⟩
  | 10 => ⟨S1x2048x8, .f32⟩
  | 11 => ⟨S1x2048x8x1, .f32⟩
  | 12 => ⟨S_, .f32⟩
  | 13 => ⟨S1x2048x8x1, .f32⟩
  | 14 => ⟨S1x2048x8x1, .f32⟩
  | 15 => ⟨S_, .f32⟩
  | 16 => ⟨S1x2048x8x1, .f32⟩
  | 17 => ⟨S1x2048x8x1, .f32⟩
  | 18 => ⟨S1x2048x8x1, .f32⟩
  | 19 => ⟨S1x2048x8x1, .f32⟩
  | 20 => ⟨S_, .f32⟩
  | 21 => ⟨S1x2048x8x1, .f32⟩
  | 22 => ⟨S1x2048x8x1, .f32⟩
  | 23 => ⟨S1x2048x8x64, .f32⟩
  | 24 => ⟨S1x2048x8x64, .f32⟩
  | 25 => ⟨S1x1x1x64, .f32⟩
  | 26 => ⟨S1x2048x8x64, .f32⟩
  | 27 => ⟨S1x2048x8x64, .f32⟩
  | 28 => ⟨S1x2048x8x64, .f32⟩
  | 29 => ⟨S1x2048x8x64, .f32⟩
  | 30 => ⟨S_, .f32⟩
  | 31 => ⟨S1x2048x8, .f32⟩
  | 32 => ⟨S1x2048x8x1, .f32⟩
  | 33 => ⟨S_, .f32⟩
  | 34 => ⟨S1x2048x8x1, .f32⟩
  | 35 => ⟨S1x2048x8x1, .f32⟩
  | 36 => ⟨S_, .f32⟩
  | 37 => ⟨S1x2048x8x1, .f32⟩
  | 38 => ⟨S1x2048x8x1, .f32⟩
  | 39 => ⟨S1x2048x8x1, .f32⟩
  | 40 => ⟨S1x2048x8x1, .f32⟩
  | 41 => ⟨S_, .f32⟩
  | 42 => ⟨S1x2048x8x1, .f32⟩
  | 43 => ⟨S1x2048x8x1, .f32⟩
  | 44 => ⟨S1x2048x8x64, .f32⟩
  | 45 => ⟨S1x2048x8x64, .f32⟩
  | 46 => ⟨S1x1x1x64, .f32⟩
  | 47 => ⟨S1x2048x8x64, .f32⟩
  | 48 => ⟨S1x2048x8x64, .f32⟩
  | 49 => ⟨S1x2048x8x64, .f32⟩
  | 50 => ⟨S1x8x2048x2048, .f32⟩
  | 51 => ⟨S_, .f32⟩
  | 52 => ⟨S1x8x2048x2048, .f32⟩
  | 53 => ⟨S1x8x2048x2048, .f32⟩
  | 54 => ⟨S2048, .i32⟩
  | 55 => ⟨S1x2048, .i32⟩
  | 56 => ⟨S2048, .i32⟩
  | 57 => ⟨S2048x1, .i32⟩
  | 58 => ⟨S2048x2048, .i32⟩
  | 59 => ⟨S2048x2048, .i32⟩
  | 60 => ⟨S2048x2048, .i1⟩
  | 61 => ⟨S1x8x2048x2048, .f32⟩
  | 62 => ⟨S_, .f32⟩
  | 63 => ⟨S1x8x2048x2048, .f32⟩
  | 64 => ⟨S1x8x2048x2048, .f32⟩
  | 65 => ⟨S1x8x2048x2048, .f32⟩
  | 66 => ⟨S1x8x2048x2048, .f32⟩
  | 67 => ⟨S1x8x2048x2048, .i1⟩
  | 68 => ⟨S1x8x2048x2048, .f32⟩
  | 69 => ⟨S1x8x2048x2048, .f32⟩
  | 70 => ⟨S1x8x2048x2048, .f32⟩
  | 71 => ⟨S1x8x2048x2048, .f32⟩
  | 72 => ⟨S1x8x2048x2048, .f32⟩
  | 73 => ⟨S1x8x2048x2048, .f32⟩
  | 74 => ⟨S1x8x2048x2048, .f32⟩
  | 75 => ⟨S1x8x2048x2048, .f32⟩
  | 76 => ⟨S_, .f32⟩
  | 77 => ⟨S1x8x2048x2048, .f32⟩
  | 78 => ⟨S1x8x2048x2048, .i1⟩
  | 79 => ⟨S_, .f32⟩
  | 80 => ⟨S1x8x2048x2048, .f32⟩
  | 81 => ⟨S1x8x2048x2048, .f32⟩
  | 82 => ⟨S_, .f32⟩
  | 83 => ⟨S1x8x2048x2048, .f32⟩
  | 84 => ⟨S1x8x2048x2048, .i1⟩
  | 85 => ⟨S_, .f32⟩
  | 86 => ⟨S1x8x2048x2048, .f32⟩
  | 87 => ⟨S1x8x2048x2048, .f32⟩
  | 88 => ⟨S1x8x2048x2048, .f32⟩
  | 89 => ⟨S1x8x2048x2048, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S1x8x2048x2048, .f32⟩
  | 98 => ⟨S1x8x2048x2048, .i1⟩
  | 99 => ⟨S_, .f32⟩
  | 100 => ⟨S1x8x2048x2048, .f32⟩
  | 101 => ⟨S1x8x2048x2048, .f32⟩
  | 102 => ⟨S1x8x2048x2048, .f32⟩
  | 103 => ⟨S1x8x2048x2048, .f32⟩
  | 104 => ⟨S1x8x2048x2048, .f32⟩
  | 105 => ⟨S_, .f32⟩
  | 106 => ⟨S1x8x2048x2048, .f32⟩
  | 107 => ⟨S1x8x2048x2048, .f32⟩
  | 108 => ⟨S1x8x2048x2048, .f32⟩
  | 109 => ⟨S1x8x2048x2048, .f32⟩
  | 110 => ⟨S1x8x2048x2048, .f32⟩
  | 111 => ⟨S_, .f32⟩
  | 112 => ⟨S1x8x2048x2048, .f32⟩
  | 113 => ⟨S1x8x2048x2048, .f32⟩
  | 114 => ⟨S1x8x2048x2048, .f32⟩
  | 115 => ⟨S1x8x2048x2048, .f32⟩
  | 116 => ⟨S1x8x2048x2048, .i1⟩
  | 117 => ⟨S1x8x2048x2048, .f32⟩
  | 118 => ⟨S1x8x2048x2048, .f32⟩
  | 119 => ⟨S1x8x2048x2048, .f32⟩
  | 120 => ⟨S1x8x2048x2048, .f32⟩
  | 121 => ⟨S1x8x2048x2048, .f32⟩
  | 122 => ⟨S1x8x2048x2048, .f32⟩
  | 123 => ⟨S1x8x2048x2048, .f32⟩
  | 124 => ⟨S1x8x2048x2048, .f32⟩
  | 125 => ⟨S_, .f32⟩
  | 126 => ⟨S1x8x2048x2048, .f32⟩
  | 127 => ⟨S1x8x2048x2048, .i1⟩
  | _ => ⟨S1x2048x2816, .f32⟩

abbrev hbmTy0_1 (i : Nat) : BufTy := match i % 128 with
  | 0 => ⟨S_, .f32⟩
  | 1 => ⟨S1x8x2048x2048, .f32⟩
  | 2 => ⟨S1x8x2048x2048, .f32⟩
  | 3 => ⟨S_, .f32⟩
  | 4 => ⟨S1x8x2048x2048, .f32⟩
  | 5 => ⟨S1x8x2048x2048, .i1⟩
  | 6 => ⟨S_, .f32⟩
  | 7 => ⟨S1x8x2048x2048, .f32⟩
  | 8 => ⟨S1x8x2048x2048, .f32⟩
  | 9 => ⟨S1x8x2048x2048, .f32⟩
  | 10 => ⟨S1x8x2048x2048, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S_, .f32⟩
  | 18 => ⟨S1x8x2048x2048, .f32⟩
  | 19 => ⟨S1x8x2048x2048, .i1⟩
  | 20 => ⟨S_, .f32⟩
  | 21 => ⟨S1x8x2048x2048, .f32⟩
  | 22 => ⟨S1x8x2048x2048, .f32⟩
  | 23 => ⟨S1x8x2048x2048, .f32⟩
  | 24 => ⟨S1x8x2048x2048, .f32⟩
  | 25 => ⟨S1x8x2048x2048, .f32⟩
  | 26 => ⟨S_, .f32⟩
  | 27 => ⟨S1x8x2048x2048, .f32⟩
  | 28 => ⟨S1x8x2048x2048, .f32⟩
  | 29 => ⟨S1x8x2048x2048, .f32⟩
  | 30 => ⟨S_, .f32⟩
  | 31 => ⟨S_, .f32⟩
  | 32 => ⟨S1x8x2048x2048, .i1⟩
  | 33 => ⟨S1x8x2048x2048, .f32⟩
  | 34 => ⟨S1x8x2048x2048, .f32⟩
  | 35 => ⟨S_, .f32⟩
  | 36 => ⟨S1x8x2048x2048, .f32⟩
  | 37 => ⟨S_, .f32⟩
  | 38 => ⟨S_, .f32⟩
  | 39 => ⟨S1x8x2048x2048, .f32⟩
  | 40 => ⟨S1x8x2048x2048, .f32⟩
  | 41 => ⟨S1x8x2048x2048, .f32⟩
  | 42 => ⟨S1x8x2048x2048, .f32⟩
  | 43 => ⟨S_, .f32⟩
  | 44 => ⟨S_, .f32⟩
  | 45 => ⟨S1x8x2048x2048, .i1⟩
  | 46 => ⟨S1x8x2048x2048, .f32⟩
  | 47 => ⟨S1x8x2048x2048, .f32⟩
  | 48 => ⟨S_, .f32⟩
  | 49 => ⟨S1x8x2048x2048, .f32⟩
  | 50 => ⟨S1x8x64x2048, .f32⟩
  | 51 => ⟨S1x2048x8x64, .f32⟩
  | 52 => ⟨S1x2048x512, .f32⟩
  | 53 => ⟨S1x2048x512, .f32⟩
  | 54 => ⟨S1x2048x8x64, .f32⟩
  | 55 => ⟨S1x8x64x2048, .f32⟩
  | 56 => ⟨S1x8x2048x2048, .f32⟩
  | 57 => ⟨S1x8x64x2048, .f32⟩
  | 58 => ⟨S1x2048x8x64, .f32⟩
  | 59 => ⟨S_, .f32⟩
  | 60 => ⟨S1x8x2048x2048, .f32⟩
  | 61 => ⟨S1x8x2048x2048, .f32⟩
  | 62 => ⟨S1x8x2048x2048, .f32⟩
  | 63 => ⟨S1x8x2048x2048, .f32⟩
  | 64 => ⟨S_, .f32⟩
  | 65 => ⟨S_, .f32⟩
  | 66 => ⟨S1x8x2048x2048, .f32⟩
  | 67 => ⟨S1x8x2048x2048, .f32⟩
  | 68 => ⟨S_, .f32⟩
  | 69 => ⟨S1x8x2048x2048, .f32⟩
  | 70 => ⟨S1x8x2048x2048, .f32⟩
  | 71 => ⟨S1x8x2048x2048, .f32⟩
  | 72 => ⟨S1x8x2048x2048, .f32⟩
  | 73 => ⟨S1x8x2048x2048, .f32⟩
  | 74 => ⟨S1x8x2048x2048, .f32⟩
  | 75 => ⟨S1x8x2048x2048, .f32⟩
  | 76 => ⟨S1x8x2048x2048, .f32⟩
  | 77 => ⟨S1x8x2048x2048, .f32⟩
  | 78 => ⟨S1x8x2048x2048, .f32⟩
  | 79 => ⟨S_, .f32⟩
  | 80 => ⟨S1x8x2048x2048, .f32⟩
  | 81 => ⟨S1x8x2048x2048, .f32⟩
  | 82 => ⟨S1x8x2048x64, .f32⟩
  | 83 => ⟨S1x2048x8x64, .f32⟩
  | 84 => ⟨S1x8x2048x64, .f32⟩
  | 85 => ⟨S1x2048x8x64, .f32⟩
  | 86 => ⟨S1x2048x512, .f32⟩
  | 87 => ⟨S1x2048x8x64, .f32⟩
  | 88 => ⟨S_, .f32⟩
  | 89 => ⟨S1x64, .f32⟩
  | 90 => ⟨S1x1x1x64, .f32⟩
  | 91 => ⟨S1x2048x8x64, .f32⟩
  | 92 => ⟨S1x2048x8x64, .f32⟩
  | 93 => ⟨S_, .f32⟩
  | 94 => ⟨S64, .f32⟩
  | 95 => ⟨S1x2048x8x64, .f32⟩
  | 96 => ⟨S_, .f32⟩
  | 97 => ⟨S1x2048x8, .f32⟩
  | 98 => ⟨S1x2048x8x1, .f32⟩
  | 99 => ⟨S1x2048x8x64, .f32⟩
  | 100 => ⟨S1x2048x8x64, .f32⟩
  | 101 => ⟨S1x2048x8x1, .f32⟩
  | 102 => ⟨S_, .f32⟩
  | 103 => ⟨S1x2048x8x1, .f32⟩
  | 104 => ⟨S1x2048x8x1, .f32⟩
  | 105 => ⟨S_, .f32⟩
  | 106 => ⟨S2048x8, .f32⟩
  | 107 => ⟨S1x2048x8, .f32⟩
  | 108 => ⟨S1x2048x8x64, .f32⟩
  | 109 => ⟨S1x2048x8x64, .f32⟩
  | 110 => ⟨S1x2048x8x64, .f32⟩
  | 111 => ⟨S1x2048x8x64, .f32⟩
  | 112 => ⟨S1x2048x8x64, .f32⟩
  | 113 => ⟨S1x2048x512, .f32⟩
  | 114 => ⟨S1x2048x8x64, .f32⟩
  | 115 => ⟨S_, .f32⟩
  | 116 => ⟨S1x64, .f32⟩
  | 117 => ⟨S1x1x1x64, .f32⟩
  | 118 => ⟨S1x2048x8x64, .f32⟩
  | 119 => ⟨S1x2048x8x64, .f32⟩
  | 120 => ⟨S_, .f32⟩
  | 121 => ⟨S64, .f32⟩
  | 122 => ⟨S1x2048x8x64, .f32⟩
  | 123 => ⟨S_, .f32⟩
  | 124 => ⟨S1x2048x8, .f32⟩
  | 125 => ⟨S1x2048x8x1, .f32⟩
  | 126 => ⟨S1x2048x8x64, .f32⟩
  | 127 => ⟨S1x2048x8x64, .f32⟩
  | _ => ⟨S1x2048x2816, .f32⟩

abbrev hbmTy0_2 (i : Nat) : BufTy := match i % 128 with
  | 0 => ⟨S1x2048x8x1, .f32⟩
  | 1 => ⟨S_, .f32⟩
  | 2 => ⟨S1x2048x8x1, .f32⟩
  | 3 => ⟨S1x2048x8x1, .f32⟩
  | 4 => ⟨S_, .f32⟩
  | 5 => ⟨S2048x8, .f32⟩
  | 6 => ⟨S1x2048x8, .f32⟩
  | 7 => ⟨S1x2048x8x64, .f32⟩
  | 8 => ⟨S1x2048x8x64, .f32⟩
  | 9 => ⟨S1x2048x8x64, .f32⟩
  | 10 => ⟨S1x2048x8x64, .f32⟩
  | 11 => ⟨S1x2048x8x64, .f32⟩
  | 12 => ⟨S1x2048x512, .f32⟩
  | 13 => ⟨S2048x512, .f32⟩
  | 14 => ⟨S2048x512, .bf16⟩
  | 15 => ⟨S2048x512, .f32⟩
  | 16 => ⟨S2048x512, .bf16⟩
  | 17 => ⟨S2048x512, .f32⟩
  | 18 => ⟨S2048x512, .bf16⟩
  | 19 => ⟨S1x64, .f32⟩
  | 20 => ⟨S2x64, .f32⟩
  | 21 => ⟨S128, .f32⟩
  | 22 => ⟨S1x128, .f32⟩
  | 23 => ⟨S1x64, .f32⟩
  | 24 => ⟨S2x64, .f32⟩
  | 25 => ⟨S128, .f32⟩
  | 26 => ⟨S1x128, .f32⟩
  | _ => ⟨S1x2048x2816, .f32⟩

abbrev hbmTy (i : Nat) : BufTy := match i / 128 with
  | 0 => hbmTy0_0 i
  | 1 => hbmTy0_1 i
  | 2 => hbmTy0_2 i
  | _ => ⟨S1x2048x2816, .f32⟩

abbrev bufTy : (tb : Table) → Fin (tcTables nBuf tb) → BufTy
  | .hbm, ⟨i, _⟩ => hbmTy i
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1_0 : Ref sig .tc := ⟨.hbm, 75, rfl⟩
abbrev main_call0_call0_cst_0 : Ref sig .tc := ⟨.hbm, 76, rfl⟩
abbrev main_call0_call0_v13 : Ref sig .tc := ⟨.hbm, 77, rfl⟩
abbrev main_call0_call0_v14 : Ref sig .tc := ⟨.hbm, 78, rfl⟩
abbrev main_call0_call0_cst_1 : Ref sig .tc := ⟨.hbm, 79, rfl⟩
abbrev main_call0_call0_v15 : Ref sig .tc := ⟨.hbm, 80, rfl⟩
abbrev main_call0_call0_v16 : Ref sig .tc := ⟨.hbm, 81, rfl⟩
abbrev main_call0_call0_cst_2 : Ref sig .tc := ⟨.hbm, 82, rfl⟩
abbrev main_call0_call0_v17 : Ref sig .tc := ⟨.hbm, 83, rfl⟩
abbrev main_call0_call0_v18 : Ref sig .tc := ⟨.hbm, 84, rfl⟩
abbrev main_call0_call0_cst_3 : Ref sig .tc := ⟨.hbm, 85, rfl⟩
abbrev main_call0_call0_v19 : Ref sig .tc := ⟨.hbm, 86, rfl⟩
abbrev main_call0_call0_v20 : Ref sig .tc := ⟨.hbm, 87, rfl⟩
abbrev main_call0_call0_v21 : Ref sig .tc := ⟨.hbm, 88, rfl⟩
abbrev main_v48_1 : Ref sig .tc := ⟨.hbm, 89, rfl⟩
abbrev main_call0_call0_cst_4 : Ref sig .tc := ⟨.hbm, 90, rfl⟩
abbrev main_call0_call0_cst_5 : Ref sig .tc := ⟨.hbm, 91, rfl⟩
abbrev main_call0_call0_v23 : Ref sig .tc := ⟨.hbm, 92, rfl⟩
abbrev main_call0_call0_cst_6 : Ref sig .tc := ⟨.hbm, 93, rfl⟩
abbrev main_call0_call0_cst_7 : Ref sig .tc := ⟨.hbm, 94, rfl⟩
abbrev main_call0_call0_v24 : Ref sig .tc := ⟨.hbm, 95, rfl⟩
abbrev main_call0_call0_cst_8 : Ref sig .tc := ⟨.hbm, 96, rfl⟩
abbrev main_call0_call0_v25 : Ref sig .tc := ⟨.hbm, 97, rfl⟩
abbrev main_call0_call0_v26 : Ref sig .tc := ⟨.hbm, 98, rfl⟩
abbrev main_call0_call0_cst_9 : Ref sig .tc := ⟨.hbm, 99, rfl⟩
abbrev main_call0_call0_v27 : Ref sig .tc := ⟨.hbm, 100, rfl⟩
abbrev main_call0_call0_v28 : Ref sig .tc := ⟨.hbm, 101, rfl⟩
abbrev main_call0_call0_v29 : Ref sig .tc := ⟨.hbm, 102, rfl⟩
abbrev main_call0_call0_v30 : Ref sig .tc := ⟨.hbm, 103, rfl⟩
abbrev main_call0_call0_v31 : Ref sig .tc := ⟨.hbm, 104, rfl⟩
abbrev main_call0_call0_cst_10 : Ref sig .tc := ⟨.hbm, 105, rfl⟩
abbrev main_call0_call0_v32 : Ref sig .tc := ⟨.hbm, 106, rfl⟩
abbrev main_v48_2 : Ref sig .tc := ⟨.hbm, 107, rfl⟩
abbrev main_v48_0 : Ref sig .tc := ⟨.hbm, 108, rfl⟩
abbrev main_v49 : Ref sig .tc := ⟨.hbm, 109, rfl⟩
abbrev main_call1_v0 : Ref sig .tc := ⟨.hbm, 110, rfl⟩
abbrev main_call1_call0_cst : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_call0_v2 : Ref sig .tc := ⟨.hbm, 114, rfl⟩
abbrev main_call1_call0_v3 : Ref sig .tc := ⟨.hbm, 115, rfl⟩
abbrev main_call1_call0_v4 : Ref sig .tc := ⟨.hbm, 116, rfl⟩
abbrev main_call1_call0_v5 : Ref sig .tc := ⟨.hbm, 117, rfl⟩
abbrev main_call1_call0_v6 : Ref sig .tc := ⟨.hbm, 118, rfl⟩
abbrev main_call1_call0_v7 : Ref sig .tc := ⟨.hbm, 119, rfl⟩
abbrev main_call1_call0_v8 : Ref sig .tc := ⟨.hbm, 120, rfl⟩
abbrev main_call1_call0_v9 : Ref sig .tc := ⟨.hbm, 121, rfl⟩
abbrev main_call1_call0_v10 : Ref sig .tc := ⟨.hbm, 122, rfl⟩
abbrev main_call1_call0_v11 : Ref sig .tc := ⟨.hbm, 123, rfl⟩
abbrev main_call1_v1_0 : Ref sig .tc := ⟨.hbm, 124, rfl⟩
abbrev main_call1_call0_cst_0 : Ref sig .tc := ⟨.hbm, 125, rfl⟩
abbrev main_call1_call0_v13 : Ref sig .tc := ⟨.hbm, 126, rfl⟩
abbrev main_call1_call0_v14 : Ref sig .tc := ⟨.hbm, 127, rfl⟩
abbrev main_call1_call0_cst_1 : Ref sig .tc := ⟨.hbm, 128, rfl⟩
abbrev main_call1_call0_v15 : Ref sig .tc := ⟨.hbm, 129, rfl⟩
abbrev main_call1_call0_v16 : Ref sig .tc := ⟨.hbm, 130, rfl⟩
abbrev main_call1_call0_cst_2 : Ref sig .tc := ⟨.hbm, 131, rfl⟩
abbrev main_call1_call0_v17 : Ref sig .tc := ⟨.hbm, 132, rfl⟩
abbrev main_call1_call0_v18 : Ref sig .tc := ⟨.hbm, 133, rfl⟩
abbrev main_call1_call0_cst_3 : Ref sig .tc := ⟨.hbm, 134, rfl⟩
abbrev main_call1_call0_v19 : Ref sig .tc := ⟨.hbm, 135, rfl⟩
abbrev main_call1_call0_v20 : Ref sig .tc := ⟨.hbm, 136, rfl⟩
abbrev main_call1_call0_v21 : Ref sig .tc := ⟨.hbm, 137, rfl⟩
abbrev main_v50_1 : Ref sig .tc := ⟨.hbm, 138, rfl⟩
abbrev main_call1_call0_cst_4 : Ref sig .tc := ⟨.hbm, 139, rfl⟩
abbrev main_call1_call0_cst_5 : Ref sig .tc := ⟨.hbm, 140, rfl⟩
abbrev main_call1_call0_v23 : Ref sig .tc := ⟨.hbm, 141, rfl⟩
abbrev main_call1_call0_cst_6 : Ref sig .tc := ⟨.hbm, 142, rfl⟩
abbrev main_call1_call0_cst_7 : Ref sig .tc := ⟨.hbm, 143, rfl⟩
abbrev main_call1_call0_v24 : Ref sig .tc := ⟨.hbm, 144, rfl⟩
abbrev main_call1_call0_cst_8 : Ref sig .tc := ⟨.hbm, 145, rfl⟩
abbrev main_call1_call0_v25 : Ref sig .tc := ⟨.hbm, 146, rfl⟩
abbrev main_call1_call0_v26 : Ref sig .tc := ⟨.hbm, 147, rfl⟩
abbrev main_call1_call0_cst_9 : Ref sig .tc := ⟨.hbm, 148, rfl⟩
abbrev main_call1_call0_v27 : Ref sig .tc := ⟨.hbm, 149, rfl⟩
abbrev main_call1_call0_v28 : Ref sig .tc := ⟨.hbm, 150, rfl⟩
abbrev main_call1_call0_v29 : Ref sig .tc := ⟨.hbm, 151, rfl⟩
abbrev main_call1_call0_v30 : Ref sig .tc := ⟨.hbm, 152, rfl⟩
abbrev main_call1_call0_v31 : Ref sig .tc := ⟨.hbm, 153, rfl⟩
abbrev main_call1_call0_cst_10 : Ref sig .tc := ⟨.hbm, 154, rfl⟩
abbrev main_call1_call0_v32 : Ref sig .tc := ⟨.hbm, 155, rfl⟩
abbrev main_v50_2 : Ref sig .tc := ⟨.hbm, 156, rfl⟩
abbrev main_v50_0 : Ref sig .tc := ⟨.hbm, 157, rfl⟩
abbrev main_cst_8 : Ref sig .tc := ⟨.hbm, 158, rfl⟩
abbrev main_call2_v0 : Ref sig .tc := ⟨.hbm, 159, rfl⟩
abbrev main_v51_1 : Ref sig .tc := ⟨.hbm, 160, rfl⟩
abbrev main_call2_v2 : Ref sig .tc := ⟨.hbm, 161, rfl⟩
abbrev main_v51_0 : Ref sig .tc := ⟨.hbm, 162, rfl⟩
abbrev main_call2_cst : Ref sig .tc := ⟨.hbm, 163, rfl⟩
abbrev main_v51_2 : Ref sig .tc := ⟨.hbm, 164, rfl⟩
abbrev main_call3_cst : Ref sig .tc := ⟨.hbm, 165, rfl⟩
abbrev main_call3_v0 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_cst_9 : Ref sig .tc := ⟨.hbm, 171, rfl⟩
abbrev main_call4_v0 : Ref sig .tc := ⟨.hbm, 172, rfl⟩
abbrev main_v56_1 : Ref sig .tc := ⟨.hbm, 173, rfl⟩
abbrev main_call4_v2 : Ref sig .tc := ⟨.hbm, 174, rfl⟩
abbrev main_v56_0 : Ref sig .tc := ⟨.hbm, 175, rfl⟩
abbrev main_call4_cst : Ref sig .tc := ⟨.hbm, 176, rfl⟩
abbrev main_v56_2 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_call5_cst : Ref sig .tc := ⟨.hbm, 187, rfl⟩
abbrev main_call5_v0 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_call6_cst : Ref sig .tc := ⟨.hbm, 192, rfl⟩
abbrev main_call6_v0 : Ref sig .tc := ⟨.hbm, 193, rfl⟩
abbrev main_v69 : Ref sig .tc := ⟨.hbm, 194, rfl⟩
abbrev main_v70 : Ref sig .tc := ⟨.hbm, 195, rfl⟩
abbrev main_call7_cst : Ref sig .tc := ⟨.hbm, 196, rfl⟩
abbrev main_call7_v0 : Ref sig .tc := ⟨.hbm, 197, rfl⟩
abbrev main_v71 : Ref sig .tc := ⟨.hbm, 198, rfl⟩
abbrev main_call8_v0 : Ref sig .tc := ⟨.hbm, 199, rfl⟩
abbrev main_call8_v1 : Ref sig .tc := ⟨.hbm, 200, rfl⟩
abbrev main_v72 : Ref sig .tc := ⟨.hbm, 201, rfl⟩
abbrev main_v73 : Ref sig .tc := ⟨.hbm, 202, rfl⟩
abbrev main_call9_v0 : Ref sig .tc := ⟨.hbm, 203, rfl⟩
abbrev main_call9_v1 : Ref sig .tc := ⟨.hbm, 204, rfl⟩
abbrev main_v74 : Ref sig .tc := ⟨.hbm, 205, rfl⟩
abbrev main_v75 : Ref sig .tc := ⟨.hbm, 206, rfl⟩
abbrev main_cst_10 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_cst_11 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_cst_12 : Ref sig .tc := ⟨.hbm, 221, rfl⟩
abbrev main_v88 : Ref sig .tc := ⟨.hbm, 222, rfl⟩
abbrev main_v89 : Ref sig .tc := ⟨.hbm, 223, rfl⟩
abbrev main_cst_13 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_cst_14 : Ref sig .tc := ⟨.hbm, 230, rfl⟩
abbrev main_v95 : Ref sig .tc := ⟨.hbm, 231, rfl⟩
abbrev main_v96 : Ref sig .tc := ⟨.hbm, 232, rfl⟩
abbrev main_cst_15 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_cst_16 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_cst_17 : Ref sig .tc := ⟨.hbm, 248, rfl⟩
abbrev main_v110 : Ref sig .tc := ⟨.hbm, 249, rfl⟩
abbrev main_v111 : Ref sig .tc := ⟨.hbm, 250, rfl⟩
abbrev main_cst_18 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_cst_19 : Ref sig .tc := ⟨.hbm, 257, rfl⟩
abbrev main_v117 : Ref sig .tc := ⟨.hbm, 258, rfl⟩
abbrev main_v118 : Ref sig .tc := ⟨.hbm, 259, rfl⟩
abbrev main_cst_20 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩

abbrev nD : Nat := 1
abbrev τ : Topo := Topo.v7x

variable {F : FTy → Type} [FloatOps F]
-- ==== Ffn.lean ====
abbrev S2048x1024 : Shape := ⟨2, ![2048, 1024]⟩
abbrev S2048x4096 : Shape := ⟨2, ![2048, 4096]⟩
abbrev S4096x1024 : Shape := ⟨2, ![4096, 1024]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S2048x4096, .bf16⟩
  | .hbm, ⟨4, _⟩ => ⟨S4096x1024, .bf16⟩
  | .hbm, ⟨5, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Embed.lean ====
abbrev S2048x1024 : Shape := ⟨2, ![2048, 1024]⟩
abbrev S2048x256 : Shape := ⟨2, ![2048, 256]⟩
abbrev S256x1024 : Shape := ⟨2, ![256, 1024]⟩
abbrev S256x4x256 : Shape := ⟨3, ![256, 4, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S256x1024, .f32⟩
  | .hbm, ⟨4, _⟩ => ⟨S256x1024, .bf16⟩
  | .hbm, ⟨5, _⟩ => ⟨S256x4x256, .bf16⟩
  | .hbm, ⟨6, _⟩ => ⟨S4x256x256, .bf16⟩
  | .hbm, ⟨7, _⟩ => ⟨S2048x256, .bf16⟩
  | .hbm, ⟨8, _⟩ => ⟨S2048x1024, .bf16⟩
  | .hbm, ⟨9, _⟩ => ⟨S2048x1024, .f32⟩
  | .hbm, ⟨10, _⟩ => ⟨S2048x1024, .bf16⟩
  | .local _ .vmem, ⟨0, _⟩ => ⟨S2048x256, .bf16⟩
  | .local _ .vmem, ⟨1, _⟩ => ⟨S1x256x256, .bf16⟩
  | .local _ .vmem, ⟨2, _⟩ => ⟨S1x256x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EmbedRefIdeal.lean ====
abbrev S2048x1024 : Shape := ⟨2, ![2048, 1024]⟩
abbrev S2048x256 : Shape := ⟨2, ![2048, 256]⟩
abbrev S256x1024 : Shape := ⟨2, ![256, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S256x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Gated.lean ====
abbrev S1x2048x2816 : Shape := ⟨3, ![1, 2048, 2816]⟩
abbrev S3x256 : Shape := ⟨2, ![3, 256]⟩
abbrev S2048x2816 : Shape := ⟨2, ![2048, 2816]⟩
abbrev S2048x1024 : Shape := ⟨2, ![2048, 1024]⟩
abbrev S2048x256 : Shape := ⟨2, ![2048, 256]⟩
abbrev S1x256 : Shape := ⟨2, ![1, 256]⟩

abbrev nBuf : Space → Nat
  | .hbm => 6
  | .vmem => 5
  | .smem => 0
  | _ => 0

abbrev bufTy : (tb : Table) → Fin (tcTables nBuf tb) → BufTy
  | .hbm, ⟨0, _⟩ => ⟨S1x2048x2816, .f32⟩
  | .hbm, ⟨1, _⟩ => ⟨S3x256, .f32⟩
  | .hbm, ⟨2, _⟩ => ⟨S2048x2816, .f32⟩
  | .hbm, ⟨3, _⟩ => ⟨S2048x2816, .bf16⟩
  | .hbm, ⟨4, _⟩ => ⟨S2048x1024, .bf16⟩
  | .hbm, ⟨5, _⟩ => ⟨S2048x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S3x256, .f32⟩
  | .local _ .vmem, ⟨4, _⟩ => ⟨S2048x256, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GatedRefIdeal.lean ====
abbrev S1x2048x2816 : Shape := ⟨3, ![1, 2048, 2816]⟩
abbrev S3x256 : Shape := ⟨2, ![3, 256]⟩
abbrev S1x2048x256 : Shape := ⟨3, ![1, 2048, 256]⟩
abbrev S_ : Shape := ⟨0, ![]⟩
abbrev S1x2x256 : Shape := ⟨3, ![1, 2, 256]⟩
abbrev S1x2050x256 : Shape := ⟨3, ![1, 2050, 256]⟩
abbrev S1x256 : Shape := ⟨2, ![1, 256]⟩
abbrev S256 : Shape := ⟨1, ![256]⟩
abbrev S1x1x256 : Shape := ⟨3, ![1, 1, 256]⟩
abbrev S2048x256 : Shape := ⟨2, ![2048, 256]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S3x256, .f32⟩
  | .hbm, ⟨2, _⟩ => ⟨S1x2048x256, .f32⟩
  | .hbm, ⟨3, _⟩ => ⟨S1x2048x256, .f32⟩
  | .hbm, ⟨4, _⟩ => ⟨S1x2048x256, .f32⟩
  | .hbm, ⟨5, _⟩ => ⟨S1x2048x256, .f32⟩
  | .hbm, ⟨6, _⟩ => ⟨S_, .f32⟩
  | .hbm, ⟨7, _⟩ => ⟨S1x2x256, .f32⟩
  | .hbm, ⟨8, _⟩ => ⟨S1x2050x256, .f32⟩
  | .hbm, ⟨9, _⟩ => ⟨S1x256, .f32⟩
  | .hbm, ⟨10, _⟩ => ⟨S256, .f32⟩
  | .hbm, ⟨11, _⟩ => ⟨S1x2048x256, .f32⟩
  | .hbm, ⟨12, _⟩ => ⟨S1x1x256, .f32⟩
  | .hbm, ⟨13, _⟩ => ⟨S1x2048x256, .f32⟩
  | .hbm, ⟨14, _⟩ => ⟨S1x2048x256, .f32⟩
  | .hbm, ⟨15, _⟩ => ⟨S1x256, .f32⟩
  | .hbm, ⟨16, _⟩ => ⟨S256, .f32⟩
  | .hbm, ⟨17, _⟩ => ⟨S1x2048x256, .f32⟩
  | .hbm, ⟨18, _⟩ => ⟨S1x1x256, .f32⟩
  | .hbm, ⟨19, _⟩ => ⟨S1x2048x256, .f32⟩
  | .hbm, ⟨20, _⟩ => ⟨S1x2048x256, .f32⟩
  | .hbm, ⟨21, _⟩ => ⟨S1x2048x256, .f32⟩
  | .hbm, ⟨22, _⟩ => ⟨S1x256, .f32⟩
  | .hbm, ⟨23, _⟩ => ⟨S256, .f32⟩
  | .hbm, ⟨24, _⟩ => ⟨S1x2048x256, .f32⟩
  | .hbm, ⟨25, _⟩ => ⟨S1x1x256, .f32⟩
  | .hbm, ⟨26, _⟩ => ⟨S1x2048x256, .f32⟩
  | .hbm, ⟨27, _⟩ => ⟨S1x2048x256, .f32⟩
  | .hbm, ⟨28, _⟩ => ⟨S1x2048x256, .f32⟩
  | .hbm, ⟨29, _⟩ => ⟨S1x2048x256, .f32⟩
  | .hbm, ⟨30, _⟩ => ⟨S2048x256, .f32⟩
  | .hbm, ⟨31, _⟩ => ⟨S2048x256, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Mix.lean ====
abbrev S1x2048x2816 : Shape := ⟨3, ![1, 2048, 2816]⟩
abbrev S256 : Shape := ⟨1, ![256]⟩
abbrev S4x128x128 : Shape := ⟨3, ![4, 128, 128]⟩
abbrev S4x128 : Shape := ⟨2, ![4, 128]⟩
abbrev S1x2048x1024 : Shape := ⟨3, ![1, 2048, 1024]⟩
abbrev S128x4 : Shape := ⟨2, ![128, 4]⟩
abbrev S128x4x64 : Shape := ⟨3, ![128, 4, 64]⟩
abbrev S128x256 : Shape := ⟨2, ![128, 256]⟩
abbrev S2048x2816 : Shape := ⟨2, ![2048, 2816]⟩
abbrev S1x256 : Shape := ⟨2, ![1, 256]⟩
abbrev S2048x1024 : Shape := ⟨2, ![2048, 1024]⟩
abbrev S512x256 : Shape := ⟨2, ![512, 256]⟩
abbrev S256x256 : Shape := ⟨2, ![256, 256]⟩
abbrev S1024x256 : Shape := ⟨2, ![1024, 256]⟩
abbrev S128x128 : Shape := ⟨2, ![128, 128]⟩
abbrev S1x128x128 : Shape := ⟨3, ![1, 128, 128]⟩

abbrev nBuf : Space → Nat
  | .hbm => 14
  | .vmem => 9
  | .smem => 0
  | _ => 0

abbrev bufTy : (tb : Table) → Fin (tcTables nBuf tb) → BufTy
  | .hbm, ⟨0, _⟩ => ⟨S1x2048x2816, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S1x2048x1024, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S2048x2816, .f32⟩
  | .hbm, ⟨9, _⟩ => ⟨S2048x2816, .bf16⟩
  | .hbm, ⟨10, _⟩ => ⟨S1x256, .f32⟩
  | .hbm, ⟨11, _⟩ => ⟨S2048x1024, .f32⟩
  | .hbm, ⟨12, _⟩ => ⟨S2048x1024, .bf16⟩
  | .hbm, ⟨13, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x256, .f32⟩
  | .local _ .vmem, ⟨5, _⟩ => ⟨S4x128x128, .f32⟩
  | .local _ .vmem, ⟨6, _⟩ => ⟨S128x256, .f32⟩
  | .local _ .vmem, ⟨7, _⟩ => ⟨S512x256, .bf16⟩
  | .local _ .vmem, ⟨8, _⟩ => ⟨S512x256, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixIdeal.lean ====
variable {F : FTy → Type} [FloatOps F] [Named F]
def κ : String → Option EReal := fun
  | "root_half" => some ((Real.sqrt (1 / 2) : ℝ) : EReal)
  | _ => none
-- ==== MixRefIdeal.lean ====
abbrev S1x2048x2816 : Shape := ⟨3, ![1, 2048, 2816]⟩
abbrev S256 : Shape := ⟨1, ![256]⟩
abbrev S4x128x128 : Shape := ⟨3, ![4, 128, 128]⟩
abbrev S4x128 : Shape := ⟨2, ![4, 128]⟩
abbrev S1x2048x1024 : Shape := ⟨3, ![1, 2048, 1024]⟩
abbrev S1x2048x256 : Shape := ⟨3, ![1, 2048, 256]⟩
abbrev S_ : Shape := ⟨0, ![]⟩
abbrev S1x2048x4x64 : Shape := ⟨4, ![1, 2048, 4, 64]⟩
abbrev S4x64 : Shape := ⟨2, ![4, 64]⟩
abbrev S1x2048x4 : Shape := ⟨3, ![1, 2048, 4]⟩
abbrev S1x2048x4x1 : Shape := ⟨4, ![1, 2048, 4, 1]⟩
abbrev S1x1x4x64 : Shape := ⟨4, ![1, 1, 4, 64]⟩
abbrev S1x16x128x4x64 : Shape := ⟨5, ![1, 16, 128, 4, 64]⟩
abbrev S128x128 : Shape := ⟨2, ![128, 128]⟩
abbrev S1x128x128 : Shape := ⟨3, ![1, 128, 128]⟩
abbrev S4x1x16x64x128 : Shape := ⟨5, ![4, 1, 16, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x2048x768 : Shape := ⟨3, ![1, 2048, 768]⟩
abbrev S2048x1024 : Shape := ⟨2, ![2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S1x2048x1024, .f32⟩
  | .hbm, ⟨5, _⟩ => ⟨S1x2048x256, .f32⟩
  | .hbm, ⟨6, _⟩ => ⟨S1x2048x256, .f32⟩
  | .hbm, ⟨7, _⟩ => ⟨S_, .f32⟩
  | .hbm, ⟨8, _⟩ => ⟨S1x2048x256, .f32⟩
  | .hbm, ⟨9, _⟩ => ⟨S1x2048x256, .f32⟩
  | .hbm, ⟨10, _⟩ => ⟨S1x2048x256, .f32⟩
  | .hbm, ⟨11, _⟩ => ⟨S_, .f32⟩
  | .hbm, ⟨12, _⟩ => ⟨S_, .f32⟩
  | .hbm, ⟨13, _⟩ => ⟨S1x2048x256, .f32⟩
  | .hbm, ⟨14, _⟩ => ⟨S1x2048x256, .f32⟩
  | .hbm, ⟨15, _⟩ => ⟨S1x2048x256, .f32⟩
  | .hbm, ⟨16, _⟩ => ⟨S1x2048x256, .f32⟩
  | .hbm, ⟨17, _⟩ => ⟨S_, .f32⟩
  | .hbm, ⟨18, _⟩ => ⟨S1x2048x256, .f32⟩
  | .hbm, ⟨19, _⟩ => ⟨S1x2048x256, .f32⟩
  | .hbm, ⟨20, _⟩ => ⟨S1x2048x256, .f32⟩
  | .hbm, ⟨21, _⟩ => ⟨S_, .f32⟩
  | .hbm, ⟨22, _⟩ => ⟨S_, .f32⟩
  | .hbm, ⟨23, _⟩ => ⟨S1x2048x256, .f32⟩
  | .hbm, ⟨24, _⟩ => ⟨S1x2048x256, .f32⟩
  | .hbm, ⟨25, _⟩ => ⟨S1x2048x256, .f32⟩
  | .hbm, ⟨26, _⟩ => ⟨S1x2048x256, .f32⟩
  | .hbm, ⟨27, _⟩ => ⟨S1x2048x4x64, .f32⟩
  | .hbm, ⟨28, _⟩ => ⟨S4x64, .f32⟩
  | .hbm, ⟨29, _⟩ => ⟨S1x2048x4x64, .f32⟩
  | .hbm, ⟨30, _⟩ => ⟨S_, .f32⟩
  | .hbm, ⟨31, _⟩ => ⟨S1x2048x4, .f32⟩
  | .hbm, ⟨32, _⟩ => ⟨S1x2048x4x1, .f32⟩
  | .hbm, ⟨33, _⟩ => ⟨S_, .f32⟩
  | .hbm, ⟨34, _⟩ => ⟨S1x2048x4x1, .f32⟩
  | .hbm, ⟨35, _⟩ => ⟨S1x2048x4x1, .f32⟩
  | .hbm, ⟨36, _⟩ => ⟨S_, .f32⟩
  | .hbm, ⟨37, _⟩ => ⟨S1x2048x4x1, .f32⟩
  | .hbm, ⟨38, _⟩ => ⟨S1x2048x4x1, .f32⟩
  | .hbm, ⟨39, _⟩ => ⟨S1x2048x4x1, .f32⟩
  | .hbm, ⟨40, _⟩ => ⟨S1x2048x4x64, .f32⟩
  | .hbm, ⟨41, _⟩ => ⟨S1x2048x4x64, .f32⟩
  | .hbm, ⟨42, _⟩ => ⟨S1x1x4x64, .f32⟩
  | .hbm, ⟨43, _⟩ => ⟨S1x2048x4x64, .f32⟩
  | .hbm, ⟨44, _⟩ => ⟨S1x2048x4x64, .f32⟩
  | .hbm, ⟨45, _⟩ => ⟨S1x16x128x4x64, .f32⟩
  | .hbm, ⟨46, _⟩ => ⟨S_, .f32⟩
  | .hbm, ⟨47, _⟩ => ⟨S128x128, .f32⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S_, .f32⟩
  | .hbm, ⟨55, _⟩ => ⟨S128x128, .f32⟩
  | .hbm, ⟨56, _⟩ => ⟨S128x128, .f32⟩
  | .hbm, ⟨57, _⟩ => ⟨S1x128x128, .f32⟩
  | .hbm, ⟨58, _⟩ => ⟨S4x128x128, .f32⟩
  | .hbm, ⟨59, _⟩ => ⟨S4x128x128, .f32⟩
  | .hbm, ⟨60, _⟩ => ⟨S4x1x16x64x128, .f32⟩
  | .hbm, ⟨61, _⟩ => ⟨S1x16x128x4x64, .f32⟩
  | .hbm, ⟨62, _⟩ => ⟨S128x4, .f32⟩
  | .hbm, ⟨63, _⟩ => ⟨S128x4x1, .f32⟩
  | .hbm, ⟨64, _⟩ => ⟨S1x1x128x4x1, .f32⟩
  | .hbm, ⟨65, _⟩ => ⟨S1x16x128x4x64, .f32⟩
  | .hbm, ⟨66, _⟩ => ⟨S1x16x128x4x64, .f32⟩
  | .hbm, ⟨67, _⟩ => ⟨S1x2048x256, .f32⟩
  | .hbm, ⟨68, _⟩ => ⟨S1x2048x256, .f32⟩
  | .hbm, ⟨69, _⟩ => ⟨S1x2048x768, .f32⟩
  | .hbm, ⟨70, _⟩ => ⟨S1x2048x1024, .f32⟩
  | .hbm, ⟨71, _⟩ => ⟨S2048x1024, .f32⟩
  | .hbm, ⟨72, _⟩ => ⟨S2048x1024, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_cst : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.Relu.lean ====
/- The squared relu's gradient, fused with the product by `w_ff2`: the kernel's result array is the reference's term.
   The body casts `dh` once, into a scratch that the other points read back; every point then stores one block of columns. -/
module

public import proofs.«01_k».proof.Defs
public import proofs.«01_k».proof.Proof.Gen.ReluIdeal.Frame
public import proofs.«01_k».proof.Proof.Gen.ReluRefIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ReluIdeal.Value

open Cert.ReluIdeal Cert.ReluIdeal.Gen

variable (m : (ℓ : Loc nD τ sig) → Buf (Elt Ideal) ℓ)

/-- The reference keeps the gradient where the argument is positive; elsewhere the relu's factor is zero already. -/
theorem relu_grad (u d k : EReal) : (if 0 < u then d * (k * max u 0) else 0) = d * (k * max u 0) := by
  split
  · rfl
  · rename_i h
    rw [max_eq_right (not_lt.1 h), mul_zero, mul_zero]

/-- The windows' block indices in closed form. -/
theorem idx : ∀ t : Fin cfg0.N, win0_0.index t = ![0, 0] ∧ win0_1.index t = ![t.val, 0] ∧ win0_2.index t = ![0, t.val]
    ∧ win0_3.index t = ![0, t.val] :=
  (by decide +kernel : ∀ t : Fin grid0.N, _)

/-- `dh`, cast. -/
def cast (c : Dev nD) : FVec Ideal S2048x1024 .bf16 := fun j => (m ((c : Thread nD τ).loc main_arg2) j : EReal)

/-- What the first point casts is the whole of `dh`. -/
theorem cast_eq (c : Dev nD) (t : Fin cfg0.N) : k0_pay1 (F := Ideal) (iblk m c 0 t) = cast m c := by
  funext j
  idx_vars j
  pointwise [k0_pay1, cast]
  blk_point [iblk, V, idx t]

/-- What the scratch holds after every point: `dh`, cast. -/
theorem scratch (c : Dev nD) : ∀ (n : ℕ) (h : n < cfg0.N), (outsAt0 m c n h).2 = cast m c
  | 0, h => by
    rw [outsAt0_A m c ⟨0, h⟩ rfl]
    frame_out
    exact cast_eq m c ⟨0, h⟩
  | n + 1, h => by
    have hN : cfg0.N = 8 := N_0
    have hB : ¬(⟨n + 1, h⟩ : Fin cfg0.N).val % 8 = 0 := by dsimp only; omega
    rw [outsAt0_B m c ⟨n + 1, h⟩ hB]
    frame_out
    exact scratch c n _

def REF (uu : FVec Ideal S2048x4096 .f32) (w : FVec Ideal S4096x1024 .f32) (dh : FVec Ideal S2048x1024 .f32) : FVec Ideal S2048x4096 .bf16 :=
  truncf .bf16 (select (cmpf .ogt uu (broadcastInDim S2048x4096 ![] Cert.ReluRefIdeal.Gen.bcast_S_S2048x4096 (constant Cert.ReluRefIdeal.S_ .f32 0x00000000#32)))
    (mulf (Host.dotGeneral Cert.ReluRefIdeal.dot_S2048x1024_S4096x1024_S2048x4096_1_1_0_0_n_n none dh w)
      (mulf (broadcastInDim S2048x4096 ![] Cert.ReluRefIdeal.Gen.bcast_S_S2048x4096 (constant Cert.ReluRefIdeal.S_ .f32 0x40000000#32))
        (maximumf uu (broadcastInDim S2048x4096 ![] Cert.ReluRefIdeal.Gen.bcast_S_S2048x4096 (constant Cert.ReluRefIdeal.S_ .f32 0x00000000#32)))))
    (broadcastInDim S2048x4096 ![] Cert.ReluRefIdeal.Gen.bcast_S_S2048x4096 (constant Cert.ReluRefIdeal.S_ .f32 0x00000000#32))) Cert.ReluRefIdeal.Gen.bitsLt_bf16_f32

theorem point (c : Dev nD) (t : Fin cfg0.N) (y : S2048x512.Idx) : k0_pay2 (F := Ideal) (cast m c) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay2, REF, cast]
  refine Eq.trans ?_ (relu_grad _ _ _).symm
  blk_point [iblk, V, idx t]

theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0]; frame_out
    rw [cast_eq]
    exact point m c t y
  · rw [outsAt0_B m c t h0]; frame_out
    rw [(Memref.isWhole_whole _).read_unread, scratch]
    exact point m c t y

end Cert.ReluIdeal.Value

namespace Cert.Proof

theorem quiescent_ReluRefIdeal : quiescent_ReluRefIdeal := fun m ρ _ =>
  (θ_run Cert.ReluRefIdeal.defs _ _).mono (fun r h => ⟨fun c => (h c).2, sem_eq_zero_of_no_sems (by decide) r.2⟩)
    (Cert.ReluRefIdeal.Value.run (F := Ideal) m ρ)

theorem algebraic_ReluIdeal_ReluRefIdeal : algebraic_ReluIdeal_ReluRefIdeal := by
  pair_intro
  · run_from Cert.ReluIdeal.Gen.run_main m g
  · run_from Cert.ReluRefIdeal.Value.run m' g'
    exact (Cert.ReluIdeal.Value.final m c).symm

end Cert.Proof

end
-- ==== Proof.Dw2.lean ====
/- The weight gradient of the second feed-forward product, fused with the squared relu: one block of rows of the result
   per grid point, each the product of a block of columns of `relu(uu)²` with the whole of `dh`. -/
module

public import proofs.«01_k».proof.Defs
public import proofs.«01_k».proof.Proof.Gen.Dw2Ideal.Frame
public import proofs.«01_k».proof.Proof.Gen.Dw2RefIdeal.Run
public import proofs.«01_k».proof.Proof.Gen.Dw2RefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Dw2Ideal.Value

open Cert.Dw2Ideal Cert.Dw2Ideal.Gen
open Cert.Dw2RefIdeal.Read

variable (m : (ℓ : Loc nD τ sig) → Buf (Elt Ideal) ℓ)

/-- The windows' block indices in closed form. -/
theorem idx : ∀ t : Fin cfg0.N, win0_0.index t = ![0, t.val] ∧ win0_1.index t = ![0, 0] ∧ win0_2.index t = ![t.val, 0] :=
  (by decide +kernel : ∀ t : Fin grid0.N, _)

/-- The reference's gradient, of the kernel's arguments. -/
def dw (c : Dev nD) := val_main_v5 (F := Ideal) (m ((c : Thread nD τ).loc main_arg0)) (m ((c : Thread nD τ).loc main_arg2))

/-- What a grid point stores is the reference's gradient on its block. -/
theorem point (c : Dev nD) (t : Fin cfg0.N) (y : S1024x1024.Idx) :
    k0_pay1 (F := Ideal) (iblk m c 0 t) (iblk m c 1 t) y = dw m c (((cfg0.win 2).blk t).view.emb y) := by
  pointwise [k0_pay1, dw, val_main_v5, val_main_v4, val_main_v3, val_main_v2, val_main_v1, val_main_v0, val_main_call0_v0, val_main_call0_cst]
  refine Fin.sum_fin_congr fun k => ?_
  rw [mul_comm]
  blk_point [iblk, V, idx t]

/-- The kernel's result is the reference's. -/
theorem final (c : Dev nD) : (dats m 0 c).arrAt 2 cfg0.N = dw m c := by
  refine (dats m 0 c).arrAt_eq_of_covers 2 _ (by decide +kernel) fun t hf y => ?_
  blk_simp
  rw [after0_2]
  frame_out
  exact point m c t y

end Cert.Dw2Ideal.Value

namespace Cert.Proof

theorem quiescent_Dw2RefIdeal : quiescent_Dw2RefIdeal := by
  exact fun m ρ _ => (θ_run Cert.Dw2RefIdeal.defs _ _).mono
    (fun r h => ⟨fun c => (h c).2, sem_eq_zero_of_no_sems (by decide) r.2⟩) (Cert.Dw2RefIdeal.Value.run (F := Ideal) m ρ)

/-- The weight gradient kernel and the reference's backward pass agree over the reals. -/
theorem algebraic_Dw2Ideal_Dw2RefIdeal : algebraic_Dw2Ideal_Dw2RefIdeal := by
  pair_intro
  · run_from Cert.Dw2Ideal.Gen.run_main m g
  · run_from Cert.Dw2RefIdeal.Value.run m' g'
    exact (Cert.Dw2Ideal.Value.final m c).symm

end Cert.Proof
-- ==== Proof.Consts.lean ====
/- The literals of the programs as real numbers, and the laws of extended-real arithmetic the value proofs share. -/
module

public import Idealize.ShloMosaic.PureOps.Ideal.Laws
public import Idealize.ShloMosaic.Lib.IdealHost
public import Idealize.ShloMosaic.Lib.Pointwise

@[expose] public section

noncomputable section

open Idealize.ShloMosaic

namespace Cert.Consts

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_inv_64 : Ideal.ofBits .f32 0x3C800000#32 = ((1 / 64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- The norms' `1e-6`, as the word holds it: a positive real. -/
theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The word of the norms' epsilon. -/
def eps : EReal := Ideal.ofBits .f32 0x358637BD#32

theorem eps_pos : ∃ e : ℝ, 0 < e ∧ eps = e := ofBits_eps

/-- A real that is not negative distributes over any sum of two extended reals. -/
theorem coe_mul_add {c : ℝ} (hc : 0 ≤ c) (x y : EReal) : (c : EReal) * (x + y) = c * x + c * y :=
  EReal.left_distrib_of_nonneg_of_ne_top (EReal.coe_nonneg.2 hc) (EReal.coe_ne_top c) x y

/-- So it distributes over a finite sum. -/
theorem coe_mul_sum {c : ℝ} (hc : 0 ≤ c) {ι : Type*} (s : Finset ι) (f : ι → EReal) :
    (c : EReal) * ∑ i ∈ s, f i = ∑ i ∈ s, (c : EReal) * f i := by
  classical
  induction s using Finset.induction_on with
  | empty => simp
  | insert a s h ih => rw [Finset.sum_insert h, Finset.sum_insert h, coe_mul_add hc, ih]

/-- A host sum over the two leading axes of three, read at an index of the axis kept. -/
theorem hostReduceAdd_lead {a b n : ℕ} (h : (⟨3, ![a, b, n]⟩ : Shape).ReducesTo [0, 1] ⟨1, ![n]⟩)
    (v : (⟨3, ![a, b, n]⟩ : Shape).Idx → EReal) (init : EReal) (k : Fin n) :
    Ideal.hostReduceAdd h v init (ix1 k) = init + ∑ x : Fin a, ∑ y : Fin b, v (ix3 x y k) := by
  refine congrArg (init + ·) ((Finset.sum_filter_eq_sum_of_fiber _ (fun p : Fin a × Fin b => (ix3 p.1 p.2 k : (⟨3, ![a, b, n]⟩ : Shape).Idx))
    (fun _ _ e => Prod.ext (congrFun e 0) (congrFun e 1)) (fun i => ⟨fun e => ⟨(i 0, i 1), ?_⟩, ?_⟩) v).trans ?_)
  · funext q
    apply Fin.ext
    match q with
    | ⟨0, _⟩ => rfl
    | ⟨1, _⟩ => rfl
    | ⟨2, _⟩ => exact (congrArg Fin.val (congrFun e 0)).symm
  · rintro ⟨p, rfl⟩
    funext q
    apply Fin.ext
    match q with
    | ⟨0, _⟩ => rfl
  · simp only [Fintype.sum_prod_type]

end Cert.Consts

end
-- ==== Proof.Conv.lean ====
/- The gated short convolution's gradients: the kernel rotates whole blocks of rows and masks the ends where the reference pads
   and cuts. Both are read at a row and a column as the same sums of three shifted products. -/
module

public import proofs.«01_k».proof.Defs
public import proofs.«01_k».proof.Proof.Gen.ConvIdeal.Frame
public import proofs.«01_k».proof.Proof.Gen.ConvRefIdeal.Run
public import proofs.«01_k».proof.Proof.Gen.ConvRefIdeal.Read
public import proofs.«01_k».proof.Proof.Consts
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ConvShift

/-- A column moved `n` rows down, and up; zero comes in at the end. -/
def down (n : ℕ) (f : Fin 2048 → EReal) (r : Fin 2048) : EReal := if h : n ≤ r.val then f ⟨r.val - n, by omega⟩ else 0
def up (n : ℕ) (f : Fin 2048 → EReal) (r : Fin 2048) : EReal := if h : r.val + n < 2048 then f ⟨r.val + n, h⟩ else 0

theorem up_mul (n : ℕ) (w : EReal) (f : Fin 2048 → EReal) (r : Fin 2048) : up n (fun r => w * f r) r = w * up n f r := by
  unfold up; split
  · rfl
  · rw [mul_zero]

end Cert.ConvShift

namespace Cert.ConvRefIdeal.Rows

open Cert.ConvRefIdeal Cert.ConvRefIdeal.Gen Cert.ConvRefIdeal.Read Cert.ConvShift Cert.Consts

variable (X : FVec Ideal S1x2048x2816 .f32) (W : FVec Ideal S3x256 .f32) (D : FVec Ideal S1x2048x1024 .f32)

/-- The gated input, and the gradient at the convolution's output, at a row and a column. -/
def bx (k : Fin 256) (r : Fin 2048) : EReal :=
  X (ix3 0 r ⟨256 + k.val, by omega⟩) * X (ix3 0 r ⟨512 + k.val, by omega⟩)
def dz (k : Fin 256) (r : Fin 2048) : EReal := X (ix3 0 r ⟨k.val, by omega⟩) * D (ix3 0 r ⟨k.val, by omega⟩)

theorem v3 (r : Fin 2048) (k : Fin 256) : val_main_v3 (F := Ideal) X (ix3 0 r k) = bx X k r := by
  pointwise [val_main_v3, val_main_v2, val_main_v1, bx]

theorem v9 (r : Fin 2048) (k : Fin 256) : val_main_v9 (F := Ideal) X (ix3 0 r k) = down 2 (bx X k) r := by
  pointwise [val_main_v9, val_main_v5, val_main_v4, val_main_cst, down]
  by_cases h : r.val < 2
  · rw [dif_pos h, dif_neg (by omega)]
  · rw [dif_neg h, dif_pos (by omega), v3]

theorem v15 (r : Fin 2048) (k : Fin 256) : val_main_v15 (F := Ideal) X (ix3 0 r k) = down 1 (bx X k) r := by
  pointwise [val_main_v15, val_main_v5, val_main_v4, val_main_cst, down]
  by_cases h : r.val < 1
  · rw [dif_pos (by omega), dif_neg (by omega)]
  · rw [dif_neg (by omega), dif_pos (by omega), v3]
    exact congrArg _ (Fin.ext (show 1 + r.val - 2 = r.val - 1 by omega))

theorem v22 (r : Fin 2048) (k : Fin 256) : val_main_v22 (F := Ideal) X (ix3 0 r k) = bx X k r := by
  pointwise [val_main_v22, val_main_v5, val_main_v4, val_main_cst]
  exact v3 X r k

theorem v29 (r : Fin 2048) (k : Fin 256) : val_main_v29 (F := Ideal) X D (ix3 0 r k) = dz X D k r := by
  pointwise [val_main_v29, val_main_v28, val_main_v0, dz]

theorem v63 (r : Fin 2048) (k : Fin 256) : val_main_v63 (F := Ideal) X W D (ix3 0 r k)
    = W (ix2 2 k) * dz X D k r + W (ix2 1 k) * up 1 (dz X D k) r + W (ix2 0 k) * up 2 (dz X D k) r := by
  rw [← up_mul, ← up_mul]
  pointwise [val_main_v63, val_main_v58, val_main_v57, val_main_v52, val_main_v51, val_main_v47, val_main_v46, val_main_v41, val_main_v40,
    val_main_v37, val_main_v32, val_main_v31, val_main_v23, val_main_v21, val_main_v20, val_main_v16, val_main_v14, val_main_v13,
    val_main_v10, val_main_v8, val_main_v7, val_main_cst_3, val_main_cst_7, val_main_cst_11, up, v29]
  refine congrArg₂ (· + ·) (congrArg₂ (· + ·) rfl ?_) ?_
  · by_cases h : r.val + 1 < 2048
    · rw [dif_pos (by omega), dif_pos h]
      exact congrArg (fun q => W (ix2 1 k) * dz X D k q) (Fin.ext (show 2 + r.val - 1 = r.val + 1 by omega))
    · rw [dif_neg (by omega), dif_neg h]
  · by_cases h : r.val + 2 < 2048
    · rw [dif_pos (by omega), dif_pos h]
      exact congrArg (fun q => W (ix2 0 k) * dz X D k q) (Fin.ext (show 2 + r.val = r.val + 2 by omega))
    · rw [dif_neg (by omega), dif_neg h]

theorem v36 (k : Fin 256) : val_main_v36 (F := Ideal) X D (ix1 k) = ∑ r : Fin 2048, dz X D k r * bx X k r := by
  refine (hostReduceAdd_lead _ _ _ k).trans ?_
  simp only [Fin.sum_univ_one]
  pointwise [val_main_v35, val_main_v34, val_main_v33, val_main_cst_1, val_main_cst_2, v29, v22]

theorem v45 (k : Fin 256) : val_main_v45 (F := Ideal) X D (ix1 k) = ∑ r : Fin 2048, dz X D k r * down 1 (bx X k) r := by
  refine (hostReduceAdd_lead _ _ _ k).trans ?_
  simp only [Fin.sum_univ_one]
  pointwise [val_main_v44, val_main_v43, val_main_v42, val_main_cst_5, val_main_cst_6, v29, v15]

theorem v56 (k : Fin 256) : val_main_v56 (F := Ideal) X D (ix1 k) = ∑ r : Fin 2048, dz X D k r * down 2 (bx X k) r := by
  refine (hostReduceAdd_lead _ _ _ k).trans ?_
  simp only [Fin.sum_univ_one]
  pointwise [val_main_v55, val_main_v54, val_main_v53, val_main_cst_9, val_main_cst_10, v29, v9]

/-- The results. -/
theorem v67 (r : Fin 2048) (k : Fin 256) : val_main_v67 (F := Ideal) X W D (ix2 r k) = D (ix3 0 r ⟨k.val, by omega⟩)
    * (W (ix2 0 k) * down 2 (bx X k) r + W (ix2 1 k) * down 1 (bx X k) r + W (ix2 2 k) * bx X k r) := by
  pointwise [val_main_v67, val_main_v66, val_main_v30, val_main_v28, val_main_v26, val_main_v25, val_main_v24, val_main_v23, val_main_v21,
    val_main_v20, val_main_v19, val_main_v18, val_main_v17, val_main_v16, val_main_v14, val_main_v13, val_main_v12, val_main_v11,
    val_main_v10, val_main_v8, val_main_v7, v9, v15, v22]

theorem v69 (r : Fin 2048) (k : Fin 256) : val_main_v69 (F := Ideal) X W D (ix2 r k)
    = (W (ix2 2 k) * dz X D k r + W (ix2 1 k) * up 1 (dz X D k) r + W (ix2 0 k) * up 2 (dz X D k) r) * X (ix3 0 r ⟨512 + k.val, by omega⟩) := by
  pointwise [val_main_v69, val_main_v68, val_main_v65, val_main_v2, v63]

theorem v71 (r : Fin 2048) (k : Fin 256) : val_main_v71 (F := Ideal) X W D (ix2 r k)
    = (W (ix2 2 k) * dz X D k r + W (ix2 1 k) * up 1 (dz X D k) r + W (ix2 0 k) * up 2 (dz X D k) r) * X (ix3 0 r ⟨256 + k.val, by omega⟩) := by
  pointwise [val_main_v71, val_main_v70, val_main_v64, val_main_v1, v63]
  exact mul_comm _ _

theorem v61 (i : Fin 3) (k : Fin 256) : val_main_v61 (F := Ideal) X D (ix2 i k)
    = ∑ r : Fin 2048, dz X D k r * (if i.val = 2 then bx X k r else if i.val = 1 then down 1 (bx X k) r else down 2 (bx X k) r) := by
  pointwise [val_main_v61, val_main_v60, val_main_v59, val_main_v50, val_main_v49, val_main_v48, val_main_v39, val_main_v38,
    val_main_cst_4, val_main_cst_8, val_main_cst_12, v36, v45, v56]
  fin_vals i with hi
  all_goals simp [hi]

end Cert.ConvRefIdeal.Rows

namespace Cert.ConvIdeal.Rows

open Cert.ConvIdeal Cert.ConvIdeal.Gen Cert.ConvShift

variable (B H A D : FVec Ideal S2048x256 .bf16) (W : FVec Ideal S3x256 .f32)

def bx (k : Fin 256) (r : Fin 2048) : EReal := B (ix2 r k) * H (ix2 r k)

theorem pay3 (r : Fin 2048) (k : Fin 256) : k0_pay3 (F := Ideal) B H (ix2 r k) = bx B H k r := by
  pointwise [k0_pay3, k0_pay2, k0_pay1, bx]

theorem pay4 (r : Fin 2048) (k : Fin 256) : k0_pay4 (F := Ideal) B H (ix2 r k) = down 1 (bx B H k) r := by
  pointwise [k0_pay4, pay3]
  word_cmp
  unfold down
  by_cases h : 1 ≤ r.val
  · rw [if_pos h, dif_pos h]
    exact congrArg _ (Fin.ext (show (r.val + 2048 - 1) % 2048 = r.val - 1 by omega))
  · rw [if_neg h, dif_neg h]

theorem pay5 (r : Fin 2048) (k : Fin 256) : k0_pay5 (F := Ideal) B H (ix2 r k) = down 2 (bx B H k) r := by
  pointwise [k0_pay5, pay3]
  word_cmp
  unfold down
  by_cases h : 2 ≤ r.val
  · rw [if_pos h, dif_pos h]
    exact congrArg _ (Fin.ext (show (r.val + 2048 - 2) % 2048 = r.val - 2 by omega))
  · rw [if_neg h, dif_neg h]

theorem pay9 (C : FVec Ideal S2048x256 .f32) (r : Fin 2048) (k : Fin 256) :
    k0_pay9 (F := Ideal) W (iota .tc S2048x256 32 [0] iota_S2048x256_d0_w32) C (ix2 r k)
    = W (ix2 2 k) * C (ix2 r k) + W (ix2 1 k) * up 1 (fun r => C (ix2 r k)) r + W (ix2 0 k) * up 2 (fun r => C (ix2 r k)) r := by
  pointwise [k0_pay9]
  word_cmp
  unfold up
  refine congrArg₂ (· + ·) (congrArg₂ (· + ·) rfl ?_) ?_
  · by_cases h : r.val + 1 < 2048
    · rw [if_pos (by omega), dif_pos h]
      exact congrArg (fun q => W (ix2 1 k) * C (ix2 q k)) (Fin.ext (show (r.val + 2048 - 2047) % 2048 = r.val + 1 by omega))
    · rw [if_neg (by omega), dif_neg h, mul_zero]
  · by_cases h : r.val + 2 < 2048
    · rw [if_pos (by omega), dif_pos h]
      exact congrArg (fun q => W (ix2 0 k) * C (ix2 q k)) (Fin.ext (show (r.val + 2048 - 2046) % 2048 = r.val + 2 by omega))
    · rw [if_neg (by omega), dif_neg h, mul_zero]

/-- What the four stores leave, at a row and a column. -/
theorem pay7 (r : Fin 2048) (k : Fin 256) : k0_pay7 (F := Ideal) W B H D (ix2 r k)
    = D (ix2 r k) * (W (ix2 0 k) * down 2 (bx B H k) r + W (ix2 1 k) * down 1 (bx B H k) r + W (ix2 2 k) * bx B H k r) := by
  pointwise [k0_pay7, k0_pay6, pay3, pay4, pay5]

/-- The gradient at the convolution's output, as the kernel's blocks hold it. -/
def dz (k : Fin 256) (r : Fin 2048) : EReal := A (ix2 r k) * D (ix2 r k)

theorem pay16 : k0_pay16 (F := Ideal) D A B H W = fun j => dz A D (j 1) (j 0) := by
  funext j
  idx_vars j
  pointwise [k0_pay16, k0_pay8, k0_pay6, dz]
  exact mul_comm _ _

theorem pay10 (r : Fin 2048) (k : Fin 256) :
    k0_pay10 (F := Ideal) W (k0_pay2 H) (k0_pay15 (F := Ideal) D A B H W) (k0_pay16 D A B H W) (ix2 r k)
    = (W (ix2 2 k) * dz A D k r + W (ix2 1 k) * up 1 (dz A D k) r + W (ix2 0 k) * up 2 (dz A D k) r) * H (ix2 r k) := by
  rw [pay16]
  refine (congrArg₂ (· * ·) (pay9 W _ r k) ?_ : _ = _ * _)
  pointwise [k0_pay2]

theorem pay11 (r : Fin 2048) (k : Fin 256) :
    k0_pay11 (F := Ideal) W (k0_pay1 B) (k0_pay15 (F := Ideal) D A B H W) (k0_pay16 D A B H W) (ix2 r k)
    = (W (ix2 2 k) * dz A D k r + W (ix2 1 k) * up 1 (dz A D k) r + W (ix2 0 k) * up 2 (dz A D k) r) * B (ix2 r k) := by
  rw [pay16]
  refine (congrArg₂ (· * ·) (pay9 W _ r k) ?_ : _ = _ * _)
  pointwise [k0_pay1]

theorem pay12 (i : Fin 1) (k : Fin 256) : k0_pay12 (F := Ideal) (k0_pay5 B H) (k0_pay16 D A B H W) (ix2 i k)
    = ∑ r : Fin 2048, dz A D k r * down 2 (bx B H k) r := by
  pointwise [k0_pay12, pay16, pay5]

theorem pay13 (i : Fin 1) (k : Fin 256) : k0_pay13 (F := Ideal) (k0_pay4 B H) (k0_pay16 D A B H W) (ix2 i k)
    = ∑ r : Fin 2048, dz A D k r * down 1 (bx B H k) r := by
  pointwise [k0_pay13, pay16, pay4]

theorem pay14 (i : Fin 1) (k : Fin 256) : k0_pay14 (F := Ideal) (k0_pay3 B H) (k0_pay16 D A B H W) (ix2 i k)
    = ∑ r : Fin 2048, dz A D k r * bx B H k r := by
  pointwise [k0_pay14, pay16, pay3]

end Cert.ConvIdeal.Rows

namespace Cert.ConvIdeal.Value

open Cert.ConvIdeal Cert.ConvIdeal.Gen Cert.ConvShift

variable (m : (ℓ : Loc nD τ sig) → Buf (Elt Ideal) ℓ)

/-- The windows' block indices in closed form. -/
theorem idx : ∀ t : Fin cfg0.N, win0_0.index t = ![0, 0] ∧ win0_1.index t = ![0, 0] ∧ win0_2.index t = ![0, 1]
    ∧ win0_3.index t = ![0, 2] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The arguments, as the reference's arrays. -/
def X (c : Dev nD) : FVec Ideal Cert.ConvRefIdeal.S1x2048x2816 .f32 := m ((c : Thread nD τ).loc main_arg0)
def W (c : Dev nD) : FVec Ideal Cert.ConvRefIdeal.S3x256 .f32 := m ((c : Thread nD τ).loc main_arg1)
def D (c : Dev nD) : FVec Ideal Cert.ConvRefIdeal.S1x2048x1024 .f32 := m ((c : Thread nD τ).loc main_arg2)

/-- A block of 256 columns of each. -/
def xcols (c : Dev nD) (o : ℕ) (h : o + 256 ≤ 2816) : FVec Ideal S2048x256 .bf16 := fun j => X m c (ix3 0 (j 0) ⟨o + (j 1).val, by have : (j 1).val < 256 := (j 1).isLt; omega⟩)
def dcols (c : Dev nD) : FVec Ideal S2048x256 .bf16 := fun j => D m c (ix3 0 (j 0) ⟨(j 1).val, by have : (j 1).val < 256 := (j 1).isLt; omega⟩)

/-- The blocks of the one grid point. -/
theorem blk0 (c : Dev nD) (t : Fin cfg0.N) : iblk m c 0 t = dcols m c := by
  funext j; idx_vars j; unfold dcols D; blk_point [iblk, V, idx t]
theorem blk1 (c : Dev nD) (t : Fin cfg0.N) : iblk m c 1 t = xcols m c 0 (by omega) := by
  funext j; idx_vars j; unfold xcols X; blk_point [iblk, V, idx t]
theorem blk2 (c : Dev nD) (t : Fin cfg0.N) : iblk m c 2 t = xcols m c 256 (by omega) := by
  funext j; idx_vars j; unfold xcols X; blk_point [iblk, V, idx t]
theorem blk3 (c : Dev nD) (t : Fin cfg0.N) : iblk m c 3 t = xcols m c 512 (by omega) := by
  funext j; idx_vars j; unfold xcols X; blk_point [iblk, V, idx t]
theorem blk4 (c : Dev nD) (t : Fin cfg0.N) : iblk m c 4 t = W m c := by
  funext j; idx_vars j; unfold W; blk_point [iblk, V, idx t]

theorem dz_eq (c : Dev nD) (k : Fin 256) :
    Rows.dz (xcols m c 0 (by omega)) (dcols m c) k = Cert.ConvRefIdeal.Rows.dz (X m c) (D m c) k := by
  funext r
  exact congrArg (fun q => X m c (ix3 0 r q) * _) (Fin.ext (Nat.zero_add _))

theorem bx_eq (c : Dev nD) (k : Fin 256) :
    Rows.bx (xcols m c 256 (by omega)) (xcols m c 512 (by omega)) k = Cert.ConvRefIdeal.Rows.bx (X m c) k := rfl

theorem final_da (c : Dev nD) : (dats m 0 c).arrAt 5 cfg0.N = Cert.ConvRefIdeal.Read.val_main_v67 (F := Ideal) (X m c) (W m c) (D m c) := by
  refine (dats m 0 c).arrAt_eq_of_covers 5 _ (by decide +kernel) fun t hf y => ?_
  blk_simp
  rw [after0_5, blk0, blk1, blk2, blk3, blk4]
  frame_out
  idx_vars y
  refine (Rows.pay7 _ _ _ _ y0 y1).trans ?_
  exact (Cert.ConvRefIdeal.Rows.v67 _ _ _ y0 y1).symm.trans (congrArg _ (show ix2 y0 y1 = _ by blk_ext [idx t]))

theorem final_db (c : Dev nD) : (dats m 0 c).arrAt 6 cfg0.N = Cert.ConvRefIdeal.Read.val_main_v69 (F := Ideal) (X m c) (W m c) (D m c) := by
  refine (dats m 0 c).arrAt_eq_of_covers 6 _ (by decide +kernel) fun t hf y => ?_
  blk_simp
  rw [after0_6, blk0, blk1, blk2, blk3, blk4]
  frame_out
  idx_vars y
  refine (Rows.pay10 _ _ _ _ _ y0 y1).trans ?_
  rw [dz_eq]
  exact (Cert.ConvRefIdeal.Rows.v69 _ _ _ y0 y1).symm.trans (congrArg _ (show ix2 y0 y1 = _ by blk_ext [idx t]))

theorem final_dh (c : Dev nD) : (dats m 0 c).arrAt 7 cfg0.N = Cert.ConvRefIdeal.Read.val_main_v71 (F := Ideal) (X m c) (W m c) (D m c) := by
  refine (dats m 0 c).arrAt_eq_of_covers 7 _ (by decide +kernel) fun t hf y => ?_
  blk_simp
  rw [after0_7, blk0, blk1, blk2, blk3, blk4]
  frame_out
  idx_vars y
  refine (Rows.pay11 _ _ _ _ _ y0 y1).trans ?_
  rw [dz_eq]
  exact (Cert.ConvRefIdeal.Rows.v71 _ _ _ y0 y1).symm.trans (congrArg _ (show ix2 y0 y1 = _ by blk_ext [idx t]))

theorem final_dw (c : Dev nD) : (dats m 0 c).arrAt 8 cfg0.N = Cert.ConvRefIdeal.Read.val_main_v61 (F := Ideal) (X m c) (D m c) := by
  refine (dats m 0 c).arrAt_eq_of_covers 8 _ (by decide +kernel) fun t hf y => ?_
  blk_simp
  rw [after0_8, blk0, blk1, blk2, blk3, blk4]
  frame_out
  idx_vars y
  refine Eq.trans ?_ ((Cert.ConvRefIdeal.Rows.v61 _ _ y0 y1).symm.trans (congrArg _ (show ix2 y0 y1 = _ by blk_ext [idx t])))
  rw [← dz_eq]
  canon_tiles x h
  all_goals
    idx_vars x
    have hx : x0.val < 1 := x0.isLt
    obtain rfl : x1 = y1 := Fin.ext h1.symm
  · have h0 : y0.val = 2 + x0.val := h0
    exact (Rows.pay14 _ _ _ _ _ _ _).trans (Finset.sum_congr rfl fun r _ => by rw [if_pos (by omega), bx_eq])
  · have h0 : y0.val = 1 + x0.val := h0
    exact (Rows.pay13 _ _ _ _ _ _ _).trans (Finset.sum_congr rfl fun r _ => by rw [if_neg (by omega), if_pos (by omega), bx_eq])
  · have h0 : y0.val = x0.val := h0
    exact (Rows.pay12 _ _ _ _ _ _ _).trans (Finset.sum_congr rfl fun r _ => by rw [if_neg (by omega), if_neg (by omega), bx_eq])

end Cert.ConvIdeal.Value

namespace Cert.Proof

theorem quiescent_ConvRefIdeal : quiescent_ConvRefIdeal := fun m ρ _ =>
  (θ_run Cert.ConvRefIdeal.defs _ _).mono (fun r h => ⟨fun c => (h c).2.2.2.2, sem_eq_zero_of_no_sems (by decide) r.2⟩)
    (Cert.ConvRefIdeal.Value.run (F := Ideal) m ρ)

/-- The convolution's backward kernel agrees with the reference's over the reals, on all four results. -/
theorem algebraic_ConvIdeal_ConvRefIdeal : algebraic_ConvIdeal_ConvRefIdeal := by
  pair_intro
  · run_from Cert.ConvIdeal.Gen.run_main m g
  · run_from Cert.ConvRefIdeal.Value.run m' g'
    · exact (Cert.ConvIdeal.Value.final_da m c).symm
    · exact (Cert.ConvIdeal.Value.final_db m c).symm
    · exact (Cert.ConvIdeal.Value.final_dh m c).symm
    · exact (Cert.ConvIdeal.Value.final_dw m c).symm

end Cert.Proof
-- ==== Proof.Loss.lean ====
/- The loss and its gradient: every grid point adds half the sum of its rows' mean squares to one block, and writes its own rows of the gradient. -/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import proofs.«01_k».proof.Proof.Consts
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen
open Cert.LossRefIdeal.Read Cert.Consts

variable (m : (ℓ : Loc nD τ sig) → Buf (Elt Ideal) ℓ)

/-- The windows' block indices in closed form. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The reference's loss, broadcast, and its gradient, of the kernel's arguments. -/
def loss (c : Dev nD) := val_main_v9 (F := Ideal) (m ((c : Thread nD τ).loc main_arg0)) (m ((c : Thread nD τ).loc main_arg1))
def grad (c : Dev nD) := val_main_v15 (F := Ideal) (m ((c : Thread nD τ).loc main_arg0)) (m ((c : Thread nD τ).loc main_arg1))

theorem scale (d : EReal) : d * ((1 / 1024 : ℝ) : EReal)
    = Ideal.div (((1 / 2 : ℝ) : EReal) * 1) ((1024 : ℝ) : EReal) * (((2 : ℝ) : EReal) * d) := by
  rw [Ideal.div_coe (by norm_num), mul_one, ← EReal.coe_mul, ← mul_assoc, ← EReal.coe_mul, mul_comm]
  norm_num

/-- The gradient's rows that a grid point stores. -/
theorem point (c : Dev nD) (t : Fin cfg0.N) (y : S512x1024.Idx) :
    k0_pay2 (F := Ideal) (iblk m c 0 t) (iblk m c 1 t) y = grad m c (((cfg0.win 3).blk t).view.emb y) := by
  pointwise [k0_pay2, k0_pay1, grad, val_main_v15, val_main_v14, val_main_v13, val_main_v12, val_main_v11, val_main_v10, val_main_v3,
    val_main_v2, val_main_v0, val_main_cst, val_main_cst_4, val_main_cst_5, val_main_cst_6]
  rw [ofBits_inv_1024, ofBits_half, ofBits_1024, ofBits_two]
  refine (scale _).trans ?_
  rw [mul_one]
  blk_point [iblk, V, idx t]

theorem final_grad (c : Dev nD) : (dats m 0 c).arrAt 3 cfg0.N = grad m c := by
  refine (dats m 0 c).arrAt_eq_of_covers 3 _ (by decide +kernel) fun t hf y => ?_
  have hN : t.val < 4 := lt_of_lt_of_eq t.isLt N_0
  blk_simp
  rw [after0_3]
  by_cases h0 : t.val % 4 = 0
  · rw [outsAt0_A m c t h0 (by omega)]
    frame_out
    exact point m c t y
  · rw [outsAt0_B m c t h0 (by omega)]
    frame_out
    exact point m c t y

/-- What a row of a block adds to the loss, and what a grid point adds. -/
def blkRow (x y : FVec Ideal S512x1024 .f32) (r : Fin 512) : EReal :=
  ((1 / 2 : ℝ) : EReal) * Ideal.div (∑ k : Fin 1024, (x (ix2 r k) - y (ix2 r k)) * (x (ix2 r k) - y (ix2 r k))) ((1024 : ℝ) : EReal)

def part (x y : FVec Ideal S512x1024 .f32) : EReal := ∑ r : Fin 512, blkRow x y r

theorem pay3 (x y : FVec Ideal S512x1024 .f32) (j : S8x128.Idx) : k0_pay3 (F := Ideal) x y j = 0 + part x y := by
  pointwise [k0_pay3, k0_pay1, part, blkRow]
  rw [ofBits_half, ofBits_1024, ← coe_mul_sum (by norm_num)]
  simp only [Fin.sum_univ_one, Finset.univ_unique, Finset.sum_singleton]

theorem pay4 (x y : FVec Ideal S512x1024 .f32) (acc : FVec Ideal S8x128 .f32) (j : S8x128.Idx) :
    k0_pay4 (F := Ideal) x y acc j = acc j + part x y := by
  pointwise [k0_pay4]
  rw [pay3, zero_add]

/-- A row's share of the loss. -/
def row (X Y : FVec Ideal S2048x1024 .f32) (r : Fin 2048) : EReal :=
  ((1 / 2 : ℝ) : EReal) * Ideal.div (∑ k : Fin 1024, (X (ix2 r k) - Y (ix2 r k)) * (X (ix2 r k) - Y (ix2 r k))) ((1024 : ℝ) : EReal)

theorem loss_eq (c : Dev nD) (j : S8x128.Idx) : loss m c j
    = ∑ r : Fin 2048, row (m ((c : Thread nD τ).loc main_arg0)) (m ((c : Thread nD τ).loc main_arg1)) r := by
  pointwise [loss, row, val_main_v9, val_main_v8, val_main_v7, val_main_v6, val_main_v5, val_main_v4, val_main_v1, val_main_v0,
    val_main_cst_0, val_main_cst_1, val_main_cst_2, val_main_cst_3]
  rw [ofBits_half, ofBits_1024, ← coe_mul_sum (by norm_num)]

/-- A grid point's rows are 512 rows of the arguments. -/
theorem row_eq (c : Dev nD) (t : Fin cfg0.N) (r : Fin 512) (hl : t.val * 512 + r.val < 2048) :
    blkRow (iblk m c 0 t) (iblk m c 1 t) r
      = row (m ((c : Thread nD τ).loc main_arg0)) (m ((c : Thread nD τ).loc main_arg1)) ⟨t.val * 512 + r.val, hl⟩ := by
  have h0 : ∀ k : Fin 1024, (iblk m c 0 t : FVec Ideal S512x1024 .f32) (ix2 r k)
      = (m ((c : Thread nD τ).loc main_arg0) : FVec Ideal S2048x1024 .f32) (ix2 ⟨t.val * 512 + r.val, hl⟩ k) := fun k => by
    blk_point [iblk, V, idx t]
  have h1 : ∀ k : Fin 1024, (iblk m c 1 t : FVec Ideal S512x1024 .f32) (ix2 r k)
      = (m ((c : Thread nD τ).loc main_arg1) : FVec Ideal S2048x1024 .f32) (ix2 ⟨t.val * 512 + r.val, hl⟩ k) := fun k => by
    blk_point [iblk, V, idx t]
  simp only [row, blkRow]
  exact congrArg _ (congrArg (Ideal.div · _) (Fin.sum_fin_congr fun k => by rw [h0, h1]))

theorem final_loss (c : Dev nD) : (dats m 0 c).arrAt 2 cfg0.N = loss m c := by
  refine (dats m 0 c).arrAt_eq_of_after_last 2 t0_3 (by decide +kernel) _ fun j => ?_
  blk_simp
  rw [after0_2, Pipeline.eq_sum_fin_of_reset_step_apply_last (fun n h => (outsAt0 m c n h).1) 4 (fun _ => 0) _
    (fun t h j => by rw [outsAt0_A m c t h (by have := lt_of_lt_of_eq t.isLt N_0; omega)]; frame_out; rw [pay3])
    (fun t h j => by rw [outsAt0_B m c t h (by have := lt_of_lt_of_eq t.isLt N_0; omega)]; frame_out; rw [pay4])
    (le_of_eq N_0) t0_3 rfl j, zero_add, loss_eq]
  exact Fin.sum_mul_add_congr (S := 4) fun t r hl => row_eq m c t r hl

end Cert.LossIdeal.Value

namespace Cert.Proof

theorem quiescent_LossRefIdeal : quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The loss kernel's two results are the reference's over the reals. -/
theorem algebraic_LossIdeal_LossRefIdeal : algebraic_LossIdeal_LossRefIdeal := by
  pair_intro
  · run_from Cert.LossIdeal.Gen.run_main m g
  · run_from Cert.LossRefIdeal.Value.run m' g'
    · exact (Cert.LossIdeal.Value.final_loss m c).symm
    · exact (Cert.LossIdeal.Value.final_grad m c).symm

end Cert.Proof
-- ==== Proof.Norm.lean ====
/- The root-mean-square norm's gradient over the extended reals: the form the kernels write by hand and the form that differentiating
   the forward line gives are the same, at every extended real. -/
module

public import Idealize.ShloMosaic.PureOps.Ideal
public import proofs.«01_k».proof.Proof.Consts

@[expose] public section

noncomputable section

namespace Cert.Norm

open Idealize.ShloMosaic

/-- The mean square of a row, with the epsilon, and its reciprocal root. -/
def msq {n : ℕ} (c e : EReal) (x : Fin n → EReal) : EReal := Ideal.div (∑ k, x k * x k) c + e
def rinv {n : ℕ} (c e : EReal) (x : Fin n → EReal) : EReal := Ideal.rsqrt (msq c e x)

theorem mul_self_nonneg (x : EReal) : 0 ≤ x * x := by
  induction x with
  | bot => simp
  | top => simp
  | coe r => exact_mod_cast _root_.mul_self_nonneg r

/-- It is infinite or a positive real. -/
theorem msq_cases {n : ℕ} {c e : ℝ} (hc : 0 < c) (he : 0 < e) (x : Fin n → EReal) :
    msq c e x = ⊤ ∨ ∃ w : ℝ, 0 < w ∧ msq c e x = w := by
  have h : 0 ≤ ∑ k, x k * x k := Finset.sum_nonneg fun k _ => mul_self_nonneg (x k)
  unfold msq
  rw [Ideal.div_coe hc.ne']
  generalize ∑ k, x k * x k = s at h
  induction s with
  | bot => exact absurd h (by simp)
  | top => left; rw [EReal.top_mul_coe_of_pos (by positivity), EReal.top_add_coe]
  | coe s =>
    have h' : 0 ≤ s := by exact_mod_cast h
    exact .inr ⟨s * (1 / c) + e, by positivity, by push_cast; rfl⟩

theorem add_self (x : EReal) : x + x = ((2 : ℝ) : EReal) * x := by
  induction x with
  | bot => simp [EReal.coe_mul_bot_of_pos]
  | top => simp [EReal.coe_mul_top_of_pos]
  | coe r => rw [← EReal.coe_add, ← EReal.coe_mul, two_mul]

/-- The kernels' form of the gradient of `x * rinv x` along `t`, at one place. -/
def back {n : ℕ} (c e : EReal) (x t : Fin n → EReal) (k : Fin n) : EReal :=
  rinv c e x * t k - x k * (rinv c e x * rinv c e x * rinv c e x) * Ideal.div (∑ k, t k * x k) c

/-- The derivative's share through the mean square, and the derivative. -/
def through {n : ℕ} (c e h : EReal) (x t : Fin n → EReal) : EReal :=
  Ideal.div ((∑ k, x k * t k) * (h * Ideal.div (rinv c e x) (msq c e x))) c

theorem through_eq {n : ℕ} {c e : ℝ} (hc : 0 < c) (he : 0 < e) (x t : Fin n → EReal) (y : EReal) :
    y * through c e ((-(1 / 2) : ℝ) : EReal) x t + through c e ((-(1 / 2) : ℝ) : EReal) x t * y
      = -(y * (rinv c e x * rinv c e x * rinv c e x) * Ideal.div (∑ k, t k * x k) c) := by
  have hM : ∑ k, x k * t k = ∑ k, t k * x k := Finset.sum_congr rfl fun k _ => mul_comm _ _
  rw [mul_comm (through c e _ x t) y, add_self]
  unfold through rinv
  rw [hM]
  generalize ∑ k, t k * x k = M
  rw [Ideal.div_coe hc.ne', Ideal.div_coe hc.ne']
  rcases msq_cases hc he x with h | ⟨w, hw, h⟩
  · rw [h, Ideal.rsqrt_top]
    simp [Ideal.div]
  · have hs : 0 < Real.sqrt w := Real.sqrt_pos.2 hw
    rw [h, Ideal.rsqrt_coe, if_neg hw.not_gt, if_neg hw.ne', Ideal.div_coe hw.ne']
    have e1 : ((2 : ℝ) : EReal) * (y * (M * (((-(1 / 2) : ℝ) : EReal) * ((((Real.sqrt w)⁻¹ : ℝ) : EReal) * ((1 / w : ℝ) : EReal))) * ((1 / c : ℝ) : EReal)))
        = ((2 * (-(1 / 2) * ((Real.sqrt w)⁻¹ * (1 / w)) * (1 / c)) : ℝ) : EReal) * (y * M) := by
      push_cast; ac_rfl
    have e2 : y * ((((Real.sqrt w)⁻¹ : ℝ) : EReal) * (((Real.sqrt w)⁻¹ : ℝ) : EReal) * (((Real.sqrt w)⁻¹ : ℝ) : EReal)) * (M * ((1 / c : ℝ) : EReal))
        = (((Real.sqrt w)⁻¹ * (Real.sqrt w)⁻¹ * (Real.sqrt w)⁻¹ * (1 / c) : ℝ) : EReal) * (y * M) := by
      push_cast; ac_rfl
    rw [e1, e2, ← EReal.neg_mul, ← EReal.coe_neg]
    congr 2
    have : w⁻¹ = (Real.sqrt w)⁻¹ * (Real.sqrt w)⁻¹ := by rw [← mul_inv, Real.mul_self_sqrt hw.le]
    rw [one_div, one_div, this]; ring

/-- The two forms, with what is added before. -/
theorem back_eq {n : ℕ} {c e : ℝ} (hc : 0 < c) (he : 0 < e) (x t : Fin n → EReal) (k : Fin n) (res : EReal) :
    res + t k * rinv c e x + x k * through c e ((-(1 / 2) : ℝ) : EReal) x t + through c e ((-(1 / 2) : ℝ) : EReal) x t * x k
      = res + rinv c e x * t k - x k * (rinv c e x * rinv c e x * rinv c e x) * Ideal.div (∑ k, t k * x k) c := by
  rw [add_assoc, through_eq hc he, mul_comm (t k), sub_eq_add_neg]

end Cert.Norm

end
-- ==== Proof.Norm1.lean ====
/- The token mixer's norm, its gradient fused with the product by `w_in`: every grid point writes 256 rows of the gradient of `h`, and adds
   their share of the gradient of `g` to one block. -/
module

public import proofs.«01_k».proof.Defs
public import proofs.«01_k».proof.Proof.Gen.Norm1Ideal.Frame
public import proofs.«01_k».proof.Proof.Gen.Norm1RefIdeal.Run
public import proofs.«01_k».proof.Proof.Gen.Norm1RefIdeal.Read
public import proofs.«01_k».proof.Proof.Norm
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Norm1RefIdeal.Rows

open Cert.Norm1RefIdeal Cert.Norm1RefIdeal.Read Cert.Consts Cert.Norm

variable (X : FVec Ideal S2048x1024 .f32) (G : FVec Ideal S1024 .f32) (W : FVec Ideal S1024x2816 .f32) (DY : FVec Ideal S2048x2816 .f32)
  (R : FVec Ideal S2048x1024 .f32)

/-- The product by the weight, and the row that the norm's gradient takes. -/
def dyn (r : Fin 2048) (k : Fin 1024) : EReal := ∑ q : Fin 2816, DY (ix2 r q) * W (ix2 k q)
def t (r : Fin 2048) (k : Fin 1024) : EReal := dyn W DY r k * G (ix1 k)
def x (r : Fin 2048) (k : Fin 1024) : EReal := X (ix2 r k)

theorem v17 (r : Fin 2048) (k : Fin 1024) : val_main_v17 (F := Ideal) W DY (ix2 r k) = dyn W DY r k := by
  pointwise [val_main_v17, dyn]

theorem v6 (r : Fin 2048) (i : Fin 1) : val_main_v6 (F := Ideal) X (ix2 r i) = msq ((1024 : ℝ) : EReal) eps (x X r) := by
  pointwise [val_main_v6, val_main_v5, val_main_v4, val_main_v3, val_main_v2, val_main_v1, val_main_v0, val_main_cst, val_main_cst_0,
    val_main_cst_1, msq, x]
  rw [ofBits_1024]
  rfl

theorem v7 (r : Fin 2048) (i : Fin 1) : val_main_v7 (F := Ideal) X (ix2 r i) = rinv ((1024 : ℝ) : EReal) eps (x X r) := by
  pointwise [val_main_v7, v6, rinv]

theorem v22 (r : Fin 2048) (k : Fin 1024) : val_main_v22 (F := Ideal) G W DY (ix2 r k) = t G W DY r k := by
  pointwise [val_main_v22, val_main_v21, val_main_v13, v17, t]

theorem v34 (r : Fin 2048) (k : Fin 1024) : val_main_v34 (F := Ideal) X G W DY (ix2 r k)
    = through ((1024 : ℝ) : EReal) eps ((-(1 / 2) : ℝ) : EReal) (x X r) (t G W DY r) := by
  pointwise [val_main_v34, val_main_v33, val_main_v32, val_main_v31, val_main_v30, val_main_v26, val_main_v25, val_main_v24, val_main_v10,
    val_main_v9, val_main_v8, v22, v6, v7, through, val_main_cst_2, val_main_cst_5, val_main_cst_6, val_main_cst_7]
  rw [ofBits_1024, ofBits_neg_half, Fin.sum_univ_one]
  rfl

theorem v38 (r : Fin 2048) (k : Fin 1024) : val_main_v38 (F := Ideal) X G W DY R (ix2 r k)
    = R (ix2 r k) + rinv ((1024 : ℝ) : EReal) eps (x X r) * t G W DY r k
      - x X r k * (rinv ((1024 : ℝ) : EReal) eps (x X r) * rinv ((1024 : ℝ) : EReal) eps (x X r) * rinv ((1024 : ℝ) : EReal) eps (x X r))
        * Ideal.div (∑ k, t G W DY r k * x X r k) ((1024 : ℝ) : EReal) := by
  obtain ⟨e, he, h⟩ := eps_pos
  have := back_eq (c := 1024) (by norm_num) he (x X r) (t G W DY r) k (R (ix2 r k))
  rw [← h] at this
  rw [← this]
  pointwise [val_main_v38, val_main_v37, val_main_v36, val_main_v35, val_main_v29, val_main_v28, val_main_v27, v7, v22, v34]
  rfl

theorem v39 (i : Fin 1) (k : Fin 1024) : val_main_v39 (F := Ideal) X W DY (ix2 i k)
    = ∑ r : Fin 2048, dyn W DY r k * (x X r k * rinv ((1024 : ℝ) : EReal) eps (x X r)) := by
  pointwise [val_main_v39, val_main_v23, val_main_v20, val_main_v19, val_main_v18, val_main_v12, val_main_v11, v7, v17, val_main_cst_3,
    val_main_cst_4]
  rw [Fin.sum_univ_one]
  exact Finset.sum_congr rfl fun r _ => mul_comm (x X r k * _) (dyn W DY r k)

end Cert.Norm1RefIdeal.Rows

namespace Cert.Norm1Ideal.Rows

open Cert.Norm1Ideal Cert.Norm1Ideal.Gen Cert.Consts Cert.Norm

variable (X : FVec Ideal S256x1024 .f32) (G : FVec Ideal S1x1024 .f32) (W : FVec Ideal S1024x2816 .bf16) (DY : FVec Ideal S256x2816 .bf16)
  (R : FVec Ideal S256x1024 .f32)

def dyn (r : Fin 256) (k : Fin 1024) : EReal := ∑ q : Fin 2816, DY (ix2 r q) * W (ix2 k q)
def t (r : Fin 256) (k : Fin 1024) : EReal := dyn W DY r k * G (ix2 0 k)
def x (r : Fin 256) (k : Fin 1024) : EReal := X (ix2 r k)

theorem pay3 (r : Fin 256) (k : Fin 1024) : k0_pay3 (F := Ideal) DY W (ix2 r k) = dyn W DY r k := by
  pointwise [k0_pay3, dyn]

theorem pay4 (r : Fin 256) (i : Fin 1) : k0_pay4 (F := Ideal) X (ix2 r i) = rinv ((1024 : ℝ) : EReal) eps (x X r) := by
  pointwise [k0_pay4, rinv, msq, x]
  rw [ofBits_1024]
  rfl

theorem pay5 (r : Fin 256) (k : Fin 1024) : k0_pay5 (F := Ideal) DY W X G R (ix2 r k)
    = R (ix2 r k) + rinv ((1024 : ℝ) : EReal) eps (x X r) * t G W DY r k
      - x X r k * (rinv ((1024 : ℝ) : EReal) eps (x X r) * rinv ((1024 : ℝ) : EReal) eps (x X r) * rinv ((1024 : ℝ) : EReal) eps (x X r))
        * Ideal.div (∑ k, t G W DY r k * x X r k) ((1024 : ℝ) : EReal) := by
  pointwise [k0_pay5, pay4, pay3]
  rw [ofBits_1024]
  rfl

/-- What a grid point's rows add to the gradient of `g`. -/
def part (j : S1x1024.Idx) : EReal := ∑ r : Fin 256, dyn W DY r (j 1) * (x X r (j 1) * rinv ((1024 : ℝ) : EReal) eps (x X r))

theorem pay1 (j : S1x1024.Idx) : k0_pay1 (F := Ideal) (k0_pay6 DY W X) j = 0 + part X W DY j := by
  idx_vars j
  rw [zero_add]
  pointwise [k0_pay1, k0_pay6, pay4, pay3, part]
  rfl

theorem pay2 (acc : FVec Ideal S1x1024 .f32) (j : S1x1024.Idx) :
    k0_pay2 (F := Ideal) (k0_pay6 DY W X) acc j = acc j + part X W DY j := by
  refine Eq.trans ?_ (congrArg (acc j + ·) ((pay1 X W DY j).trans (zero_add _)))
  idx_vars j
  pointwise [k0_pay2]

end Cert.Norm1Ideal.Rows

namespace Cert.Norm1Ideal.Value

open Cert.Norm1Ideal Cert.Norm1Ideal.Gen

variable (m : (ℓ : Loc nD τ sig) → Buf (Elt Ideal) ℓ)

/-- The windows' block indices in closed form. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The arguments. -/
def X (c : Dev nD) : FVec Ideal S2048x1024 .f32 := m ((c : Thread nD τ).loc main_arg0)
def G (c : Dev nD) : FVec Ideal S1024 .f32 := m ((c : Thread nD τ).loc main_arg1)
def W (c : Dev nD) : FVec Ideal S1024x2816 .f32 := m ((c : Thread nD τ).loc main_arg2)
def DY (c : Dev nD) : FVec Ideal S2048x2816 .f32 := m ((c : Thread nD τ).loc main_arg3)
def R (c : Dev nD) : FVec Ideal S2048x1024 .f32 := m ((c : Thread nD τ).loc main_arg4)

/-- A grid point's row, in the whole. -/
def at_ (t : Fin cfg0.N) (r : Fin 256) : Fin 2048 := ⟨t.val * 256 + r.val, by have := lt_of_lt_of_eq t.isLt N_0; omega⟩

/-- The blocks of a grid point. -/
theorem blk0 (c : Dev nD) (t : Fin cfg0.N) : iblk m c 0 t = (fun j => DY m c (ix2 (at_ t (j 0)) (j 1)) : FVec Ideal S256x2816 .bf16) := by
  funext j; idx_vars j; unfold DY at_; blk_point [iblk, V, idx t]
theorem blk1 (c : Dev nD) (t : Fin cfg0.N) : iblk m c 1 t = (W m c : FVec Ideal S1024x2816 .bf16) := by
  funext j; idx_vars j; unfold W; blk_point [iblk, V, idx t]
theorem blk2 (c : Dev nD) (t : Fin cfg0.N) : iblk m c 2 t = (fun j => X m c (ix2 (at_ t (j 0)) (j 1)) : FVec Ideal S256x1024 .f32) := by
  funext j; idx_vars j; unfold X at_; blk_point [iblk, V, idx t]
theorem blk3 (c : Dev nD) (t : Fin cfg0.N) : iblk m c 3 t = (fun j => G m c (ix1 (j 1)) : FVec Ideal S1x1024 .f32) := by
  funext j; idx_vars j; unfold G; blk_point [iblk, V, idx t]
theorem blk4 (c : Dev nD) (t : Fin cfg0.N) : iblk m c 4 t = (fun j => R m c (ix2 (at_ t (j 0)) (j 1)) : FVec Ideal S256x1024 .f32) := by
  funext j; idx_vars j; unfold R at_; blk_point [iblk, V, idx t]

theorem point (c : Dev nD) (t : Fin cfg0.N) (y : S256x1024.Idx) :
    k0_pay5 (F := Ideal) (iblk m c 0 t) (iblk m c 1 t) (iblk m c 2 t) (iblk m c 3 t) (iblk m c 4 t) y
      = Cert.Norm1RefIdeal.Read.val_main_v38 (F := Ideal) (X m c) (G m c) (W m c) (DY m c) (R m c) (((cfg0.win 5).blk t).view.emb y) := by
  rw [blk0, blk1, blk2, blk3, blk4]
  idx_vars y
  refine (Rows.pay5 _ _ _ _ _ y0 y1).trans ?_
  exact (Cert.Norm1RefIdeal.Rows.v38 (X m c) (G m c) (W m c) (DY m c) (R m c) (at_ t y0) y1).symm.trans
    (congrArg _ (show ix2 (at_ t y0) y1 = _ by unfold at_; blk_ext [idx t]))

theorem final_dh (c : Dev nD) : (dats m 0 c).arrAt 5 cfg0.N
    = Cert.Norm1RefIdeal.Read.val_main_v38 (F := Ideal) (X m c) (G m c) (W m c) (DY m c) (R m c) := by
  refine (dats m 0 c).arrAt_eq_of_covers 5 _ (by decide +kernel) fun t hf y => ?_
  have hN : t.val < 8 := lt_of_lt_of_eq t.isLt N_0
  blk_simp
  rw [after0_5]
  by_cases h0 : t.val % 8 = 0
  · rw [outsAt0_A m c t h0 (by omega)]
    frame_out
    exact point m c t y
  · rw [outsAt0_B m c t h0 (by omega)]
    frame_out
    exact point m c t y

/-- A grid point's row of the sum that is `g`'s gradient. -/
theorem share (c : Dev nD) (t : Fin cfg0.N) (r : Fin 256) (k : Fin 1024) :
    Rows.dyn (iblk m c 1 t) (iblk m c 0 t) r k * (Rows.x (iblk m c 2 t) r k * Cert.Norm.rinv ((1024 : ℝ) : EReal) Cert.Consts.eps (Rows.x (iblk m c 2 t) r))
      = Cert.Norm1RefIdeal.Rows.dyn (W m c) (DY m c) (at_ t r) k * (Cert.Norm1RefIdeal.Rows.x (X m c) (at_ t r) k
        * Cert.Norm.rinv ((1024 : ℝ) : EReal) Cert.Consts.eps (Cert.Norm1RefIdeal.Rows.x (X m c) (at_ t r))) := by
  rw [blk0, blk1, blk2]
  rfl

theorem final_dg (c : Dev nD) : (dats m 0 c).arrAt 6 cfg0.N
    = Cert.Norm1RefIdeal.Read.val_main_v39 (F := Ideal) (X m c) (W m c) (DY m c) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h (by have := lt_of_lt_of_eq t.isLt N_0; omega)]; frame_out; rw [Rows.pay1])
    (fun t h j => by rw [outsAt0_B m c t h (by have := lt_of_lt_of_eq t.isLt N_0; omega)]; frame_out; rw [Rows.pay2])
    (le_of_eq N_0) t0_7 rfl j, zero_add]
  idx_vars j
  rw [Cert.Norm1RefIdeal.Rows.v39]
  exact Fin.sum_mul_add_congr (S := 8) fun t r hl => share m c t r j1

end Cert.Norm1Ideal.Value

namespace Cert.Proof

theorem quiescent_Norm1RefIdeal : quiescent_Norm1RefIdeal := fun m ρ _ =>
  (θ_run Cert.Norm1RefIdeal.defs _ _).mono (fun r h => ⟨fun c => (h c).2.2, sem_eq_zero_of_no_sems (by decide) r.2⟩)
    (Cert.Norm1RefIdeal.Value.run (F := Ideal) m ρ)

/-- The token mixer's norm: the kernel's two results are the reference's over the reals. -/
theorem algebraic_Norm1Ideal_Norm1RefIdeal : algebraic_Norm1Ideal_Norm1RefIdeal := by
  pair_intro
  · run_from Cert.Norm1Ideal.Gen.run_main m g
  · run_from Cert.Norm1RefIdeal.Value.run m' g'
    · obtain ⟨h0, h1, h2, h3, h4⟩ := hagree c
      rw [Cert.Norm1RefIdeal.Read.val_main_v38_eq, h0, h1, h2, h3, h4]
      exact (Cert.Norm1Ideal.Value.final_dh m c).symm
    · exact (Cert.Norm1Ideal.Value.final_dg m c).symm

end Cert.Proof

end
-- ==== Proof.Norm2.lean ====
/- The channel mixer's norm, its gradient fused with the product by `w_ff1`, whose columns come in four blocks: every grid point writes 256 rows of the gradient of `h`, and adds
   their share of the gradient of `g` to one block. -/
module

public import proofs.«01_k».proof.Defs
public import proofs.«01_k».proof.Proof.Gen.Norm2Ideal.Frame
public import proofs.«01_k».proof.Proof.Gen.Norm2RefIdeal.Run
public import proofs.«01_k».proof.Proof.Gen.Norm2RefIdeal.Read
public import proofs.«01_k».proof.Proof.Norm1
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Norm2RefIdeal.Rows

open Cert.Norm2RefIdeal Cert.Norm2RefIdeal.Read Cert.Consts Cert.Norm

variable (X : FVec Ideal S2048x1024 .f32) (G : FVec Ideal S1024 .f32) (W : FVec Ideal S1024x4096 .f32) (DY : FVec Ideal S2048x4096 .f32)
  (R : FVec Ideal S2048x1024 .f32)

/-- The product by the weight, and the row that the norm's gradient takes. -/
def dyn (r : Fin 2048) (k : Fin 1024) : EReal := ∑ q : Fin 4096, DY (ix2 r q) * W (ix2 k q)
def t (r : Fin 2048) (k : Fin 1024) : EReal := dyn W DY r k * G (ix1 k)
def x (r : Fin 2048) (k : Fin 1024) : EReal := X (ix2 r k)

theorem v17 (r : Fin 2048) (k : Fin 1024) : val_main_v17 (F := Ideal) W DY (ix2 r k) = dyn W DY r k := by
  pointwise [val_main_v17, dyn]

theorem v6 (r : Fin 2048) (i : Fin 1) : val_main_v6 (F := Ideal) X (ix2 r i) = msq ((1024 : ℝ) : EReal) eps (x X r) :=
  Cert.Norm1RefIdeal.Rows.v6 X r i

theorem v7 (r : Fin 2048) (i : Fin 1) : val_main_v7 (F := Ideal) X (ix2 r i) = rinv ((1024 : ℝ) : EReal) eps (x X r) :=
  Cert.Norm1RefIdeal.Rows.v7 X r i

theorem v22 (r : Fin 2048) (k : Fin 1024) : val_main_v22 (F := Ideal) G W DY (ix2 r k) = t G W DY r k := by
  pointwise [val_main_v22, val_main_v21, val_main_v13, v17, t]

theorem v34 (r : Fin 2048) (k : Fin 1024) : val_main_v34 (F := Ideal) X G W DY (ix2 r k)
    = through ((1024 : ℝ) : EReal) eps ((-(1 / 2) : ℝ) : EReal) (x X r) (t G W DY r) := by
  pointwise [val_main_v34, val_main_v33, val_main_v32, val_main_v31, val_main_v30, val_main_v26, val_main_v25, val_main_v24, val_main_v10,
    val_main_v9, val_main_v8, v22, v6, v7, through, val_main_cst_2, val_main_cst_5, val_main_cst_6, val_main_cst_7]
  rw [ofBits_1024, ofBits_neg_half, Fin.sum_univ_one]
  rfl

theorem v38 (r : Fin 2048) (k : Fin 1024) : val_main_v38 (F := Ideal) X G W DY R (ix2 r k)
    = R (ix2 r k) + rinv ((1024 : ℝ) : EReal) eps (x X r) * t G W DY r k
      - x X r k * (rinv ((1024 : ℝ) : EReal) eps (x X r) * rinv ((1024 : ℝ) : EReal) eps (x X r) * rinv ((1024 : ℝ) : EReal) eps (x X r))
        * Ideal.div (∑ k, t G W DY r k * x X r k) ((1024 : ℝ) : EReal) := by
  obtain ⟨e, he, h⟩ := eps_pos
  have := back_eq (c := 1024) (by norm_num) he (x X r) (t G W DY r) k (R (ix2 r k))
  rw [← h] at this
  rw [← this]
  pointwise [val_main_v38, val_main_v37, val_main_v36, val_main_v35, val_main_v29, val_main_v28, val_main_v27, v7, v22, v34]
  rfl

theorem v39 (i : Fin 1) (k : Fin 1024) : val_main_v39 (F := Ideal) X W DY (ix2 i k)
    = ∑ r : Fin 2048, dyn W DY r k * (x X r k * rinv ((1024 : ℝ) : EReal) eps (x X r)) := by
  pointwise [val_main_v39, val_main_v23, val_main_v20, val_main_v19, val_main_v18, val_main_v12, val_main_v11, v7, v17, val_main_cst_3,
    val_main_cst_4]
  rw [Fin.sum_univ_one]
  exact Finset.sum_congr rfl fun r _ => mul_comm (x X r k * _) (dyn W DY r k)

end Cert.Norm2RefIdeal.Rows

namespace Cert.Norm2Ideal.Rows

open Cert.Norm2Ideal Cert.Norm2Ideal.Gen Cert.Consts Cert.Norm

variable (X : FVec Ideal S256x1024 .f32) (G : FVec Ideal S1x1024 .f32)
  (D : FVec Ideal S256x1024 .f32) (R : FVec Ideal S256x1024 .f32)

def x (r : Fin 256) (k : Fin 1024) : EReal := X (ix2 r k)
def t (r : Fin 256) (k : Fin 1024) : EReal := D (ix2 r k) * G (ix2 0 k)

theorem pay1 (r : Fin 256) (i : Fin 1) :
    k0_pay1 (F := Ideal) (k0_pay6 X) k0_pay7 (ix2 r i) = rinv ((1024 : ℝ) : EReal) eps (x X r) := by
  pointwise [k0_pay1, k0_pay6, k0_pay7, rinv, msq, x]
  rw [ofBits_1024]
  rfl

theorem pay2 (r : Fin 256) (k : Fin 1024) : k0_pay2 (F := Ideal) D X (k0_pay6 X) k0_pay7 G R (ix2 r k)
    = R (ix2 r k) + rinv ((1024 : ℝ) : EReal) eps (x X r) * t G D r k
      - x X r k * (rinv ((1024 : ℝ) : EReal) eps (x X r) * rinv ((1024 : ℝ) : EReal) eps (x X r) * rinv ((1024 : ℝ) : EReal) eps (x X r))
        * Ideal.div (∑ k, t G D r k * x X r k) ((1024 : ℝ) : EReal) := by
  pointwise [k0_pay2, pay1]
  rw [ofBits_1024]
  rfl

/-- What a grid point's rows add to the gradient of `g`. -/
def part (j : S1x1024.Idx) : EReal := ∑ r : Fin 256, D (ix2 r (j 1)) * (x X r (j 1) * rinv ((1024 : ℝ) : EReal) eps (x X r))

theorem pay3 (j : S1x1024.Idx) : k0_pay3 (F := Ideal) D X (k0_pay6 X) k0_pay7 j = 0 + part X D j := by
  idx_vars j
  rw [zero_add]
  pointwise [k0_pay3, pay1, part]
  rfl

theorem pay4 (acc : FVec Ideal S1x1024 .f32) (j : S1x1024.Idx) :
    k0_pay4 (F := Ideal) D X (k0_pay6 X) k0_pay7 acc j = acc j + part X D j := by
  refine Eq.trans ?_ (congrArg (acc j + ·) ((pay3 X D j).trans (zero_add _)))
  idx_vars j
  pointwise [k0_pay4]

/-- The product by the weight's four blocks. -/
abbrev dyn (W : Vec Ideal S4x1024x1024 .bf16) (DY : Vec Ideal S256x4096 .bf16) : FVec Ideal S256x1024 .f32 :=
  k0_pay5 (F := Ideal) (View.ld DY (Rect.unit ![0, 0] ![256, 1024] inb_S256x4096_S256x1024_0_0))
    (View.ld W (Rect.unit ![0, 0, 0] ![1, 1024, 1024] inb_S4x1024x1024_S1x1024x1024_0_0_0))
    (View.ld DY (Rect.unit ![0, 1024] ![256, 1024] inb_S256x4096_S256x1024_0_1024))
    (View.ld W (Rect.unit ![1, 0, 0] ![1, 1024, 1024] inb_S4x1024x1024_S1x1024x1024_1_0_0))
    (View.ld DY (Rect.unit ![0, 2048] ![256, 1024] inb_S256x4096_S256x1024_0_2048))
    (View.ld W (Rect.unit ![2, 0, 0] ![1, 1024, 1024] inb_S4x1024x1024_S1x1024x1024_2_0_0))
    (View.ld DY (Rect.unit ![0, 3072] ![256, 1024] inb_S256x4096_S256x1024_0_3072))
    (View.ld W (Rect.unit ![3, 0, 0] ![1, 1024, 1024] inb_S4x1024x1024_S1x1024x1024_3_0_0))

theorem pay5 (W : FVec Ideal S4x1024x1024 .bf16) (DY : FVec Ideal S256x4096 .bf16) (r : Fin 256) (k : Fin 1024) : dyn W DY (ix2 r k)
    = ∑ a : Fin 4, ∑ b : Fin 1024, DY (ix2 r ⟨a.val * 1024 + b.val, by omega⟩) * W (ix3 a k b) := by
  rw [Fin.sum_univ_four]
  pointwise [dyn, k0_pay5]

end Cert.Norm2Ideal.Rows

namespace Cert.Norm2Ideal.Value

open Cert.Norm2Ideal Cert.Norm2Ideal.Gen

variable (m : (ℓ : Loc nD τ sig) → Buf (Elt Ideal) ℓ)

/-- The windows' block indices in closed form. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The arguments. -/
def X (c : Dev nD) : FVec Ideal S2048x1024 .f32 := m ((c : Thread nD τ).loc main_arg0)
def G (c : Dev nD) : FVec Ideal S1024 .f32 := m ((c : Thread nD τ).loc main_arg1)
def W (c : Dev nD) : FVec Ideal S1024x4096 .f32 := m ((c : Thread nD τ).loc main_arg2)
def DY (c : Dev nD) : FVec Ideal S2048x4096 .f32 := m ((c : Thread nD τ).loc main_arg3)
def R (c : Dev nD) : FVec Ideal S2048x1024 .f32 := m ((c : Thread nD τ).loc main_arg4)

/-- A grid point's row, in the whole. -/
def at_ (t : Fin cfg0.N) (r : Fin 256) : Fin 2048 := ⟨t.val * 256 + r.val, by have := lt_of_lt_of_eq t.isLt N_0; omega⟩

/-- The blocks of a grid point. -/
theorem blk0 (c : Dev nD) (t : Fin cfg0.N) : iblk m c 0 t = (fun j => DY m c (ix2 (at_ t (j 0)) (j 1)) : FVec Ideal S256x4096 .bf16) := by
  funext j; idx_vars j; unfold DY at_; blk_point [iblk, V, idx t]
theorem blk1 (c : Dev nD) (t : Fin cfg0.N) : iblk m c 1 t = (fun j => W m c (ix2 (j 1) ⟨(j 0).val * 1024 + (j 2).val, by
    have h0 : (j 0).val < 4 := (j 0).isLt
    have h2 : (j 2).val < 1024 := (j 2).isLt
    omega⟩) : FVec Ideal S4x1024x1024 .bf16) := by
  funext j; idx_vars j; unfold W; blk_point [iblk, V, idx t]
theorem blk2 (c : Dev nD) (t : Fin cfg0.N) : iblk m c 2 t = (fun j => X m c (ix2 (at_ t (j 0)) (j 1)) : FVec Ideal S256x1024 .f32) := by
  funext j; idx_vars j; unfold X at_; blk_point [iblk, V, idx t]
theorem blk3 (c : Dev nD) (t : Fin cfg0.N) : iblk m c 3 t = (fun j => G m c (ix1 (j 1)) : FVec Ideal S1x1024 .f32) := by
  funext j; idx_vars j; unfold G; blk_point [iblk, V, idx t]
theorem blk4 (c : Dev nD) (t : Fin cfg0.N) : iblk m c 4 t = (fun j => R m c (ix2 (at_ t (j 0)) (j 1)) : FVec Ideal S256x1024 .f32) := by
  funext j; idx_vars j; unfold R at_; blk_point [iblk, V, idx t]

/-- The product's rows of a grid point. -/
theorem dyn_eq (c : Dev nD) (t : Fin cfg0.N) :
    Rows.dyn (iblk m c 1 t) (iblk m c 0 t) = (fun j => Cert.Norm2RefIdeal.Rows.dyn (W m c) (DY m c) (at_ t (j 0)) (j 1) : FVec Ideal S256x1024 .f32) := by
  rw [blk0, blk1]
  funext j
  idx_vars j
  rw [Rows.pay5]
  exact Fin.sum_mul_add_congr (S := 4) fun a b h => rfl

theorem point (c : Dev nD) (t : Fin cfg0.N) (y : S256x1024.Idx) :
    k0_pay2 (F := Ideal) (Rows.dyn (iblk m c 1 t) (iblk m c 0 t)) (iblk m c 2 t) (k0_pay6 (iblk m c 2 t)) k0_pay7 (iblk m c 3 t) (iblk m c 4 t) y
      = Cert.Norm2RefIdeal.Read.val_main_v38 (F := Ideal) (X m c) (G m c) (W m c) (DY m c) (R m c) (((cfg0.win 5).blk t).view.emb y) := by
  rw [dyn_eq, blk2, blk3, blk4]
  idx_vars y
  refine (Rows.pay2 _ _ _ _ y0 y1).trans ?_
  exact (Cert.Norm2RefIdeal.Rows.v38 (X m c) (G m c) (W m c) (DY m c) (R m c) (at_ t y0) y1).symm.trans
    (congrArg _ (show ix2 (at_ t y0) y1 = _ by unfold at_; blk_ext [idx t]))

theorem final_dh (c : Dev nD) : (dats m 0 c).arrAt 5 cfg0.N
    = Cert.Norm2RefIdeal.Read.val_main_v38 (F := Ideal) (X m c) (G m c) (W m c) (DY m c) (R m c) := by
  refine (dats m 0 c).arrAt_eq_of_covers 5 _ (by decide +kernel) fun t hf y => ?_
  have hN : t.val < 8 := lt_of_lt_of_eq t.isLt N_0
  blk_simp
  rw [after0_5]
  by_cases h0 : t.val % 8 = 0
  · rw [outsAt0_A m c t h0 (by omega)]
    frame_out
    exact point m c t y
  · rw [outsAt0_B m c t h0 (by omega)]
    frame_out
    exact point m c t y

/-- A grid point's row of the sum that is `g`'s gradient. -/
theorem share (c : Dev nD) (t : Fin cfg0.N) (r : Fin 256) (k : Fin 1024) :
    Rows.dyn (iblk m c 1 t) (iblk m c 0 t) (ix2 r k) * (Rows.x (iblk m c 2 t) r k * Cert.Norm.rinv ((1024 : ℝ) : EReal) Cert.Consts.eps (Rows.x (iblk m c 2 t) r))
      = Cert.Norm2RefIdeal.Rows.dyn (W m c) (DY m c) (at_ t r) k * (Cert.Norm2RefIdeal.Rows.x (X m c) (at_ t r) k
        * Cert.Norm.rinv ((1024 : ℝ) : EReal) Cert.Consts.eps (Cert.Norm2RefIdeal.Rows.x (X m c) (at_ t r))) := by
  rw [dyn_eq, blk2]
  rfl

theorem final_dg (c : Dev nD) : (dats m 0 c).arrAt 6 cfg0.N
    = Cert.Norm2RefIdeal.Read.val_main_v39 (F := Ideal) (X m c) (W m c) (DY m c) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h (by have := lt_of_lt_of_eq t.isLt N_0; omega)]; frame_out; rw [Rows.pay3])
    (fun t h j => by rw [outsAt0_B m c t h (by have := lt_of_lt_of_eq t.isLt N_0; omega)]; frame_out; rw [Rows.pay4])
    (le_of_eq N_0) t0_7 rfl j, zero_add]
  idx_vars j
  rw [Cert.Norm2RefIdeal.Rows.v39]
  exact Fin.sum_mul_add_congr (S := 8) fun t r hl => share m c t r j1

end Cert.Norm2Ideal.Value

namespace Cert.Proof

theorem quiescent_Norm2RefIdeal : quiescent_Norm2RefIdeal := fun m ρ _ =>
  (θ_run Cert.Norm2RefIdeal.defs _ _).mono (fun r h => ⟨fun c => (h c).2.2, sem_eq_zero_of_no_sems (by decide) r.2⟩)
    (Cert.Norm2RefIdeal.Value.run (F := Ideal) m ρ)

/-- The channel mixer's norm: the kernel's two results are the reference's over the reals. -/
theorem algebraic_Norm2Ideal_Norm2RefIdeal : algebraic_Norm2Ideal_Norm2RefIdeal := by
  pair_intro
  · run_from Cert.Norm2Ideal.Gen.run_main m g
  · run_from Cert.Norm2RefIdeal.Value.run m' g'
    · obtain ⟨h0, h1, h2, h3, h4⟩ := hagree c
      rw [Cert.Norm2RefIdeal.Read.val_main_v38_eq, h0, h1, h2, h3, h4]
      exact (Cert.Norm2Ideal.Value.final_dh m c).symm
    · exact (Cert.Norm2Ideal.Value.final_dg m c).symm

end Cert.Proof

end
-- ==== Proof.Ple.lean ====
/- The per-layer embedding's gate and its norm, their gradients fused with the product by the gate's weight: every grid point writes 256 rows
   of three gradients, and adds their share of the gradient of `g` to one block. -/
module

public import proofs.«01_k».proof.Defs
public import proofs.«01_k».proof.Proof.Gen.PleIdeal.Frame
public import proofs.«01_k».proof.Proof.Gen.PleRefIdeal.Run
public import proofs.«01_k».proof.Proof.Gen.PleRefIdeal.Read
public import proofs.«01_k».proof.Proof.Norm1
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PleRefIdeal.Rows

open Cert.PleRefIdeal Cert.PleRefIdeal.Read Cert.Consts Cert.Norm

variable (X : FVec Ideal S2048x1024 .f32) (G : FVec Ideal S1024 .f32) (W : FVec Ideal S1024x1024 .f32)
  (A P R : FVec Ideal S2048x1024 .f32)

/-- The gate, and its gradient. -/
def gate (r : Fin 2048) (k : Fin 1024) : EReal := Ideal.logistic (A (ix2 r k))
def dgate (r : Fin 2048) (k : Fin 1024) : EReal := R (ix2 r k) * P (ix2 r k) * gate A r k * (1 - gate A r k)

theorem v5 (r : Fin 2048) (k : Fin 1024) : val_main_v5 (F := Ideal) A (ix2 r k) = gate A r k := by
  pointwise [val_main_v5, val_main_v4, val_main_v3, val_main_v2, val_main_v1, val_main_v0, val_main_cst, val_main_cst_0, gate]
  rfl

theorem v12 (r : Fin 2048) (k : Fin 1024) : val_main_v12 (F := Ideal) A P R (ix2 r k) = dgate A P R r k := by
  pointwise [val_main_v12, val_main_v11, val_main_v8, val_main_v7, val_main_v6, v5, val_main_cst_1]
  exact (mul_assoc _ _ _).symm

theorem v52 (r : Fin 2048) (k : Fin 1024) : val_main_v52 (F := Ideal) A P R (ix2 r k) = dgate A P R r k := by
  pointwise [val_main_v52, v12]

theorem v53 (r : Fin 2048) (k : Fin 1024) : val_main_v53 (F := Ideal) A R (ix2 r k) = R (ix2 r k) * gate A r k := by
  pointwise [val_main_v53, val_main_v10, v5]
  exact mul_comm _ _

/-- The product by the weight, and the row that the norm's gradient takes. -/
def dyn (r : Fin 2048) (k : Fin 1024) : EReal := ∑ q : Fin 1024, dgate A P R r q * W (ix2 k q)
def t (r : Fin 2048) (k : Fin 1024) : EReal := dyn W A P R r k * G (ix1 k)
def x (r : Fin 2048) (k : Fin 1024) : EReal := X (ix2 r k)

theorem v30 (r : Fin 2048) (k : Fin 1024) : val_main_v30 (F := Ideal) W A P R (ix2 r k) = dyn W A P R r k := by
  pointwise [val_main_v30, v12, dyn]

theorem v19 (r : Fin 2048) (i : Fin 1) : val_main_v19 (F := Ideal) X (ix2 r i) = msq ((1024 : ℝ) : EReal) eps (x X r) :=
  Cert.Norm1RefIdeal.Rows.v6 X r i

theorem v20 (r : Fin 2048) (i : Fin 1) : val_main_v20 (F := Ideal) X (ix2 r i) = rinv ((1024 : ℝ) : EReal) eps (x X r) :=
  Cert.Norm1RefIdeal.Rows.v7 X r i

theorem v35 (r : Fin 2048) (k : Fin 1024) : val_main_v35 (F := Ideal) G W A P R (ix2 r k) = t G W A P R r k := by
  pointwise [val_main_v35, val_main_v34, val_main_v26, v30, t]

theorem v47 (r : Fin 2048) (k : Fin 1024) : val_main_v47 (F := Ideal) X G W A P R (ix2 r k)
    = through ((1024 : ℝ) : EReal) eps ((-(1 / 2) : ℝ) : EReal) (x X r) (t G W A P R r) := by
  pointwise [val_main_v47, val_main_v46, val_main_v45, val_main_v44, val_main_v43, val_main_v39, val_main_v38, val_main_v37, val_main_v23,
    val_main_v22, val_main_v21, v35, v19, v20, through, val_main_cst_5, val_main_cst_8, val_main_cst_9, val_main_cst_10]
  rw [ofBits_1024, ofBits_neg_half, Fin.sum_univ_one]
  rfl

theorem v51 (r : Fin 2048) (k : Fin 1024) : val_main_v51 (F := Ideal) X G W A P R (ix2 r k)
    = R (ix2 r k) + rinv ((1024 : ℝ) : EReal) eps (x X r) * t G W A P R r k
      - x X r k * (rinv ((1024 : ℝ) : EReal) eps (x X r) * rinv ((1024 : ℝ) : EReal) eps (x X r) * rinv ((1024 : ℝ) : EReal) eps (x X r))
        * Ideal.div (∑ k, t G W A P R r k * x X r k) ((1024 : ℝ) : EReal) := by
  obtain ⟨e, he, h⟩ := eps_pos
  have := back_eq (c := 1024) (by norm_num) he (x X r) (t G W A P R r) k (R (ix2 r k))
  rw [← h] at this
  rw [← this]
  pointwise [val_main_v51, val_main_v50, val_main_v49, val_main_v48, val_main_v42, val_main_v41, val_main_v40, v20, v35, v47]
  rfl

theorem v54 (i : Fin 1) (k : Fin 1024) : val_main_v54 (F := Ideal) X W A P R (ix2 i k)
    = ∑ r : Fin 2048, dyn W A P R r k * (x X r k * rinv ((1024 : ℝ) : EReal) eps (x X r)) := by
  pointwise [val_main_v54, val_main_v36, val_main_v33, val_main_v32, val_main_v31, val_main_v25, val_main_v24, v20, v30, val_main_cst_6,
    val_main_cst_7]
  rw [Fin.sum_univ_one]
  exact Finset.sum_congr rfl fun r _ => mul_comm (x X r k * _) (dyn W A P R r k)

end Cert.PleRefIdeal.Rows

namespace Cert.PleIdeal.Rows

open Cert.PleIdeal Cert.PleIdeal.Gen Cert.Consts Cert.Norm

variable (R : FVec Ideal S256x1024 .f32) (A P : FVec Ideal S256x1024 .bf16) (W : FVec Ideal S1024x1024 .bf16) (X : FVec Ideal S256x1024 .f32)
  (G : FVec Ideal S1x1024 .f32)

def gate (r : Fin 256) (k : Fin 1024) : EReal := Ideal.logistic (A (ix2 r k))
def dgate (r : Fin 256) (k : Fin 1024) : EReal := R (ix2 r k) * P (ix2 r k) * gate A r k * (1 - gate A r k)
def dyn (r : Fin 256) (k : Fin 1024) : EReal := ∑ q : Fin 1024, dgate R A P r q * W (ix2 k q)
def t (r : Fin 256) (k : Fin 1024) : EReal := dyn R A P W r k * G (ix2 0 k)
def x (r : Fin 256) (k : Fin 1024) : EReal := X (ix2 r k)

theorem pay4 (r : Fin 256) (k : Fin 1024) : k0_pay4 (F := Ideal) A (ix2 r k) = gate A r k := by
  pointwise [k0_pay4, gate]

theorem pay5 (r : Fin 256) (k : Fin 1024) : k0_pay5 (F := Ideal) R A (ix2 r k) = R (ix2 r k) * gate A r k := by
  pointwise [k0_pay5, pay4]

theorem pay6 (r : Fin 256) (k : Fin 1024) : k0_pay6 (F := Ideal) R A P (ix2 r k) = dgate R A P r k := by
  pointwise [k0_pay6, pay4, dgate]

theorem pay7 (r : Fin 256) (k : Fin 1024) : k0_pay7 (F := Ideal) R A P W (ix2 r k) = dyn R A P W r k := by
  pointwise [k0_pay7, pay6, dyn]

theorem pay8 (r : Fin 256) (i : Fin 1) : k0_pay8 (F := Ideal) X (ix2 r i) = rinv ((1024 : ℝ) : EReal) eps (x X r) := by
  pointwise [k0_pay8, rinv, msq, x]
  rw [ofBits_1024]
  rfl

theorem pay1 (r : Fin 256) (k : Fin 1024) :
    k0_pay1 (F := Ideal) R X (k0_pay8 X) (k0_pay9 R A P W G) (k0_pay10 R A P W X G) (ix2 r k)
    = R (ix2 r k) + rinv ((1024 : ℝ) : EReal) eps (x X r) * t R A P W G r k
      - x X r k * (rinv ((1024 : ℝ) : EReal) eps (x X r) * rinv ((1024 : ℝ) : EReal) eps (x X r) * rinv ((1024 : ℝ) : EReal) eps (x X r))
        * Ideal.div (∑ k, t R A P W G r k * x X r k) ((1024 : ℝ) : EReal) := by
  pointwise [k0_pay1, k0_pay10, k0_pay9, pay8, pay7]
  rw [ofBits_1024]
  rfl

/-- What a grid point's rows add to the gradient of `g`. -/
def part (j : S1x1024.Idx) : EReal := ∑ r : Fin 256, dyn R A P W r (j 1) * (x X r (j 1) * rinv ((1024 : ℝ) : EReal) eps (x X r))

theorem pay2 (j : S1x1024.Idx) : k0_pay2 (F := Ideal) (k0_pay7 R A P W) X (k0_pay8 X) j = 0 + part R A P W X j := by
  idx_vars j
  rw [zero_add]
  pointwise [k0_pay2, pay8, pay7, part]
  rfl

theorem pay3 (acc : FVec Ideal S1x1024 .f32) (j : S1x1024.Idx) :
    k0_pay3 (F := Ideal) (k0_pay7 R A P W) X (k0_pay8 X) acc j = acc j + part R A P W X j := by
  refine Eq.trans ?_ (congrArg (acc j + ·) ((pay2 R A P W X j).trans (zero_add _)))
  idx_vars j
  pointwise [k0_pay3]

end Cert.PleIdeal.Rows

namespace Cert.PleIdeal.Value

open Cert.PleIdeal Cert.PleIdeal.Gen

variable (m : (ℓ : Loc nD τ sig) → Buf (Elt Ideal) ℓ)

/-- The windows' block indices in closed form. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The arguments. -/
def X (c : Dev nD) : FVec Ideal S2048x1024 .f32 := m ((c : Thread nD τ).loc main_arg0)
def G (c : Dev nD) : FVec Ideal S1024 .f32 := m ((c : Thread nD τ).loc main_arg1)
def W (c : Dev nD) : FVec Ideal S1024x1024 .f32 := m ((c : Thread nD τ).loc main_arg2)
def A (c : Dev nD) : FVec Ideal S2048x1024 .f32 := m ((c : Thread nD τ).loc main_arg3)
def P (c : Dev nD) : FVec Ideal S2048x1024 .f32 := m ((c : Thread nD τ).loc main_arg4)
def R (c : Dev nD) : FVec Ideal S2048x1024 .f32 := m ((c : Thread nD τ).loc main_arg5)

/-- A grid point's row, in the whole. -/
def at_ (t : Fin cfg0.N) (r : Fin 256) : Fin 2048 := ⟨t.val * 256 + r.val, by have := lt_of_lt_of_eq t.isLt N_0; omega⟩

/-- The blocks of a grid point. -/
theorem blk0 (c : Dev nD) (t : Fin cfg0.N) : iblk m c 0 t = (fun j => R m c (ix2 (at_ t (j 0)) (j 1)) : FVec Ideal S256x1024 .f32) := by
  funext j; idx_vars j; unfold R at_; blk_point [iblk, V, idx t]
theorem blk1 (c : Dev nD) (t : Fin cfg0.N) : iblk m c 1 t = (fun j => A m c (ix2 (at_ t (j 0)) (j 1)) : FVec Ideal S256x1024 .bf16) := by
  funext j; idx_vars j; unfold A at_; blk_point [iblk, V, idx t]
theorem blk2 (c : Dev nD) (t : Fin cfg0.N) : iblk m c 2 t = (fun j => P m c (ix2 (at_ t (j 0)) (j 1)) : FVec Ideal S256x1024 .bf16) := by
  funext j; idx_vars j; unfold P at_; blk_point [iblk, V, idx t]
theorem blk3 (c : Dev nD) (t : Fin cfg0.N) : iblk m c 3 t = (W m c : FVec Ideal S1024x1024 .bf16) := by
  funext j; idx_vars j; unfold W; blk_point [iblk, V, idx t]
theorem blk4 (c : Dev nD) (t : Fin cfg0.N) : iblk m c 4 t = (fun j => X m c (ix2 (at_ t (j 0)) (j 1)) : FVec Ideal S256x1024 .f32) := by
  funext j; idx_vars j; unfold X at_; blk_point [iblk, V, idx t]
theorem blk5 (c : Dev nD) (t : Fin cfg0.N) : iblk m c 5 t = (fun j => G m c (ix1 (j 1)) : FVec Ideal S1x1024 .f32) := by
  funext j; idx_vars j; unfold G; blk_point [iblk, V, idx t]

open Cert.PleRefIdeal.Read in
theorem point6 (c : Dev nD) (t : Fin cfg0.N) (y : S256x1024.Idx) : k0_pay6 (F := Ideal) (iblk m c 0 t) (iblk m c 1 t) (iblk m c 2 t) y
    = val_main_v52 (F := Ideal) (A m c) (P m c) (R m c) (((cfg0.win 6).blk t).view.emb y) := by
  rw [blk0, blk1, blk2]
  idx_vars y
  refine (Rows.pay6 _ _ _ y0 y1).trans ?_
  exact (Cert.PleRefIdeal.Rows.v52 (A m c) (P m c) (R m c) (at_ t y0) y1).symm.trans
    (congrArg _ (show ix2 (at_ t y0) y1 = _ by unfold at_; blk_ext [idx t]))

open Cert.PleRefIdeal.Read in
theorem point7 (c : Dev nD) (t : Fin cfg0.N) (y : S256x1024.Idx) : k0_pay5 (F := Ideal) (iblk m c 0 t) (iblk m c 1 t) y
    = val_main_v53 (F := Ideal) (A m c) (R m c) (((cfg0.win 7).blk t).view.emb y) := by
  rw [blk0, blk1]
  idx_vars y
  refine (Rows.pay5 _ _ y0 y1).trans ?_
  exact (Cert.PleRefIdeal.Rows.v53 (A m c) (R m c) (at_ t y0) y1).symm.trans
    (congrArg _ (show ix2 (at_ t y0) y1 = _ by unfold at_; blk_ext [idx t]))

open Cert.PleRefIdeal.Read in
theorem point8 (c : Dev nD) (t : Fin cfg0.N) (y : S256x1024.Idx) :
    k0_pay1 (F := Ideal) (iblk m c 0 t) (iblk m c 4 t) (k0_pay8 (iblk m c 4 t))
        (k0_pay9 (iblk m c 0 t) (iblk m c 1 t) (iblk m c 2 t) (iblk m c 3 t) (iblk m c 5 t))
        (k0_pay10 (iblk m c 0 t) (iblk m c 1 t) (iblk m c 2 t) (iblk m c 3 t) (iblk m c 4 t) (iblk m c 5 t)) y
      = val_main_v51 (F := Ideal) (X m c) (G m c) (W m c) (A m c) (P m c) (R m c) (((cfg0.win 8).blk t).view.emb y) := by
  rw [blk0, blk1, blk2, blk3, blk4, blk5]
  idx_vars y
  refine (Rows.pay1 _ _ _ _ _ _ y0 y1).trans ?_
  exact (Cert.PleRefIdeal.Rows.v51 (X m c) (G m c) (W m c) (A m c) (P m c) (R m c) (at_ t y0) y1).symm.trans
    (congrArg _ (show ix2 (at_ t y0) y1 = _ by unfold at_; blk_ext [idx t]))

theorem final_dgp (c : Dev nD) : (dats m 0 c).arrAt 6 cfg0.N
    = Cert.PleRefIdeal.Read.val_main_v52 (F := Ideal) (A m c) (P m c) (R m c) := by
  refine (dats m 0 c).arrAt_eq_of_covers 6 _ (by decide +kernel) fun t hf y => ?_
  have hN : t.val < 8 := lt_of_lt_of_eq t.isLt N_0
  blk_simp
  rw [after0_6]
  by_cases h0 : t.val % 8 = 0
  · rw [outsAt0_A m c t h0 (by omega)]
    frame_out
    exact point6 m c t y
  · rw [outsAt0_B m c t h0 (by omega)]
    frame_out
    exact point6 m c t y

theorem final_dpp (c : Dev nD) : (dats m 0 c).arrAt 7 cfg0.N
    = Cert.PleRefIdeal.Read.val_main_v53 (F := Ideal) (A m c) (R m c) := by
  refine (dats m 0 c).arrAt_eq_of_covers 7 _ (by decide +kernel) fun t hf y => ?_
  have hN : t.val < 8 := lt_of_lt_of_eq t.isLt N_0
  blk_simp
  rw [after0_7]
  by_cases h0 : t.val % 8 = 0
  · rw [outsAt0_A m c t h0 (by omega)]
    frame_out
    exact point7 m c t y
  · rw [outsAt0_B m c t h0 (by omega)]
    frame_out
    exact point7 m c t y

theorem final_dh (c : Dev nD) : (dats m 0 c).arrAt 8 cfg0.N
    = Cert.PleRefIdeal.Read.val_main_v51 (F := Ideal) (X m c) (G m c) (W m c) (A m c) (P m c) (R m c) := by
  refine (dats m 0 c).arrAt_eq_of_covers 8 _ (by decide +kernel) fun t hf y => ?_
  have hN : t.val < 8 := lt_of_lt_of_eq t.isLt N_0
  blk_simp
  rw [after0_8]
  by_cases h0 : t.val % 8 = 0
  · rw [outsAt0_A m c t h0 (by omega)]
    frame_out
    exact point8 m c t y
  · rw [outsAt0_B m c t h0 (by omega)]
    frame_out
    exact point8 m c t y

/-- A grid point's row of the sum that is `g`'s gradient. -/
theorem share (c : Dev nD) (t : Fin cfg0.N) (r : Fin 256) (k : Fin 1024) :
    Rows.dyn (iblk m c 0 t) (iblk m c 1 t) (iblk m c 2 t) (iblk m c 3 t) r k
        * (Rows.x (iblk m c 4 t) r k * Cert.Norm.rinv ((1024 : ℝ) : EReal) Cert.Consts.eps (Rows.x (iblk m c 4 t) r))
      = Cert.PleRefIdeal.Rows.dyn (W m c) (A m c) (P m c) (R m c) (at_ t r) k * (Cert.PleRefIdeal.Rows.x (X m c) (at_ t r) k
        * Cert.Norm.rinv ((1024 : ℝ) : EReal) Cert.Consts.eps (Cert.PleRefIdeal.Rows.x (X m c) (at_ t r))) := by
  rw [blk0, blk1, blk2, blk3, blk4]
  rfl

theorem final_dg (c : Dev nD) : (dats m 0 c).arrAt 9 cfg0.N
    = Cert.PleRefIdeal.Read.val_main_v54 (F := Ideal) (X m c) (W m c) (A m c) (P m c) (R m c) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by rw [outsAt0_A m c t h (by have := lt_of_lt_of_eq t.isLt N_0; omega)]; frame_out; rw [Rows.pay2])
    (fun t h j => by rw [outsAt0_B m c t h (by have := lt_of_lt_of_eq t.isLt N_0; omega)]; frame_out; rw [Rows.pay3])
    (le_of_eq N_0) t0_7 rfl j, zero_add]
  idx_vars j
  rw [Cert.PleRefIdeal.Rows.v54]
  exact Fin.sum_mul_add_congr (S := 8) fun t r hl => share m c t r j1

end Cert.PleIdeal.Value

namespace Cert.Proof

theorem quiescent_PleRefIdeal : quiescent_PleRefIdeal := fun m ρ _ =>
  (θ_run Cert.PleRefIdeal.defs _ _).mono (fun r h => ⟨fun c => (h c).2.2.2.2, sem_eq_zero_of_no_sems (by decide) r.2⟩)
    (Cert.PleRefIdeal.Value.run (F := Ideal) m ρ)

/-- The per-layer embedding's gate: the kernel's four results are the reference's over the reals. -/
theorem algebraic_PleIdeal_PleRefIdeal : algebraic_PleIdeal_PleRefIdeal := by
  pair_intro
  · run_from Cert.PleIdeal.Gen.run_main m g
  · run_from Cert.PleRefIdeal.Value.run m' g'
    · exact (Cert.PleIdeal.Value.final_dgp m c).symm
    · exact (Cert.PleIdeal.Value.final_dpp m c).symm
    · obtain ⟨h0, h1, h2, h3, h4, h5⟩ := hagree c
      rw [Cert.PleRefIdeal.Read.val_main_v51_eq, h0, h1, h2, h3, h4, h5]
      exact (Cert.PleIdeal.Value.final_dh m c).symm
    · exact (Cert.PleIdeal.Value.final_dg m c).symm

end Cert.Proof

end
-- ==== Proof.Gelu.lean ====
/- Extended reals that are real numbers, and the Gaussian unit `x Φ(x)` over them: its two spellings, and its derivative's. -/
module

public import proofs.«01_k».proof.Proof.Consts

@[expose] public section

noncomputable section

open Idealize.ShloMosaic

namespace Cert.Real

/-- An extended real that is a real number. -/
def IsReal (x : EReal) : Prop := ∃ r : ℝ, x = r

theorem isReal (r : ℝ) : IsReal (r : EReal) := ⟨r, rfl⟩
theorem isReal_zero : IsReal 0 := ⟨0, rfl⟩
theorem isReal_one : IsReal 1 := ⟨1, rfl⟩

theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩
theorem IsReal.neg {x : EReal} : IsReal x → IsReal (-x) := fun ⟨a, ha⟩ => ⟨-a, by rw [ha, EReal.coe_neg]⟩
theorem IsReal.exp {x : EReal} : IsReal x → IsReal (Ideal.exp x) := fun ⟨a, ha⟩ => ⟨Real.exp a, by rw [ha]; rfl⟩
theorem IsReal.erf {x : EReal} : IsReal x → IsReal (Ideal.erf x) := fun ⟨a, ha⟩ => ⟨_, by rw [ha]; exact Ideal.erf_coe a⟩

theorem IsReal.sum {ι : Type*} (s : Finset ι) {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A division by a positive real. -/
theorem IsReal.div {x : EReal} {c : ℝ} (hc : 0 < c) (h : IsReal x) : IsReal (Ideal.div x c) := by
  rw [Ideal.div_coe hc.ne']
  exact h.mul (isReal _)

theorem IsReal.ite {p : Prop} [Decidable p] {x y : EReal} (hx : IsReal x) (hy : IsReal y) : IsReal (if p then x else y) := by
  split_ifs
  exacts [hx, hy]

/-- What rounding leaves of a value is nothing. -/
theorem IsReal.sub_self {x : EReal} : IsReal x → x - x = 0 := fun ⟨a, ha⟩ => by rw [ha, ← EReal.coe_sub, _root_.sub_self]; rfl

end Cert.Real

namespace Cert.Gelu

open Cert.Real Cert.Consts

/-- `√½`, the slope of `erfc` at 0 as the reference's word holds it (`-2/√π`), and the factor the two make
(`1/√(2π)`, but for the rounding of that word). -/
def rootHalf : EReal := ((Real.sqrt (1 / 2) : ℝ) : EReal)
def gauss : EReal := (((9465531 / 16777216) * Real.sqrt (1 / 2) : ℝ) : EReal)
def erfcSlope : EReal := ((-(9465531 / 8388608) : ℝ) : EReal)

theorem erfcSlope_eq : Ideal.ofBits .f32 0xBF906EBB#32 = erfcSlope := by
  simp [erfcSlope, Ideal.ofBits, Ideal.ieee, -EReal.coe_mul, -EReal.coe_neg]; norm_num

theorem rootHalf_eq : Ideal.sqrt (Ideal.ofBits .f32 0x3F000000#32) = rootHalf := by
  rw [ofBits_half, Ideal.sqrt_coe, if_neg (by norm_num)]
  rfl

def half : EReal := ((1 / 2 : ℝ) : EReal)
def negHalf : EReal := ((-(1 / 2) : ℝ) : EReal)

/-- The unit, and its derivative. -/
def gelu (x : EReal) : EReal := half * x * (1 + Ideal.erf (x * rootHalf))
def grad (x : EReal) : EReal := half * (1 + Ideal.erf (x * rootHalf)) + x * Ideal.exp (negHalf * x * x) * gauss

theorem isReal_gelu {x : EReal} (h : IsReal x) : IsReal (gelu x) :=
  ((isReal _).mul h).mul (isReal_one.add (h.mul (isReal _)).erf)

/-- The unit by the complementary error function. -/
theorem gelu_eq (x : EReal) : half * x * Ideal.erfc (-x * rootHalf) = gelu x := by
  rw [EReal.neg_mul, Ideal.erfc_neg]
  rfl

/-- The derivative applied to a real `t`, as the reference's chain of products spells it. -/
theorem grad_eq {x t : EReal} (hx : IsReal x) (ht : IsReal t) :
    -(erfcSlope * (half * x * t) * Ideal.exp (-((-x * rootHalf) * (-x * rootHalf))) * rootHalf) + half * (t * Ideal.erfc (-x * rootHalf))
      = t * grad x := by
  have hw := (hx.mul (isReal (Real.sqrt (1 / 2)))).erf
  obtain ⟨x, rfl⟩ := hx
  obtain ⟨t, rfl⟩ := ht
  obtain ⟨e, he⟩ := hw
  have hs : Real.sqrt (1 / 2) * Real.sqrt (1 / 2) = 1 / 2 := Real.mul_self_sqrt (by norm_num)
  have hexp : -(-x * Real.sqrt (1 / 2) * (-x * Real.sqrt (1 / 2))) = -(1 / 2) * x * x := by linear_combination (-x * x) * hs
  have h1 : (-(x : EReal) * rootHalf) * (-(x : EReal) * rootHalf) = ((-x * Real.sqrt (1 / 2) * (-x * Real.sqrt (1 / 2)) : ℝ) : EReal) := by
    unfold rootHalf; push_cast; rfl
  have h2 : negHalf * (x : EReal) * x = ((-(1 / 2) * x * x : ℝ) : EReal) := by
    unfold negHalf; push_cast; rfl
  rw [h1, ← EReal.coe_neg, hexp, EReal.neg_mul (x : EReal) rootHalf, Ideal.erfc_neg]
  unfold grad
  rw [h2, Ideal.exp_coe]
  unfold rootHalf at *
  rw [he]
  unfold erfcSlope half gauss
  norm_cast
  ring

end Cert.Gelu

end
-- ==== Proof.SguRows.lean ====
/- The spatial gate's gradient: what each value of the kernel's body is at an index. -/
module

public import proofs.«01_k».proof.Proof.Gen.SguIdeal.Skeleton
public import proofs.«01_k».proof.Proof.Norm
public import proofs.«01_k».proof.Proof.Gelu
public import Idealize.ShloMosaic.Lib.Pointwise

@[expose] public section

set_option maxRecDepth 16384

noncomputable section

open Idealize.ShloMosaic

namespace Cert.SguIdeal.Rows

open Cert.SguIdeal Cert.SguIdeal.Gen Cert.Consts Cert.Norm Cert.Real Cert.Gelu

/-- The head of a column. -/
theorem head (i : Fin 128) (k : Fin 256) : k0_pay24 (ix2 i k) = BitVec.ofNat 32 (k.val / 64) := by
  pointwise [k0_pay24]
  revert k
  decide +kernel

theorem eq_word {a b : ℕ} (ha : a < 4) (hb : b < 4) :
    IntOp.cmpi CmpIPredicate.eq (BitVec.ofNat 32 a) (BitVec.ofNat 32 b) = if a = b then 1#1 else 0#1 := by
  have : ∀ a b : Fin 4, IntOp.cmpi CmpIPredicate.eq (BitVec.ofNat 32 a.val) (BitVec.ofNat 32 b.val) = if a.val = b.val then 1#1 else 0#1 := by
    decide +kernel
  exact this ⟨a, ha⟩ ⟨b, hb⟩

theorem sel_head {g : ℕ} (hg : g < 4) (k : Fin 256) (a b : EReal) :
    Scalar.select (IntOp.cmpi CmpIPredicate.eq (BitVec.ofNat 32 (k.val / 64)) (BitVec.ofNat 32 g)) a b = if k.val / 64 = g then a else b := by
  rw [eq_word (by omega) (by omega)]
  by_cases h : k.val / 64 = g
  · rw [if_pos h, if_pos h]; rfl
  · rw [if_neg h, if_neg h]; rfl

theorem tri (i k : Fin 128) : k0_pay25 (ix2 i k) = if k ≤ i then 1#1 else 0#1 := by
  pointwise [k0_pay25]
  revert i k
  decide +kernel

theorem sel_tri (i k : Fin 128) (a b : EReal) : Scalar.select (k0_pay25 (ix2 i k)) a b = if k ≤ i then a else b := by
  rw [tri]
  by_cases h : k ≤ i
  · rw [if_pos h, if_pos h]; rfl
  · rw [if_neg h, if_neg h]; rfl

theorem sel_words (k : Fin 256) (a b : EReal) :
    Scalar.select (IntOp.cmpi CmpIPredicate.eq (BitVec.ofNat 32 (k.val / 64)) 0#32) a b = (if k.val / 64 = 0 then a else b)
    ∧ Scalar.select (IntOp.cmpi CmpIPredicate.eq (BitVec.ofNat 32 (k.val / 64)) 1#32) a b = (if k.val / 64 = 1 then a else b)
    ∧ Scalar.select (IntOp.cmpi CmpIPredicate.eq (BitVec.ofNat 32 (k.val / 64)) 2#32) a b = (if k.val / 64 = 2 then a else b)
    ∧ Scalar.select (IntOp.cmpi CmpIPredicate.eq (BitVec.ofNat 32 (k.val / 64)) 3#32) a b = if k.val / 64 = 3 then a else b :=
  ⟨sel_head (g := 0) (by decide) k a b, sel_head (g := 1) (by decide) k a b, sel_head (g := 2) (by decide) k a b, sel_head (g := 3) (by decide) k a b⟩

/-- Row `i` of the chunk that begins at row `o` of a block. -/
def row (o : ℕ) (ho : o ≤ 384) (i : Fin 128) : Fin 512 := ⟨o + i.val, by omega⟩

/-- The head's own value of four. -/
def pick (a0 a1 a2 a3 : EReal) (h : ℕ) : EReal := if h = 0 then a0 else if h = 1 then a1 else if h = 2 then a2 else a3

/-- Of four values added up, each where its own head is, the head's own stays. -/
theorem pick_add (c a0 a1 a2 a3 : EReal) {h : ℕ} (hh : h < 4) :
    c + (if h = 0 then a0 else 0) + (if h = 1 then a1 else 0) + (if h = 2 then a2 else 0) + (if h = 3 then a3 else 0) = c + pick a0 a1 a2 a3 h := by
  interval_cases h <;> simp [pick]

theorem pick_sum {ι : Type} (s : Finset ι) (a0 a1 a2 a3 : ι → EReal) (h : ℕ) :
    pick (∑ x ∈ s, a0 x) (∑ x ∈ s, a1 x) (∑ x ∈ s, a2 x) (∑ x ∈ s, a3 x) h = ∑ x ∈ s, pick (a0 x) (a1 x) (a2 x) (a3 x) h := by
  unfold pick
  split_ifs <;> rfl

theorem pick_tri (p : Prop) [Decidable p] (a0 a1 a2 a3 v : EReal) (h : ℕ) :
    pick (if p then a0 * v else 0) (if p then a1 * v else 0) (if p then a2 * v else 0) (if p then a3 * v else 0) h
      = if p then pick a0 a1 a2 a3 h * v else 0 := by
  unfold pick
  split_ifs <;> rfl

variable (P D U : FVec Ideal S512x256 .f32) (V : FVec Ideal S512x256 .bf16) (b : FVec Ideal S128x256 .f32)
  (w0 w1 w2 w3 : FVec Ideal S1x128x128 .f32)

/-- The weight that the column's head gives the pair of positions `(t, s)` of a chunk. -/
def wt (t s : Fin 128) (k : Fin 256) : EReal := pick (w0 (ix3 0 t s)) (w1 (ix3 0 t s)) (w2 (ix3 0 t s)) (w3 (ix3 0 t s)) (k.val / 64)

/-- The gate of a chunk, and the gradient that goes back through the mixing. -/
def mix (o : ℕ) (ho : o ≤ 384) (i : Fin 128) (k : Fin 256) : EReal :=
  b (ix2 i k) + ∑ s : Fin 128, if s ≤ i then wt w0 w1 w2 w3 i s k * V (ix2 (row o ho s) k) else 0
def dsv (r : Fin 512) (k : Fin 256) : EReal := D (ix2 r k) * P (ix2 r k)
def back (o : ℕ) (ho : o ≤ 384) (i : Fin 128) (k : Fin 256) : EReal :=
  ∑ t : Fin 128, if i ≤ t then wt w0 w1 w2 w3 t i k * dsv P D (row o ho t) k else 0

theorem mix_eq (o : ℕ) (ho : o ≤ 384) (i : Fin 128) (k : Fin 256) :
    mix V b w0 w1 w2 w3 o ho i k = b (ix2 i k)
      + Scalar.select (IntOp.cmpi CmpIPredicate.eq (BitVec.ofNat 32 (k.val / 64)) 0#32)
          (∑ x, Scalar.select (k0_pay25 (ix2 i x)) (w0 (ix3 0 i x) * V (ix2 (row o ho x) k)) 0) 0
      + Scalar.select (IntOp.cmpi CmpIPredicate.eq (BitVec.ofNat 32 (k.val / 64)) 1#32)
          (∑ x, Scalar.select (k0_pay25 (ix2 i x)) (w1 (ix3 0 i x) * V (ix2 (row o ho x) k)) 0) 0
      + Scalar.select (IntOp.cmpi CmpIPredicate.eq (BitVec.ofNat 32 (k.val / 64)) 2#32)
          (∑ x, Scalar.select (k0_pay25 (ix2 i x)) (w2 (ix3 0 i x) * V (ix2 (row o ho x) k)) 0) 0
      + Scalar.select (IntOp.cmpi CmpIPredicate.eq (BitVec.ofNat 32 (k.val / 64)) 3#32)
          (∑ x, Scalar.select (k0_pay25 (ix2 i x)) (w3 (ix3 0 i x) * V (ix2 (row o ho x) k)) 0) 0 := by
  simp only [sel_tri, sel_words, mix]
  rw [pick_add _ _ _ _ _ (by omega), pick_sum]
  simp only [pick_tri, wt]

theorem back_eq (o : ℕ) (ho : o ≤ 384) (i : Fin 128) (k : Fin 256) :
    back P D w0 w1 w2 w3 o ho i k =
      (∑ x, Scalar.select (IntOp.cmpi CmpIPredicate.eq (BitVec.ofNat 32 (k.val / 64)) 0#32)
        (Scalar.select (k0_pay25 (ix2 x i)) (w0 (ix3 0 x i) * dsv P D (row o ho x) k) 0) 0)
      + (∑ x, Scalar.select (IntOp.cmpi CmpIPredicate.eq (BitVec.ofNat 32 (k.val / 64)) 1#32)
        (Scalar.select (k0_pay25 (ix2 x i)) (w1 (ix3 0 x i) * dsv P D (row o ho x) k) 0) 0)
      + (∑ x, Scalar.select (IntOp.cmpi CmpIPredicate.eq (BitVec.ofNat 32 (k.val / 64)) 2#32)
        (Scalar.select (k0_pay25 (ix2 x i)) (w2 (ix3 0 x i) * dsv P D (row o ho x) k) 0) 0)
      + (∑ x, Scalar.select (IntOp.cmpi CmpIPredicate.eq (BitVec.ofNat 32 (k.val / 64)) 3#32)
        (Scalar.select (k0_pay25 (ix2 x i)) (w3 (ix3 0 x i) * dsv P D (row o ho x) k) 0) 0) := by
  simp only [sel_tri, sel_words, back, ← Finset.sum_add_distrib]
  refine Finset.sum_congr rfl fun x _ => ?_
  have := pick_add 0 (if i ≤ x then w0 (ix3 0 x i) * dsv P D (row o ho x) k else 0) (if i ≤ x then w1 (ix3 0 x i) * dsv P D (row o ho x) k else 0)
    (if i ≤ x then w2 (ix3 0 x i) * dsv P D (row o ho x) k else 0) (if i ≤ x then w3 (ix3 0 x i) * dsv P D (row o ho x) k else 0)
    (h := k.val / 64) (by omega)
  rw [zero_add, zero_add, pick_tri] at this
  exact this.symm

/-- The product of the gate by the incoming gradient, chunk by chunk. -/
theorem sv0 (i : Fin 128) (k : Fin 256) :
    k0_pay38 (F := Ideal) k0_pay24 k0_pay25 D (k0_pay36 V) (k0_pay37 k0_pay24 k0_pay25 V b w0) w1 w2 w3 (ix2 i k)
      = D (ix2 (row 0 (by decide) i) k) * mix V b w0 w1 w2 w3 0 (by decide) i k := by
  rw [mix_eq]
  pointwise [k0_pay38, k0_pay37, k0_pay36, head]
  simp only [row, zero_add]

theorem sv3 (i : Fin 128) (k : Fin 256) :
    k0_pay97 (F := Ideal) k0_pay24 k0_pay25 D (k0_pay95 V) (k0_pay96 k0_pay24 k0_pay25 V b w0) w1 w2 w3 (ix2 i k)
      = D (ix2 (row 384 (by decide) i) k) * mix V b w0 w1 w2 w3 384 (by decide) i k := by
  rw [mix_eq]
  pointwise [k0_pay97, k0_pay96, k0_pay95, head]
  rfl

/-- The gradient of the normed values, chunk by chunk. -/
theorem dvv0 (i : Fin 128) (k : Fin 256) :
    k0_pay56 (F := Ideal) (k0_pay51 k0_pay24 k0_pay25 (k0_pay43 P D) (k0_pay46 P k0_pay24 k0_pay25 D w0) (1#32) w1 w2)
      (k0_pay53 k0_pay24 (k0_pay43 P D)) (k0_pay54 k0_pay25 w3) (ix2 i k) = back P D w0 w1 w2 w3 0 (by decide) i k := by
  rw [back_eq]
  pointwise [k0_pay56, k0_pay51, k0_pay43, k0_pay46, k0_pay45, k0_pay48, k0_pay50, k0_pay53, k0_pay54, head]
  simp only [row, zero_add, dsv]

theorem dvv1 (i : Fin 128) (k : Fin 256) :
    k0_pay73 (F := Ideal) k0_pay24 k0_pay25 (k0_pay61 P D) (k0_pay66 P k0_pay24 k0_pay25 D w0 w1) w2 w3 (ix2 i k)
      = back P D w0 w1 w2 w3 128 (by decide) i k := by
  rw [back_eq]
  pointwise [k0_pay73, k0_pay61, k0_pay63, k0_pay65, k0_pay66, k0_pay69, k0_pay71, head]
  rfl

theorem dvv2 (i : Fin 128) (k : Fin 256) :
    k0_pay94 (F := Ideal) k0_pay24 k0_pay25 (k0_pay80 P D)
      (k0_pay87 k0_pay24 k0_pay25 (k0_pay80 P D) k0_pay82 (k0_pay83 k0_pay24) (FloatOps.ofBits FTy.f32 0#32) w0 w1)
      (k0_pay90 k0_pay24 k0_pay25 (k0_pay80 P D) w2) w3 (ix2 i k)
      = back P D w0 w1 w2 w3 256 (by decide) i k := by
  rw [back_eq]
  pointwise [k0_pay94, k0_pay80, k0_pay82, k0_pay83, k0_pay84, k0_pay86, k0_pay87, k0_pay89, k0_pay90, k0_pay92, head]
  rfl

theorem dvv3 (i : Fin 128) (k : Fin 256) :
    k0_pay115 (F := Ideal) (k0_pay110 k0_pay24 k0_pay25 (k0_pay102 P D) (k0_pay105 P k0_pay24 k0_pay25 D w0) (1#32) w1 w2)
      (k0_pay112 k0_pay24 (k0_pay102 P D)) (k0_pay113 k0_pay25 w3) (ix2 i k) = back P D w0 w1 w2 w3 384 (by decide) i k := by
  rw [back_eq]
  pointwise [k0_pay115, k0_pay110, k0_pay102, k0_pay105, k0_pay104, k0_pay107, k0_pay109, k0_pay112, k0_pay113, head]
  rfl

theorem root_half : (Named.named (F := Ideal) κ "root_half" (φ := .f32) 0x3F3504F3#32) = rootHalf :=
  IdealRules.named_const.ideal_named_scalar _ _ _ _ rfl

theorem gauss_eq : (Named.named (F := Ideal) κ "gauss" (φ := .f32) 0x3ECC422A#32) = gauss :=
  IdealRules.named_const.ideal_named_scalar _ _ _ _ rfl

theorem unit (r : Fin 512) (k : Fin 256) : k0_pay20 (F := Ideal) U (ix2 r k) = gelu (U (ix2 r k)) := by
  pointwise [k0_pay20, root_half, gelu]
  rw [ofBits_half]
  rfl

theorem unit' (r : Fin 512) (k : Fin 256) : k0_pay21 (F := Ideal) U (ix2 r k) = gelu (U (ix2 r k)) := by
  pointwise [k0_pay21, root_half, gelu]
  rw [ofBits_half]
  rfl

/-- The gradient of the gate's first operand, chunk by chunk. -/
theorem du0 (i : Fin 128) (k : Fin 256) :
    k0_pay42 (F := Ideal) (k0_pay38 k0_pay24 k0_pay25 D (k0_pay36 V) (k0_pay37 k0_pay24 k0_pay25 V b w0) w1 w2 w3) (k0_pay39 U) (k0_pay40 U) k0_pay41 (ix2 i k)
      = D (ix2 (row 0 (by decide) i) k) * mix V b w0 w1 w2 w3 0 (by decide) i k * grad (U (ix2 (row 0 (by decide) i) k)) := by
  pointwise [k0_pay42, k0_pay41, k0_pay40, k0_pay39, sv0, root_half, gauss_eq, grad]
  rw [ofBits_half, ofBits_neg_half]
  simp only [row, zero_add]
  rfl

theorem du3 (i : Fin 128) (k : Fin 256) :
    k0_pay101 (F := Ideal) (k0_pay97 k0_pay24 k0_pay25 D (k0_pay95 V) (k0_pay96 k0_pay24 k0_pay25 V b w0) w1 w2 w3) (k0_pay98 U) (k0_pay99 U) k0_pay100 (ix2 i k)
      = D (ix2 (row 384 (by decide) i) k) * mix V b w0 w1 w2 w3 384 (by decide) i k * grad (U (ix2 (row 384 (by decide) i) k)) := by
  pointwise [k0_pay101, k0_pay100, k0_pay99, k0_pay98, sv3, root_half, gauss_eq, grad]
  rw [ofBits_half, ofBits_neg_half]
  rfl

theorem du1 (i : Fin 128) (k : Fin 256) :
    k0_pay60 (F := Ideal) U k0_pay24 k0_pay25 D (k0_pay57 V) (k0_pay58 k0_pay24 k0_pay25 V b w0 w1) (k0_pay59 w2) w3 (ix2 i k)
      = D (ix2 (row 128 (by decide) i) k) * mix V b w0 w1 w2 w3 128 (by decide) i k * grad (U (ix2 (row 128 (by decide) i) k)) := by
  rw [mix_eq]
  pointwise [k0_pay60, k0_pay57, k0_pay58, k0_pay59, head, root_half, gauss_eq, grad]
  rw [ofBits_half, ofBits_neg_half]
  rfl

theorem du2 (i : Fin 128) (k : Fin 256) :
    k0_pay79 (F := Ideal) U k0_pay24 k0_pay25 D (k0_pay74 V) (k0_pay76 k0_pay24 k0_pay25 (k0_pay74 V) (k0_pay75 b) w0 w1 w2) (k0_pay77 w3) k0_pay78 (ix2 i k)
      = D (ix2 (row 256 (by decide) i) k) * mix V b w0 w1 w2 w3 256 (by decide) i k * grad (U (ix2 (row 256 (by decide) i) k)) := by
  rw [mix_eq]
  pointwise [k0_pay79, k0_pay74, k0_pay75, k0_pay76, k0_pay77, k0_pay78, head, root_half, gauss_eq, grad]
  rw [ofBits_half, ofBits_neg_half]
  rfl

/-- What a chunk adds to the gradient of head `g`'s weight, and what a block adds. -/
def wpart (g : ℕ) (o : ℕ) (ho : o ≤ 384) (t s : Fin 128) : EReal :=
  ∑ k : Fin 256, if k.val / 64 = g then dsv P D (row o ho t) k * V (ix2 (row o ho s) k) else 0
def wblock (g : ℕ) (t s : Fin 128) : EReal :=
  if s ≤ t then wpart P D V g 0 (by decide) t s + wpart P D V g 128 (by decide) t s + wpart P D V g 256 (by decide) t s
    + wpart P D V g 384 (by decide) t s else 0

theorem dw0 (i : Fin 1) (t s : Fin 128) :
    k0_pay3 (F := Ideal) k0_pay25 (k0_pay106 P k0_pay24 V D (k0_pay85 V (k0_pay64 P k0_pay24 V D (k0_pay47 P k0_pay24 V D k0_pay31)) (k0_pay80 P D) (k0_pay83 k0_pay24)
      (FloatOps.ofBits FTy.f32 0#32))) (ix3 i t s) = wblock P D V 0 t s := by
  pointwise [k0_pay3, k0_pay106, k0_pay104, k0_pay102, k0_pay85, k0_pay84, k0_pay80, k0_pay83, k0_pay64, k0_pay63, k0_pay61, k0_pay47, k0_pay45, k0_pay43, k0_pay31, head]
  simp only [sel_tri, sel_words, wblock, wpart, row, zero_add]
  rfl

theorem dw1 (i : Fin 1) (t s : Fin 128) :
    k0_pay4 (F := Ideal) k0_pay25 (k0_pay108 k0_pay24 V (k0_pay88 k0_pay24 V (k0_pay68 (k0_pay49 k0_pay24 V k0_pay32 (k0_pay43 P D) 1#32) (k0_pay65 P k0_pay24 D) (k0_pay67 V)
      (constant S128x128 FTy.f32 0#32)) (k0_pay80 P D)) (k0_pay102 P D) 1#32) (ix3 i t s) = wblock P D V 1 t s := by
  pointwise [k0_pay4, k0_pay108, k0_pay107, k0_pay88, k0_pay86, k0_pay68, k0_pay49, k0_pay48, k0_pay65, k0_pay67, k0_pay32, k0_pay43, k0_pay61, k0_pay80, k0_pay102, head]
  simp only [sel_tri, sel_words, wblock, wpart, row, zero_add]
  rfl

theorem dw2 (i : Fin 1) (t s : Fin 128) :
    k0_pay5 (F := Ideal) k0_pay25 (k0_pay111 k0_pay24 V (k0_pay91 V (k0_pay70 k0_pay24 V (k0_pay52 k0_pay24 V k0_pay33 (k0_pay43 P D)) (k0_pay61 P D)) (k0_pay89 k0_pay24 (k0_pay80 P D)))
      (k0_pay102 P D)) (ix3 i t s) = wblock P D V 2 t s := by
  pointwise [k0_pay5, k0_pay111, k0_pay109, k0_pay91, k0_pay89, k0_pay70, k0_pay69, k0_pay52, k0_pay50, k0_pay33, k0_pay43, k0_pay61, k0_pay80, k0_pay102, head]
  simp only [sel_tri, sel_words, wblock, wpart, row, zero_add]
  rfl

theorem dw3 (i : Fin 1) (t s : Fin 128) :
    k0_pay6 (F := Ideal) k0_pay25 (k0_pay114 V (k0_pay93 k0_pay24 V (k0_pay72 k0_pay24 V (k0_pay55 V k0_pay34 (k0_pay53 k0_pay24 (k0_pay43 P D))) (k0_pay61 P D)) (k0_pay80 P D))
      (k0_pay112 k0_pay24 (k0_pay102 P D))) (ix3 i t s) = wblock P D V 3 t s := by
  pointwise [k0_pay6, k0_pay114, k0_pay112, k0_pay93, k0_pay92, k0_pay72, k0_pay71, k0_pay55, k0_pay53, k0_pay34, k0_pay43, k0_pay61, k0_pay80, k0_pay102, head]
  simp only [sel_tri, sel_words, wblock, wpart, row, zero_add]
  rfl

/-- The columns of a head, as a matrix of zeros and ones: a word's floor division by 64, and the comparison of two heads as a number. -/
def floor64 (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32) (IntOp.divsi ArithUnit.vector w 64#32)

theorem floor64_eq (k : Fin 256) : floor64 (BitVec.ofNat 32 k.val) = BitVec.ofNat 32 (k.val / 64) := by
  revert k
  decide +kernel

theorem bit (a : Fin 4) (b : Fin 128) :
    FloatOps.sitofp (F := Ideal) FTy.f32 (BitVec.setWidth 32 (IntOp.cmpi CmpIPredicate.eq (BitVec.ofNat 32 a.val) (BitVec.ofNat 32 b.val)))
      = (if a.val = b.val then 1 else 0 : EReal) := by
  have h : ∀ (a : Fin 4) (b : Fin 128), IntOp.cmpi CmpIPredicate.eq (BitVec.ofNat 32 a.val) (BitVec.ofNat 32 b.val)
      = if a.val = b.val then 1#1 else 0#1 := by decide +kernel
  rw [h]
  by_cases e : a.val = b.val
  · rw [if_pos e, if_pos e]
    show (((BitVec.setWidth 32 1#1).toInt : ℝ) : EReal) = 1
    rw [show (BitVec.setWidth 32 1#1).toInt = 1 from by decide]
    norm_num
  · rw [if_neg e, if_neg e]
    show (((BitVec.setWidth 32 0#1).toInt : ℝ) : EReal) = 0
    rw [show (BitVec.setWidth 32 0#1).toInt = 0 from by decide]
    norm_num

theorem ind (x : Fin 256) (l : Fin 128) :
    k0_pay30 (F := Ideal) (iota Kind.tc S256x128 32 [0] iota_S256x128_d0_w32) (64#32) k0_pay28 k0_pay29 (ix2 x l)
      = if x.val / 64 = l.val then 1 else 0 := by
  pointwise [k0_pay30, k0_pay28, k0_pay29]
  change FloatOps.sitofp (F := Ideal) FTy.f32 (BitVec.setWidth 32 (IntOp.cmpi CmpIPredicate.eq (floor64 (BitVec.ofNat 32 x.val)) (BitVec.ofNat 32 l.val))) = _
  rw [floor64_eq]
  exact bit ⟨x.val / 64, by omega⟩ l

/-- The matrix of the head means of the norm. -/
abbrev hm : FVec Ideal S256x256 .bf16 :=
  k0_pay19 (F := Ideal) k0_pay16 (iota .tc S256x256 32 [1] iota_S256x256_d1_w32) 64#32 k0_pay17 k0_pay18 1#32 0#32

theorem hm_at (x k : Fin 256) : hm (ix2 x k) = if x.val / 64 = k.val / 64 then 1 else 0 := by
  pointwise [hm, k0_pay19, k0_pay16, k0_pay17, k0_pay18]
  change FloatOps.sitofp (F := Ideal) FTy.f32 (BitVec.setWidth 32 (IntOp.cmpi CmpIPredicate.eq (floor64 (BitVec.ofNat 32 x.val)) (floor64 (BitVec.ofNat 32 k.val)))) = _
  rw [floor64_eq, floor64_eq]
  exact bit ⟨x.val / 64, by omega⟩ ⟨k.val / 64, by omega⟩

/-- A sum over the columns of head `h`. -/
def col (h : Fin 4) (e : Fin 64) : Fin 256 := ⟨e.val + 64 * h.val, by omega⟩

theorem sum_head (f : Fin 256 → EReal) (h : Fin 4) : (∑ x : Fin 256, if x.val / 64 = h.val then f x else 0) = ∑ e : Fin 64, f (col h e) := by
  rw [← Finset.sum_filter]
  refine (Finset.sum_bij (fun e _ => col h e) (fun e _ => ?_) (fun a _ b _ hab => ?_) (fun x hx => ?_) (fun _ _ => rfl)).symm
  · rw [Finset.mem_filter]; exact ⟨Finset.mem_univ _, by simp only [col]; omega⟩
  · have := congrArg Fin.val hab; simp only [col] at this; exact Fin.ext (by omega)
  · have h1 := (Finset.mem_filter.1 hx).2
    exact ⟨⟨x.val % 64, by omega⟩, Finset.mem_univ _, Fin.ext (by simp only [col]; omega)⟩

theorem sum_one_hot (f : Fin 256 → EReal) (g : ℕ) : (∑ x : Fin 256, f x * if x.val / 64 = g then 1 else 0) = ∑ x : Fin 256, if x.val / 64 = g then f x else 0 := by
  simp only [mul_ite, mul_one, mul_zero]

/-- What rounding leaves adds nothing to a product. -/
theorem sum_rest {n : ℕ} (f g : Fin n → EReal) (h : ∀ x, IsReal (f x)) : (∑ x, (f x - f x) * g x) = 0 :=
  Finset.sum_eq_zero fun x _ => by rw [(h x).sub_self, zero_mul]

/-- What a chunk adds to the gradient of the bias, and what a block adds. -/
def bpart (o : ℕ) (ho : o ≤ 384) (t l : Fin 128) : EReal := ∑ k : Fin 256, if k.val / 64 = l.val then dsv P D (row o ho t) k else 0

theorem db (hd : ∀ r k, IsReal (dsv P D r k)) (t l : Fin 128) (I : FVec Ideal S256x128 .bf16)
    (hI : I = k0_pay30 (F := Ideal) (iota Kind.tc S256x128 32 [0] iota_S256x128_d0_w32) (64#32) k0_pay28 k0_pay29) :
    k0_pay103 (F := Ideal) P D I (k0_pay81 P D I (k0_pay62 P D I (k0_pay44 P D I k0_pay35))) (ix2 t l)
      = bpart P D 0 (by decide) t l + bpart P D 128 (by decide) t l + bpart P D 256 (by decide) t l + bpart P D 384 (by decide) t l := by
  have h (r : Fin 512) : (∑ x, D (ix2 r x) * P (ix2 r x) * I (ix2 x l)) + (∑ x, (D (ix2 r x) * P (ix2 r x) - D (ix2 r x) * P (ix2 r x)) * I (ix2 x l))
      = ∑ k : Fin 256, if k.val / 64 = l.val then dsv P D r k else 0 := by
    rw [sum_rest (fun x => D (ix2 r x) * P (ix2 r x)) (fun x => I (ix2 x l)) (fun x => hd r x), add_zero, ← sum_one_hot]
    exact Finset.sum_congr rfl fun x _ => by rw [hI, ind]; rfl
  pointwise [k0_pay103, k0_pay81, k0_pay62, k0_pay44, k0_pay35, k0_pay43, k0_pay61, k0_pay80, k0_pay102]
  simp only [bpart, row, zero_add]
  exact congrArg₂ (· + ·) (congrArg₂ (· + ·) (congrArg₂ (· + ·) (h _) (h _)) (h _)) (h _)

theorem dgv (R S : FVec Ideal S512x256 .f32) (i : Fin 1) (k : Fin 256) :
    k0_pay2 (F := Ideal) P R S (ix2 i k) = ∑ r : Fin 512, S (ix2 r k) * (P (ix2 r k) * R (ix2 r k)) := by
  pointwise [k0_pay2]

variable (C : FVec Ideal S512x256 .bf16) (G : FVec Ideal S1x256 .f32)

/-- The normed operand: a row of a head, its inverse root, and the value the mixing takes. -/
def x (r : Fin 512) (h : Fin 4) (e : Fin 64) : EReal := gelu (C (ix2 r (col h e)))
def hd (k : Fin 256) : Fin 4 := ⟨k.val / 64, by omega⟩
def ri (r : Fin 512) (k : Fin 256) : EReal := rinv ((64 : ℝ) : EReal) eps (x C r (hd k))

theorem cast (r : Fin 512) (k : Fin 256) : k0_pay15 (F := Ideal) C (ix2 r k) = C (ix2 r k) := by
  pointwise [k0_pay15]

theorem inv (hC : ∀ j, IsReal (C j)) (r : Fin 512) (k : Fin 256) :
    k0_pay22 (F := Ideal) (k0_pay15 C) k0_pay16 (iota .tc S256x256 32 [1] iota_S256x256_d1_w32) 64#32 k0_pay17 k0_pay18 1#32 0#32 (ix2 r k) = ri C r k := by
  have h : (∑ x, gelu (C (ix2 r x)) * gelu (C (ix2 r x)) * hm (ix2 x k))
      + (∑ x, (gelu (C (ix2 r x)) * gelu (C (ix2 r x)) - gelu (C (ix2 r x)) * gelu (C (ix2 r x))) * hm (ix2 x k))
      = ∑ e : Fin 64, x C r (hd k) e * x C r (hd k) e := by
    rw [sum_rest _ _ (fun x => (isReal_gelu (hC _)).mul (isReal_gelu (hC _))), add_zero]
    simp only [hm_at]
    rw [sum_one_hot]
    exact sum_head _ (hd k)
  pointwise [k0_pay22, unit', cast]
  rw [ofBits_inv_64]
  exact congrArg Ideal.rsqrt (congrArg (· + eps) ((congrArg (· * _) h).trans (Ideal.div_coe (by norm_num) _).symm))

/-- The gradient of the second operand. -/
theorem dc (S R : FVec Ideal S512x256 .f32) (hs : ∀ r k, IsReal (S (ix2 r k) * G (ix2 0 k) * gelu (C (ix2 r k)))) (r : Fin 512) (k : Fin 256) :
    k0_pay1 (F := Ideal) (k0_pay116 hm (k0_pay21 (k0_pay15 C)) R S G) (k0_pay117 (k0_pay15 C)) (k0_pay118 (k0_pay15 C))
        (Named.named κ "gauss" 1053573674#32) (ix2 r k)
      = (R (ix2 r k) * (S (ix2 r k) * G (ix2 0 k)) - gelu (C (ix2 r k)) * (R (ix2 r k) * R (ix2 r k) * R (ix2 r k))
          * Ideal.div (∑ e : Fin 64, S (ix2 r (col (hd k) e)) * G (ix2 0 (col (hd k) e)) * x C r (hd k) e) ((64 : ℝ) : EReal)) * grad (C (ix2 r k)) := by
  have h : (∑ x, S (ix2 r x) * G (ix2 0 x) * gelu (C (ix2 r x)) * hm (ix2 x k))
      + (∑ x, (S (ix2 r x) * G (ix2 0 x) * gelu (C (ix2 r x)) - S (ix2 r x) * G (ix2 0 x) * gelu (C (ix2 r x))) * hm (ix2 x k))
      = ∑ e : Fin 64, S (ix2 r (col (hd k) e)) * G (ix2 0 (col (hd k) e)) * x C r (hd k) e := by
    rw [sum_rest _ _ (fun x => hs r x), add_zero]
    simp only [hm_at]
    rw [sum_one_hot]
    exact sum_head _ (hd k)
  pointwise [k0_pay1, k0_pay116, k0_pay117, k0_pay118, unit', cast, root_half, gauss_eq]
  rw [ofBits_inv_64, ofBits_half, ofBits_neg_half]
  exact congrArg₂ (· * ·) (congrArg (R (ix2 r k) * (S (ix2 r k) * G (ix2 0 k)) - gelu (C (ix2 r k)) * (R (ix2 r k) * R (ix2 r k) * R (ix2 r k)) * ·)
    ((congrArg (· * _) h).trans (Ideal.div_coe (by norm_num) _).symm)) rfl

/-- The value that the mixing takes. -/
theorem vv (hC : ∀ j, IsReal (C j)) (r : Fin 512) (k : Fin 256) :
    k0_pay26 (F := Ideal) (k0_pay23 (k0_pay15 C) k0_pay16 (iota .tc S256x256 32 [1] iota_S256x256_d1_w32) 64#32 k0_pay17 k0_pay18 1#32 0#32) G (ix2 r k)
      = gelu (C (ix2 r k)) * ri C r k * G (ix2 0 k) := by
  pointwise [k0_pay26, k0_pay23, inv C hC, unit', cast]

/-- What a later point adds to, it finds as the point before left it. -/
theorem acc0 (T : FVec Ideal S128x128 .f32) (A : FVec Ideal S1x128x128 .f32) (i : Fin 1) (t s : Fin 128) :
    k0_pay10 (F := Ideal) k0_pay25 T A (ix3 i t s) = A (ix3 0 t s) + k0_pay3 (F := Ideal) k0_pay25 T (ix3 i t s) := by
  pointwise [k0_pay10, k0_pay3]
theorem acc1 (T : FVec Ideal S128x128 .f32) (A : FVec Ideal S1x128x128 .f32) (i : Fin 1) (t s : Fin 128) :
    k0_pay11 (F := Ideal) k0_pay25 T A (ix3 i t s) = A (ix3 0 t s) + k0_pay4 (F := Ideal) k0_pay25 T (ix3 i t s) := by
  pointwise [k0_pay11, k0_pay4]
theorem acc2 (T : FVec Ideal S128x128 .f32) (A : FVec Ideal S1x128x128 .f32) (i : Fin 1) (t s : Fin 128) :
    k0_pay12 (F := Ideal) k0_pay25 T A (ix3 i t s) = A (ix3 0 t s) + k0_pay5 (F := Ideal) k0_pay25 T (ix3 i t s) := by
  pointwise [k0_pay12, k0_pay5]
theorem acc3 (T : FVec Ideal S128x128 .f32) (A : FVec Ideal S1x128x128 .f32) (i : Fin 1) (t s : Fin 128) :
    k0_pay7 (F := Ideal) (k0_pay13 k0_pay25 T A) (ix3 i t s) = A (ix3 0 t s) + k0_pay6 (F := Ideal) k0_pay25 T (ix3 i t s) := by
  pointwise [k0_pay7, k0_pay13, k0_pay6]
theorem accb (T A : FVec Ideal S128x128 .f32) (t l : Fin 128) : k0_pay8 (F := Ideal) T A (ix2 t l) = A (ix2 t l) + T (ix2 t l) := by
  pointwise [k0_pay8]
theorem accg (R S : FVec Ideal S512x256 .f32) (A : FVec Ideal S1x256 .f32) (i : Fin 1) (k : Fin 256) :
    k0_pay9 (F := Ideal) P R S A (ix2 i k) = A (ix2 i k) + k0_pay2 (F := Ideal) P R S (ix2 i k) := by
  pointwise [k0_pay9]

end Cert.SguIdeal.Rows

end
-- ==== Proof.SguRef.lean ====
/- The spatial gate's gradient by the chain rule: what each value of the reference is at an index. -/
module

public import proofs.«01_k».proof.Proof.Gen.SguRefIdeal.Read
public import proofs.«01_k».proof.Proof.Norm
public import proofs.«01_k».proof.Proof.Gelu
public import Idealize.ShloMosaic.Lib.Pointwise

@[expose] public section

set_option maxRecDepth 16384

noncomputable section

open Idealize.ShloMosaic

namespace Cert.SguRefIdeal.Rows

open Cert.SguRefIdeal Cert.SguRefIdeal.Read Cert.Consts Cert.Norm Cert.Real Cert.Gelu

variable (X : FVec Ideal S1x2048x2816 .f32) (G : FVec Ideal S256 .f32) (W : FVec Ideal S4x128x128 .f32) (B : FVec Ideal S4x128 .f32)
  (Y : FVec Ideal S1x2048x1024 .f32)

/-- The two operands, and the incoming gradient. -/
def cu (r : Fin 2048) (k : Fin 256) : EReal := X (ix3 0 r ⟨2304 + k.val, by omega⟩)
def cv (r : Fin 2048) (k : Fin 256) : EReal := X (ix3 0 r ⟨2560 + k.val, by omega⟩)
def d (r : Fin 2048) (k : Fin 256) : EReal := Y (ix3 0 r ⟨768 + k.val, by omega⟩)

/-- A row by its chunk and its place there; a column by its head and its place there. -/
def row (c : Fin 16) (t : Fin 128) : Fin 2048 := ⟨c.val * 128 + t.val, by omega⟩
def chunk (r : Fin 2048) : Fin 16 := ⟨r.val / 128, by omega⟩
def pos (r : Fin 2048) : Fin 128 := ⟨r.val % 128, by omega⟩
def cell (h : Fin 4) (e : Fin 64) : Fin 256 := ⟨h.val * 64 + e.val, by omega⟩
def hd (k : Fin 256) : Fin 4 := ⟨k.val / 64, by omega⟩
def lane (k : Fin 256) : Fin 64 := ⟨k.val % 64, by omega⟩

theorem cell_self (k : Fin 256) : cell (hd k) (lane k) = k := Fin.ext (by simp only [cell, hd, lane]; omega)
theorem row_self (r : Fin 2048) : row (chunk r) (pos r) = r := Fin.ext (by simp only [row, chunk, pos]; omega)

/-- The normed operand by heads, its inverse root, and the value that the mixing takes. -/
def x (r : Fin 2048) (h : Fin 4) (e : Fin 64) : EReal := gelu (cv X r (cell h e))
def ri (r : Fin 2048) (h : Fin 4) : EReal := rinv ((64 : ℝ) : EReal) eps (x X r h)
def vn (r : Fin 2048) (h : Fin 4) (e : Fin 64) : EReal := x X r h e * ri X r h * G (ix1 (cell h e))

/-- The lower triangle, the weight under it, and the gate. -/
def low (t s : Fin 128) : EReal := if s ≤ t then 1 else 0
def wm (h : Fin 4) (t s : Fin 128) : EReal := W (ix3 h t s) * low t s
def sv (r : Fin 2048) (k : Fin 256) : EReal :=
  (∑ s : Fin 128, vn X G (row (chunk r) s) (hd k) (lane k) * wm W (hd k) (pos r) s) + B (ix2 (hd k) (pos r))

/-- The gradients of the gate and of the mixed values. -/
def ds (r : Fin 2048) (k : Fin 256) : EReal := gelu (cu X r k) * d Y r k
def dvn (r : Fin 2048) (h : Fin 4) (e : Fin 64) : EReal := ∑ t : Fin 128, ds X Y (row (chunk r) t) (cell h e) * wm W h t (pos r)
def t (r : Fin 2048) (h : Fin 4) (e : Fin 64) : EReal := dvn X W Y r h e * G (ix1 (cell h e))
def dvg (r : Fin 2048) (h : Fin 4) (e : Fin 64) : EReal :=
  ri X r h * t X G W Y r h e - x X r h e * (ri X r h * ri X r h * ri X r h) * Ideal.div (∑ e, t X G W Y r h e * x X r h e) ((64 : ℝ) : EReal)

theorem v12 (i : Fin 1) (r : Fin 2048) (k : Fin 256) : val_main_v12 (F := Ideal) X (ix3 i r k) = gelu (cu X r k) := by
  rw [← gelu_eq, ← rootHalf_eq]
  pointwise [val_main_v12, val_main_v8, val_main_v7, val_main_v6, val_main_v5, val_main_v4, val_main_v3, val_main_v2, val_main_v0, val_main_cst, val_main_cst_0]
  rw [ofBits_half]
  rfl

theorem v24 (i : Fin 1) (r : Fin 2048) (h : Fin 4) (e : Fin 64) : val_main_v24 (F := Ideal) X (ix4 i r h e) = x X r h e := by
  unfold x
  rw [← gelu_eq, ← rootHalf_eq]
  pointwise [val_main_v24, val_main_v23, val_main_v19, val_main_v18, val_main_v17, val_main_v16, val_main_v15, val_main_v14, val_main_v13, val_main_v1,
    val_main_cst_1, val_main_cst_2]
  rw [ofBits_half]
  rfl

theorem v32 (i : Fin 1) (r : Fin 2048) (h : Fin 4) (j : Fin 1) : val_main_v32 (F := Ideal) X (ix4 i r h j) = msq ((64 : ℝ) : EReal) eps (x X r h) := by
  pointwise [val_main_v32, val_main_v31, val_main_v30, val_main_v29, val_main_v28, val_main_v27, val_main_v26, v24, val_main_cst_3, val_main_cst_4,
    val_main_cst_5]
  rw [ofBits_64]
  rfl

theorem v33 (i : Fin 1) (r : Fin 2048) (h : Fin 4) (j : Fin 1) : val_main_v33 (F := Ideal) X (ix4 i r h j) = ri X r h := by
  pointwise [val_main_v33, v32]
  rfl

theorem v38 (i : Fin 1) (r : Fin 2048) (h : Fin 4) (e : Fin 64) : val_main_v38 (F := Ideal) X (ix4 i r h e) = x X r h e * ri X r h := by
  pointwise [val_main_v38, val_main_v37, v24, v33]

theorem v39 (i j : Fin 1) (h : Fin 4) (e : Fin 64) : val_main_v39 (F := Ideal) G (ix4 i j h e) = G (ix1 (cell h e)) := by
  pointwise [val_main_v39, val_main_v25]
  rfl

theorem v42 (i : Fin 1) (c : Fin 16) (s : Fin 128) (h : Fin 4) (e : Fin 64) : val_main_v42 (F := Ideal) X G (ix5 i c s h e) = vn X G (row c s) h e := by
  pointwise [val_main_v42, val_main_v41, val_main_v40, v38, v39]
  rfl

theorem v44 (t s : Fin 128) : val_main_v44 (F := Ideal) (ix2 t s) = low t s := by
  pointwise [val_main_v44, val_main_v43, val_main_call0_v4, val_main_call0_v2, val_main_call0_v3, val_main_call0_v5, val_main_cst_7, val_main_call0_v0,
    val_main_call0_v1, val_main_call0_c, val_main_call0_cst]
  have h : ∀ t s : Fin 128, IntOp.cmpi CmpIPredicate.sge (IntOp.addi (BitVec.ofNat 32 t.val) 0#32) (BitVec.ofNat 32 s.val) = if s ≤ t then 1#1 else 0#1 := by
    decide +kernel
  rw [h]
  unfold low
  by_cases e : s ≤ t
  · rw [if_pos e, if_pos e]; rfl
  · rw [if_neg e, if_neg e]; rfl

theorem v47 (h : Fin 4) (t s : Fin 128) : val_main_v47 (F := Ideal) W (ix3 h t s) = wm W h t s := by
  pointwise [val_main_v47, val_main_v46, val_main_v45, v44]
  rfl

theorem v55 (i : Fin 1) (r : Fin 2048) (k : Fin 256) : val_main_v55 (F := Ideal) X G W B (ix3 i r k) = sv X G W B r k := by
  pointwise [val_main_v55, val_main_v54, val_main_v53, val_main_v52, val_main_v51, val_main_v50, val_main_v49, val_main_v48, v42, v47]
  rfl

theorem v60 (i : Fin 1) (c : Fin 16) (t : Fin 128) (h : Fin 4) (e : Fin 64) :
    val_main_v60 (F := Ideal) X Y (ix5 i c t h e) = ds X Y (row c t) (cell h e) := by
  pointwise [val_main_v60, val_main_v58, val_main_v57, v12]
  rfl

theorem v73 (i : Fin 1) (r : Fin 2048) (h : Fin 4) (e : Fin 64) : val_main_v73 (F := Ideal) X W Y (ix4 i r h e) = dvn X W Y r h e := by
  pointwise [val_main_v73, val_main_v70, val_main_v69, val_main_v67, v60, v47]
  rfl

/-- A host sum read at an index of the axes kept, over any account of the indices that fall on it. -/
theorem reduce_fiber {s t : Shape} {axes : List (Fin s.rank)} (h : s.ReducesTo axes t) (v : s.Idx → EReal) (init : EReal) (j : t.Idx)
    {ι : Type} [Fintype ι] (e : ι → s.Idx) (hinj : Function.Injective e) (hfib : ∀ i, h.drop i = j ↔ ∃ p, e p = i) :
    Ideal.hostReduceAdd h v init j = init + ∑ p, v (e p) :=
  congrArg (init + ·) (Finset.sum_filter_eq_sum_of_fiber _ e hinj hfib v)

theorem v61 (i : Fin 1) (t : Fin 128) (h : Fin 4) :
    val_main_v61 (F := Ideal) X Y (ix3 i t h) = ∑ c : Fin 16, ∑ e : Fin 64, ds X Y (row c t) (cell h e) := by
  pointwise [val_main_v61]
  rw [reduce_fiber _ _ _ _ (fun p : Fin 16 × Fin 64 => (ix5 0 p.1 t h p.2 : S1x16x128x4x64.Idx)) (fun _ _ e => Prod.ext (congrFun e 1) (congrFun e 4))
    (fun q => ⟨fun e => ⟨(q 1, q 4), ?_⟩, ?_⟩), Fintype.sum_prod_type]
  · pointwise [val_main_cst_8, v60]
  · funext a
    apply Fin.ext
    match a with
    | ⟨0, _⟩ => exact (Nat.lt_one_iff.1 (q 0).isLt).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨p, rfl⟩
    funext a
    apply Fin.ext
    match a with
    | ⟨0, _⟩ => exact (Nat.lt_one_iff.1 i.isLt).symm
    | ⟨1, _⟩ => rfl
    | ⟨2, _⟩ => rfl

theorem v63 (t : Fin 128) (h : Fin 4) :
    val_main_v63 (F := Ideal) X Y (ix2 t h) = ∑ c : Fin 16, ∑ e : Fin 64, ds X Y (row c t) (cell h e) := by
  pointwise [val_main_v63]
  rw [reduce_fiber _ _ _ _ (fun _ : Unit => (ix5 0 0 t h 0 : S1x1x128x4x1.Idx)) (fun _ _ _ => rfl) (fun q => ⟨fun e => ⟨(), ?_⟩, ?_⟩), Fintype.sum_unique]
  · pointwise [val_main_cst_9, val_main_v62, v61]
  · funext a
    apply Fin.ext
    match a with
    | ⟨0, _⟩ => exact (Nat.lt_one_iff.1 (q 0).isLt).symm
    | ⟨1, _⟩ => exact (Nat.lt_one_iff.1 (q 1).isLt).symm
    | ⟨2, _⟩ => exact (congrArg Fin.val (congrFun e 0)).symm
    | ⟨3, _⟩ => exact (congrArg Fin.val (congrFun e 1)).symm
    | ⟨4, _⟩ => exact (Nat.lt_one_iff.1 (q 4).isLt).symm
  · rintro ⟨p, rfl⟩
    funext a
    apply Fin.ext
    match a with
    | ⟨0, _⟩ => rfl
    | ⟨1, _⟩ => rfl

/-- The bias's gradient, the heads as columns and zeros after them. -/
theorem v124 (t l : Fin 128) : val_main_v124 (F := Ideal) X Y (ix2 t l)
    = if h : l.val < 4 then ∑ c : Fin 16, ∑ e : Fin 64, ds X Y (row c t) (cell ⟨l.val, h⟩ e) else 0 := by
  pointwise [val_main_v124, val_main_v123, val_main_v66, val_main_v65, val_main_v64, v63, val_main_cst_10, val_main_call1_v0, val_main_c]
  split_ifs with h
  · rw [Fin.sum_univ_one]
  · show (((0#32).toInt : ℝ) : EReal) = 0
    simp

/-- The product that sums over chunks and over a head's columns. -/
abbrev dotW : DotDims S4x1x16x64x128 S1x16x128x4x64 S4x128x128 := dot_S4x1x16x64x128_S1x16x128x4x64_S4x128x128_123_014_4_2_0_3
def at_ (p : Fin 16 × Fin 64) : dotW.contr.Idx := fun a => match a with
  | ⟨0, _⟩ => ⟨0, Nat.one_pos⟩
  | ⟨1, _⟩ => ⟨p.1.val, p.1.isLt⟩
  | ⟨2, _⟩ => ⟨p.2.val, p.2.isLt⟩

theorem dotW_sum (f : dotW.contr.Idx → EReal) : ∑ q, f q = ∑ c : Fin 16, ∑ e : Fin 64, f (at_ (c, e)) := by
  rw [← Fintype.sum_prod_type (fun p => f (at_ p))]
  refine (Fintype.sum_bijective at_ ⟨fun p q e => ?_, fun q => ⟨(⟨(q ⟨1, by decide⟩).val, (q ⟨1, by decide⟩).isLt⟩, ⟨(q ⟨2, by decide⟩).val, (q ⟨2, by decide⟩).isLt⟩), ?_⟩⟩ _ _ fun _ => rfl).symm
  · exact Prod.ext (Fin.ext (congrArg Fin.val (congrFun e ⟨1, by decide⟩))) (Fin.ext (congrArg Fin.val (congrFun e ⟨2, by decide⟩)))
  · funext a
    apply Fin.ext
    match a with
    | ⟨0, _⟩ => exact (Nat.lt_one_iff.1 (q ⟨0, by decide⟩).isLt).symm
    | ⟨1, _⟩ => rfl
    | ⟨2, _⟩ => rfl

theorem v68 (h : Fin 4) (t s : Fin 128) : val_main_v68 (F := Ideal) X G Y (ix3 h t s)
    = ∑ c : Fin 16, ∑ e : Fin 64, ds X Y (row c t) (cell h e) * vn X G (row c s) h e := by
  have hl (c : Fin 16) (e : Fin 64) : dotW.lhsIdx (ix3 h t s) (at_ (c, e)) = ix5 h 0 c e t := by
    funext a
    apply Fin.ext
    match a with
    | ⟨0, _⟩ => rfl
    | ⟨1, _⟩ => rfl
    | ⟨2, _⟩ => rfl
    | ⟨3, _⟩ => rfl
    | ⟨4, _⟩ => rfl
  have hr (c : Fin 16) (e : Fin 64) : dotW.rhsIdx (ix3 h t s) (at_ (c, e)) = ix5 0 c s h e := by
    funext a
    apply Fin.ext
    match a with
    | ⟨0, _⟩ => rfl
    | ⟨1, _⟩ => rfl
    | ⟨2, _⟩ => rfl
    | ⟨3, _⟩ => rfl
    | ⟨4, _⟩ => rfl
  have h67 (c : Fin 16) (e : Fin 64) : val_main_v67 (F := Ideal) X Y (ix5 h 0 c e t) = ds X Y (row c t) (cell h e) := by
    pointwise [val_main_v67, v60]
  unfold val_main_v68
  refine (zero_add _).trans ?_
  rw [dotW_sum]
  refine Finset.sum_congr rfl fun c _ => Finset.sum_congr rfl fun e _ => ?_
  rw [hl, hr, h67, v42]

theorem v72 (h : Fin 4) (t s : Fin 128) : val_main_v72 (F := Ideal) X G Y (ix3 h t s)
    = (∑ c : Fin 16, ∑ e : Fin 64, ds X Y (row c t) (cell h e) * vn X G (row c s) h e) * low t s := by
  pointwise [val_main_v72, val_main_v71, val_main_v45, v68, v44]

theorem v79 (h : Fin 4) (e : Fin 64) : val_main_v79 (F := Ideal) X W Y (ix2 h e) = ∑ r : Fin 2048, x X r h e * ri X r h * dvn X W Y r h e := by
  pointwise [val_main_v79]
  rw [reduce_fiber _ _ _ _ (fun _ : Unit => (ix4 0 0 h e : S1x1x4x64.Idx)) (fun _ _ _ => rfl) (fun q => ⟨fun e' => ⟨(), ?_⟩, ?_⟩), Fintype.sum_unique]
  · pointwise [val_main_cst_12, val_main_v76, val_main_v75, val_main_v74, v38, v73, val_main_cst_11]
  · funext a
    apply Fin.ext
    match a with
    | ⟨0, _⟩ => exact (Nat.lt_one_iff.1 (q 0).isLt).symm
    | ⟨1, _⟩ => exact (Nat.lt_one_iff.1 (q 1).isLt).symm
    | ⟨2, _⟩ => exact (congrArg Fin.val (congrFun e' 0)).symm
    | ⟨3, _⟩ => exact (congrArg Fin.val (congrFun e' 1)).symm
  · rintro ⟨p, rfl⟩
    funext a
    apply Fin.ext
    match a with
    | ⟨0, _⟩ => rfl
    | ⟨1, _⟩ => rfl

/-- The norm weight's gradient. -/
theorem v125 (i : Fin 1) (k : Fin 256) : val_main_v125 (F := Ideal) X W Y (ix2 i k)
    = ∑ r : Fin 2048, x X r (hd k) (lane k) * ri X r (hd k) * dvn X W Y r (hd k) (lane k) := by
  pointwise [val_main_v125, val_main_v95, v79]
  rfl

theorem v78 (i : Fin 1) (r : Fin 2048) (h : Fin 4) (e : Fin 64) : val_main_v78 (F := Ideal) X G W Y (ix4 i r h e) = t X G W Y r h e := by
  pointwise [val_main_v78, val_main_v77, v73, v39]
  rfl

theorem v88 (r : Fin 2048) (h : Fin 4) : val_main_v88 (F := Ideal) X G W Y (ix2 r h)
    = through ((64 : ℝ) : EReal) eps ((-(1 / 2) : ℝ) : EReal) (x X r h) (t X G W Y r h) := by
  pointwise [val_main_v88]
  rw [reduce_fiber _ _ _ _ (fun _ : Unit => (ix4 0 r h 0 : S1x2048x4x1.Idx)) (fun _ _ _ => rfl) (fun q => ⟨fun e' => ⟨(), ?_⟩, ?_⟩), Fintype.sum_unique]
  · pointwise [val_main_cst_15, val_main_v87, val_main_v86, val_main_v85, val_main_v82, val_main_v81, val_main_v80, val_main_v36, val_main_v35,
      val_main_v34, v24, v78, v33, v32, val_main_cst_13, val_main_cst_14, val_main_cst_6]
    rw [ofBits_64, ofBits_neg_half]
    rfl
  · funext a
    apply Fin.ext
    match a with
    | ⟨0, _⟩ => exact (Nat.lt_one_iff.1 (q 0).isLt).symm
    | ⟨1, _⟩ => exact (congrArg Fin.val (congrFun e' 0)).symm
    | ⟨2, _⟩ => exact (congrArg Fin.val (congrFun e' 1)).symm
    | ⟨3, _⟩ => exact (Nat.lt_one_iff.1 (q 3).isLt).symm
  · rintro ⟨p, rfl⟩
    funext a
    apply Fin.ext
    match a with
    | ⟨0, _⟩ => rfl
    | ⟨1, _⟩ => rfl

theorem v94 (i : Fin 1) (r : Fin 2048) (h : Fin 4) (e : Fin 64) : val_main_v94 (F := Ideal) X G W Y (ix4 i r h e) = dvg X G W Y r h e := by
  obtain ⟨w, hw, hε⟩ := eps_pos
  have := back_eq (c := 64) (by norm_num) hw (x X r h) (t X G W Y r h) e 0
  rw [← hε, zero_add, zero_add] at this
  refine Eq.trans ?_ this
  pointwise [val_main_v94, val_main_v93, val_main_v92, val_main_v91, val_main_v90, val_main_v89, val_main_v84, val_main_v83, v24, v33, v78, v88]
  rfl

/-- The gradients of the two operands. -/
theorem v122 (r : Fin 2048) (k : Fin 256) (hx : IsReal (cv X r k)) (ht : IsReal (dvg X G W Y r (hd k) (lane k))) :
    val_main_v122 (F := Ideal) X G W Y (ix2 r k) = dvg X G W Y r (hd k) (lane k) * grad (cv X r k) := by
  rw [← grad_eq hx ht, ← rootHalf_eq, ← erfcSlope_eq]
  pointwise [val_main_v122, val_main_v121, val_main_v107, val_main_v106, val_main_v105, val_main_v104, val_main_v103, val_main_v102, val_main_v101,
    val_main_v100, val_main_v99, val_main_v98, val_main_v97, val_main_v96, v94, val_main_v22, val_main_v21, val_main_v20, val_main_v19, val_main_v18,
    val_main_v17, val_main_v16, val_main_v15, val_main_v14, val_main_v13, val_main_v1, val_main_cst_1, val_main_cst_2, val_main_cst_16, val_main_cst_17]
  rw [ofBits_half]
  rfl

theorem v120 (r : Fin 2048) (k : Fin 256) (hx : IsReal (cu X r k)) (ht : IsReal (d Y r k * sv X G W B r k)) :
    val_main_v120 (F := Ideal) X G W B Y (ix2 r k) = d Y r k * sv X G W B r k * grad (cu X r k) := by
  rw [← grad_eq hx ht, ← rootHalf_eq, ← erfcSlope_eq]
  pointwise [val_main_v120, val_main_v119, val_main_v118, val_main_v117, val_main_v116, val_main_v115, val_main_v114, val_main_v113, val_main_v112,
    val_main_v111, val_main_v110, val_main_v109, val_main_v108, val_main_v59, val_main_v57, v55, val_main_v11, val_main_v10, val_main_v9, val_main_v8,
    val_main_v7, val_main_v6, val_main_v5, val_main_v4, val_main_v3, val_main_v2, val_main_v0, val_main_cst, val_main_cst_0, val_main_cst_18,
    val_main_cst_19]
  rw [ofBits_half]
  rfl

end Cert.SguRefIdeal.Rows

end
-- ==== Proof.SguBlocks.lean ====
/- The spatial gate's gradient, a grid point at a time: what the kernel's values are, in the reference's terms, where the arguments are reals. -/
module

public import proofs.«01_k».proof.Proof.SguRows
public import proofs.«01_k».proof.Proof.SguRef
public import Idealize.ShloMosaic.Lib.Pipeline.ValueKit

@[expose] public section

set_option maxRecDepth 16384

noncomputable section

open Idealize.ShloMosaic

namespace Cert.SguRefIdeal.Reals

open Cert.SguRefIdeal Cert.SguRefIdeal.Rows Cert.Consts Cert.Norm Cert.Real Cert.Gelu

variable {X : FVec Ideal S1x2048x2816 .f32} {G : FVec Ideal S256 .f32} {W : FVec Ideal S4x128x128 .f32} {B : FVec Ideal S4x128 .f32}
  {Y : FVec Ideal S1x2048x1024 .f32}
variable (hX : ∀ j, IsReal (X j)) (hG : ∀ j, IsReal (G j)) (hW : ∀ j, IsReal (W j)) (hB : ∀ j, IsReal (B j)) (hY : ∀ j, IsReal (Y j))

/-- The inverse root of a mean square is a real. -/
theorem ri_real (r : Fin 2048) (h : Fin 4) : IsReal (ri X r h) := by
  obtain ⟨e, he, h'⟩ := eps_pos
  unfold ri rinv
  rw [h']
  rcases msq_cases (c := 64) (by norm_num) he (x X r h) with e | ⟨w, hw, e⟩
  · rw [e, Ideal.rsqrt_top]; exact isReal_zero
  · rw [e, Ideal.rsqrt_coe, if_neg hw.not_gt, if_neg hw.ne']; exact isReal _

theorem low_real (t s : Fin 128) : IsReal (low t s) := by
  unfold low
  split_ifs
  · exact isReal_one
  · exact isReal_zero

include hX in
theorem x_real (r : Fin 2048) (h : Fin 4) (e : Fin 64) : IsReal (x X r h e) := isReal_gelu (hX _)
include hX hG in
theorem vn_real (r : Fin 2048) (h : Fin 4) (e : Fin 64) : IsReal (vn X G r h e) := ((x_real hX r h e).mul (ri_real r h)).mul (hG _)
include hW in
theorem wm_real (h : Fin 4) (t s : Fin 128) : IsReal (wm W h t s) := (hW _).mul (low_real t s)
include hX hY in
theorem ds_real (r : Fin 2048) (k : Fin 256) : IsReal (ds X Y r k) := (isReal_gelu (hX _)).mul (hY _)
include hX hG hW hB in
theorem sv_real (r : Fin 2048) (k : Fin 256) : IsReal (sv X G W B r k) :=
  (IsReal.sum _ fun s _ => (vn_real hX hG _ _ _).mul (wm_real hW _ _ s)).add (hB _)
include hX hW hY in
theorem dvn_real (r : Fin 2048) (h : Fin 4) (e : Fin 64) : IsReal (dvn X W Y r h e) :=
  IsReal.sum _ fun t _ => (ds_real hX hY _ _).mul (wm_real hW _ _ _)
include hX hG hW hY in
theorem t_real (r : Fin 2048) (h : Fin 4) (e : Fin 64) : IsReal (t X G W Y r h e) := (dvn_real hX hW hY r h e).mul (hG _)
include hX hG hW hY in
theorem dvg_real (r : Fin 2048) (h : Fin 4) (e : Fin 64) : IsReal (dvg X G W Y r h e) :=
  ((ri_real r h).mul (t_real hX hG hW hY r h e)).sub
    (((x_real hX r h e).mul (((ri_real r h).mul (ri_real r h)).mul (ri_real r h))).mul
      (IsReal.div (by norm_num) (IsReal.sum _ fun e _ => (t_real hX hG hW hY r h e).mul (x_real hX r h e))))

end Cert.SguRefIdeal.Reals

namespace Cert.SguIdeal.Blocks

open Cert.SguIdeal Cert.SguIdeal.Gen Cert.SguIdeal.Rows Cert.Consts Cert.Norm Cert.Real Cert.Gelu
open Cert.SguRefIdeal.Rows (cu cv d low wm vn sv ds dvn dvg cell lane chunk pos)

variable (X : FVec Ideal S1x2048x2816 .f32) (G : FVec Ideal S256 .f32) (W : FVec Ideal S4x128x128 .f32) (B : FVec Ideal S4x128 .f32)
  (Y : FVec Ideal S1x2048x1024 .f32) (t : Fin 4)

/-- A row of grid point `t`, in the whole, and the blocks that the point reads. -/
def rr (r : Fin 512) : Fin 2048 := ⟨t.val * 512 + r.val, by omega⟩
def Db : FVec Ideal S512x256 .bf16 := fun j => d Y (rr t (j 0)) (j 1)
def Ub : FVec Ideal S512x256 .bf16 := fun j => cu X (rr t (j 0)) (j 1)
def Cb : FVec Ideal S512x256 .bf16 := fun j => cv X (rr t (j 0)) (j 1)
def Gb : FVec Ideal S1x256 .f32 := fun j => G (ix1 (j 1))
def wb (g : Fin 4) : FVec Ideal S1x128x128 .f32 := fun j => W (ix3 g (j 1) (j 2))
def bb : FVec Ideal S128x256 .f32 := fun j => B (ix2 (hd (j 1)) (j 0))

/-- The kernel's values of the point. -/
def P : FVec Ideal S512x256 .f32 := k0_pay20 (F := Ideal) (k0_pay14 (Ub X t))
def D : FVec Ideal S512x256 .f32 := k0_pay27 (F := Ideal) (Db Y t)
def V : FVec Ideal S512x256 .bf16 := k0_pay26 (F := Ideal) (k0_pay23 (k0_pay15 (Cb X t)) k0_pay16 (iota .tc S256x256 32 [1] iota_S256x256_d1_w32) 64#32 k0_pay17 k0_pay18 1#32 0#32) (Gb G)
def R : FVec Ideal S512x256 .f32 := k0_pay22 (F := Ideal) (k0_pay15 (Cb X t)) k0_pay16 (iota .tc S256x256 32 [1] iota_S256x256_d1_w32) 64#32 k0_pay17 k0_pay18 1#32 0#32

theorem U_at (r : Fin 512) (k : Fin 256) : k0_pay14 (F := Ideal) (Ub X t) (ix2 r k) = cu X (rr t r) k := by
  pointwise [k0_pay14]
  rfl
theorem D_at (r : Fin 512) (k : Fin 256) : D Y t (ix2 r k) = d Y (rr t r) k := by
  pointwise [D, k0_pay27]
  rfl
theorem P_at (r : Fin 512) (k : Fin 256) : P X t (ix2 r k) = gelu (cu X (rr t r) k) := by
  unfold P
  rw [Rows.unit, U_at]

theorem x_eq (r : Fin 512) (h : Fin 4) : Rows.x (Cb X t) r h = Cert.SguRefIdeal.Rows.x X (rr t r) h := by
  funext e
  show gelu (cv X (rr t r) (col h e)) = gelu (cv X (rr t r) (cell h e))
  rw [show col h e = cell h e from Fin.ext (by simp only [col, cell]; omega)]

theorem ri_eq (r : Fin 512) (k : Fin 256) : Rows.ri (Cb X t) r k = Cert.SguRefIdeal.Rows.ri X (rr t r) (hd k) := by
  unfold Rows.ri Cert.SguRefIdeal.Rows.ri
  rw [x_eq]

theorem cell_hd (k : Fin 256) : cell (hd k) (lane k) = k := Cert.SguRefIdeal.Rows.cell_self k

theorem wt_eq (τ s : Fin 128) (k : Fin 256) : wt (wb W 0) (wb W 1) (wb W 2) (wb W 3) τ s k = W (ix3 (hd k) τ s) := by
  show pick (W (ix3 0 τ s)) (W (ix3 1 τ s)) (W (ix3 2 τ s)) (W (ix3 3 τ s)) (hd k).val = _
  generalize hd k = h
  match h with
  | ⟨0, _⟩ => rfl
  | ⟨1, _⟩ => rfl
  | ⟨2, _⟩ => rfl
  | ⟨3, _⟩ => rfl

theorem dsv_eq (r : Fin 512) (k : Fin 256) : dsv (P X t) (D Y t) r k = ds X Y (rr t r) k := by
  unfold dsv ds
  rw [P_at, D_at, mul_comm]

/-- The rows of a chunk. -/
theorem row_chunk {o : ℕ} (ho : o ≤ 384) (hq : o % 128 = 0) (i s : Fin 128) :
    Cert.SguRefIdeal.Rows.row (chunk (rr t (row o ho i))) s = rr t (row o ho s) := by
  apply Fin.ext
  simp only [Cert.SguRefIdeal.Rows.row, chunk, rr, row]
  omega
theorem pos_row {o : ℕ} (ho : o ≤ 384) (hq : o % 128 = 0) (i : Fin 128) : pos (rr t (row o ho i)) = i := by
  apply Fin.ext
  simp only [pos, rr, row]
  omega

theorem back_at {o : ℕ} (ho : o ≤ 384) (hq : o % 128 = 0) (i : Fin 128) (k : Fin 256) :
    Rows.back (P X t) (D Y t) (wb W 0) (wb W 1) (wb W 2) (wb W 3) o ho i k = dvn X W Y (rr t (row o ho i)) (hd k) (lane k) := by
  unfold Rows.back dvn
  refine Finset.sum_congr rfl fun τ _ => ?_
  rw [row_chunk t ho hq, pos_row t ho hq, cell_hd, wt_eq, dsv_eq]
  unfold wm low
  split_ifs
  · rw [mul_one, mul_comm]
  · rw [mul_zero, mul_zero]

theorem C_at (r : Fin 512) (k : Fin 256) : k0_pay15 (F := Ideal) (Cb X t) (ix2 r k) = cv X (rr t r) k := Rows.cast (Cb X t) r k

variable {X G W B Y}
variable (hX : ∀ j, IsReal (X j)) (hG : ∀ j, IsReal (G j)) (hW : ∀ j, IsReal (W j)) (hB : ∀ j, IsReal (B j)) (hY : ∀ j, IsReal (Y j))

include hX in
theorem R_at (r : Fin 512) (k : Fin 256) : R X t (ix2 r k) = Cert.SguRefIdeal.Rows.ri X (rr t r) (hd k) :=
  (Rows.inv (Cb X t) (fun _ => hX _) r k).trans (ri_eq X t r k)

include hX in
theorem V_at (r : Fin 512) (k : Fin 256) : V X G t (ix2 r k) = vn X G (rr t r) (hd k) (lane k) := by
  refine (Rows.vv (Cb X t) (Gb G) (fun _ => hX _) r k).trans ?_
  rw [ri_eq]
  unfold vn Cert.SguRefIdeal.Rows.x
  rw [cell_hd]
  rfl

include hX in
theorem mix_at {o : ℕ} (ho : o ≤ 384) (hq : o % 128 = 0) (i : Fin 128) (k : Fin 256) :
    mix (V X G t) (bb B) (wb W 0) (wb W 1) (wb W 2) (wb W 3) o ho i k = sv X G W B (rr t (row o ho i)) k := by
  unfold mix sv
  rw [add_comm]
  refine congrArg₂ (· + ·) (Finset.sum_congr rfl fun s _ => ?_) ?_
  · show (if s ≤ i then _ else 0) = vn X G _ (hd k) (lane k) * wm W (hd k) _ s
    rw [row_chunk t ho hq, pos_row t ho hq, wt_eq, V_at t hX]
    unfold wm low
    split_ifs
    · rw [mul_one, mul_comm]
    · rw [mul_zero, mul_zero]
  · rw [pos_row t ho hq]
    rfl

/-- A row of the block is a row of one of its chunks. -/
theorem row_cases (r : Fin 512) : (∃ i, r = row 0 (by decide) i) ∨ (∃ i, r = row 128 (by decide) i) ∨ (∃ i, r = row 256 (by decide) i)
    ∨ ∃ i, r = row 384 (by decide) i := by
  have hr := r.isLt
  by_cases h0 : r.val < 128
  · exact .inl ⟨⟨r.val, h0⟩, Fin.ext (by simp [row])⟩
  by_cases h1 : r.val < 256
  · exact .inr (.inl ⟨⟨r.val - 128, by omega⟩, Fin.ext (by simp only [row]; omega)⟩)
  by_cases h2 : r.val < 384
  · exact .inr (.inr (.inl ⟨⟨r.val - 256, by omega⟩, Fin.ext (by simp only [row]; omega)⟩))
  · exact .inr (.inr (.inr ⟨⟨r.val - 384, by omega⟩, Fin.ext (by simp only [row]; omega)⟩))

/-- The mixed values' gradient, as the scratch holds it. -/
def Sb (X : FVec Ideal S1x2048x2816 .f32) (W : FVec Ideal S4x128x128 .f32) (Y : FVec Ideal S1x2048x1024 .f32) (t : Fin 4) : FVec Ideal S512x256 .f32 :=
  fun j => dvn X W Y (rr t (j 0)) (hd (j 1)) (lane (j 1))

/-- A point's rows of the two operands' gradients. -/
theorem du_eq {o : ℕ} (ho : o ≤ 384) (hq : o % 128 = 0) (i : Fin 128) (k : Fin 256) (hX : ∀ j, IsReal (X j)) (hG : ∀ j, IsReal (G j)) (hW : ∀ j, IsReal (W j))
    (hB : ∀ j, IsReal (B j)) (hY : ∀ j, IsReal (Y j)) :
    D Y t (ix2 (row o ho i) k) * mix (V X G t) (bb B) (wb W 0) (wb W 1) (wb W 2) (wb W 3) o ho i k
        * grad (k0_pay14 (F := Ideal) (Ub X t) (ix2 (row o ho i) k))
      = Cert.SguRefIdeal.Read.val_main_v120 (F := Ideal) X G W B Y (ix2 (rr t (row o ho i)) k) := by
  rw [Cert.SguRefIdeal.Rows.v120 X G W B Y _ k (hX _) ((hY _).mul (Cert.SguRefIdeal.Reals.sv_real hX hG hW hB _ k)), mix_at t hX ho hq, D_at, U_at]

include hX hG hW hY in
theorem dc_eq (r : Fin 512) (k : Fin 256) :
    k0_pay1 (F := Ideal) (k0_pay116 hm (k0_pay21 (k0_pay15 (Cb X t))) (R X t) (Sb X W Y t) (Gb G)) (k0_pay117 (k0_pay15 (Cb X t))) (k0_pay118 (k0_pay15 (Cb X t)))
        (Named.named κ "gauss" 1053573674#32) (ix2 r k)
      = Cert.SguRefIdeal.Read.val_main_v122 (F := Ideal) X G W Y (ix2 (rr t r) k) := by
  rw [Cert.SguRefIdeal.Rows.v122 X G W Y _ k (hX _) (Cert.SguRefIdeal.Reals.dvg_real hX hG hW hY _ _ _)]
  refine (Rows.dc (Cb X t) (Gb G) (Sb X W Y t) (R X t)
    (fun r k => ((Cert.SguRefIdeal.Reals.dvn_real hX hW hY _ _ _).mul (hG _)).mul (isReal_gelu (hX _))) r k).trans ?_
  refine congrArg₂ (· * ·) ?_ rfl
  have hcol (h : Fin 4) (e : Fin 64) : col h e = cell h e := Fin.ext (by simp only [col, cell]; omega)
  have hh (h : Fin 4) (e : Fin 64) : hd (cell h e) = h := Fin.ext (by simp only [hd, cell]; omega)
  have hl (h : Fin 4) (e : Fin 64) : lane (cell h e) = e := Fin.ext (by simp only [lane, cell]; omega)
  have ht (k : Fin 256) : Sb X W Y t (ix2 r k) * Gb G (ix2 0 k) = Cert.SguRefIdeal.Rows.t X G W Y (rr t r) (hd k) (lane k) := by
    unfold Cert.SguRefIdeal.Rows.t
    rw [cell_hd]
    rfl
  have hc : gelu (Cb X t (ix2 r k)) = Cert.SguRefIdeal.Rows.x X (rr t r) (hd k) (lane k) := by
    unfold Cert.SguRefIdeal.Rows.x
    rw [cell_hd]
    rfl
  simp only [ht, R_at t hX, x_eq, hcol, hh, hl, hc]
  rfl

/-- What a point adds to a head's weight gradient, and the four points' sum. -/
theorem wpart_eq (g : Fin 4) {o : ℕ} (ho : o ≤ 384) (τ s : Fin 128) (hX : ∀ j, IsReal (X j)) :
    wpart (P X t) (D Y t) (V X G t) g.val o ho τ s = ∑ e : Fin 64, ds X Y (rr t (row o ho τ)) (cell g e) * vn X G (rr t (row o ho s)) g e := by
  unfold wpart
  rw [sum_head]
  refine Finset.sum_congr rfl fun e _ => ?_
  rw [dsv_eq, V_at t hX, show col g e = cell g e from Fin.ext (by simp only [col, cell]; omega),
    show hd (cell g e) = g from Fin.ext (by simp only [hd, cell]; omega), show lane (cell g e) = e from Fin.ext (by simp only [lane, cell]; omega)]

theorem four {f : Fin 16 → EReal} {F : Fin 4 → Fin 4 → EReal} (h : ∀ t q (hl : t.val * 4 + q.val < 16), F t q = f ⟨t.val * 4 + q.val, hl⟩) :
    ∑ t : Fin 4, (F t 0 + F t 1 + F t 2 + F t 3) = ∑ c : Fin 16, f c := by
  rw [← Fin.sum_mul_add_congr (S := 4) h]
  exact Finset.sum_congr rfl fun t _ => (Fin.sum_univ_four _).symm

theorem row_rr (t q : Fin 4) (τ : Fin 128) (hl : t.val * 4 + q.val < 16) :
    Cert.SguRefIdeal.Rows.row ⟨t.val * 4 + q.val, hl⟩ τ = rr t (row (128 * q.val) (by omega) τ) := by
  apply Fin.ext
  simp only [Cert.SguRefIdeal.Rows.row, rr, row]
  omega

theorem dw_eq (g : Fin 4) (τ s : Fin 128) (hX : ∀ j, IsReal (X j)) :
    ∑ t : Fin 4, wblock (P X t) (D Y t) (V X G t) g.val τ s = Cert.SguRefIdeal.Read.val_main_v72 (F := Ideal) X G Y (ix3 g τ s) := by
  rw [Cert.SguRefIdeal.Rows.v72]
  unfold wblock low
  split_ifs
  · rw [mul_one]
    exact four (F := fun t q => wpart (P X t) (D Y t) (V X G t) g.val (128 * q.val) (by omega) τ s) fun t q hl => by
      rw [wpart_eq t g _ τ s hX, row_rr, row_rr]
  · rw [mul_zero, Finset.sum_const_zero]

/-- The bias's. -/
theorem db_eq (τ l : Fin 128) :
    ∑ t : Fin 4, (bpart (P X t) (D Y t) 0 (by decide) τ l + bpart (P X t) (D Y t) 128 (by decide) τ l + bpart (P X t) (D Y t) 256 (by decide) τ l
      + bpart (P X t) (D Y t) 384 (by decide) τ l) = Cert.SguRefIdeal.Read.val_main_v124 (F := Ideal) X Y (ix2 τ l) := by
  rw [Cert.SguRefIdeal.Rows.v124]
  by_cases h : l.val < 4
  · rw [dif_pos h]
    refine four (F := fun t q => bpart (P X t) (D Y t) (128 * q.val) (by omega) τ l) fun t q hl => ?_
    unfold bpart
    refine (sum_head _ ⟨l.val, h⟩).trans (Finset.sum_congr rfl fun e _ => ?_)
    rw [dsv_eq, row_rr, show col ⟨l.val, h⟩ e = cell ⟨l.val, h⟩ e from Fin.ext (by simp only [col, cell]; omega)]
  · rw [dif_neg h]
    have hz (t : Fin 4) (o : ℕ) (ho : o ≤ 384) : bpart (P X t) (D Y t) o ho τ l = 0 :=
      Finset.sum_eq_zero fun k _ => if_neg (by omega)
    simp only [hz, add_zero, Finset.sum_const_zero]

/-- The norm weight's. -/
theorem dg_eq (i : Fin 1) (k : Fin 256) (hX : ∀ j, IsReal (X j)) :
    ∑ t : Fin 4, ∑ r : Fin 512, Sb X W Y t (ix2 r k) * (k0_pay21 (F := Ideal) (k0_pay15 (Cb X t)) (ix2 r k) * R X t (ix2 r k))
      = Cert.SguRefIdeal.Read.val_main_v125 (F := Ideal) X W Y (ix2 i k) := by
  rw [Cert.SguRefIdeal.Rows.v125]
  refine Fin.sum_mul_add_congr (S := 4) fun t r hl => ?_
  rw [R_at t hX, Rows.unit', C_at, mul_comm]
  unfold Cert.SguRefIdeal.Rows.x
  rw [Cert.SguRefIdeal.Rows.cell_self]
  rfl

end Cert.SguIdeal.Blocks

end
-- ==== Proof.Finite.lean ====
/- Finite arguments: an array of which every element is below +∞ and above −∞ has real elements. -/
module

public import proofs.«01_k».proof.Proof.Gelu

@[expose] public section

noncomputable section

namespace Cert.Finite

open Idealize.ShloMosaic Cert.Real

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

theorem isReal_of_cmp {x : EReal}
    (h : IntOp.andi (Ideal.cmp .olt x (Ideal.ofBits .f32 0x7F800000#32)) (Ideal.cmp .ogt x (Ideal.ofBits .f32 0xFF800000#32)) = 1#1) : IsReal x := by
  rw [ofBits_top, ofBits_bot] at h
  induction x with
  | bot => simp [Ideal.cmp, IntOp.andi] at h
  | top => simp [Ideal.cmp, IntOp.andi] at h
  | coe r => exact ⟨r, rfl⟩

/-- The comparison of a whole array with the two infinities is all ones: its elements are real. -/
theorem isReal_of_ones {s : Shape} (x : FVec Ideal s .f32) (d) (hs : (⟨0, ![]⟩ : Shape).BroadcastsInDim s d)
    (h : andi (cmpf .olt x (broadcastInDim s d hs (constant ⟨0, ![]⟩ .f32 0x7F800000#32)))
      (cmpf .ogt x (broadcastInDim s d hs (constant ⟨0, ![]⟩ .f32 0xFF800000#32))) = fun _ => 1#1) (j : s.Idx) : IsReal (x j) :=
  isReal_of_cmp (congrFun h j)

end Cert.Finite

end
-- ==== Proof.Sgu.lean ====
/- The spatial gate's gradient: every grid point writes 512 rows of the gradients of the two operands, and adds its share to those of the weights,
   of the bias and of the norm's weight. -/
module

public import proofs.«01_k».proof.Defs
public import proofs.«01_k».proof.Proof.Gen.SguIdeal.Frame
public import proofs.«01_k».proof.Proof.Gen.SguRefIdeal.Run
public import proofs.«01_k».proof.Proof.Gen.SguRefIdeal.Read
public import proofs.«01_k».proof.Proof.Gen.Pre_finite_sgu
public import proofs.«01_k».proof.Proof.SguBlocks
public import proofs.«01_k».proof.Proof.Finite
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen Cert.Real
open Cert.SguIdeal.Blocks (Db Ub Cb Gb wb bb rr P D R Sb)

variable (m : (ℓ : Loc nD τ sig) → Buf (Elt Ideal) ℓ)

/-- The windows' block indices in closed form. -/
theorem idx : ∀ t : Fin cfg0.N, win0_0.index t = ![t.val, 3] ∧ win0_1.index t = ![t.val, 9] ∧ win0_2.index t = ![t.val, 10]
    ∧ win0_3.index t = ![0, 0] ∧ win0_4.index t = ![0, 0, 0] ∧ win0_5.index t = ![0, 0] ∧ win0_6.index t = ![t.val, 0] ∧ win0_7.index t = ![t.val, 0]
    ∧ win0_8.index t = ![0, 0, 0] ∧ win0_9.index t = ![0, 0] ∧ win0_10.index t = ![0, 0] :=
  (by decide +kernel : ∀ t : Fin grid0.N, _)

/-- The arguments. -/
def X (c : Dev nD) : FVec Ideal S1x2048x2816 .f32 := m ((c : Thread nD τ).loc main_arg0)
def G (c : Dev nD) : FVec Ideal S256 .f32 := m ((c : Thread nD τ).loc main_arg1)
def W (c : Dev nD) : FVec Ideal S4x128x128 .f32 := m ((c : Thread nD τ).loc main_arg2)
def B (c : Dev nD) : FVec Ideal S4x128 .f32 := m ((c : Thread nD τ).loc main_arg3)
def Y (c : Dev nD) : FVec Ideal S1x2048x1024 .f32 := m ((c : Thread nD τ).loc main_arg4)

def g (t : Fin cfg0.N) : Fin 4 := ⟨t.val, lt_of_lt_of_eq t.isLt N_0⟩

/-- The blocks of a grid point. -/
theorem blk0 (c : Dev nD) (t : Fin cfg0.N) : iblk m c 0 t = Db (Y m c) (g t) := by
  funext j; idx_vars j; unfold Y Db g Cert.SguRefIdeal.Rows.d rr; blk_point [iblk, V, idx t]
theorem blk1 (c : Dev nD) (t : Fin cfg0.N) : iblk m c 1 t = Ub (X m c) (g t) := by
  funext j; idx_vars j; unfold X Ub g Cert.SguRefIdeal.Rows.cu rr; blk_point [iblk, V, idx t]
theorem blk2 (c : Dev nD) (t : Fin cfg0.N) : iblk m c 2 t = Cb (X m c) (g t) := by
  funext j; idx_vars j; unfold X Cb g Cert.SguRefIdeal.Rows.cv rr; blk_point [iblk, V, idx t]
theorem blk3 (c : Dev nD) (t : Fin cfg0.N) : iblk m c 3 t = Gb (G m c) := by
  funext j; idx_vars j; unfold G Gb; blk_point [iblk, V, idx t]
theorem blk5 (c : Dev nD) (t : Fin cfg0.N) : iblk m c 5 t = bb (B m c) := by
  funext j; idx_vars j; unfold B bb Rows.hd; blk_point [iblk, V, idx t]

theorem w0 (c : Dev nD) (t : Fin cfg0.N) : View.ld (iblk m c 4 t) (Rect.unit ![0, 0, 0] ![1, 128, 128] inb_S4x128x128_S1x128x128_0_0_0) = wb (W m c) 0 := by
  funext j; idx_vars j; unfold W wb; blk_point [iblk, V, idx t]
theorem w1 (c : Dev nD) (t : Fin cfg0.N) : View.ld (iblk m c 4 t) (Rect.unit ![1, 0, 0] ![1, 128, 128] inb_S4x128x128_S1x128x128_1_0_0) = wb (W m c) 1 := by
  funext j; idx_vars j; unfold W wb; blk_point [iblk, V, idx t]
theorem w2 (c : Dev nD) (t : Fin cfg0.N) : View.ld (iblk m c 4 t) (Rect.unit ![2, 0, 0] ![1, 128, 128] inb_S4x128x128_S1x128x128_2_0_0) = wb (W m c) 2 := by
  funext j; idx_vars j; unfold W wb; blk_point [iblk, V, idx t]
theorem w3 (c : Dev nD) (t : Fin cfg0.N) : View.ld (iblk m c 4 t) (Rect.unit ![3, 0, 0] ![1, 128, 128] inb_S4x128x128_S1x128x128_3_0_0) = wb (W m c) 3 := by
  funext j; idx_vars j; unfold W wb; blk_point [iblk, V, idx t]

/-- What the scratch holds once its four chunks are written. -/
theorem scratch_at (f : Fin 512 → Fin 256 → EReal) (p3 p2 p1 p0 : FVec Ideal S128x256 .f32)
    (h3 : ∀ i k, p3 (ix2 i k) = f (Rows.row 384 (by decide) i) k) (h2 : ∀ i k, p2 (ix2 i k) = f (Rows.row 256 (by decide) i) k)
    (h1' : ∀ i k, p1 (ix2 i k) = f (Rows.row 128 (by decide) i) k) (h0' : ∀ i k, p0 (ix2 i k) = f (Rows.row 0 (by decide) i) k) :
    (View.whole cc0_scratch0).readCov (Val := Elt Ideal)
      [⟨Rect.unit ![384, 0] ![128, 256] inb_S512x256_S128x256_384_0, p3⟩, ⟨Rect.unit ![256, 0] ![128, 256] inb_S512x256_S128x256_256_0, p2⟩,
        ⟨Rect.unit ![128, 0] ![128, 256] inb_S512x256_S128x256_128_0, p1⟩, ⟨Rect.unit ![0, 0] ![128, 256] inb_S512x256_S128x256_0_0, p0⟩]
      (Rect.unit ![0, 0] ![512, 256] inb_S512x256_S512x256_0_0).toLoadRect = (fun j => f (j 0) (j 1) : FVec Ideal S512x256 .f32) := by
  rw [View.readCov_eq_canon']
  funext y
  have hy : (Rect.unit ![0, 0] ![512, 256] inb_S512x256_S512x256_0_0 : Rect S512x256).toLoadRect.idx y = y := by
    funext a
    apply Fin.ext
    match a with
    | ⟨0, _⟩ => show 0 + 1 * (y 0).val = (y 0).val; omega
    | ⟨1, _⟩ => show 0 + 1 * (y 1).val = (y 1).val; omega
  rw [hy]
  change S512x256.Idx at y
  idx_vars y
  canon_tiles x h
  all_goals
    idx_vars x
    obtain rfl : x1 = y1 := Fin.ext h1.symm
  · obtain rfl : y0 = Rows.row 384 (by decide) x0 := Fin.ext h0
    exact h3 x0 x1
  · obtain rfl : y0 = Rows.row 256 (by decide) x0 := Fin.ext h0
    exact h2 x0 x1
  · obtain rfl : y0 = Rows.row 128 (by decide) x0 := Fin.ext h0
    exact h1' x0 x1
  · obtain rfl : y0 = Rows.row 0 (by decide) x0 := Fin.ext (h0.trans (Nat.zero_add _).symm)
    exact h0' x0 x1

/-- What the chunks of a point share: the values that are mixed, the first operand's unit, and the weights of the four heads. -/
abbrev vals (c : Dev nD) (t : Fin cfg0.N) : FVec Ideal S512x256 .bf16 :=
  k0_pay26 (k0_pay23 (k0_pay15 (iblk m c 2 t)) k0_pay16 (iota .tc S256x256 32 [1] iota_S256x256_d1_w32) 64#32 k0_pay17 k0_pay18 1#32 0#32) (iblk m c 3 t)
abbrev gu (c : Dev nD) (t : Fin cfg0.N) : FVec Ideal S512x256 .f32 := k0_pay20 (k0_pay14 (iblk m c 1 t))
abbrev wl0 (c : Dev nD) (t : Fin cfg0.N) : FVec Ideal S1x128x128 .f32 := View.ld (iblk m c 4 t) (Rect.unit ![0, 0, 0] ![1, 128, 128] inb_S4x128x128_S1x128x128_0_0_0)
abbrev wl1 (c : Dev nD) (t : Fin cfg0.N) : FVec Ideal S1x128x128 .f32 := View.ld (iblk m c 4 t) (Rect.unit ![1, 0, 0] ![1, 128, 128] inb_S4x128x128_S1x128x128_1_0_0)
abbrev wl2 (c : Dev nD) (t : Fin cfg0.N) : FVec Ideal S1x128x128 .f32 := View.ld (iblk m c 4 t) (Rect.unit ![2, 0, 0] ![1, 128, 128] inb_S4x128x128_S1x128x128_2_0_0)
abbrev wl3 (c : Dev nD) (t : Fin cfg0.N) : FVec Ideal S1x128x128 .f32 := View.ld (iblk m c 4 t) (Rect.unit ![3, 0, 0] ![1, 128, 128] inb_S4x128x128_S1x128x128_3_0_0)

variable (c : Dev nD) (hX : ∀ j, IsReal (X m c j)) (hG : ∀ j, IsReal (G m c j)) (hW : ∀ j, IsReal (W m c j)) (hB : ∀ j, IsReal (B m c j))
  (hY : ∀ j, IsReal (Y m c j))

/-- What the scratch holds of a point: the gradient of the mixed values. -/
theorem scratch (t : Fin cfg0.N) :
    (View.whole cc0_scratch0).readCov (Val := Elt Ideal)
      [⟨Rect.unit ![384, 0] ![128, 256] inb_S512x256_S128x256_384_0,
          k0_pay115 (k0_pay110 k0_pay24 k0_pay25 (k0_pay102 (gu m c t) (k0_pay27 (iblk m c 0 t))) (k0_pay105 (gu m c t) k0_pay24 k0_pay25 (k0_pay27 (iblk m c 0 t)) (wl0 m c t)) (1#32) (wl1 m c t) (wl2 m c t))
            (k0_pay112 k0_pay24 (k0_pay102 (gu m c t) (k0_pay27 (iblk m c 0 t)))) (k0_pay113 k0_pay25 (wl3 m c t))⟩,
        ⟨Rect.unit ![256, 0] ![128, 256] inb_S512x256_S128x256_256_0,
          k0_pay94 k0_pay24 k0_pay25 (k0_pay80 (gu m c t) (k0_pay27 (iblk m c 0 t)))
            (k0_pay87 k0_pay24 k0_pay25 (k0_pay80 (gu m c t) (k0_pay27 (iblk m c 0 t))) k0_pay82 (k0_pay83 k0_pay24) (FloatOps.ofBits FTy.f32 0#32) (wl0 m c t) (wl1 m c t))
            (k0_pay90 k0_pay24 k0_pay25 (k0_pay80 (gu m c t) (k0_pay27 (iblk m c 0 t))) (wl2 m c t)) (wl3 m c t)⟩,
        ⟨Rect.unit ![128, 0] ![128, 256] inb_S512x256_S128x256_128_0,
          k0_pay73 k0_pay24 k0_pay25 (k0_pay61 (gu m c t) (k0_pay27 (iblk m c 0 t))) (k0_pay66 (gu m c t) k0_pay24 k0_pay25 (k0_pay27 (iblk m c 0 t)) (wl0 m c t) (wl1 m c t)) (wl2 m c t) (wl3 m c t)⟩,
        ⟨Rect.unit ![0, 0] ![128, 256] inb_S512x256_S128x256_0_0,
          k0_pay56 (k0_pay51 k0_pay24 k0_pay25 (k0_pay43 (gu m c t) (k0_pay27 (iblk m c 0 t))) (k0_pay46 (gu m c t) k0_pay24 k0_pay25 (k0_pay27 (iblk m c 0 t)) (wl0 m c t)) (1#32) (wl1 m c t) (wl2 m c t))
            (k0_pay53 k0_pay24 (k0_pay43 (gu m c t) (k0_pay27 (iblk m c 0 t)))) (k0_pay54 k0_pay25 (wl3 m c t))⟩]
      (Rect.unit ![0, 0] ![512, 256] inb_S512x256_S512x256_0_0).toLoadRect = Sb (X m c) (W m c) (Y m c) (g t) := by
  unfold gu wl0 wl1 wl2 wl3
  rw [blk0, blk1, w0, w1, w2, w3]
  exact scratch_at (fun r k => Cert.SguRefIdeal.Rows.dvn (X m c) (W m c) (Y m c) (rr (g t) r) (Rows.hd k) (Cert.SguRefIdeal.Rows.lane k)) _ _ _ _
    (fun i k => (Rows.dvv3 _ _ _ _ _ _ i k).trans (Blocks.back_at _ _ _ (g t) (by decide) (by decide) i k))
    (fun i k => (Rows.dvv2 _ _ _ _ _ _ i k).trans (Blocks.back_at _ _ _ (g t) (by decide) (by decide) i k))
    (fun i k => (Rows.dvv1 _ _ _ _ _ _ i k).trans (Blocks.back_at _ _ _ (g t) (by decide) (by decide) i k))
    (fun i k => (Rows.dvv0 _ _ _ _ _ _ i k).trans (Blocks.back_at _ _ _ (g t) (by decide) (by decide) i k))

include hX hG hW hY in
/-- A point's rows of the second operand's gradient. -/
theorem point_dc (t : Fin cfg0.N) (y : S512x256.Idx) :
    k0_pay1 (F := Ideal) (k0_pay116 Rows.hm (k0_pay21 (k0_pay15 (iblk m c 2 t)))
        (k0_pay22 (k0_pay15 (iblk m c 2 t)) k0_pay16 (iota .tc S256x256 32 [1] iota_S256x256_d1_w32) 64#32 k0_pay17 k0_pay18 1#32 0#32)
        (Sb (X m c) (W m c) (Y m c) (g t)) (iblk m c 3 t))
        (k0_pay117 (k0_pay15 (iblk m c 2 t))) (k0_pay118 (k0_pay15 (iblk m c 2 t))) (Named.named κ "gauss" 1053573674#32) y
      = Cert.SguRefIdeal.Read.val_main_v122 (F := Ideal) (X m c) (G m c) (W m c) (Y m c) (((cfg0.win 7).blk t).view.emb y) := by
  rw [blk2, blk3]
  idx_vars y
  exact (Blocks.dc_eq (g t) hX hG hW hY y0 y1).trans (congrArg _ (show ix2 (rr (g t) y0) y1 = _ by unfold rr g; blk_ext [idx t]))

include hX hG hW hB hY in
theorem final_du : (dats m 0 c).arrAt 6 cfg0.N
    = Cert.SguRefIdeal.Read.val_main_v120 (F := Ideal) (X m c) (G m c) (W m c) (B m c) (Y m c) := by
  refine (dats m 0 c).arrAt_eq_of_covers 6 _ (by decide +kernel) fun t hf y => ?_
  have hN : t.val < 4 := lt_of_lt_of_eq t.isLt N_0
  blk_simp
  rw [after0_6]
  by_cases h0 : t.val % 4 = 0
  on_goal 1 => rw [outsAt0_A m c t h0 (by omega)]
  on_goal 2 => rw [outsAt0_B m c t h0 (by omega)]
  all_goals
    frame_out
    rw [blk0, blk1, blk2, blk3, blk5]
    idx_vars y
    refine Eq.trans ?_ (congrArg _ (show ix2 (rr (g t) y0) y1 = _ by unfold rr g; blk_ext [idx t]))
    canon_tiles x h
    all_goals
      idx_vars x
      obtain rfl : x1 = y1 := Fin.ext h1.symm
    · obtain rfl : y0 = Rows.row 384 (by decide) x0 := Fin.ext h0
      refine (Rows.du3 _ _ _ _ _ _ _ _ x0 x1).trans ?_
      rw [w0, w1, w2, w3]
      exact (Blocks.du_eq (g t) (by decide) (by decide) x0 x1 hX hG hW hB hY)
    · obtain rfl : y0 = Rows.row 256 (by decide) x0 := Fin.ext h0
      refine (Rows.du2 _ _ _ _ _ _ _ _ x0 x1).trans ?_
      rw [w0, w1, w2, w3]
      exact (Blocks.du_eq (g t) (by decide) (by decide) x0 x1 hX hG hW hB hY)
    · obtain rfl : y0 = Rows.row 128 (by decide) x0 := Fin.ext h0
      refine (Rows.du1 _ _ _ _ _ _ _ _ x0 x1).trans ?_
      rw [w0, w1, w2, w3]
      exact (Blocks.du_eq (g t) (by decide) (by decide) x0 x1 hX hG hW hB hY)
    · obtain rfl : y0 = Rows.row 0 (by decide) x0 := Fin.ext (h0.trans (Nat.zero_add _).symm)
      refine (Rows.du0 _ _ _ _ _ _ _ _ x0 x1).trans ?_
      rw [w0, w1, w2, w3]
      exact (Blocks.du_eq (g t) (by decide) (by decide) x0 x1 hX hG hW hB hY)

include hX hG hW hY in
theorem final_dc : (dats m 0 c).arrAt 7 cfg0.N = Cert.SguRefIdeal.Read.val_main_v122 (F := Ideal) (X m c) (G m c) (W m c) (Y m c) := by
  refine (dats m 0 c).arrAt_eq_of_covers 7 _ (by decide +kernel) fun t hf y => ?_
  have hN : t.val < 4 := lt_of_lt_of_eq t.isLt N_0
  blk_simp
  rw [after0_7]
  by_cases h0 : t.val % 4 = 0
  · rw [outsAt0_A m c t h0 (by omega)]
    frame_out
    generalize hS : (View.whole cc0_scratch0).readCov (Val := Elt Ideal) _ _ = S
    obtain rfl : S = _ := hS.symm.trans (scratch m c t)
    exact point_dc m c hX hG hW hY t y
  · rw [outsAt0_B m c t h0 (by omega)]
    frame_out
    generalize hS : (View.whole cc0_scratch0).readCov (Val := Elt Ideal) _ _ = S
    obtain rfl : S = _ := hS.symm.trans (scratch m c t)
    exact point_dc m c hX hG hW hY t y

include hX in
theorem final_dw : (dats m 0 c).arrAt 8 cfg0.N = Cert.SguRefIdeal.Read.val_main_v72 (F := Ideal) (X m c) (G m c) (Y m c) := by
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => 0)
    (fun t j => Rows.wblock (P (X m c) (g t)) (D (Y m c) (g t)) (Blocks.V (X m c) (G m c) (g t)) (j 0).val (j 1) (j 2))
    (fun t h j => by
      rw [outsAt0_A m c t h (by have := lt_of_lt_of_eq t.isLt N_0; omega)]
      frame_out
      rw [zero_add, blk0, blk1, blk2, blk3]
      idx_vars j
      canon_tiles x h
      all_goals
        idx_vars x
        have hx : x0.val < 1 := x0.isLt
        obtain rfl : x1 = j1 := Fin.ext h1.symm
        obtain rfl : x2 = j2 := Fin.ext h2.symm
      · obtain rfl : j0 = 3 := Fin.ext (by have : j0.val = 3 + x0.val := h0; show j0.val = 3; omega)
        exact Rows.dw3 _ _ _ x0 x1 x2
      · obtain rfl : j0 = 2 := Fin.ext (by have : j0.val = 2 + x0.val := h0; show j0.val = 2; omega)
        exact Rows.dw2 _ _ _ x0 x1 x2
      · obtain rfl : j0 = 1 := Fin.ext (by have : j0.val = 1 + x0.val := h0; show j0.val = 1; omega)
        exact Rows.dw1 _ _ _ x0 x1 x2
      · obtain rfl : j0 = 0 := Fin.ext (by have : j0.val = x0.val := h0; show j0.val = 0; omega)
        exact Rows.dw0 _ _ _ x0 x1 x2)
    (fun t h j => by
      rw [outsAt0_B m c t h (by have := lt_of_lt_of_eq t.isLt N_0; omega)]
      frame_out
      rw [blk0, blk1, blk2, blk3]
      idx_vars j
      canon_tiles x h
      all_goals
        idx_vars x
        have hx : x0.val < 1 := x0.isLt
        obtain rfl : x1 = j1 := Fin.ext h1.symm
        obtain rfl : x2 = j2 := Fin.ext h2.symm
      · obtain rfl : j0 = 3 := Fin.ext (by have : j0.val = 3 + x0.val := h0; show j0.val = 3; omega)
        refine (Rows.acc3 _ _ x0 x1 x2).trans (congrArg₂ (· + ·) ?_ (Rows.dw3 _ _ _ x0 x1 x2))
        pointwise
      · obtain rfl : j0 = 2 := Fin.ext (by have : j0.val = 2 + x0.val := h0; show j0.val = 2; omega)
        refine (Rows.acc2 _ _ x0 x1 x2).trans (congrArg₂ (· + ·) ?_ (Rows.dw2 _ _ _ x0 x1 x2))
        pointwise
      · obtain rfl : j0 = 1 := Fin.ext (by have : j0.val = 1 + x0.val := h0; show j0.val = 1; omega)
        refine (Rows.acc1 _ _ x0 x1 x2).trans (congrArg₂ (· + ·) ?_ (Rows.dw1 _ _ _ x0 x1 x2))
        pointwise
      · obtain rfl : j0 = 0 := Fin.ext (by have : j0.val = x0.val := h0; show j0.val = 0; omega)
        refine (Rows.acc0 _ _ x0 x1 x2).trans (congrArg₂ (· + ·) ?_ (Rows.dw0 _ _ _ x0 x1 x2))
        pointwise)
    (le_of_eq N_0) t0_3 rfl j, zero_add]
  idx_vars j
  exact Blocks.dw_eq j0 j1 j2 hX

include hX hY in
theorem final_db : (dats m 0 c).arrAt 9 cfg0.N = Cert.SguRefIdeal.Read.val_main_v124 (F := Ideal) (X m c) (Y m c) := by
  refine (dats m 0 c).arrAt_eq_of_after_last 9 t0_3 (by decide +kernel) _ fun j => ?_
  have hd (t : Fin 4) (r : Fin 512) (k : Fin 256) : IsReal (Rows.dsv (P (X m c) t) (D (Y m c) t) r k) := by
    rw [Blocks.dsv_eq]
    exact Cert.SguRefIdeal.Reals.ds_real hX hY _ _
  blk_simp
  rw [after0_9, Pipeline.eq_sum_fin_of_reset_step_apply_last (fun n h => (outsAt0 m c n h).2.2.2.1) 4 (fun _ => 0)
    (fun t j => Rows.bpart (P (X m c) (g t)) (D (Y m c) (g t)) 0 (by decide) (j 0) (j 1) + Rows.bpart (P (X m c) (g t)) (D (Y m c) (g t)) 128 (by decide) (j 0) (j 1)
      + Rows.bpart (P (X m c) (g t)) (D (Y m c) (g t)) 256 (by decide) (j 0) (j 1) + Rows.bpart (P (X m c) (g t)) (D (Y m c) (g t)) 384 (by decide) (j 0) (j 1))
    (fun t h j => by
      rw [outsAt0_A m c t h (by have := lt_of_lt_of_eq t.isLt N_0; omega)]
      frame_out
      rw [zero_add, blk0, blk1]
      idx_vars j
      exact Rows.db _ _ (hd (g t)) j0 j1 _ rfl)
    (fun t h j => by
      rw [outsAt0_B m c t h (by have := lt_of_lt_of_eq t.isLt N_0; omega)]
      frame_out
      rw [blk0, blk1]
      idx_vars j
      exact (Rows.accb _ _ j0 j1).trans (congrArg _ (Rows.db _ _ (hd (g t)) j0 j1 _ rfl)))
    (le_of_eq N_0) t0_3 rfl j, zero_add]
  idx_vars j
  exact Blocks.db_eq j0 j1

include hX in
theorem final_dg : (dats m 0 c).arrAt 10 cfg0.N = Cert.SguRefIdeal.Read.val_main_v125 (F := Ideal) (X m c) (W m c) (Y m c) := by
  refine (dats m 0 c).arrAt_eq_of_after_last 10 t0_3 (by decide +kernel) _ fun j => ?_
  blk_simp
  rw [after0_10, Pipeline.eq_sum_fin_of_reset_step_apply_last (fun n h => (outsAt0 m c n h).2.2.2.2) 4 (fun _ => 0)
    (fun t j => ∑ r : Fin 512, Sb (X m c) (W m c) (Y m c) (g t) (ix2 r (j 1)) * (k0_pay21 (F := Ideal) (k0_pay15 (Cb (X m c) (g t))) (ix2 r (j 1)) * R (X m c) (g t) (ix2 r (j 1))))
    (fun t h j => by
      rw [outsAt0_A m c t h (by have := lt_of_lt_of_eq t.isLt N_0; omega)]
      frame_out
      generalize hS : (View.whole cc0_scratch0).readCov (Val := Elt Ideal) _ _ = S
      obtain rfl : S = _ := hS.symm.trans (scratch m c t)
      rw [zero_add, blk2]
      idx_vars j
      exact Rows.dgv _ _ _ j0 j1)
    (fun t h j => by
      rw [outsAt0_B m c t h (by have := lt_of_lt_of_eq t.isLt N_0; omega)]
      frame_out
      generalize hS : (View.whole cc0_scratch0).readCov (Val := Elt Ideal) _ _ = S
      obtain rfl : S = _ := hS.symm.trans (scratch m c t)
      rw [blk2]
      idx_vars j
      exact (Rows.accg _ _ _ _ j0 j1).trans (congrArg _ (Rows.dgv _ _ _ j0 j1)))
    (le_of_eq N_0) t0_3 rfl j, zero_add]
  idx_vars j
  exact Blocks.dg_eq j0 j1 hX

end Cert.SguIdeal.Value

namespace Cert.Proof

theorem quiescent_SguRefIdeal : quiescent_SguRefIdeal := fun m ρ _ =>
  (θ_run Cert.SguRefIdeal.defs _ _).mono (fun r h => ⟨fun c => (h c).2.2.2.2.2, sem_eq_zero_of_no_sems (by decide) r.2⟩)
    (Cert.SguRefIdeal.Value.run (F := Ideal) m ρ)

/-- The two names of the kernel's constants: a half's root, and the Gaussian's factor. -/
theorem preserves_Sgu_SguIdeal : preserves_Sgu_SguIdeal := by
  refine ⟨?_, ?_⟩
  · exact IdealRules.named_const.statement Cert.SguIdeal.κ _ _ _ _ rfl
  · exact IdealRules.named_const.statement Cert.SguIdeal.κ _ _ _ _ rfl

/-- The gating unit: on finite arguments the kernel's five results are the reference's over the reals. -/
theorem algebraic_SguIdeal_SguRefIdeal : algebraic_SguIdeal_SguRefIdeal_pre_finite_sgu := by
  pair_intro
  · run_from Cert.SguIdeal.Gen.run_main m g
  · have hX (c) := Finite.isReal_of_ones _ _ _ (hpre c).1
    have hG (c) := Finite.isReal_of_ones _ _ _ (hpre c).2.1
    have hW (c) := Finite.isReal_of_ones _ _ _ (hpre c).2.2.1
    have hB (c) := Finite.isReal_of_ones _ _ _ (hpre c).2.2.2.1
    have hY (c) := Finite.isReal_of_ones _ _ _ (hpre c).2.2.2.2
    run_from Cert.SguRefIdeal.Value.run m' g'
    · obtain ⟨h0, h1, h2, h3, h4⟩ := hagree c
      rw [Cert.SguRefIdeal.Read.val_main_v120_eq, h0, h1, h2, h3, h4]
      exact (Cert.SguIdeal.Value.final_du m c (hX c) (hG c) (hW c) (hB c) (hY c)).symm
    · obtain ⟨h0, h1, h2, h3, h4⟩ := hagree c
      rw [Cert.SguRefIdeal.Read.val_main_v122_eq, h0, h1, h2, h4]
      exact (Cert.SguIdeal.Value.final_dc m c (hX c) (hG c) (hW c) (hY c)).symm
    · exact (Cert.SguIdeal.Value.final_dw m c (hX c)).symm
    · exact (Cert.SguIdeal.Value.final_db m c (hX c) (hY c)).symm
    · exact (Cert.SguIdeal.Value.final_dg m c (hX c)).symm

end Cert.Proof

end
-- ==== Proof.AttnOff.lean ====
module

public import proofs.«01_k».proof.Proof.Gen.AttnIdeal.Frame
public import proofs.«01_k».proof.Proof.Gen.AttnIdeal.Loops

@[expose] public section

noncomputable section

namespace Cert.AttnIdeal.Hand

open Idealize.ShloMosaic Cert.AttnIdeal Cert.AttnIdeal.Gen Idealize.ShloMosaic.Tactic

theorem trips1 : ∀ i : grid0.Coords, (k0_t1_loop i).trips = (i 1).val + 1 := by decide +kernel
theorem trips2 : ∀ i : grid0.Coords, (k0_t2_loop i).trips = 0 := by decide +kernel
theorem off1_0 : ∀ i : grid0.Coords, k0_off1 i 0#32 = ![0, 0] := by decide +kernel
theorem off1_1 : ∀ i : grid0.Coords, k0_off1 i 1#32 = ![256 * min 1 (i 1).val, 0] := by decide +kernel
theorem off2 : ∀ (i : grid0.Coords) (k : Fin (k0_t1_loop i).trips), k0_off2 i k = ![256 * k.val, 0] := by decide +kernel
theorem off3 : ∀ (i : grid0.Coords) (k : Fin (k0_t1_loop i).trips), k0_off3 i k = ![256 * (k.val - 1), 0] := by decide +kernel
theorem off4 : ∀ (i : grid0.Coords) (k : Fin (k0_t1_loop i).trips), k0_off4 i k = ![256 * min (i 1).val (k.val + 2), 0] := by decide +kernel
theorem off5_1 : ∀ (i : grid0.Coords) (k : Fin (k0_t1_loop i).trips), k0_off5 i k 1#32 = ![(k.val + 1) % 3, 0, 0] := by decide +kernel
theorem off5_2 : ∀ (i : grid0.Coords) (k : Fin (k0_t1_loop i).trips), k0_off5 i k 2#32 = ![(k.val + 2) % 3, 0, 0] := by decide +kernel
theorem off6 : ∀ (i : grid0.Coords) (k : Fin (k0_t1_loop i).trips), k0_off6 i k = ![k.val % 3, 0, 0] := by decide +kernel
theorem off12 : ∀ i : grid0.Coords, k0_off12 i = ![256 * (i 1).val, 0] := by decide +kernel
theorem off13 : ∀ i : grid0.Coords, k0_off13 i = ![(i 1).val % 3, 0, 0] := by decide +kernel

end Cert.AttnIdeal.Hand

end
-- ==== Proof.AttnTrip.lean ====
module

public import proofs.«01_k».proof.Proof.AttnOff
public import Idealize.ShloMosaic.Lib.Exec
public import Idealize.ShloMosaic.Lib.VecWindow

@[expose] public section

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen
open Idealize.ShloMosaic.Pipeline (Dat Cfg Window BodyObligation cellOf)

variable {F : FTy → Type} [FloatOps F] [Named F]

local notation "𝕄" => MT nD τ sig Unit (Elt F) ℕ (UR sig nD τ) ℕ

instance (i : grid0.Coords) (k : Fin (k0_t1_loop i).trips) : ClosedOff (k0_off3 i k) := ⟨_, off3 i k⟩
instance (i : grid0.Coords) (k : Fin (k0_t1_loop i).trips) : ClosedOff (k0_off5 i k 1#32) := ⟨_, off5_1 i k⟩
instance (i : grid0.Coords) (k : Fin (k0_t1_loop i).trips) : ClosedOff (k0_off5 i k 2#32) := ⟨_, off5_2 i k⟩
instance (i : grid0.Coords) (k : Fin (k0_t1_loop i).trips) : ClosedOff (k0_off6 i k) := ⟨_, off6 i k⟩

/-- What the loop's trips change: the scratch buffers and the two carried columns. -/
structure St (F : FTy → Type) where
  dkn : Vec F S2048x128 .f32
  dv : Vec F S2048x128 .f32
  lb : Vec F S3x512x256 .f32
  z : Vec F S512x256 .f32
  g : Vec F S512x256 .f32
  dq : Vec F S512x128 .f32
  hi : Vec F S512x256 .bf16
  lo : Vec F S512x256 .bf16
  a : Vec F S512x256 .bf16
  gh : Vec F S512x256 .bf16
  gl : Vec F S512x256 .bf16
  run : FVec F S512x1 .f32
  gr : FVec F S512x1 .f32

/-- What the loop's trips only read: the tile's two stacked operands, the row totals, the two triangles of ones, the
diagonal tile's bias, the values and the normed keys. -/
structure Ctx (F : FTy → Type) where
  qi : BitVec 32
  q : FVec F S512x128 .bf16
  dy : FVec F S512x128 .bf16
  total : FVec F S512x1 .f32
  upto : FVec F S256x256 .bf16
  before : FVec F S256x256 .bf16
  diag : FVec F S512x256 .f32
  v : Vec F S2048x128 .bf16
  kn : Vec F S2048x128 .bf16

/-- One trip: the weights and `dz` of its key tile from the state the trips before it left. -/
def next (i : grid0.Coords) (C : Ctx F) (k : Fin (k0_t1_loop i).trips) (S : St F) : St F :=
  let w := Scf.iv 0#32 1#32 k.val
  let rows3 := fun {e : EltTy} (x : Vec F S2048x128 e) => VecWindow.window x (k0_off3 i k) S256x128.size (k0_off3_inb i k)
  let bb := k0_pay8 C.before S.gh S.gl
  let up := k0_pay26 (k0_pay9 C.upto S.hi S.lo)
  let da := k0_pay10 C.dy (VecWindow.window C.v (k0_off2 i k) S256x128.size (k0_off2_inb i k))
  let lb := VecWindow.put S.lb (k0_off5 i k 1#32) S1x512x256.size (k0_pay18 C.qi C.diag w S.z)
  let dz := k0_pay22 S.gr bb S.g (VecWindow.window lb (k0_off5 i k 2#32) S1x512x256.size (k0_off5_inb i k 1))
  let lbk := k0_pay27 (VecWindow.window lb (k0_off6 i k) S1x512x256.size (k0_off6_inb i k))
  { dkn := VecWindow.put S.dkn (k0_off3 i k) S256x128.size (k0_pay24 C.q dz (rows3 S.dkn))
    dv := VecWindow.put S.dv (k0_off3 i k) S256x128.size (k0_pay11 C.dy (rows3 S.dv) S.a)
    lb := lb
    z := k0_pay97 (k0_pay12 C.q (VecWindow.window C.kn (k0_off4 i k) S256x128.size (k0_off4_inb i k)))
    g := k0_pay93 C.total S.run da up lbk
    dq := k0_pay23 dz S.dq (rows3 C.kn)
    hi := k0_pay19 (k0_pay16 C.qi C.diag w S.z)
    lo := k0_pay20 (k0_pay17 C.qi C.diag w S.z)
    a := k0_pay92 C.total S.run up lbk
    gh := k0_pay95 C.total S.run da up lbk
    gl := k0_pay96 C.total S.run da up lbk
    run := k0_pay98 S.run up
    gr := k0_pay25 S.gr S.g (k0_pay21 bb) }

/-- The buffers a trip touches, at their contents. -/
def held (c : Dev nD) (arg4 : Memref sig .tc .vmem S2048x128 .bf16) (arg14 : Memref sig .tc .vmem S2048x128 .bf16) (arg15 : Memref sig .tc .vmem S2048x128 .f32) (arg16 : Memref sig .tc .vmem S2048x128 .f32) (arg17 : Memref sig .tc .vmem S3x512x256 .f32) (arg18 : Memref sig .tc .vmem S512x256 .f32) (arg19 : Memref sig .tc .vmem S512x256 .f32) (arg20 : Memref sig .tc .vmem S512x128 .f32) (arg21 : Memref sig .tc .vmem S512x256 .bf16) (arg22 : Memref sig .tc .vmem S512x256 .bf16) (arg23 : Memref sig .tc .vmem S512x256 .bf16) (arg24 : Memref sig .tc .vmem S512x256 .bf16) (arg25 : Memref sig .tc .vmem S512x256 .bf16) (C : Ctx F) (S : St F) : sProp 𝕄 :=
  iprop(owns (c : Thread nD τ) arg4 fullShare C.v ∗ owns (c : Thread nD τ) arg14 fullShare C.kn
     ∗ owns (c : Thread nD τ) arg15 fullShare S.dkn ∗ owns (c : Thread nD τ) arg16 fullShare S.dv ∗ owns (c : Thread nD τ) arg17 fullShare S.lb
     ∗ owns (c : Thread nD τ) arg18 fullShare S.z ∗ owns (c : Thread nD τ) arg19 fullShare S.g ∗ owns (c : Thread nD τ) arg20 fullShare S.dq
     ∗ owns (c : Thread nD τ) arg21 fullShare S.hi ∗ owns (c : Thread nD τ) arg22 fullShare S.lo ∗ owns (c : Thread nD τ) arg23 fullShare S.a
     ∗ owns (c : Thread nD τ) arg24 fullShare S.gh ∗ owns (c : Thread nD τ) arg25 fullShare S.gl)

theorem read_put {κ : Kind} {sp : Space} {s : Shape} {e : EltTy} (m : Memref sig κ sp s e) (h : m.IsWhole) (x : s.Idx → Elt F e) {off size : Fin s.rank → ℕ}
    (inb : ∀ a, off a + size a ≤ s.size a) (w : (Rect.unit off size inb).shape.Idx → Elt F e) :
    m.view.read (Elt F) (m.view.writes (Elt F) (h.unread x) [⟨Rect.unit off size inb, w⟩]) = VecWindow.put x off size w :=
  (View.read_writes_cons_put m.view _ inb w [] rfl).trans (by rw [View.writes_nil, h.read_unread])

theorem read_window {κ : Kind} {sp : Space} {s : Shape} {e : EltTy} (m : Memref sig κ sp s e) (h : m.IsWhole) (x : s.Idx → Elt F e) {off size : Fin s.rank → ℕ}
    (inb : ∀ a, off a + size a ≤ s.size a) :
    m.view.readAt (Elt F) (Rect.unit off size inb).toLoadRect (h.unread x) = VecWindow.window x off size inb := by
  rw [View.readAt_unit _ _ inb rfl inb, h.read_unread]

theorem window_tile {α : Type} (x : S512x256.Idx → α) (inb : ∀ a, (![0, 0] : Fin 2 → ℕ) a + (![512, 256] : Fin 2 → ℕ) a ≤ S512x256.size a) :
    VecWindow.window (s := S512x256) x ![0, 0] ![512, 256] inb = x :=
  funext fun y => congrArg x (Rect.emb_unit_full (s := S512x256) inb y)

theorem window_stack {α : Type} (x : S512x128.Idx → α) (inb : ∀ a, (![0, 0] : Fin 2 → ℕ) a + (![512, 128] : Fin 2 → ℕ) a ≤ S512x128.size a) :
    VecWindow.window (s := S512x128) x ![0, 0] ![512, 128] inb = x :=
  funext fun y => congrArg x (Rect.emb_unit_full (s := S512x128) inb y)

theorem read_window_put {κ : Kind} {sp : Space} {s : Shape} {e : EltTy} (m : Memref sig κ sp s e) (h : m.IsWhole) (x : s.Idx → Elt F e) {off size off' size' : Fin s.rank → ℕ}
    (inb : ∀ a, off a + size a ≤ s.size a) (w : (Rect.unit off size inb).shape.Idx → Elt F e) (inb' : ∀ a, off' a + size' a ≤ s.size a) :
    m.view.readAt (Elt F) (Rect.unit off' size' inb').toLoadRect (m.view.writes (Elt F) (h.unread x) [⟨Rect.unit off size inb, w⟩])
      = VecWindow.window (VecWindow.put x off size w) off' size' inb' := by
  rw [View.readAt_unit _ _ inb' rfl inb', read_put m h]

set_option maxHeartbeats 2000000 in
theorem trip_step (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S3x512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x256 .bf16) (harg24 : arg24.IsWhole) (arg25 : Memref sig .tc .vmem S512x256 .bf16) (harg25 : arg25.IsWhole) (c3 : BitVec 32) (C : Ctx F) (v196 v197 : FVec F S512x1 .f32)
   (k : Fin (k0_t1_loop i).trips) (S : St F) (K : FVec F S512x1 .f32 × FVec F S512x1 .f32 → sProp 𝕄) :
   iprop(held c arg4 arg14 arg15 arg16 arg17 arg18 arg19 arg20 arg21 arg22 arg23 arg24 arg25 C S ∗ (held c arg4 arg14 arg15 arg16 arg17 arg18 arg19 arg20 arg21 arg22 arg23 arg24 arg25 C (next i C k S) -∗ K ((next i C k S).run, (next i C k S).gr)))
   ⊢ wp frame (wpE (defs₀ (F := F)) Variants.none (c : Thread nD τ) none) Set.univ
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.qi C.q C.dy C.total C.upto C.before C.diag v196 v197 0#32 c3 k (S.run, S.gr)) K := by
  unfold k0_t1_body
  simp only [k0_part1_eq_skeleton, k0_part2_eq_skeleton, k0_part3_eq_skeleton, k0_part4_eq_skeleton]
  unfold held owns
  iintro ⟨⟨⟨%f4, %hf4, H4⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩⟩, HK⟩
  obtain rfl := harg4.eq_unread hf4; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25
  sl_exec
  sl_step
  have hrun : k0_pay98 S.run (trip_step.sl.r_12 c arg21 harg21 arg22 harg22 C S) = (next i C k S).run := by
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    simp only [read_window, window_tile]; rfl
  have hgr : trip_step.sl.r_11 c arg19 harg19 arg24 harg24 arg25 harg25 C S = (next i C k S).gr := by
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    simp only [read_window, window_tile]; rfl
  rw [hrun, hgr]
  iapply HK
  isplitl [H4]
  · iexists _; isplitr; swap; iexact H4; ipureintro
    exact harg4.read_unread _
  isplitl [H14]
  · iexists _; isplitr; swap; iexact H14; ipureintro
    exact harg14.read_unread _
  isplitl [H15]
  · iexists _; isplitr; swap; iexact H15; ipureintro
    refine (read_put arg15 harg15 _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H16]
  · iexists _; isplitr; swap; iexact H16; ipureintro
    refine (read_put arg16 harg16 _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H17]
  · iexists _; isplitr; swap; iexact H17; ipureintro
    refine (read_put arg17 harg17 _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H18]
  · iexists _; isplitr; swap; iexact H18; ipureintro
    refine (View.read_writes_full arg18.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H19]
  · iexists _; isplitr; swap; iexact H19; ipureintro
    refine (View.read_writes_full arg19.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H20]
  · iexists _; isplitr; swap; iexact H20; ipureintro
    refine (View.read_writes_full arg20.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H21]
  · iexists _; isplitr; swap; iexact H21; ipureintro
    refine (View.read_writes_full arg21.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H22]
  · iexists _; isplitr; swap; iexact H22; ipureintro
    refine (View.read_writes_full arg22.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H23]
  · iexists _; isplitr; swap; iexact H23; ipureintro
    refine (View.read_writes_full arg23.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  isplitl [H24]
  · iexists _; isplitr; swap; iexact H24; ipureintro
    refine (View.read_writes_full arg24.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl
  · iexists _; isplitr; swap; iexact H25; ipureintro
    refine (View.read_writes_full arg25.view _ _ _ _).trans ?_
    repeat delta trip_step.sl.r trip_step.sl.r_1 trip_step.sl.r_2 trip_step.sl.r_3 trip_step.sl.r_4 trip_step.sl.r_5 trip_step.sl.r_6 trip_step.sl.r_7 trip_step.sl.r_8 trip_step.sl.r_9 trip_step.sl.r_10 trip_step.sl.r_11 trip_step.sl.r_12 trip_step.sl.r_13 trip_step.sl.H17_1 trip_step.sl.arg26
    try simp only [read_window, read_window_put, window_tile, window_stack]
    rfl

end Cert.AttnIdeal.Hand

end
-- ==== Proof.AttnLoop.lean ====
module

public import proofs.«01_k».proof.Proof.AttnTrip
public import Idealize.ShloMosaic.Lib.Exec
public import Idealize.ShloMosaic.Lib.VecWindow

@[expose] public section

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen
open Idealize.ShloMosaic.Pipeline (Dat Cfg Window BodyObligation cellOf)

variable {F : FTy → Type} [FloatOps F] [Named F]

local notation "𝕄" => MT nD τ sig Unit (Elt F) ℕ (UR sig nD τ) ℕ

/-- The state before trip `k`. -/
def iter (i : grid0.Coords) (C : Ctx F) (S : St F) : ℕ → St F
  | 0 => S
  | k + 1 => if h : k < (k0_t1_loop i).trips then next i C ⟨k, h⟩ (iter i C S k) else iter i C S k

theorem iter_succ (i : grid0.Coords) (C : Ctx F) (S : St F) (k : Fin (k0_t1_loop i).trips) :
    iter i C S (k.val + 1) = next i C k (iter i C S k.val) := dif_pos k.isLt

/-- The state after the loop and the value tile's last sum. -/
def done (i : grid0.Coords) (C : Ctx F) (S : St F) : St F :=
  let E := iter i C S (k0_t1_loop i).trips
  { E with dv := VecWindow.put E.dv (k0_off12 i) S256x128.size (k0_pay108 C.dy (VecWindow.window E.dv (k0_off12 i) S256x128.size (k0_off12_inb i)) E.a) }

set_option maxHeartbeats 1000000 in
theorem part16_unread (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S3x512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x256 .bf16) (harg24 : arg24.IsWhole) (arg25 : Memref sig .tc .vmem S512x256 .bf16) (harg25 : arg25.IsWhole) (v198 : BitVec 32) (C : Ctx F) (S : St F) :
    (iprop(((arg4.view.loc (c : Thread nD τ)) ↦[arg4.view.set]{fullShare} (harg4.unread C.v))
     ∗ ((arg14.view.loc (c : Thread nD τ)) ↦[arg14.view.set]{fullShare} (harg14.unread C.kn))
     ∗ ((arg15.view.loc (c : Thread nD τ)) ↦[arg15.view.set]{fullShare} (harg15.unread S.dkn))
     ∗ ((arg16.view.loc (c : Thread nD τ)) ↦[arg16.view.set]{fullShare} (harg16.unread S.dv))
     ∗ ((arg17.view.loc (c : Thread nD τ)) ↦[arg17.view.set]{fullShare} (harg17.unread S.lb))
     ∗ ((arg18.view.loc (c : Thread nD τ)) ↦[arg18.view.set]{fullShare} (harg18.unread S.z))
     ∗ ((arg19.view.loc (c : Thread nD τ)) ↦[arg19.view.set]{fullShare} (harg19.unread S.g))
     ∗ ((arg20.view.loc (c : Thread nD τ)) ↦[arg20.view.set]{fullShare} (harg20.unread S.dq))
     ∗ ((arg21.view.loc (c : Thread nD τ)) ↦[arg21.view.set]{fullShare} (harg21.unread S.hi))
     ∗ ((arg22.view.loc (c : Thread nD τ)) ↦[arg22.view.set]{fullShare} (harg22.unread S.lo))
     ∗ ((arg23.view.loc (c : Thread nD τ)) ↦[arg23.view.set]{fullShare} (harg23.unread S.a))
     ∗ ((arg24.view.loc (c : Thread nD τ)) ↦[arg24.view.set]{fullShare} (harg24.unread S.gh))
     ∗ ((arg25.view.loc (c : Thread nD τ)) ↦[arg25.view.set]{fullShare} (harg25.unread S.gl))) : sProp 𝕄)
    ⊢ wp frame (wpE (defs₀ (F := F)) Variants.none (c : Thread nD τ) none) Set.univ
      (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.qi C.q C.dy C.total C.upto C.before C.diag S.run S.gr 0#32 v198)
      (fun r => iprop(⌜r.1 = (done i C S).gr⌝ ∗ ⌜r.2.1 = (done i C S).g⌝ ∗ ⌜r.2.2.1 = k0_pay109 C.before (done i C S).gh (done i C S).gl⌝
     ∗ ((arg4.view.loc (c : Thread nD τ)) ↦[arg4.view.set]{fullShare} (harg4.unread C.v))
     ∗ ((arg14.view.loc (c : Thread nD τ)) ↦[arg14.view.set]{fullShare} (harg14.unread C.kn))
     ∗ ((arg15.view.loc (c : Thread nD τ)) ↦[arg15.view.set]{fullShare} (harg15.unread (done i C S).dkn))
     ∗ ((arg16.view.loc (c : Thread nD τ)) ↦[arg16.view.set]{fullShare} (harg16.unread (done i C S).dv))
     ∗ ((arg17.view.loc (c : Thread nD τ)) ↦[arg17.view.set]{fullShare} (harg17.unread (done i C S).lb))
     ∗ ((arg18.view.loc (c : Thread nD τ)) ↦[arg18.view.set]{fullShare} (harg18.unread (done i C S).z))
     ∗ ((arg19.view.loc (c : Thread nD τ)) ↦[arg19.view.set]{fullShare} (harg19.unread (done i C S).g))
     ∗ ((arg20.view.loc (c : Thread nD τ)) ↦[arg20.view.set]{fullShare} (harg20.unread (done i C S).dq))
     ∗ ((arg21.view.loc (c : Thread nD τ)) ↦[arg21.view.set]{fullShare} (harg21.unread (done i C S).hi))
     ∗ ((arg22.view.loc (c : Thread nD τ)) ↦[arg22.view.set]{fullShare} (harg22.unread (done i C S).lo))
     ∗ ((arg23.view.loc (c : Thread nD τ)) ↦[arg23.view.set]{fullShare} (harg23.unread (done i C S).a))
     ∗ ((arg24.view.loc (c : Thread nD τ)) ↦[arg24.view.set]{fullShare} (harg24.unread (done i C S).gh))
     ∗ ((arg25.view.loc (c : Thread nD τ)) ↦[arg25.view.set]{fullShare} (harg25.unread (done i C S).gl)))) := by
  let L : LoopInvTy_k0_t1 Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.qi C.q C.dy C.total C.upto C.before C.diag S.run S.gr 0#32 v198 (S.run, S.gr) :=
    ⟨fun k acc => iprop(⌜acc = ((iter i C S k).run, (iter i C S k).gr)⌝ ∗ held c arg4 arg14 arg15 arg16 arg17 arg18 arg19 arg20 arg21 arg22 arg23 arg24 arg25 C (iter i C S k)), fun k acc => by
      iintro ⟨%hacc, H⟩
      subst hacc
      rw [iter_succ]
      iapply (trip_step (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v198 C S.run S.gr k (iter i C S k.val))
      isplitl [H]
      · iexact H
      iintro H
      isplitr
      · ipureintro; rfl
      iexact H⟩
  have htr := trips2 i
  have h4 := harg4.read_unread (Val := Elt F) C.v
  have h14 := harg14.read_unread (Val := Elt F) C.kn
  have h15 := harg15.read_unread (Val := Elt F) S.dkn
  have h16 := harg16.read_unread (Val := Elt F) S.dv
  have h17 := harg17.read_unread (Val := Elt F) S.lb
  have h18 := harg18.read_unread (Val := Elt F) S.z
  have h19 := harg19.read_unread (Val := Elt F) S.g
  have h20 := harg20.read_unread (Val := Elt F) S.dq
  have h21 := harg21.read_unread (Val := Elt F) S.hi
  have h22 := harg22.read_unread (Val := Elt F) S.lo
  have h23 := harg23.read_unread (Val := Elt F) S.a
  have h24 := harg24.read_unread (Val := Elt F) S.gh
  have h25 := harg25.read_unread (Val := Elt F) S.gl
  rw [k0_part16_eq_skeleton]
  unfold k0_part16_skel
  iintro ⟨H4, H14, H15, H16, H17, H18, H19, H20, H21, H22, H23, H24, H25⟩
  sl_exec
  unfold done
  generalize iter i C S (k0_t1_loop i).trips = E at *
  obtain rfl := harg4.eq_unread hL1; obtain rfl := harg14.eq_unread hL3; obtain rfl := harg15.eq_unread hL5; obtain rfl := harg16.eq_unread hL7; obtain rfl := harg17.eq_unread hL9; obtain rfl := harg18.eq_unread hL11; obtain rfl := harg19.eq_unread hL13; obtain rfl := harg20.eq_unread hL15; obtain rfl := harg21.eq_unread hL17; obtain rfl := harg22.eq_unread hL19; obtain rfl := harg23.eq_unread hL21; obtain rfl := harg24.eq_unread hL23; obtain rfl := harg25.eq_unread hL25
  sl_step
  isplitr
  · ipureintro; rfl
  isplitr
  · ipureintro
    try delta part16_unread.sl.r part16_unread.sl.r_1 part16_unread.sl.r_2 part16_unread.sl.r_3 part16_unread.sl.v222 part16_unread.sl.v225
    try simp only [read_window, window_tile]
  isplitr
  · ipureintro
    try delta part16_unread.sl.r part16_unread.sl.r_1 part16_unread.sl.r_2 part16_unread.sl.r_3 part16_unread.sl.v222 part16_unread.sl.v225
    try simp only [read_window, window_tile]
  isplitl [H4]
  · iexact H4
  isplitl [H14]
  · iexact H14
  isplitl [H15]
  · iexact H15
  isplitl [H16]
  · rw [harg16.eq_unread (read_put arg16 harg16 _ _ _)]
    try delta part16_unread.sl.r part16_unread.sl.r_1 part16_unread.sl.r_2 part16_unread.sl.r_3 part16_unread.sl.v222 part16_unread.sl.v225
    try simp only [read_window, window_tile]
    iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  iexact H25

set_option maxHeartbeats 1600000 in
/-- The two loops and the value tile's last sum, from any contents of the buffers. -/
theorem part16 (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S3x512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x256 .bf16) (harg24 : arg24.IsWhole) (arg25 : Memref sig .tc .vmem S512x256 .bf16) (harg25 : arg25.IsWhole) (arg1 : BitVec 32) (v90 v103 : FVec F S512x128 .bf16) (v108 : FVec F S512x1 .f32)
    (v114 v118 : FVec F S256x256 .bf16) (v123 : FVec F S512x256 .f32) (v196 v197 : FVec F S512x1 .f32) (v198 : BitVec 32)
    (f4 : arg4.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (C : Ctx F) (S : St F) (h1 : C.qi = arg1) (h90 : C.q = v90) (h103 : C.dy = v103) (h108 : C.total = v108) (h114 : C.upto = v114)
    (h118 : C.before = v118) (h123 : C.diag = v123) (h196 : S.run = v196) (h197 : S.gr = v197)
    (g4 : arg4.view.read (Elt F) f4 = C.v) (g14 : arg14.view.read (Elt F) f14 = C.kn) (g15 : arg15.view.read (Elt F) f15 = S.dkn) (g16 : arg16.view.read (Elt F) f16 = S.dv) (g17 : arg17.view.read (Elt F) f17 = S.lb) (g18 : arg18.view.read (Elt F) f18 = S.z) (g19 : arg19.view.read (Elt F) f19 = S.g) (g20 : arg20.view.read (Elt F) f20 = S.dq) (g21 : arg21.view.read (Elt F) f21 = S.hi) (g22 : arg22.view.read (Elt F) f22 = S.lo) (g23 : arg23.view.read (Elt F) f23 = S.a) (g24 : arg24.view.read (Elt F) f24 = S.gh) (g25 : arg25.view.read (Elt F) f25 = S.gl) :
    (iprop(((arg4.view.loc (c : Thread nD τ)) ↦[arg4.view.set]{fullShare} f4)
     ∗ ((arg14.view.loc (c : Thread nD τ)) ↦[arg14.view.set]{fullShare} f14)
     ∗ ((arg15.view.loc (c : Thread nD τ)) ↦[arg15.view.set]{fullShare} f15)
     ∗ ((arg16.view.loc (c : Thread nD τ)) ↦[arg16.view.set]{fullShare} f16)
     ∗ ((arg17.view.loc (c : Thread nD τ)) ↦[arg17.view.set]{fullShare} f17)
     ∗ ((arg18.view.loc (c : Thread nD τ)) ↦[arg18.view.set]{fullShare} f18)
     ∗ ((arg19.view.loc (c : Thread nD τ)) ↦[arg19.view.set]{fullShare} f19)
     ∗ ((arg20.view.loc (c : Thread nD τ)) ↦[arg20.view.set]{fullShare} f20)
     ∗ ((arg21.view.loc (c : Thread nD τ)) ↦[arg21.view.set]{fullShare} f21)
     ∗ ((arg22.view.loc (c : Thread nD τ)) ↦[arg22.view.set]{fullShare} f22)
     ∗ ((arg23.view.loc (c : Thread nD τ)) ↦[arg23.view.set]{fullShare} f23)
     ∗ ((arg24.view.loc (c : Thread nD τ)) ↦[arg24.view.set]{fullShare} f24)
     ∗ ((arg25.view.loc (c : Thread nD τ)) ↦[arg25.view.set]{fullShare} f25)) : sProp 𝕄)
    ⊢ wp frame (wpE (defs₀ (F := F)) Variants.none (c : Thread nD τ) none) Set.univ
      (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v90 v103 v108 v114 v118 v123 v196 v197 0#32 v198)
      (fun r => iprop(⌜r.1 = (done i C S).gr⌝ ∗ ⌜r.2.1 = (done i C S).g⌝ ∗ ⌜r.2.2.1 = k0_pay109 C.before (done i C S).gh (done i C S).gl⌝
     ∗ ((arg4.view.loc (c : Thread nD τ)) ↦[arg4.view.set]{fullShare} (harg4.unread C.v))
     ∗ ((arg14.view.loc (c : Thread nD τ)) ↦[arg14.view.set]{fullShare} (harg14.unread C.kn))
     ∗ ((arg15.view.loc (c : Thread nD τ)) ↦[arg15.view.set]{fullShare} (harg15.unread (done i C S).dkn))
     ∗ ((arg16.view.loc (c : Thread nD τ)) ↦[arg16.view.set]{fullShare} (harg16.unread (done i C S).dv))
     ∗ ((arg17.view.loc (c : Thread nD τ)) ↦[arg17.view.set]{fullShare} (harg17.unread (done i C S).lb))
     ∗ ((arg18.view.loc (c : Thread nD τ)) ↦[arg18.view.set]{fullShare} (harg18.unread (done i C S).z))
     ∗ ((arg19.view.loc (c : Thread nD τ)) ↦[arg19.view.set]{fullShare} (harg19.unread (done i C S).g))
     ∗ ((arg20.view.loc (c : Thread nD τ)) ↦[arg20.view.set]{fullShare} (harg20.unread (done i C S).dq))
     ∗ ((arg21.view.loc (c : Thread nD τ)) ↦[arg21.view.set]{fullShare} (harg21.unread (done i C S).hi))
     ∗ ((arg22.view.loc (c : Thread nD τ)) ↦[arg22.view.set]{fullShare} (harg22.unread (done i C S).lo))
     ∗ ((arg23.view.loc (c : Thread nD τ)) ↦[arg23.view.set]{fullShare} (harg23.unread (done i C S).a))
     ∗ ((arg24.view.loc (c : Thread nD τ)) ↦[arg24.view.set]{fullShare} (harg24.unread (done i C S).gh))
     ∗ ((arg25.view.loc (c : Thread nD τ)) ↦[arg25.view.set]{fullShare} (harg25.unread (done i C S).gl)))) := by
  subst h1 h90 h103 h108 h114 h118 h123 h196 h197
  obtain rfl := harg4.eq_unread g4; obtain rfl := harg14.eq_unread g14; obtain rfl := harg15.eq_unread g15; obtain rfl := harg16.eq_unread g16; obtain rfl := harg17.eq_unread g17; obtain rfl := harg18.eq_unread g18; obtain rfl := harg19.eq_unread g19; obtain rfl := harg20.eq_unread g20; obtain rfl := harg21.eq_unread g21; obtain rfl := harg22.eq_unread g22; obtain rfl := harg23.eq_unread g23; obtain rfl := harg24.eq_unread g24; obtain rfl := harg25.eq_unread g25
  exact part16_unread c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v198 C S

end Cert.AttnIdeal.Hand

end
-- ==== Proof.AttnBody.lean ====
module

public import proofs.«01_k».proof.Proof.AttnLoop

@[expose] public section

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen
open Idealize.ShloMosaic.Pipeline (Dat Cfg Window BodyObligation cellOf)

variable {F : FTy → Type} [FloatOps F] [Named F]

local notation "𝕄" => MT nD τ sig Unit (Elt F) ℕ (UR sig nD τ) ℕ

theorem window_keys {α : Type} (x : S2048x128.Idx → α) (inb : ∀ a, (![0, 0] : Fin 2 → ℕ) a + (![2048, 128] : Fin 2 → ℕ) a ≤ S2048x128.size a) :
    VecWindow.window (s := S2048x128) x ![0, 0] ![2048, 128] inb = x :=
  funext fun y => congrArg x (Rect.emb_unit_full (s := S2048x128) inb y)

theorem window_rows {α : Type} (x : S256x128.Idx → α) (inb : ∀ a, (![0, 0] : Fin 2 → ℕ) a + (![256, 128] : Fin 2 → ℕ) a ≤ S256x128.size a) :
    VecWindow.window (s := S256x128) x ![0, 0] ![256, 128] inb = x :=
  funext fun y => congrArg x (Rect.emb_unit_full (s := S256x128) inb y)

theorem window_gain {α : Type} (x : S1x128.Idx → α) (inb : ∀ a, (![0, 0] : Fin 2 → ℕ) a + (![1, 128] : Fin 2 → ℕ) a ≤ S1x128.size a) :
    VecWindow.window (s := S1x128) x ![0, 0] ![1, 128] inb = x :=
  funext fun y => congrArg x (Rect.emb_unit_full (s := S1x128) inb y)

theorem window_slots {α : Type} (x : S3x512x256.Idx → α) (inb : ∀ a, (![0, 0, 0] : Fin 3 → ℕ) a + (![3, 512, 256] : Fin 3 → ℕ) a ≤ S3x512x256.size a) :
    VecWindow.window (s := S3x512x256) x ![0, 0, 0] ![3, 512, 256] inb = x :=
  funext fun y => congrArg x (Rect.emb_unit_full (s := S3x512x256) inb y)

theorem put_keys {α : Type} (x : S2048x128.Idx → α) (w : ((a : Fin 2) → Fin ((![2048, 128] : Fin 2 → ℕ) a)) → α) :
    VecWindow.put (s := S2048x128) x ![0, 0] ![2048, 128] w = w :=
  (window_keys _ (by decide)).symm.trans (VecWindow.window_put_same x ![0, 0] ![2048, 128] (by decide) w)

theorem put_rows {α : Type} (x : S256x128.Idx → α) (w : ((a : Fin 2) → Fin ((![256, 128] : Fin 2 → ℕ) a)) → α) :
    VecWindow.put (s := S256x128) x ![0, 0] ![256, 128] w = w :=
  (window_rows _ (by decide)).symm.trans (VecWindow.window_put_same x ![0, 0] ![256, 128] (by decide) w)

theorem put_gain {α : Type} (x : S1x128.Idx → α) (w : ((a : Fin 2) → Fin ((![1, 128] : Fin 2 → ℕ) a)) → α) :
    VecWindow.put (s := S1x128) x ![0, 0] ![1, 128] w = w :=
  (window_gain _ (by decide)).symm.trans (VecWindow.window_put_same x ![0, 0] ![1, 128] (by decide) w)

theorem put_tile {α : Type} (x : S512x256.Idx → α) (w : ((a : Fin 2) → Fin ((![512, 256] : Fin 2 → ℕ) a)) → α) :
    VecWindow.put (s := S512x256) x ![0, 0] ![512, 256] w = w :=
  (window_tile _ (by decide)).symm.trans (VecWindow.window_put_same x ![0, 0] ![512, 256] (by decide) w)

theorem put_stack {α : Type} (x : S512x128.Idx → α) (w : ((a : Fin 2) → Fin ((![512, 128] : Fin 2 → ℕ) a)) → α) :
    VecWindow.put (s := S512x128) x ![0, 0] ![512, 128] w = w :=
  (window_stack _ (by decide)).symm.trans (VecWindow.window_put_same x ![0, 0] ![512, 128] (by decide) w)

theorem put_slots {α : Type} (x : S3x512x256.Idx → α) (w : ((a : Fin 3) → Fin ((![3, 512, 256] : Fin 3 → ℕ) a)) → α) :
    VecWindow.put (s := S3x512x256) x ![0, 0, 0] ![3, 512, 256] w = w :=
  (window_slots _ (by decide)).symm.trans (VecWindow.window_put_same x ![0, 0, 0] ![3, 512, 256] (by decide) w)

theorem readAt_window {κ : Kind} {sp : Space} {s : Shape} {e : EltTy} (m : Memref sig κ sp s e) (f : m.view.ty.Contents (Elt F)) {off size : Fin s.rank → ℕ}
    (inb : ∀ a, off a + size a ≤ s.size a) :
    m.view.readAt (Elt F) (Rect.unit off size inb).toLoadRect f = VecWindow.window (m.view.read (Elt F) f) off size inb :=
  View.readAt_unit _ _ inb rfl inb

theorem read_cons {κ : Kind} {sp : Space} {s : Shape} {e : EltTy} (m : Memref sig κ sp s e) (f : m.view.ty.Contents (Elt F)) {off size : Fin s.rank → ℕ}
    (inb : ∀ a, off a + size a ≤ s.size a) (w : (Rect.unit off size inb).shape.Idx → Elt F e) (L : List (View.Piece (Elt F) s e)) :
    m.view.read (Elt F) (m.view.writes (Elt F) f (⟨Rect.unit off size inb, w⟩ :: L)) = VecWindow.put (m.view.read (Elt F) (m.view.writes (Elt F) f L)) off size w :=
  View.read_writes_cons_put m.view f inb w L rfl

theorem read_if {κ : Kind} {sp : Space} {s : Shape} {e : EltTy} (m : Memref sig κ sp s e) (p : Prop) [Decidable p] (f g : m.view.ty.Contents (Elt F)) :
    m.view.read (Elt F) (if p then f else g) = if p then m.view.read (Elt F) f else m.view.read (Elt F) g := by
  split <;> rfl

theorem read_choice {sp : Space} {s : Shape} {e : EltTy} (m : Memref sig .tc sp s e) (c : Dev nD) (p : Prop) [Decidable p]
    (f g : Buf (Elt F) (m.view.loc (c : Thread nD τ))) :
    m.view.read (Elt F) (if p then f else g) = if p then m.view.read (Elt F) f else m.view.read (Elt F) g := by
  split <;> rfl

/-- Whether a block of queries is the first one of its heads. -/
def first (qi : BitVec 32) : BitVec 1 := Scalar.cmpi .ne (Scalar.extui (Scalar.cmpi .eq qi 0#32)) 0#32

/-- A fresh value at the first block of queries, the old one later. -/
def kept {α : Type} (qi : BitVec 32) (new old : α) : α := if first qi = 1#1 then new else old

/-- The lane number of every entry of a block of queries. -/
abbrev lanes : IVec S256x128 32 := iota .tc S256x128 32 [1] iota_S256x128_d1_w32

set_option maxHeartbeats 1600000 in
/-- The first query block normalises the keys and clears the two sums; the later ones find them as they were. -/
theorem part12 (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S3x512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x256 .bf16) (harg24 : arg24.IsWhole) (arg25 : Memref sig .tc .vmem S512x256 .bf16) (harg25 : arg25.IsWhole) (arg1 : BitVec 32) (v24 v27 : IVec S128x128 32) (v41 : IVec S128x128 1) (v43 v44 : IVec S128x128 32)
    (f2 : arg2.view.ty.Contents (Elt F)) (f3 : arg3.view.ty.Contents (Elt F)) (f7 : arg7.view.ty.Contents (Elt F)) (f8 : arg8.view.ty.Contents (Elt F)) (f14 : arg14.view.ty.Contents (Elt F)) (f15 : arg15.view.ty.Contents (Elt F)) (f16 : arg16.view.ty.Contents (Elt F)) :
    (iprop(((arg2.view.loc (c : Thread nD τ)) ↦[arg2.view.set]{fullShare} f2)
     ∗ ((arg3.view.loc (c : Thread nD τ)) ↦[arg3.view.set]{fullShare} f3)
     ∗ ((arg7.view.loc (c : Thread nD τ)) ↦[arg7.view.set]{fullShare} f7)
     ∗ ((arg8.view.loc (c : Thread nD τ)) ↦[arg8.view.set]{fullShare} f8)
     ∗ ((arg14.view.loc (c : Thread nD τ)) ↦[arg14.view.set]{fullShare} f14)
     ∗ ((arg15.view.loc (c : Thread nD τ)) ↦[arg15.view.set]{fullShare} f15)
     ∗ ((arg16.view.loc (c : Thread nD τ)) ↦[arg16.view.set]{fullShare} f16)) : sProp 𝕄)
    ⊢ wp frame (wpE (defs₀ (F := F)) Variants.none (c : Thread nD τ) none) Set.univ
      (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v24 v27 v41 v43 v44)
      (fun r => iprop(⌜r.1 = k0_pay59 (F := F) v24 v27 v41 v43 v44⌝
     ∗ ⌜r.2.1 = k0_pay63 (arg2.view.read (Elt F) f2)⌝
     ∗ ⌜r.2.2.1 = k0_pay64 v24 v27 v41 v43 v44 (arg2.view.read (Elt F) f2)⌝
     ∗ ⌜r.2.2.2.1 = lanes⌝
     ∗ ⌜r.2.2.2.2 = k0_pay65 v24 v27 v41 v43 v44 (arg2.view.read (Elt F) f2) (arg7.view.read (Elt F) f7)⌝
     ∗ ((arg2.view.loc (c : Thread nD τ)) ↦[arg2.view.set]{fullShare} f2)
     ∗ ((arg3.view.loc (c : Thread nD τ)) ↦[arg3.view.set]{fullShare} f3)
     ∗ ((arg7.view.loc (c : Thread nD τ)) ↦[arg7.view.set]{fullShare} f7)
     ∗ ((arg8.view.loc (c : Thread nD τ)) ↦[arg8.view.set]{fullShare} f8)
     ∗ ((arg14.view.loc (c : Thread nD τ)) ↦[arg14.view.set]{fullShare} (harg14.unread (kept arg1 (k0_pay60 v24 v27 v41 v43 v44 (arg3.view.read (Elt F) f3) (arg8.view.read (Elt F) f8)) (arg14.view.read (Elt F) f14))))
     ∗ ((arg15.view.loc (c : Thread nD τ)) ↦[arg15.view.set]{fullShare} (harg15.unread (kept arg1 k0_pay61 (arg15.view.read (Elt F) f15))))
     ∗ ((arg16.view.loc (c : Thread nD τ)) ↦[arg16.view.set]{fullShare} (harg16.unread (kept arg1 k0_pay62 (arg16.view.read (Elt F) f16)))))) := by
  obtain ⟨x2, rfl⟩ : ∃ x, f2 = harg2.unread x := ⟨_, harg2.eq_unread rfl⟩; obtain ⟨x3, rfl⟩ : ∃ x, f3 = harg3.unread x := ⟨_, harg3.eq_unread rfl⟩; obtain ⟨x7, rfl⟩ : ∃ x, f7 = harg7.unread x := ⟨_, harg7.eq_unread rfl⟩; obtain ⟨x8, rfl⟩ : ∃ x, f8 = harg8.unread x := ⟨_, harg8.eq_unread rfl⟩; obtain ⟨x14, rfl⟩ : ∃ x, f14 = harg14.unread x := ⟨_, harg14.eq_unread rfl⟩; obtain ⟨x15, rfl⟩ : ∃ x, f15 = harg15.unread x := ⟨_, harg15.eq_unread rfl⟩; obtain ⟨x16, rfl⟩ : ∃ x, f16 = harg16.unread x := ⟨_, harg16.eq_unread rfl⟩
  simp only [Memref.IsWhole.read_unread]
  rw [k0_part12_eq_skeleton]
  unfold k0_part12_skel
  iintro ⟨H2, H3, H7, H8, H14, H15, H16⟩
  by_cases h : first arg1 = 1#1
  · have h' := h
    unfold first at h'
    sl_exec
    sl_step
    simp only [read_window, window_rows, window_keys, window_gain]
    isplitr; · ipureintro; first | rfl | exact True.intro
    isplitr; · ipureintro; first | rfl | exact True.intro
    isplitr; · ipureintro; first | rfl | exact True.intro
    isplitr; · ipureintro; first | rfl | exact True.intro
    isplitr; · ipureintro; first | rfl | exact True.intro
    isplitl [H2]; · iexact H2
    isplitl [H3]; · iexact H3
    isplitl [H7]; · iexact H7
    isplitl [H8]; · iexact H8
    rw [harg14.eq_unread (View.read_writes_full arg14.view _ _ _ _), harg15.eq_unread (View.read_writes_full arg15.view _ _ _ _),
      harg16.eq_unread (View.read_writes_full arg16.view _ _ _ _)]
    simp only [kept, if_pos h]
    isplitl [H14]; · iexact H14
    isplitl [H15]; · iexact H15
    iexact H16
  · have h' := h
    unfold first at h'
    sl_exec
    sl_step
    simp only [read_window, window_rows, window_keys, window_gain]
    isplitr; · ipureintro; first | rfl | exact True.intro
    isplitr; · ipureintro; first | rfl | exact True.intro
    isplitr; · ipureintro; first | rfl | exact True.intro
    isplitr; · ipureintro; first | rfl | exact True.intro
    isplitr; · ipureintro; first | rfl | exact True.intro
    isplitl [H2]; · iexact H2
    isplitl [H3]; · iexact H3
    isplitl [H7]; · iexact H7
    isplitl [H8]; · iexact H8
    simp only [kept, if_neg h]
    isplitl [H14]; · iexact H14
    isplitl [H15]; · iexact H15
    iexact H16

/-- The loops' run, what it read and what it started from named. -/
theorem part16_from (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S3x512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x256 .bf16) (harg24 : arg24.IsWhole) (arg25 : Memref sig .tc .vmem S512x256 .bf16) (harg25 : arg25.IsWhole) (arg1 : BitVec 32) (v90 v103 : FVec F S512x128 .bf16) (v108 : FVec F S512x1 .f32)
    (v114 v118 : FVec F S256x256 .bf16) (v123 : FVec F S512x256 .f32) (v196 v197 : FVec F S512x1 .f32) (v198 : BitVec 32)
    (f4 : arg4.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) :
    (iprop(((arg4.view.loc (c : Thread nD τ)) ↦[arg4.view.set]{fullShare} f4)
     ∗ ((arg14.view.loc (c : Thread nD τ)) ↦[arg14.view.set]{fullShare} f14)
     ∗ ((arg15.view.loc (c : Thread nD τ)) ↦[arg15.view.set]{fullShare} f15)
     ∗ ((arg16.view.loc (c : Thread nD τ)) ↦[arg16.view.set]{fullShare} f16)
     ∗ ((arg17.view.loc (c : Thread nD τ)) ↦[arg17.view.set]{fullShare} f17)
     ∗ ((arg18.view.loc (c : Thread nD τ)) ↦[arg18.view.set]{fullShare} f18)
     ∗ ((arg19.view.loc (c : Thread nD τ)) ↦[arg19.view.set]{fullShare} f19)
     ∗ ((arg20.view.loc (c : Thread nD τ)) ↦[arg20.view.set]{fullShare} f20)
     ∗ ((arg21.view.loc (c : Thread nD τ)) ↦[arg21.view.set]{fullShare} f21)
     ∗ ((arg22.view.loc (c : Thread nD τ)) ↦[arg22.view.set]{fullShare} f22)
     ∗ ((arg23.view.loc (c : Thread nD τ)) ↦[arg23.view.set]{fullShare} f23)
     ∗ ((arg24.view.loc (c : Thread nD τ)) ↦[arg24.view.set]{fullShare} f24)
     ∗ ((arg25.view.loc (c : Thread nD τ)) ↦[arg25.view.set]{fullShare} f25)) : sProp 𝕄)
    ⊢ wp frame (wpE (defs₀ (F := F)) Variants.none (c : Thread nD τ) none) Set.univ
      (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v90 v103 v108 v114 v118 v123 v196 v197 0#32 v198)
      (fun r => iprop(∃ C S, ⌜C = (⟨arg1, v90, v103, v108, v114, v118, v123, (arg4.view.read (Elt F) f4), (arg14.view.read (Elt F) f14)⟩ : Ctx F)⌝ ∗ ⌜S = (⟨(arg15.view.read (Elt F) f15), (arg16.view.read (Elt F) f16), (arg17.view.read (Elt F) f17), (arg18.view.read (Elt F) f18), (arg19.view.read (Elt F) f19), (arg20.view.read (Elt F) f20), (arg21.view.read (Elt F) f21), (arg22.view.read (Elt F) f22), (arg23.view.read (Elt F) f23), (arg24.view.read (Elt F) f24), (arg25.view.read (Elt F) f25), v196, v197⟩ : St F)⌝
     ∗ ⌜r.1 = (done i C S).gr⌝ ∗ ⌜r.2.1 = (done i C S).g⌝ ∗ ⌜r.2.2.1 = k0_pay109 C.before (done i C S).gh (done i C S).gl⌝
     ∗ ((arg4.view.loc (c : Thread nD τ)) ↦[arg4.view.set]{fullShare} (harg4.unread C.v))
     ∗ ((arg14.view.loc (c : Thread nD τ)) ↦[arg14.view.set]{fullShare} (harg14.unread C.kn))
     ∗ ((arg15.view.loc (c : Thread nD τ)) ↦[arg15.view.set]{fullShare} (harg15.unread (done i C S).dkn))
     ∗ ((arg16.view.loc (c : Thread nD τ)) ↦[arg16.view.set]{fullShare} (harg16.unread (done i C S).dv))
     ∗ ((arg17.view.loc (c : Thread nD τ)) ↦[arg17.view.set]{fullShare} (harg17.unread (done i C S).lb))
     ∗ ((arg18.view.loc (c : Thread nD τ)) ↦[arg18.view.set]{fullShare} (harg18.unread (done i C S).z))
     ∗ ((arg19.view.loc (c : Thread nD τ)) ↦[arg19.view.set]{fullShare} (harg19.unread (done i C S).g))
     ∗ ((arg20.view.loc (c : Thread nD τ)) ↦[arg20.view.set]{fullShare} (harg20.unread (done i C S).dq))
     ∗ ((arg21.view.loc (c : Thread nD τ)) ↦[arg21.view.set]{fullShare} (harg21.unread (done i C S).hi))
     ∗ ((arg22.view.loc (c : Thread nD τ)) ↦[arg22.view.set]{fullShare} (harg22.unread (done i C S).lo))
     ∗ ((arg23.view.loc (c : Thread nD τ)) ↦[arg23.view.set]{fullShare} (harg23.unread (done i C S).a))
     ∗ ((arg24.view.loc (c : Thread nD τ)) ↦[arg24.view.set]{fullShare} (harg24.unread (done i C S).gh))
     ∗ ((arg25.view.loc (c : Thread nD τ)) ↦[arg25.view.set]{fullShare} (harg25.unread (done i C S).gl)))) := by
  refine BIBase.Entails.trans (part16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v90 v103 v108 v114 v118 v123 v196 v197 v198 f4 f14 f15 f16 f17 f18 f19 f20 f21 f22 f23 f24 f25 ⟨arg1, v90, v103, v108, v114, v118, v123, (arg4.view.read (Elt F) f4), (arg14.view.read (Elt F) f14)⟩ ⟨(arg15.view.read (Elt F) f15), (arg16.view.read (Elt F) f16), (arg17.view.read (Elt F) f17), (arg18.view.read (Elt F) f18), (arg19.view.read (Elt F) f19), (arg20.view.read (Elt F) f20), (arg21.view.read (Elt F) f21), (arg22.view.read (Elt F) f22), (arg23.view.read (Elt F) f23), (arg24.view.read (Elt F) f24), (arg25.view.read (Elt F) f25), v196, v197⟩
      rfl rfl rfl rfl rfl rfl rfl rfl rfl rfl rfl rfl rfl rfl rfl rfl rfl rfl rfl rfl rfl rfl) (wp_mono _ _ _ fun r => ?_)
  iintro H
  iexists ⟨arg1, v90, v103, v108, v114, v118, v123, (arg4.view.read (Elt F) f4), (arg14.view.read (Elt F) f14)⟩, ⟨(arg15.view.read (Elt F) f15), (arg16.view.read (Elt F) f16), (arg17.view.read (Elt F) f17), (arg18.view.read (Elt F) f18), (arg19.view.read (Elt F) f19), (arg20.view.read (Elt F) f20), (arg21.view.read (Elt F) f21), (arg22.view.read (Elt F) f22), (arg23.view.read (Elt F) f23), (arg24.view.read (Elt F) f24), (arg25.view.read (Elt F) f25), v196, v197⟩
  isplitr; · ipureintro; rfl
  isplitr; · ipureintro; rfl
  iexact H

end Cert.AttnIdeal.Hand

end
-- ==== Proof.AttnCore.lean ====
module

public import proofs.«01_k».proof.Proof.AttnBody

@[expose] public section

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen
open Idealize.ShloMosaic.Pipeline (Dat Cfg Window BodyObligation cellOf)

variable {F : FTy → Type} [FloatOps F] [Named F]

local notation "𝕄" => MT nD τ sig Unit (Elt F) ℕ (UR sig nD τ) ℕ

instance (i : grid0.Coords) : ClosedOff (k0_off1 i 0#32) := ⟨_, off1_0 i⟩
instance (i : grid0.Coords) : ClosedOff (k0_off1 i 1#32) := ⟨_, off1_1 i⟩
instance (i : grid0.Coords) : ClosedOff (k0_off12 i) := ⟨_, off12 i⟩
instance (i : grid0.Coords) : ClosedOff (k0_off13 i) := ⟨_, off13 i⟩

/-- The blocks a grid point reads: queries, keys, values, row totals, the output's gradient, the two gains. -/
structure Blk (F : FTy → Type) where
  q : Vec F S256x128 .bf16
  k : Vec F S2048x128 .bf16
  v : Vec F S2048x128 .bf16
  total : Vec F S256x128 .f32
  dy : Vec F S256x128 .bf16
  gq : Vec F S1x128 .f32
  gk : Vec F S1x128 .f32

/-- What the grid points hand on: the normed keys, the gradients summed so far of them and of the values, and the
output blocks. -/
structure Out (F : FTy → Type) where
  kn : Vec F S2048x128 .bf16
  dkn : Vec F S2048x128 .f32
  dv : Vec F S2048x128 .f32
  dq : Vec F S256x128 .bf16
  dkOut : Vec F S2048x128 .bf16
  dvOut : Vec F S2048x128 .bf16
  dgq : Vec F S1x128 .f32
  dgk : Vec F S1x128 .f32

/-- The block of queries' number, as the body computes it. -/
abbrev qiOf (i : grid0.Coords) : BitVec 32 := BitVec.ofNat 32 (i 1).val

/-- The normed keys as the loop finds them. -/
def knAt (i : grid0.Coords) (I : Blk F) (O : Out F) : Vec F S2048x128 .bf16 :=
  kept (qiOf i) (k0_pay60 k0_pay54 k0_pay55 k0_pay56 k0_pay57 k0_pay58 I.k I.gk) O.kn

/-- What the loop's trips read at a grid point. -/
def ctx (i : grid0.Coords) (I : Blk F) (O : Out F) : Ctx F where
  qi := qiOf i
  q := k0_pay66 (k0_pay65 k0_pay54 k0_pay55 k0_pay56 k0_pay57 k0_pay58 I.q I.gq)
  dy := k0_pay67 lanes I.dy
  total := k0_pay68 (VecWindow.window I.total ![0, 0] S256x1.size inb_S256x128_S256x1_0_0)
    (VecWindow.window I.total ![0, 64] S256x1.size inb_S256x128_S256x1_0_64)
  upto := k0_pay69
  before := k0_pay70
  diag := k0_pay71
  v := I.v
  kn := knAt i I O

/-- The first key tile's scores. -/
def head (i : grid0.Coords) (C : Ctx F) : Vec F S256x128 .bf16 := VecWindow.window C.kn (k0_off1 i 0#32) S256x128.size (k0_off1_inb i 0)

/-- What the loop starts from at a grid point. -/
def start (i : grid0.Coords) (I : Blk F) (O : Out F) : St F :=
  let C := ctx i I O
  let s := k0_pay79 C.qi C.q C.diag (head i C)
  let l := k0_pay80 C.qi C.q C.diag (head i C)
  { dkn := kept (qiOf i) k0_pay61 O.dkn
    dv := kept (qiOf i) k0_pay62 O.dv
    lb := VecWindow.put k0_pay72 ![0, 0, 0] S1x512x256.size (k0_pay84 s l)
    z := k0_pay87 C.q (VecWindow.window C.kn (k0_off1 i 1#32) S256x128.size (k0_off1_inb i 1))
    g := k0_pay75
    dq := k0_pay78
    hi := k0_pay85 s l
    lo := k0_pay86 s l
    a := k0_pay74 k0_pay73
    gh := k0_pay76
    gl := k0_pay77
    run := k0_pay88
    gr := k0_pay89 }

/-- The normed queries' gradient at a grid point, from what the loop leaves. -/
def dqn (i : grid0.Coords) (C : Ctx F) (E : St F) : FVec F S256x128 .f32 :=
  k0_pay112 lanes E.gr E.g (k0_pay109 C.before E.gh E.gl) (VecWindow.window E.lb (k0_off13 i) S1x512x256.size (k0_off13_inb i)) E.dq
    (VecWindow.window C.kn (k0_off12 i) S256x128.size (k0_off12_inb i))

/-- One grid point: what it hands on, from its blocks and what the point before it handed on. -/
def step (i : grid0.Coords) (I : Blk F) (O : Out F) : Out F :=
  let C := ctx i I O
  let E := done i C (start i I O)
  let b := k0_pay109 C.before E.gh E.gl
  let w := VecWindow.window E.lb (k0_off13 i) S1x512x256.size (k0_off13_inb i)
  let z := VecWindow.window C.kn (k0_off12 i) S256x128.size (k0_off12_inb i)
  let v53 : FVec F S128x128 .bf16 := k0_pay59 k0_pay54 k0_pay55 k0_pay56 k0_pay57 k0_pay58
  let v59 := k0_pay63 I.q
  let v76 := k0_pay64 k0_pay54 k0_pay55 k0_pay56 k0_pay57 k0_pay58 I.q
  let dkn := VecWindow.put E.dkn (k0_off12 i) S256x128.size
    (k0_pay111 C.q E.gr E.g b w (VecWindow.window E.dkn (k0_off12 i) S256x128.size (k0_off12_inb i)))
  let q₀ := if k0_cond2 i = 1#1 then k0_pay2 v59 v76 (dqn i C E) else O.dgq
  let dgq := if k0_cond3 i = 1#1 then k0_pay3 v59 v76 (dqn i C E) q₀ else q₀
  let t := k0_pay53 v53 I.k dkn
  let k₀ := if k0_cond5 i = 1#1 then k0_pay4 t else O.dgk
  let dgk := if k0_cond6 i = 1#1 then k0_pay6 t k₀ else k₀
  { kn := C.kn
    dkn := dkn
    dv := E.dv
    dq := k0_pay1 v53 v59 v76 (k0_pay113 lanes E.gr E.g b w E.dq z I.gq) (k0_pay114 v76 lanes E.gr E.g b w E.dq z I.gq) (k0_pay115 v76)
    dkOut := if k0_cond4 i = 1#1 then k0_pay52 v53 I.k dkn I.gk else O.dkOut
    dvOut := if k0_cond4 i = 1#1 then k0_pay5 E.dv else O.dvOut
    dgq := if k0_cond4 i = 1#1 then (if k0_cond7 i = 1#1 then k0_pay49 dgq else dgq) else dgq
    dgk := if k0_cond4 i = 1#1 then (if k0_cond7 i = 1#1 then k0_pay7 k0_pay48 dgk else dgk) else O.dgk }

/-- The blocks and buffers of a grid point before its body, -/
def given (c : Dev nD) (arg2 : Memref sig .tc .vmem S256x128 .bf16) (arg3 : Memref sig .tc .vmem S2048x128 .bf16) (arg4 : Memref sig .tc .vmem S2048x128 .bf16) (arg5 : Memref sig .tc .vmem S256x128 .f32) (arg6 : Memref sig .tc .vmem S256x128 .bf16) (arg7 : Memref sig .tc .vmem S1x128 .f32) (arg8 : Memref sig .tc .vmem S1x128 .f32) (arg9 : Memref sig .tc .vmem S256x128 .bf16) (arg10 : Memref sig .tc .vmem S2048x128 .bf16) (arg11 : Memref sig .tc .vmem S2048x128 .bf16) (arg12 : Memref sig .tc .vmem S1x128 .f32) (arg13 : Memref sig .tc .vmem S1x128 .f32) (arg14 : Memref sig .tc .vmem S2048x128 .bf16) (arg15 : Memref sig .tc .vmem S2048x128 .f32) (arg16 : Memref sig .tc .vmem S2048x128 .f32) (arg17 : Memref sig .tc .vmem S3x512x256 .f32) (arg18 : Memref sig .tc .vmem S512x256 .f32) (arg19 : Memref sig .tc .vmem S512x256 .f32) (arg20 : Memref sig .tc .vmem S512x128 .f32) (arg21 : Memref sig .tc .vmem S512x256 .bf16) (arg22 : Memref sig .tc .vmem S512x256 .bf16) (arg23 : Memref sig .tc .vmem S512x256 .bf16) (arg24 : Memref sig .tc .vmem S512x256 .bf16) (arg25 : Memref sig .tc .vmem S512x256 .bf16)  (I : Blk F) (O : Out F) : sProp 𝕄 :=
  iprop(owns (c : Thread nD τ) arg2 fullShare (I.q)
     ∗ owns (c : Thread nD τ) arg3 fullShare (I.k)
     ∗ owns (c : Thread nD τ) arg4 fullShare (I.v)
     ∗ owns (c : Thread nD τ) arg5 fullShare (I.total)
     ∗ owns (c : Thread nD τ) arg6 fullShare (I.dy)
     ∗ owns (c : Thread nD τ) arg7 fullShare (I.gq)
     ∗ owns (c : Thread nD τ) arg8 fullShare (I.gk)
     ∗ owns (c : Thread nD τ) arg9 fullShare (O.dq)
     ∗ owns (c : Thread nD τ) arg10 fullShare (O.dkOut)
     ∗ owns (c : Thread nD τ) arg11 fullShare (O.dvOut)
     ∗ owns (c : Thread nD τ) arg12 fullShare (O.dgq)
     ∗ owns (c : Thread nD τ) arg13 fullShare (O.dgk)
     ∗ owns (c : Thread nD τ) arg14 fullShare (O.kn)
     ∗ owns (c : Thread nD τ) arg15 fullShare (O.dkn)
     ∗ owns (c : Thread nD τ) arg16 fullShare (O.dv)
     ∗ (∃ X, owns (c : Thread nD τ) arg17 fullShare (X))
     ∗ (∃ X, owns (c : Thread nD τ) arg18 fullShare (X))
     ∗ (∃ X, owns (c : Thread nD τ) arg19 fullShare (X))
     ∗ (∃ X, owns (c : Thread nD τ) arg20 fullShare (X))
     ∗ (∃ X, owns (c : Thread nD τ) arg21 fullShare (X))
     ∗ (∃ X, owns (c : Thread nD τ) arg22 fullShare (X))
     ∗ (∃ X, owns (c : Thread nD τ) arg23 fullShare (X))
     ∗ (∃ X, owns (c : Thread nD τ) arg24 fullShare (X))
     ∗ (∃ X, owns (c : Thread nD τ) arg25 fullShare (X)))

set_option maxHeartbeats 2000000 in
theorem body (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S3x512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x256 .bf16) (harg24 : arg24.IsWhole) (arg25 : Memref sig .tc .vmem S512x256 .bf16) (harg25 : arg25.IsWhole) (I : Blk F) (O : Out F) (K : PUnit → sProp 𝕄) :
    iprop((owns (c : Thread nD τ) arg2 fullShare (I.q)
     ∗ owns (c : Thread nD τ) arg3 fullShare (I.k)
     ∗ owns (c : Thread nD τ) arg4 fullShare (I.v)
     ∗ owns (c : Thread nD τ) arg5 fullShare (I.total)
     ∗ owns (c : Thread nD τ) arg6 fullShare (I.dy)
     ∗ owns (c : Thread nD τ) arg7 fullShare (I.gq)
     ∗ owns (c : Thread nD τ) arg8 fullShare (I.gk)
     ∗ owns (c : Thread nD τ) arg9 fullShare (O.dq)
     ∗ owns (c : Thread nD τ) arg10 fullShare (O.dkOut)
     ∗ owns (c : Thread nD τ) arg11 fullShare (O.dvOut)
     ∗ owns (c : Thread nD τ) arg12 fullShare (O.dgq)
     ∗ owns (c : Thread nD τ) arg13 fullShare (O.dgk)
     ∗ owns (c : Thread nD τ) arg14 fullShare (O.kn)
     ∗ owns (c : Thread nD τ) arg15 fullShare (O.dkn)
     ∗ owns (c : Thread nD τ) arg16 fullShare (O.dv)
     ∗ (∃ X, owns (c : Thread nD τ) arg17 fullShare (X))
     ∗ (∃ X, owns (c : Thread nD τ) arg18 fullShare (X))
     ∗ (∃ X, owns (c : Thread nD τ) arg19 fullShare (X))
     ∗ (∃ X, owns (c : Thread nD τ) arg20 fullShare (X))
     ∗ (∃ X, owns (c : Thread nD τ) arg21 fullShare (X))
     ∗ (∃ X, owns (c : Thread nD τ) arg22 fullShare (X))
     ∗ (∃ X, owns (c : Thread nD τ) arg23 fullShare (X))
     ∗ (∃ X, owns (c : Thread nD τ) arg24 fullShare (X))
     ∗ (∃ X, owns (c : Thread nD τ) arg25 fullShare (X))) ∗ (given c arg2 arg3 arg4 arg5 arg6 arg7 arg8 arg9 arg10 arg11 arg12 arg13 arg14 arg15 arg16 arg17 arg18 arg19 arg20 arg21 arg22 arg23 arg24 arg25 I (step i I O) -∗ K ⟨⟩))
    ⊢ wp frame (wpE (defs₀ (F := F)) Variants.none (c : Thread nD τ) none) Set.univ (cc0_dattn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have hcut12 := fun arg1 v24 v27 v41 v43 v44 f2 f3 f7 f8 f14 f15 f16 => part12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v24 v27 v41 v43 v44 f2 f3 f7 f8 f14 f15 f16
  have hcut16 := fun arg1 v90 v103 v108 v114 v118 v123 v196 v197 v198 f4 f14 f15 f16 f17 f18 f19 f20 f21 f22 f23 f24 f25 =>
    part16_from (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v90 v103 v108 v114 v118 v123 v196 v197 v198 f4 f14 f15 f16 f17 f18 f19 f20 f21 f22 f23 f24 f25
  rw [cc0_dattn_eq_skeleton]
  unfold cc0_dattn_skel
  simp only [k0_part11_eq_skeleton, k0_part13_eq_skeleton, k0_part14_eq_skeleton, k0_part15_eq_skeleton, k0_part17_eq_skeleton, k0_part9_eq_skeleton, k0_part10_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%X17, %f17, %hf17, H17⟩, ⟨%X18, %f18, %hf18, H18⟩, ⟨%X19, %f19, %hf19, H19⟩, ⟨%X20, %f20, %hf20, H20⟩, ⟨%X21, %f21, %hf21, H21⟩, ⟨%X22, %f22, %hf22, H22⟩, ⟨%X23, %f23, %hf23, H23⟩, ⟨%X24, %f24, %hf24, H24⟩, ⟨%X25, %f25, %hf25, H25⟩⟩, HK⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25
  sl_exec
  sl_step
  dsimp only at hk0_part12_0
  dsimp only at hk0_part12_1
  dsimp only at hk0_part12_2
  dsimp only at hk0_part12_3
  dsimp only at hk0_part12_4
  simp only [Memref.IsWhole.read_unread] at hk0_part12_0 hk0_part12_1 hk0_part12_2 hk0_part12_3 hk0_part12_4
  subst hk0_part12_0 hk0_part12_1 hk0_part12_2 hk0_part12_3 hk0_part12_4
  have hC : Ck0_part16_0 = ctx i I O := by
    refine hk0_part16_0.trans ?_
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  have hS : Sk0_part16_1 = start i I O := by
    refine hk0_part16_1.trans ?_
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  subst hC hS
  dsimp only at hk0_part16_2
  dsimp only at hk0_part16_3
  dsimp only at hk0_part16_4
  subst hk0_part16_2 hk0_part16_3 hk0_part16_4
  iapply HK
  unfold given owns
  isplitl [Hk0_part12_5]
  · iexists _; isplitr; swap; iexact Hk0_part12_5; ipureintro
    exact harg2.read_unread _
  isplitl [Hk0_part12_6]
  · iexists _; isplitr; swap; iexact Hk0_part12_6; ipureintro
    exact harg3.read_unread _
  isplitl [Hk0_part16_5]
  · iexists _; isplitr; swap; iexact Hk0_part16_5; ipureintro
    exact harg4.read_unread _
  isplitl [H5]
  · iexists _; isplitr; swap; iexact H5; ipureintro
    exact harg5.read_unread _
  isplitl [H6]
  · iexists _; isplitr; swap; iexact H6; ipureintro
    exact harg6.read_unread _
  isplitl [Hk0_part12_7]
  · iexists _; isplitr; swap; iexact Hk0_part12_7; ipureintro
    exact harg7.read_unread _
  isplitl [Hk0_part12_8]
  · iexists _; isplitr; swap; iexact Hk0_part12_8; ipureintro
    exact harg8.read_unread _
  isplitl [H9]
  · iexists _; isplitr; swap; iexact H9; ipureintro
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  isplitl [H10]
  · iexists _; isplitr; swap; iexact H10; ipureintro
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  isplitl [H11]
  · iexists _; isplitr; swap; iexact H11; ipureintro
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  isplitl [H12]
  · iexists _; isplitr; swap; iexact H12; ipureintro
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  isplitl [H13]
  · iexists _; isplitr; swap; iexact H13; ipureintro
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  isplitl [Hk0_part16_6]
  · iexists _; isplitr; swap; iexact Hk0_part16_6; ipureintro
    exact harg14.read_unread _
  isplitl [Hk0_part16_7]
  · iexists _; isplitr; swap; iexact Hk0_part16_7; ipureintro
    repeat delta body.sl.H10_1 body.sl.H11_1 body.sl.H9_1 body.sl.Hk0_part16_7_1 body.sl.r body.sl.r_1 body.sl.r_2 body.sl.r_4 body.sl.r_5 body.sl.r_6 body.sl.r_7 body.sl.r_8 body.sl.r_9 body.sl.v153 body.sl.v190 body.sl.v313 body.sl.v372 body.sl.v409 body.sl.v413
    simp only [readAt_window, read_cons, View.writes_nil, read_choice _ c, dite_eq_ite, Memref.IsWhole.read_unread, window_keys, window_rows, window_gain, window_tile, window_stack, window_slots, put_keys, put_rows, put_gain, put_tile, put_stack, put_slots]
    rfl
  isplitl [Hk0_part16_8]
  · iexists _; isplitr; swap; iexact Hk0_part16_8; ipureintro
    exact harg16.read_unread _
  isplitl [Hk0_part16_9]
  · iexists _; iexists _; isplitr; swap; iexact Hk0_part16_9; ipureintro; rfl
  isplitl [Hk0_part16_10]
  · iexists _; iexists _; isplitr; swap; iexact Hk0_part16_10; ipureintro; rfl
  isplitl [Hk0_part16_11]
  · iexists _; iexists _; isplitr; swap; iexact Hk0_part16_11; ipureintro; rfl
  isplitl [Hk0_part16_12]
  · iexists _; iexists _; isplitr; swap; iexact Hk0_part16_12; ipureintro; rfl
  isplitl [Hk0_part16_13]
  · iexists _; iexists _; isplitr; swap; iexact Hk0_part16_13; ipureintro; rfl
  isplitl [Hk0_part16_14]
  · iexists _; iexists _; isplitr; swap; iexact Hk0_part16_14; ipureintro; rfl
  isplitl [Hk0_part16_15]
  · iexists _; iexists _; isplitr; swap; iexact Hk0_part16_15; ipureintro; rfl
  isplitl [Hk0_part16_16]
  · iexists _; iexists _; isplitr; swap; iexact Hk0_part16_16; ipureintro; rfl
  iexists _; iexists _; isplitr; swap; iexact Hk0_part16_17; ipureintro; rfl

end Cert.AttnIdeal.Hand

end
-- ==== Proof.AttnFrame.lean ====
module

public import proofs.«01_k».proof.Proof.AttnCore
public import proofs.«01_k».proof.Proof.Gen.AttnIdeal.Frame
public import Idealize.ShloMosaic.Lib.Claim
public import Idealize.ShloMosaic.Lib.Pipeline.TableIdle

@[expose] public section

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen
open Idealize.ShloMosaic.Pipeline (Dat Cfg Window BodyObligation cellOf)

variable {F : FTy → Type} [FloatOps F] [Named F]

local notation "𝕄" => MT nD τ sig Unit (Elt F) ℕ (UR sig nD τ) ℕ

/-! ## The conditions, point by point -/

theorem cond4_iff : ∀ t : Fin cfg0.N, k0_cond4 (grid0.coords t) = 1#1 ↔ t.val % 8 = 7 :=
  (by decide +kernel : ∀ t : Fin grid0.N, k0_cond4 (grid0.coords t) = 1#1 ↔ t.val % 8 = 7)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond5_iff : ∀ t : Fin cfg0.N, k0_cond5 (grid0.coords t) = 1#1 ↔ t.val < 8 :=
  (by decide +kernel : ∀ t : Fin grid0.N, k0_cond5 (grid0.coords t) = 1#1 ↔ t.val < 8)
theorem first_iff : ∀ t : Fin cfg0.N, first (qiOf (grid0.coords t)) = 1#1 ↔ t.val % 8 = 0 :=
  (by decide +kernel : ∀ t : Fin grid0.N, first (qiOf (grid0.coords t)) = 1#1 ↔ t.val % 8 = 0)

/-- The keys' and the values' gradients are stored at the last block of queries of a pair of heads only, -/
theorem idle_late (w : Fin cfg0.W) (hw : w = 8 ∨ w = 9 ∨ w = 11) :
    ∀ t : Fin cfg0.N, cfg0.idle w (grid0.coords t) = true ↔ ¬t.val % 8 = 7 := by
  rcases hw with rfl | rfl | rfl
  · exact (by decide +kernel : ∀ t : Fin grid0.N, idle0 8 (grid0.coords t) = true ↔ ¬t.val % 8 = 7)
  · exact (by decide +kernel : ∀ t : Fin grid0.N, idle0 9 (grid0.coords t) = true ↔ ¬t.val % 8 = 7)
  · exact (by decide +kernel : ∀ t : Fin grid0.N, idle0 11 (grid0.coords t) = true ↔ ¬t.val % 8 = 7)
/-- the gain's at every point. -/
theorem idle_gain : ∀ t : Fin cfg0.N, cfg0.idle 10 (grid0.coords t) = false :=
  (by decide +kernel : ∀ t : Fin grid0.N, idle0 10 (grid0.coords t) = false)

/-- Where the queries' gain's gradient has nothing stored yet, position by position: at the start and past the end; -/
def freshQ (n : ℕ) : Bool := n == 0 || n == 32
/-- the keys' gain's: until the first pair of heads is done. -/
def freshK (n : ℕ) : Bool := decide (n ≤ 7) || n == 32

theorem fresh10 (t : Fin cfg0.N) : cfg0.fresh 10 t.val = freshQ t.val :=
  Pipeline.Cfg.fresh_tab cfg0 10 freshQ rfl (by decide +kernel) t.val (Nat.le_of_lt t.isLt)
theorem fresh11 (t : Fin cfg0.N) : cfg0.fresh 11 t.val = freshK t.val :=
  Pipeline.Cfg.fresh_tab cfg0 11 freshK rfl (by decide +kernel) t.val (Nat.le_of_lt t.isLt)

/-! ## What the points hand on -/

variable (m : (ℓ : Loc nD τ sig) → Buf (Elt F) ℓ) (ρ : Dev nD → PrngReg)

/-- The blocks point `t` reads. -/
def blocks (c : Dev nD) (t : Fin cfg0.N) : Blk F where
  q := iblk m c 0 t
  k := iblk m c 1 t
  v := iblk m c 2 t
  total := iblk m c 3 t
  dy := iblk m c 4 t
  gq := iblk m c 5 t
  gk := iblk m c 6 t

/-- Before any point: nothing of it is read. -/
def nothing : Out F where
  kn := constant S2048x128 .bf16 0x0000#16
  dkn := constant S2048x128 .f32 0x00000000#32
  dv := constant S2048x128 .f32 0x00000000#32
  dq := constant S256x128 .bf16 0x0000#16
  dkOut := constant S2048x128 .bf16 0x0000#16
  dvOut := constant S2048x128 .bf16 0x0000#16
  dgq := constant S1x128 .f32 0x00000000#32
  dgk := constant S1x128 .f32 0x00000000#32

/-- What the first `n` points have handed on. -/
def upTo (c : Dev nD) : ℕ → Out F
  | 0 => nothing
  | n + 1 => if h : n < cfg0.N then step (grid0.coords ⟨n, h⟩) (blocks m c ⟨n, h⟩) (upTo c n) else nothing

theorem upTo_succ (c : Dev nD) (t : Fin cfg0.N) :
    upTo m c (t.val + 1) = step (grid0.coords t) (blocks m c t) (upTo m c t.val) := by
  rw [upTo, dif_pos t.isLt]

/-- A point hands on the same whatever it finds in place of what it overwrites unread. -/
theorem step_congr (i : grid0.Coords) (I : Blk F) (O O' : Out F)
    (h : first (qiOf i) = 1#1 ∨ (O'.kn = O.kn ∧ O'.dkn = O.dkn ∧ O'.dv = O.dv)) :
    (step i I O').kn = (step i I O).kn ∧ (step i I O').dkn = (step i I O).dkn ∧ (step i I O').dv = (step i I O).dv
      ∧ (step i I O').dq = (step i I O).dq
      ∧ (k0_cond4 i = 1#1 → (step i I O').dkOut = (step i I O).dkOut ∧ (step i I O').dvOut = (step i I O).dvOut)
      ∧ (k0_cond2 i = 1#1 ∨ O'.dgq = O.dgq → (step i I O').dgq = (step i I O).dgq)
      ∧ (k0_cond4 i = 1#1 → k0_cond5 i = 1#1 ∨ O'.dgk = O.dgk → (step i I O').dgk = (step i I O).dgk) := by
  have hC : ctx i I O' = ctx i I O := by
    have hk : knAt i I O' = knAt i I O := by
      unfold knAt kept
      rcases h with h | h
      · rw [if_pos h, if_pos h]
      · rw [h.1]
    unfold ctx
    rw [hk]
  have hS : start i I O' = start i I O := by
    have hd : kept (qiOf i) (k0_pay61 (F := F)) O'.dkn = kept (qiOf i) k0_pay61 O.dkn := by
      unfold kept
      rcases h with h | h
      · rw [if_pos h, if_pos h]
      · rw [h.2.1]
    have hv : kept (qiOf i) (k0_pay62 (F := F)) O'.dv = kept (qiOf i) k0_pay62 O.dv := by
      unfold kept
      rcases h with h | h
      · rw [if_pos h, if_pos h]
      · rw [h.2.2]
    unfold start
    rw [hC, hd, hv]
  refine ⟨?_, ?_, ?_, ?_, fun h4 => ⟨?_, ?_⟩, fun hq => ?_, fun h4 hk => ?_⟩
  · unfold step; rw [hC]
  · unfold step; rw [hC, hS]
  · unfold step; rw [hC, hS]
  · unfold step; rw [hC, hS]
  · unfold step; dsimp only; rw [hC, hS, if_pos h4, if_pos h4]
  · unfold step; dsimp only; rw [hC, hS, if_pos h4, if_pos h4]
  · unfold step
    dsimp only
    rw [hC, hS]
    rcases hq with hq | hq
    · simp only [if_pos hq]
    · rw [hq]
  · unfold step
    dsimp only
    rw [hC, hS]
    rcases hk with hk | hk
    · simp only [if_pos hk, if_pos h4]
    · rw [hk]

/-- Where nothing is stored into the late outputs they are kept. -/
theorem step_late (i : grid0.Coords) (I : Blk F) (O : Out F) (h4 : ¬k0_cond4 i = 1#1) :
    (step i I O).dkOut = O.dkOut ∧ (step i I O).dvOut = O.dvOut ∧ (step i I O).dgk = O.dgk := by
  refine ⟨?_, ?_, ?_⟩ <;> (unfold step; dsimp only; rw [if_neg h4])

/-! ## The proof data -/

abbrev scratch0 := (Memref.whole cc0_scratch0 : Memref sig .tc .vmem _ _)
abbrev scratch1 := (Memref.whole cc0_scratch1 : Memref sig .tc .vmem _ _)
abbrev scratch2 := (Memref.whole cc0_scratch2 : Memref sig .tc .vmem _ _)
abbrev scratch3 := (Memref.whole cc0_scratch3 : Memref sig .tc .vmem _ _)
abbrev scratch4 := (Memref.whole cc0_scratch4 : Memref sig .tc .vmem _ _)
abbrev scratch5 := (Memref.whole cc0_scratch5 : Memref sig .tc .vmem _ _)
abbrev scratch6 := (Memref.whole cc0_scratch6 : Memref sig .tc .vmem _ _)
abbrev scratch7 := (Memref.whole cc0_scratch7 : Memref sig .tc .vmem _ _)
abbrev scratch8 := (Memref.whole cc0_scratch8 : Memref sig .tc .vmem _ _)
abbrev scratch9 := (Memref.whole cc0_scratch9 : Memref sig .tc .vmem _ _)
abbrev scratch10 := (Memref.whole cc0_scratch10 : Memref sig .tc .vmem _ _)
abbrev scratch11 := (Memref.whole cc0_scratch11 : Memref sig .tc .vmem _ _)

/-- Between the points: the normed keys and the gradients summed so far in their scratch buffers, anything before the
first point; the other scratch buffers at anything; the generator register at some state. -/
def inv (c : Dev nD) (n : ℕ) : sProp 𝕄 :=
  iprop((∃ X Y Z, ⌜n ≠ 0 → X = (upTo m c n).kn ∧ Y = (upTo m c n).dkn ∧ Z = (upTo m c n).dv⌝
      ∗ owns (c : Thread nD τ) scratch0 fullShare X ∗ owns (c : Thread nD τ) scratch1 fullShare Y
      ∗ owns (c : Thread nD τ) scratch2 fullShare Z)
    ∗ (∃ X, owns (c : Thread nD τ) scratch3 fullShare X)
    ∗ (∃ X, owns (c : Thread nD τ) scratch4 fullShare X)
    ∗ (∃ X, owns (c : Thread nD τ) scratch5 fullShare X)
    ∗ (∃ X, owns (c : Thread nD τ) scratch6 fullShare X)
    ∗ (∃ X, owns (c : Thread nD τ) scratch7 fullShare X)
    ∗ (∃ X, owns (c : Thread nD τ) scratch8 fullShare X)
    ∗ (∃ X, owns (c : Thread nD τ) scratch9 fullShare X)
    ∗ (∃ X, owns (c : Thread nD τ) scratch10 fullShare X)
    ∗ (∃ X, owns (c : Thread nD τ) scratch11 fullShare X)
    ∗ (∃ r, prngReg c r))

/-- The proof data: the arrays as the region finds them, each point's blocks, what it hands on. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (upTo m c (t.val + 1)).dq
    | ⟨8, _⟩ => (upTo m c (t.val + 1)).dkOut
    | ⟨9, _⟩ => (upTo m c (t.val + 1)).dvOut
    | ⟨10, _⟩ => (upTo m c (t.val + 1)).dgq
    | ⟨11, _⟩ => (upTo m c (t.val + 1)).dgk
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (upTo m c (t.val + 1)).dq := by dsimp only [dats]
theorem after8 (c : Dev nD) (t : Fin cfg0.N) : (dats m 0 c).after 8 t = (upTo m c (t.val + 1)).dkOut := by dsimp only [dats]
theorem after9 (c : Dev nD) (t : Fin cfg0.N) : (dats m 0 c).after 9 t = (upTo m c (t.val + 1)).dvOut := by dsimp only [dats]
theorem after10 (c : Dev nD) (t : Fin cfg0.N) : (dats m 0 c).after 10 t = (upTo m c (t.val + 1)).dgq := by dsimp only [dats]
theorem after11 (c : Dev nD) (t : Fin cfg0.N) : (dats m 0 c).after 11 t = (upTo m c (t.val + 1)).dgk := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- After the first point the queries' gain's gradient is found as the point before left it; -/
theorem before10 (c : Dev nD) (t : Fin cfg0.N) (h : t.val ≠ 0) (d) : (dats m 0 c).before 10 t d = (upTo m c t.val).dgq := by
  have hN : t.val < 32 := lt_of_lt_of_eq t.isLt N_0
  rw [Dat.before_out_traj _ 10 rfl (fun _ _ => rfl) (fun t _ hi _ => absurd ((idle_gain t).symm.trans hi) Bool.false_ne_true) t.val t rfl d,
    if_neg (by rw [fresh10]; unfold freshQ; simp; omega), after10]
  congr 2
  exact Nat.sub_add_cancel (Nat.one_le_iff_ne_zero.mpr h)

/-- after the first pair of heads, the keys' gain's too. -/
theorem before11 (c : Dev nD) (t : Fin cfg0.N) (h : ¬t.val < 8) (d) : (dats m 0 c).before 11 t d = (upTo m c t.val).dgk := by
  have hN : t.val < 32 := lt_of_lt_of_eq t.isLt N_0
  have hcarry : ∀ (t : Fin cfg0.N) (_ : t.val ≠ 0), cfg0.idle 11 (grid0.coords t) = true → cfg0.fresh 11 t.val = false →
      (dats m 0 c).after 11 t = (dats m 0 c).after 11 ⟨t.val - 1, Nat.lt_of_le_of_lt (Nat.sub_le _ _) t.isLt⟩ := by
    intro t h0 hi _
    have h4 : ¬k0_cond4 (grid0.coords t) = 1#1 := fun h4 =>
      (idle_late 11 (Or.inr (Or.inr rfl)) t).mp hi ((cond4_iff t).mp h4)
    rw [after11, after11, upTo_succ, (step_late _ _ _ h4).2.2]
    congr 2
    exact (Nat.sub_add_cancel (Nat.one_le_iff_ne_zero.mpr h0)).symm
  rw [Dat.before_out_traj _ 11 rfl (fun _ _ => rfl) hcarry t.val t rfl d,
    if_neg (by rw [fresh11]; unfold freshK; simp; omega), after11]
  congr 2
  exact Nat.sub_add_cancel (by omega)

/-! ## The body obligation -/

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)
abbrev stg6 (t : Fin cfg0.N) := win0_6.stage (cfg0.slots t 6)
abbrev stg7 (t : Fin cfg0.N) := win0_7.stage (cfg0.slots t 7)
abbrev stg8 (t : Fin cfg0.N) := win0_8.stage (cfg0.slots t 8)
abbrev stg9 (t : Fin cfg0.N) := win0_9.stage (cfg0.slots t 9)
abbrev stg10 (t : Fin cfg0.N) := win0_10.stage (cfg0.slots t 10)
abbrev stg11 (t : Fin cfg0.N) := win0_11.stage (cfg0.slots t 11)

/-- What a window's buffer is left at, at a point where it is stored into or read. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- A late output is left as the pipeline asks: at the last block of queries as handed on, earlier as found. -/
theorem leaves_late (c : Dev nD) (w : Fin cfg0.W) (hw : w = 8 ∨ w = 9 ∨ w = 11) (t : Fin cfg0.N) (d)
    (X : (cfg0.win w).block.Idx → Elt F (cfg0.win w).elt) (hlive : t.val % 8 = 7 → X = (dats m 0 c).after w t)
    (hidle : ¬t.val % 8 = 7 → X = (dats m 0 c).before w t d) :
    owns (c : Thread nD τ) ((cfg0.win w).stage (cfg0.slots t w)) fullShare X ⊢ (dats m 0 c).leavesExact w t := by
  by_cases h : t.val % 8 = 7
  · rw [leaves_live m c w t (by
      rw [← Bool.not_eq_true]
      exact fun hi => (idle_late w hw t).mp hi h), hlive h]
  · have hf : (cfg0.win w).flush t = false := by
      rw [← Bool.not_eq_true]
      rcases hw with rfl | rfl | rfl
      · exact fun hf => h ((flush0_8 t).mp hf)
      · exact fun hf => h ((flush0_9 t).mp hf)
      · exact fun hf => by have := (flush0_11 t).mp hf; omega
    rw [Dat.leavesExact_idle _ w t ((idle_late w hw t).mpr h) hf, hidle h]
    iintro H
    iexists d
    iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2000000 in
/-- The body at any point, from what it finds to what it hands on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.castSucc = inv m c t.val from rfl,
    show (dats m 0 c).Φ t.succ = inv m c (t.val + 1) from rfl]
  iintro ⟨Hinv, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  unfold inv
  icases Hinv with ⟨⟨%X, %Y, %Z, %hXYZ, S0, S1, S2⟩, S3, S4, S5, S6, S7, S8, S9, S10, S11, Hg⟩
  let O : Out F := ⟨X, Y, Z, (dats m 0 c).before 7 t d7, (dats m 0 c).before 8 t d8, (dats m 0 c).before 9 t d9,
    (dats m 0 c).before 10 t d10, (dats m 0 c).before 11 t d11⟩
  obtain ⟨ekn, edkn, edv, edq, elate, edgq, edgk⟩ := step_congr (grid0.coords t) (blocks m c t) (upTo m c t.val) O (by
    by_cases h : t.val % 8 = 0
    · exact Or.inl ((first_iff t).mpr h)
    · exact Or.inr (hXYZ (by omega)))
  replace edgq := edgq (by
    by_cases h : t.val = 0
    · exact Or.inl ((cond2_iff t).mpr h)
    · exact Or.inr (before10 m c t h d10))
  rw [← upTo_succ] at ekn edkn edv edq elate edgq edgk
  iapply (body (F := F) c (grid0.coords t) _ _ _ _ _ _ _ _ _ _ _ _ _ _ _ _ _ _ _ _ _ _ _ _ _ _ _ _ _ _ _ _ _ _ _ _ _ _ _ _ _ _ _ _ _ _ _ _ (blocks m c t) O _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  unfold given
  iintro ⟨H0, H1, H2, H3, H4, H5, H6, H7, H8, H9, H10, H11, S0, S1, S2, S3, S4, S5, S6, S7, S8, S9, S10, S11⟩
  isplitl [S0 S1 S2 S3 S4 S5 S6 S7 S8 S9 S10 S11 Hg]
  · isplitl [S0 S1 S2]
    · iexists _, _, _
      isplitr
      · ipureintro
        exact fun _ => ⟨ekn, edkn, edv⟩
      isplitl [S0]; · iexact S0
      isplitl [S1]; · iexact S1
      iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact Hg
  isplitl [Ho]; · iexact Ho
  isplitl [H0]; · rw [leaves_live m c 0 t rfl, after0]; iexact H0
  isplitl [H1]; · rw [leaves_live m c 1 t rfl, after1]; iexact H1
  isplitl [H2]; · rw [leaves_live m c 2 t rfl, after2]; iexact H2
  isplitl [H3]; · rw [leaves_live m c 3 t rfl, after3]; iexact H3
  isplitl [H4]; · rw [leaves_live m c 4 t rfl, after4]; iexact H4
  isplitl [H5]; · rw [leaves_live m c 5 t rfl, after5]; iexact H5
  isplitl [H6]; · rw [leaves_live m c 6 t rfl, after6]; iexact H6
  isplitl [H7]; · rw [leaves_live m c 7 t rfl, after7, ← edq]; iexact H7
  isplitl [H8]
  · iapply (leaves_late m c 8 (Or.inl rfl) t d8 _ (fun h => by rw [after8]; exact (elate ((cond4_iff t).mpr h)).1)
      (fun h => (step_late (grid0.coords t) (blocks m c t) O (fun h4 => h ((cond4_iff t).mp h4))).1))
    iexact H8
  isplitl [H9]
  · iapply (leaves_late m c 9 (Or.inr (Or.inl rfl)) t d9 _ (fun h => by rw [after9]; exact (elate ((cond4_iff t).mpr h)).2)
      (fun h => (step_late (grid0.coords t) (blocks m c t) O (fun h4 => h ((cond4_iff t).mp h4))).2.1))
    iexact H9
  isplitl [H10]; · rw [leaves_live m c 10 t (idle_gain t), after10, ← edgq]; iexact H10
  iapply (leaves_late m c 11 (Or.inr (Or.inr rfl)) t d11 _ (fun h => by
      rw [after11]
      exact edgk ((cond4_iff t).mpr h) (by
        by_cases h8 : t.val < 8
        · exact Or.inl ((cond5_iff t).mpr h8)
        · exact Or.inr (before11 m c t h8 d11)))
    (fun h => (step_late (grid0.coords t) (blocks m c t) O (fun h4 => h ((cond4_iff t).mp h4))).2.2))
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem invariant_eq (c : Dev nD) :
    (Pipeline.ΦA spec0 c : sProp 𝕄) = iprop(iprop((∃ X, owns (c : Thread nD τ) scratch0 fullShare X)
    ∗ (∃ X, owns (c : Thread nD τ) scratch1 fullShare X)
    ∗ (∃ X, owns (c : Thread nD τ) scratch2 fullShare X)
    ∗ (∃ X, owns (c : Thread nD τ) scratch3 fullShare X)
    ∗ (∃ X, owns (c : Thread nD τ) scratch4 fullShare X)
    ∗ (∃ X, owns (c : Thread nD τ) scratch5 fullShare X)
    ∗ (∃ X, owns (c : Thread nD τ) scratch6 fullShare X)
    ∗ (∃ X, owns (c : Thread nD τ) scratch7 fullShare X)
    ∗ (∃ X, owns (c : Thread nD τ) scratch8 fullShare X)
    ∗ (∃ X, owns (c : Thread nD τ) scratch9 fullShare X)
    ∗ (∃ X, owns (c : Thread nD τ) scratch10 fullShare X)
    ∗ (∃ X, owns (c : Thread nD τ) scratch11 fullShare X)) ∗ (∃ r, prngReg c r)) := by
  unfold Pipeline.ΦA; rw [scopedRest0_eq]; simp only [owns_whole]; try rfl

theorem enter (c : Dev nD) : (Pipeline.ΦA spec0 c : sProp 𝕄) ⊢ inv m c 0 := by
  rw [invariant_eq]
  unfold inv
  iintro ⟨⟨⟨%X, S0⟩, ⟨%Y, S1⟩, ⟨%Z, S2⟩, S3, S4, S5, S6, S7, S8, S9, S10, S11⟩, Hg⟩
  isplitl [S0 S1 S2]
  · iexists X, Y, Z
    isplitr
    · ipureintro
      exact fun h => absurd rfl h
    isplitl [S0]; · iexact S0
    isplitl [S1]; · iexact S1
    iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact Hg

theorem leave (c : Dev nD) (n : ℕ) : inv m c n ⊢ (Pipeline.ΦA spec0 c : sProp 𝕄) := by
  rw [invariant_eq]
  unfold inv
  iintro ⟨⟨%X, %Y, %Z, %h, S0, S1, S2⟩, S3, S4, S5, S6, S7, S8, S9, S10, S11, Hg⟩
  isplitr [Hg]
  · isplitl [S0]; · iexists X; iexact S0
    isplitl [S1]; · iexists Y; iexact S1
    isplitl [S2]; · iexists Z; iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact Hg

set_option backward.isDefEq.respectTransparency.types false in
/-- The launch: every array as the points leave it, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := enter m) (hout := fun c => leave m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnIdeal.Hand

end
-- ==== Proof.AttnSame.lean ====
module

public import proofs.«01_k».proof.Proof.Gen.Attn.Launch
public import proofs.«01_k».proof.Proof.AttnFrame

@[expose] public section

noncomputable section
namespace Cert.Attn.Hand
open Idealize.ShloMosaic Idealize.ShloMosaic.TcCoe

variable {F : FTy → Type} [FloatOps F]

/-- A named constant read as the pattern it was written with. -/
@[reducible] def plain : Named F := ⟨fun _ _ _ bits => Scalar.ofBits _ bits⟩
attribute [local instance] plain

/-! With the named constant read as its pattern the idealized program is the program itself. -/

theorem same_kernel : Cert.Attn.cc0_dattn (F := F) = Cert.AttnIdeal.cc0_dattn (F := F) := rfl

set_option maxHeartbeats 2000000 in
theorem same_defs₀ : Cert.Attn.defs₀ (F := F) = Cert.AttnIdeal.defs₀ (F := F) := by
  unfold Cert.Attn.defs₀ Cert.AttnIdeal.defs₀
  refine congrArg Defs.onTc ?_
  funext l x
  obtain ⟨l, hl⟩ := l
  match l, hl, x with
  | 0, _, (t, s) =>
    dsimp only
    have h := same_kernel (F := F)
    generalize Cert.Attn.cc0_dattn (F := F) = k at h ⊢
    subst h
    exact rfl

set_option maxHeartbeats 400000 in
theorem same_defs : Cert.Attn.defs (F := F) = Cert.AttnIdeal.defs (F := F) := by
  unfold Cert.Attn.defs Cert.AttnIdeal.defs
  rw [same_defs₀]
  exact rfl

set_option maxHeartbeats 400000 in
theorem same_main₁ : Cert.Attn.main_part1 (F := F) = Cert.AttnIdeal.main_part1 (F := F) := by
  exact rfl
set_option maxHeartbeats 2000000 in
theorem same_main₀ : Cert.Attn.main_part0 (F := F) = Cert.AttnIdeal.main_part0 (F := F) := by
  exact rfl

set_option maxHeartbeats 2000000 in
theorem same_main : Cert.Attn.main (F := F) = Cert.AttnIdeal.main (F := F) := by
  unfold Cert.Attn.main Cert.AttnIdeal.main
  have h₀ := same_main₀ (F := F)
  have h₁ := same_main₁ (F := F)
  generalize Cert.Attn.main_part0 (F := F) = k₀ at h₀ ⊢
  generalize Cert.Attn.main_part1 (F := F) = k₁ at h₁ ⊢
  subst h₀ h₁
  exact rfl

set_option maxHeartbeats 1000000 in
/-- The frame: the arguments end as they were, every counter at zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h₀ := same_main (F := F)
  have h₁ := same_defs (F := F)
  generalize main (F := F) = k₀ at h₀ ⊢
  generalize defs (F := F) = k₁ at h₁ ⊢
  subst h₀ h₁
  exact Cert.AttnIdeal.Hand.frame_run (F := F) m ρ

end Cert.Attn.Hand
end
-- ==== Proof.AttnSpec.lean ====
/- The attention's gradient: the reference's own words for the scores, the weights and the values' gradient, apart from either program. -/
module

public import proofs.«01_k».proof.Proof.Consts
public import proofs.«01_k».proof.Proof.Norm
public import proofs.«01_k».proof.Proof.Gelu
public import Idealize.ShloMosaic.Lib.Pointwise

@[expose] public section

set_option maxRecDepth 16384

noncomputable section

open Idealize.ShloMosaic

namespace Cert.Attn

open Cert.Consts Cert.Norm Cert.Real

theorem toInt_small (a : ℕ) (h : a < 2147483648) : (BitVec.ofNat 32 a).toInt = a := by
  rw [BitVec.toInt_eq_toNat_of_lt (by rw [BitVec.toNat_ofNat]; omega), BitVec.toNat_ofNat]; omega

theorem slt_at (a b : ℕ) (ha : a < 2147483648) (hb : b < 2147483648) :
    IntOp.cmpi .slt (BitVec.ofNat 32 a) (BitVec.ofNat 32 b) = BitVec.ofBool (decide (a < b)) := by
  simp only [IntOp.cmpi, BitVec.slt, toInt_small a ha, toInt_small b hb, Nat.cast_lt]

theorem sle_at (a b : ℕ) (ha : a < 2147483648) (hb : b < 2147483648) :
    IntOp.cmpi .sle (BitVec.ofNat 32 a) (BitVec.ofNat 32 b) = BitVec.ofBool (decide (a ≤ b)) := by
  simp only [IntOp.cmpi, BitVec.sle, toInt_small a ha, toInt_small b hb, Nat.cast_le]

theorem sgt_at (a b : ℕ) (ha : a < 2147483648) (hb : b < 2147483648) :
    IntOp.cmpi .sgt (BitVec.ofNat 32 a) (BitVec.ofNat 32 b) = BitVec.ofBool (decide (b < a)) := by
  simp only [IntOp.cmpi, BitVec.slt, toInt_small a ha, toInt_small b hb, Nat.cast_lt]

theorem sge_at (a b : ℕ) (ha : a < 2147483648) (hb : b < 2147483648) :
    IntOp.cmpi .sge (BitVec.ofNat 32 a) (BitVec.ofNat 32 b) = BitVec.ofBool (decide (b ≤ a)) := by
  simp only [IntOp.cmpi, BitVec.sle, toInt_small a ha, toInt_small b hb, Nat.cast_le]

theorem eq_at (a b : ℕ) (ha : a < 4294967296) (hb : b < 4294967296) :
    IntOp.cmpi .eq (BitVec.ofNat 32 a) (BitVec.ofNat 32 b) = BitVec.ofBool (decide (a = b)) := by
  have h : (BitVec.ofNat 32 a = BitVec.ofNat 32 b) ↔ a = b :=
    ⟨fun h => by have := congrArg BitVec.toNat h; simp only [BitVec.toNat_ofNat] at this; omega, fun h => by rw [h]⟩
  simp only [IntOp.cmpi]
  by_cases e : a = b
  · rw [e]; simp
  · rw [decide_eq_false e, beq_eq_false_iff_ne.2 fun h' => e (h.1 h')]

theorem select_at {α : Type} (p : Prop) [Decidable p] (a b : α) : Scalar.select (BitVec.ofBool (decide p)) a b = if p then a else b := by
  by_cases h : p <;> simp [h, Scalar.select]

/-- The logarithm of the sigmoid, as the kernel takes it. -/
def lsig (x : EReal) : EReal := min x 0 - Ideal.log (1 + Ideal.exp (0 - max x (-x)))

theorem lsig_bot : lsig ⊥ = ⊥ := by
  unfold lsig
  rw [min_eq_left bot_le, sub_eq_add_neg, EReal.bot_add]

theorem isReal_log {x : EReal} : IsReal x → IsReal (Ideal.log (1 + Ideal.exp (0 - max x (-x)))) := fun ⟨a, ha⟩ => by
  rw [ha]
  obtain ⟨t, h⟩ : IsReal (max (a : EReal) (-(a : EReal))) := by
    rcases max_choice (a : EReal) (-(a : EReal)) with h | h <;> rw [h]
    exacts [isReal _, (isReal a).neg]
  have h1 : 1 + Ideal.exp (0 - max (a : EReal) (-(a : EReal))) = ((1 + Real.exp (0 - t) : ℝ) : EReal) := by
    rw [h, ← EReal.coe_zero, ← EReal.coe_sub, Ideal.exp_coe, EReal.coe_add, EReal.coe_one]
  rw [h1, Ideal.log_coe, if_neg (by have := Real.exp_pos (0 - t); linarith)]
  exact isReal _

theorem isReal_lsig {x : EReal} : IsReal x → IsReal (lsig x) := fun h => by
  refine IsReal.sub ?_ (isReal_log h)
  rcases min_choice x 0 with e | e <;> rw [e]
  exacts [h, isReal_zero]

/-- What a key leaves is the logarithm of one less the sigmoid. -/
theorem lsig_neg {x : EReal} : IsReal x → lsig x - x = lsig (-x) := fun h => by
  obtain ⟨p, hp⟩ := isReal_log h
  unfold lsig
  rw [neg_neg, max_comm (-x) x, hp]
  obtain ⟨a, rfl⟩ := h
  rw [← EReal.coe_neg, ← EReal.coe_zero, ← EReal.coe_strictMono.monotone.map_min, ← EReal.coe_strictMono.monotone.map_min, ← EReal.coe_sub, ← EReal.coe_sub,
    ← EReal.coe_sub, EReal.coe_eq_coe_iff]
  rcases le_total a 0 with h | h
  · rw [min_eq_left h, min_eq_right (by linarith)]; ring
  · rw [min_eq_right h, min_eq_left (by linarith)]; ring

/-- The reference's way to take it: the negative of the softplus of the negative. -/
theorem softplus_neg {x : EReal} : IsReal x → -(max (-x) 0 + Ideal.log (1 + Ideal.exp (-max (-x) (- -x)))) = lsig x := fun h => by
  obtain ⟨p, hp⟩ := isReal_log h
  unfold lsig
  rw [neg_neg, max_comm (-x) x, ← zero_sub (max x (-x)), hp]
  obtain ⟨a, rfl⟩ := h
  rw [← EReal.coe_neg, ← EReal.coe_zero, ← EReal.coe_strictMono.monotone.map_min, ← EReal.coe_strictMono.monotone.map_max, ← EReal.coe_add, ← EReal.coe_sub,
    ← EReal.coe_neg, EReal.coe_eq_coe_iff]
  rcases le_total a 0 with h | h
  · rw [min_eq_left h, max_eq_left (by linarith)]; ring
  · rw [min_eq_right h, max_eq_right (by linarith)]; ring

/-! ## The mathematics -/

/-- A row of a head after its norm. -/
def nrm (u g : Fin 64 → EReal) (e : Fin 64) : EReal := u e * rinv ((64 : ℝ) : EReal) eps u * g e

theorem isReal_nrm {u g : Fin 64 → EReal} (hu : ∀ e, IsReal (u e)) (hg : ∀ e, IsReal (g e)) (e : Fin 64) : IsReal (nrm u g e) := by
  refine ((hu e).mul ?_).mul (hg e)
  obtain ⟨p, hp, h⟩ := eps_pos
  unfold rinv
  rw [h]
  rcases msq_cases (c := 64) (by norm_num) hp u with q | ⟨w, hw, q⟩
  · rw [q, Ideal.rsqrt_top]; exact isReal_zero
  · rw [q, Ideal.rsqrt_coe, if_neg hw.not_gt, if_neg hw.ne']; exact isReal _

/-- The columns of the queries, the keys and the incoming gradient. -/
def qcol (h : Fin 8) (e : Fin 64) : Fin 2816 := ⟨768 + (h.val * 64 + e.val), by omega⟩
def kcol (h : Fin 8) (e : Fin 64) : Fin 2816 := ⟨1280 + (h.val * 64 + e.val), by omega⟩
def ycol (h : Fin 8) (e : Fin 64) : Fin 1024 := ⟨256 + (h.val * 64 + e.val), by omega⟩

variable (X : Fin 2048 → Fin 2816 → EReal) (G H : Fin 64 → EReal)

def qn (t : Fin 2048) (h : Fin 8) (e : Fin 64) : EReal := nrm (fun e => X t (qcol h e)) G e
def kn (t : Fin 2048) (h : Fin 8) (e : Fin 64) : EReal := nrm (fun e => X t (kcol h e)) H e

/-- The score of a query against a key; the same by the key's number, and zero beyond the last; -/
def z (h : Fin 8) (t s : Fin 2048) : EReal := (∑ e, qn X G t h e * kn X H s h e) * ((1 / 8 : ℝ) : EReal)
def zn (h : Fin 8) (t : Fin 2048) (s : ℕ) : EReal := if hs : s < 2048 then z X G H h t ⟨s, hs⟩ else 0

/-- what the keys before the query leave in all, the weight of a key, and the values' gradient. -/
def tot (h : Fin 8) (t : Fin 2048) : EReal := ∑ x ∈ Finset.range t.val, lsig (-zn X G H h t x)
def wgt (h : Fin 8) (t : Fin 2048) (s : ℕ) : EReal :=
  if s < t.val then Ideal.exp (lsig (zn X G H h t s) + (tot X G H h t - ∑ x ∈ Finset.range (s + 1), lsig (-zn X G H h t x))) else 0
def dval (Y : Fin 2048 → Fin 1024 → EReal) (h : Fin 8) (s : Fin 2048) (e : Fin 64) : EReal := ∑ t, wgt X G H h t s.val * Y t (ycol h e)

variable {X G H} (hX : ∀ t k, IsReal (X t k)) (hG : ∀ e, IsReal (G e)) (hH : ∀ e, IsReal (H e))
include hX hG hH

theorem isReal_z (h : Fin 8) (t s : Fin 2048) : IsReal (z X G H h t s) :=
  (IsReal.sum _ fun e _ => (isReal_nrm (fun _ => hX _ _) hG e).mul (isReal_nrm (fun _ => hX _ _) hH e)).mul (isReal _)

theorem isReal_zn (h : Fin 8) (t : Fin 2048) (s : ℕ) : IsReal (zn X G H h t s) := by
  unfold zn
  split
  exacts [isReal_z hX hG hH _ _ _, isReal_zero]

theorem isReal_tot (h : Fin 8) (t : Fin 2048) : IsReal (tot X G H h t) := IsReal.sum _ fun x _ => isReal_lsig (isReal_zn hX hG hH _ _ _).neg

end Cert.Attn

end
-- ==== Proof.AttnRow.lean ====
/- The attention's gradient: what each value the weights are made of is at an index. -/
module

public import proofs.«01_k».proof.Proof.AttnCore
public import proofs.«01_k».proof.Proof.AttnSpec
public import proofs.«01_k».proof.Proof.SguRows
public import Idealize.ShloMosaic.Lib.Pointwise

@[expose] public section

set_option maxRecDepth 16384

noncomputable section

open Idealize.ShloMosaic

namespace Cert.AttnIdeal.Row

open Cert.AttnIdeal Cert.AttnIdeal.Gen Cert.AttnIdeal.Hand Cert.Consts Cert.Norm Cert.Real Cert.Attn

theorem masked_eq : (Named.named (F := Ideal) κ "masked" (φ := .f32) 0xF149F2CA#32) = ⊥ :=
  IdealRules.named_const.ideal_named_scalar _ _ _ _ rfl

theorem bit_at (p : Prop) [Decidable p] :
    FloatOps.sitofp (F := Ideal) FTy.f32 (BitVec.setWidth 32 (BitVec.ofBool (decide p))) = if p then 1 else 0 := by
  by_cases h : p
  · rw [if_pos h, decide_eq_true h]
    show (((BitVec.setWidth 32 1#1).toInt : ℝ) : EReal) = 1
    rw [show (BitVec.setWidth 32 1#1).toInt = 1 from by decide]
    norm_num
  · rw [if_neg h, decide_eq_false h]
    show (((BitVec.setWidth 32 0#1).toInt : ℝ) : EReal) = 0
    rw [show (BitVec.setWidth 32 0#1).toInt = 0 from by decide]
    norm_num

/-- What is added to a score of key tile `n` before its logarithm: nothing before the block's own tile, the diagonal's
bias at it, the mask after. -/
def bias (b n : ℕ) (D : EReal) : EReal := if n = b then D else if b < n then ⊥ else 0

theorem score_at (b n : ℕ) (hb : b < 8) (hn : n < 16) (D Z : FVec Ideal S512x256 .f32) (w : BitVec 32) (hw : Scalar.addi w 1#32 = BitVec.ofNat 32 n)
    (r : Fin 512) (j : Fin 256) :
    k0_pay13 (BitVec.ofNat 32 b) D w Z (ix2 r j) = Z (ix2 r j) + bias b n (D (ix2 r j)) := by
  pointwise [k0_pay13]
  rw [hw, masked_eq]
  change Z (ix2 r j) + Scalar.select (IntOp.cmpi .eq (BitVec.ofNat 32 n) (BitVec.ofNat 32 b)) (D (ix2 r j)) (Scalar.select (IntOp.cmpi .sgt (BitVec.ofNat 32 n) (BitVec.ofNat 32 b)) ⊥ _) = _
  rw [eq_at n b (by omega) (by omega), sgt_at n b (by omega) (by omega), select_at, select_at]
  rfl

theorem lb_at (b : BitVec 32) (D Z : FVec Ideal S512x256 .f32) (w : BitVec 32) (r : Fin 512) (j : Fin 256) :
    k0_pay14 b D w Z (ix2 r j) = lsig (k0_pay13 b D w Z (ix2 r j)) := by
  pointwise [k0_pay14]
  rfl

theorem lb3_at (b : BitVec 32) (D Z : FVec Ideal S512x256 .f32) (w : BitVec 32) (i : Fin 1) (r : Fin 512) (j : Fin 256) :
    k0_pay18 b D w Z (ix3 i r j) = k0_pay14 b D w Z (ix2 r j) := by
  pointwise [k0_pay18]

theorem hi_at (b : BitVec 32) (D Z : FVec Ideal S512x256 .f32) (w : BitVec 32) (r : Fin 512) (j : Fin 256) :
    k0_pay19 (k0_pay16 b D w Z) (ix2 r j) = k0_pay14 b D w Z (ix2 r j) - k0_pay13 b D w Z (ix2 r j) := by
  pointwise [k0_pay19, k0_pay16, k0_pay15]

theorem lo_at (b : BitVec 32) (D Z : FVec Ideal S512x256 .f32) (w : BitVec 32) (r : Fin 512) (j : Fin 256) :
    k0_pay20 (k0_pay17 b D w Z) (ix2 r j) = (k0_pay14 b D w Z (ix2 r j) - k0_pay13 b D w Z (ix2 r j)) - (k0_pay14 b D w Z (ix2 r j) - k0_pay13 b D w Z (ix2 r j)) := by
  pointwise [k0_pay20, k0_pay17, k0_pay16, k0_pay15]

theorem score0_at (b : ℕ) (hb : b < 8) (Q : FVec Ideal S512x128 .bf16) (D : FVec Ideal S512x256 .f32) (K : FVec Ideal S256x128 .bf16) (r : Fin 512) (j : Fin 256) :
    k0_pay79 (BitVec.ofNat 32 b) Q D K (ix2 r j) = (∑ x, Q (ix2 r x) * K (ix2 j x)) + bias b 0 (D (ix2 r j)) := by
  pointwise [k0_pay79]
  rw [masked_eq]
  change _ + Scalar.select (IntOp.cmpi .eq (BitVec.ofNat 32 b) (BitVec.ofNat 32 0)) (D (ix2 r j)) (Scalar.select (IntOp.cmpi .slt (BitVec.ofNat 32 b) (BitVec.ofNat 32 0)) ⊥ _) = _
  rw [eq_at b 0 (by omega) (by omega), slt_at b 0 (by omega) (by omega), select_at, select_at]
  simp only [bias, eq_comm]

theorem lb0_at (S L : FVec Ideal S512x256 .f32) (i : Fin 1) (r : Fin 512) (j : Fin 256) (h : L (ix2 r j) = min (S (ix2 r j)) 0) :
    k0_pay84 S L (ix3 i r j) = lsig (S (ix2 r j)) ∧ k0_pay85 S L (ix2 r j) = lsig (S (ix2 r j)) - S (ix2 r j)
      ∧ k0_pay86 S L (ix2 r j) = (lsig (S (ix2 r j)) - S (ix2 r j)) - (lsig (S (ix2 r j)) - S (ix2 r j)) := by
  have e : k0_pay81 S L (ix2 r j) = lsig (S (ix2 r j)) := by
    pointwise [k0_pay81]
    rw [h]; rfl
  refine ⟨?_, ?_, ?_⟩
  · pointwise [k0_pay84]; exact e
  · pointwise [k0_pay85, k0_pay83, k0_pay82, e]
  · pointwise [k0_pay86, k0_pay83, k0_pay82, e]

theorem low0_at (b : BitVec 32) (Q : FVec Ideal S512x128 .bf16) (D : FVec Ideal S512x256 .f32) (K : FVec Ideal S256x128 .bf16) (r : Fin 512) (j : Fin 256) :
    k0_pay80 b Q D K (ix2 r j) = min (k0_pay79 b Q D K (ix2 r j)) 0 := by
  pointwise [k0_pay80]

theorem up_at (U : FVec Ideal S256x256 .bf16) (H L : FVec Ideal S512x256 .bf16) (r : Fin 512) (j : Fin 256) :
    k0_pay26 (k0_pay9 U H L) (ix2 r j) = ∑ x, H (ix2 r x) * U (ix2 x j) + ∑ x, L (ix2 r x) * U (ix2 x j) := by
  pointwise [k0_pay26, k0_pay9]

theorem upto_at (i j : Fin 256) : k0_pay69 (F := Ideal) (ix2 i j) = if i.val ≤ j.val then 1 else 0 := by
  pointwise [k0_pay69]
  change FloatOps.sitofp (F := Ideal) FTy.f32 (BitVec.setWidth 32 (IntOp.cmpi CmpIPredicate.sle (BitVec.ofNat 32 i.val) (BitVec.ofNat 32 j.val))) = _
  rw [sle_at _ _ (by omega) (by omega), bit_at]

theorem diag_at (r : Fin 512) (j : Fin 256) : k0_pay71 (F := Ideal) (ix2 r j) = if j.val < r.val % 256 then 0 else ⊥ := by
  pointwise [k0_pay71]
  rw [masked_eq, slt_at _ _ (by omega) (by omega), slt_at _ _ (by omega) (by omega), select_at, select_at]
  by_cases h : r.val < 256
  · rw [dif_pos h, Nat.mod_eq_of_lt h]
  · rw [dif_neg h, show r.val % 256 = r.val - 256 from by omega]

theorem weight_at (T R : FVec Ideal S512x1 .f32) (P B : FVec Ideal S512x256 .f32) (r : Fin 512) (j : Fin 256) :
    k0_pay92 T R P B (ix2 r j) = Ideal.exp (B (ix2 r j) + (T (ix2 r 0) - R (ix2 r 0) - P (ix2 r j))) := by
  pointwise [k0_pay92, k0_pay90]

theorem dv_at (D : FVec Ideal S512x128 .bf16) (V : FVec Ideal S256x128 .f32) (A : FVec Ideal S512x256 .bf16) (s : Fin 256) (l : Fin 128) :
    k0_pay11 D V A (ix2 s l) = V (ix2 s l) + ∑ x, A (ix2 x s) * D (ix2 x l) := by
  pointwise [k0_pay11]

theorem dvl_at (D : FVec Ideal S512x128 .bf16) (V : FVec Ideal S256x128 .f32) (A : FVec Ideal S512x256 .bf16) (s : Fin 256) (l : Fin 128) :
    k0_pay108 D V A (ix2 s l) = V (ix2 s l) + ∑ x, A (ix2 x s) * D (ix2 x l) := by
  pointwise [k0_pay108]

theorem z_at (Q : FVec Ideal S512x128 .bf16) (K : FVec Ideal S256x128 .bf16) (r : Fin 512) (j : Fin 256) :
    k0_pay97 (k0_pay12 Q K) (ix2 r j) = ∑ x, Q (ix2 r x) * K (ix2 j x) := by
  pointwise [k0_pay97, k0_pay12]

theorem z1_at (Q : FVec Ideal S512x128 .bf16) (K : FVec Ideal S256x128 .bf16) (r : Fin 512) (j : Fin 256) :
    k0_pay87 Q K (ix2 r j) = ∑ x, Q (ix2 r x) * K (ix2 j x) := by
  pointwise [k0_pay87]

theorem run_at (R : FVec Ideal S512x1 .f32) (P : FVec Ideal S512x256 .f32) (r : Fin 512) (i : Fin 1) :
    k0_pay98 R P (ix2 r i) = R (ix2 r i) + P (ix2 r 255) := by
  pointwise [k0_pay98]

theorem zero_at (r : Fin 512) (j : Fin 256) (i : Fin 1) (s : Fin 2048) (l : Fin 128) :
    k0_pay88 (F := Ideal) (ix2 r i) = 0 ∧ k0_pay74 (F := Ideal) k0_pay73 (ix2 r j) = 0 ∧ k0_pay62 (F := Ideal) (ix2 s l) = 0 := by
  refine ⟨?_, ?_, ?_⟩
  · pointwise [k0_pay88]
  · pointwise [k0_pay74, k0_pay73]
  · pointwise [k0_pay62]

theorem lbk_at (W : FVec Ideal S1x512x256 .f32) (r : Fin 512) (j : Fin 256) : k0_pay27 W (ix2 r j) = W (ix3 0 r j) := by
  pointwise [k0_pay27]

/-- A row of the stack: the query it comes from, and the head's half of the lanes. -/
def rowOf (r : Fin 512) : Fin 256 := ⟨r.val % 256, by omega⟩

theorem half_at (r : Fin 512) (l : Fin 128) (f : Fin 256 → EReal) :
    (if h : r.val < 256 then Scalar.select (IntOp.cmpi .slt (BitVec.ofNat 32 l.val) 64#32) (f ⟨r.val, h⟩) 0
      else Scalar.select (IntOp.cmpi .sge (BitVec.ofNat 32 l.val) 64#32) (f ⟨r.val - 256, by omega⟩) 0)
      = if l.val / 64 = r.val / 256 then f (rowOf r) else 0 := by
  rw [slt_at _ 64 (by omega) (by omega), sge_at _ 64 (by omega) (by omega)]
  by_cases h : r.val < 256
  · rw [dif_pos h, show (⟨r.val, h⟩ : Fin 256) = rowOf r from Fin.ext (by simp only [rowOf]; omega), select_at]
    refine if_congr ?_ rfl rfl
    omega
  · rw [dif_neg h, show (⟨r.val - 256, by omega⟩ : Fin 256) = rowOf r from Fin.ext (by simp only [rowOf]; omega), select_at]
    refine if_congr ?_ rfl rfl
    omega

theorem dy_at (Y : FVec Ideal S256x128 .bf16) (r : Fin 512) (l : Fin 128) :
    k0_pay67 (F := Ideal) lanes Y (ix2 r l) = if l.val / 64 = r.val / 256 then Y (ix2 (rowOf r) l) else 0 := by
  pointwise [k0_pay67, lanes]
  exact half_at r l fun r => Y (ix2 r l)

theorem total_at (A B : FVec Ideal S256x1 .f32) (r : Fin 512) (i : Fin 1) :
    k0_pay68 A B (ix2 r i) = if r.val < 256 then A (ix2 (rowOf r) 0) else B (ix2 (rowOf r) 0) := by
  pointwise [k0_pay68]
  by_cases h : r.val < 256
  · rw [dif_pos h, if_pos h, show (⟨r.val, h⟩ : Fin 256) = rowOf r from Fin.ext (by simp only [rowOf]; omega)]
  · rw [dif_neg h, if_neg h, show (⟨r.val - 256, by omega⟩ : Fin 256) = rowOf r from Fin.ext (by simp only [rowOf]; omega)]

/-- The matrix of the head means of the two norms. -/
abbrev hm : FVec Ideal S128x128 .bf16 := k0_pay59 (F := Ideal) k0_pay54 k0_pay55 k0_pay56 k0_pay57 k0_pay58

theorem hm_at (x k : Fin 128) : hm (ix2 x k) = if x.val / 64 = k.val / 64 then 1 else 0 := by
  pointwise [hm, k0_pay59, k0_pay54, k0_pay55, k0_pay56, k0_pay57, k0_pay58]
  change FloatOps.sitofp (F := Ideal) FTy.f32 (BitVec.setWidth 32 (IntOp.cmpi CmpIPredicate.eq
    (Cert.SguIdeal.Rows.floor64 (BitVec.ofNat 32 x.val)) (Cert.SguIdeal.Rows.floor64 (BitVec.ofNat 32 k.val)))) = _
  rw [Cert.SguIdeal.Rows.floor64_eq ⟨x.val, by omega⟩, Cert.SguIdeal.Rows.floor64_eq ⟨k.val, by omega⟩, eq_at _ _ (by omega) (by omega), bit_at]

/-- A lane of a pair of heads. -/
def lane (h : Fin 2) (e : Fin 64) : Fin 128 := ⟨e.val + 64 * h.val, by omega⟩
def half (l : Fin 128) : Fin 2 := ⟨l.val / 64, by omega⟩

theorem sum_half (f : Fin 128 → EReal) (h : Fin 2) : (∑ x : Fin 128, if x.val / 64 = h.val then f x else 0) = ∑ e : Fin 64, f (lane h e) := by
  rw [← Finset.sum_filter]
  refine (Finset.sum_bij (fun e _ => lane h e) (fun e _ => ?_) (fun a _ b _ hab => ?_) (fun x hx => ?_) (fun _ _ => rfl)).symm
  · rw [Finset.mem_filter]; exact ⟨Finset.mem_univ _, by simp only [lane]; omega⟩
  · have := congrArg Fin.val hab; simp only [lane] at this; exact Fin.ext (by omega)
  · have h1 := (Finset.mem_filter.1 hx).2
    exact ⟨⟨x.val % 64, by omega⟩, Finset.mem_univ _, Fin.ext (by simp only [lane]; omega)⟩

/-- The inverse root of a row's mean square over the head of a lane. -/
def rms {n : ℕ} (X : FVec Ideal ⟨2, ![n, 128]⟩ .bf16) (r : Fin n) (l : Fin 128) : EReal :=
  rinv ((64 : ℝ) : EReal) eps fun e : Fin 64 => X (ix2 r (lane (half l) e))

theorem inv_at {n : ℕ} (X : FVec Ideal ⟨2, ![n, 128]⟩ .bf16) (hX : ∀ j, IsReal (X j)) (r : Fin n) (l : Fin 128) :
    Ideal.rsqrt ((∑ x, X (ix2 r x) * X (ix2 r x) * hm (ix2 x l) + ∑ x, (X (ix2 r x) * X (ix2 r x) - X (ix2 r x) * X (ix2 r x)) * hm (ix2 x l))
      * Ideal.ofBits FTy.f32 0x3C800000#32 + Ideal.ofBits FTy.f32 0x358637BD#32) = rms X r l := by
  have h : ∑ x, X (ix2 r x) * X (ix2 r x) * hm (ix2 x l) + ∑ x, (X (ix2 r x) * X (ix2 r x) - X (ix2 r x) * X (ix2 r x)) * hm (ix2 x l)
      = ∑ e : Fin 64, X (ix2 r (lane (half l) e)) * X (ix2 r (lane (half l) e)) := by
    rw [Cert.SguIdeal.Rows.sum_rest _ _ (fun x => (hX _).mul (hX _)), add_zero]
    simp only [hm_at, mul_ite, mul_one, mul_zero]
    exact sum_half (fun x => X (ix2 r x) * X (ix2 r x)) (half l)
  rw [h, ofBits_inv_64]
  exact congrArg Ideal.rsqrt (congrArg (· + eps) (Ideal.div_coe (by norm_num) _).symm)

theorem qinv_at (X : FVec Ideal S256x128 .bf16) (hX : ∀ j, IsReal (X j)) (r : Fin 256) (l : Fin 128) :
    k0_pay64 (F := Ideal) k0_pay54 k0_pay55 k0_pay56 k0_pay57 k0_pay58 X (ix2 r l) = rms X r l := by
  pointwise [k0_pay64, k0_pay63]
  exact inv_at X hX r l

theorem kn_at (X : FVec Ideal S2048x128 .bf16) (G : FVec Ideal S1x128 .f32) (hX : ∀ j, IsReal (X j)) (s : Fin 2048) (l : Fin 128) :
    k0_pay60 (F := Ideal) k0_pay54 k0_pay55 k0_pay56 k0_pay57 k0_pay58 X G (ix2 s l) = X (ix2 s l) * rms X s l * G (ix2 0 l) := by
  pointwise [k0_pay60]
  exact congrArg (fun y => X (ix2 s l) * y * G (ix2 0 l)) (inv_at X hX s l)

theorem q_at (X : FVec Ideal S256x128 .bf16) (G : FVec Ideal S1x128 .f32) (hX : ∀ j, IsReal (X j)) (r : Fin 512) (l : Fin 128) :
    k0_pay66 (F := Ideal) (k0_pay65 k0_pay54 k0_pay55 k0_pay56 k0_pay57 k0_pay58 X G) (ix2 r l)
      = if l.val / 64 = r.val / 256 then X (ix2 (rowOf r) l) * rms X (rowOf r) l * G (ix2 0 l) else 0 := by
  pointwise [k0_pay66, k0_pay65, k0_pay63]
  refine (half_at r l fun r => X (ix2 r l) * k0_pay64 (F := Ideal) k0_pay54 k0_pay55 k0_pay56 k0_pay57 k0_pay58 X (ix2 r l) * G (ix2 0 l)).trans ?_
  simp only [qinv_at X hX]

end Cert.AttnIdeal.Row

end
-- ==== Proof.AttnWeights.lean ====
/- The attention's gradient: what the loop over the key tiles leaves of the weights and of the values' gradient. -/
module

public import proofs.«01_k».proof.Proof.AttnRow

@[expose] public section

set_option maxRecDepth 16384

noncomputable section

open Idealize.ShloMosaic

namespace Cert.AttnIdeal.Row

open Cert.AttnIdeal Cert.AttnIdeal.Gen Cert.AttnIdeal.Hand Cert.Consts Cert.Norm Cert.Real Cert.Attn

/-! ## Windows -/

theorem window_rows {α : Type} (x : S2048x128.Idx → α) (off : Fin 2 → ℕ) (n : ℕ) (h : off = ![256 * n, 0]) (inb : ∀ a, off a + S256x128.size a ≤ S2048x128.size a)
    (hn : n < 8) (a : Fin 256) (l : Fin 128) :
    VecWindow.window (s := S2048x128) x off S256x128.size inb (ix2 a l) = x (ix2 ⟨256 * n + a.val, by omega⟩ l) := by
  subst h
  refine congrArg x (funext fun d => Fin.ext ?_)
  match d with
  | ⟨0, _⟩ => show 256 * n + 1 * a.val = 256 * n + a.val; omega
  | ⟨1, _⟩ => show 0 + 1 * l.val = l.val; omega

theorem put_rows {α : Type} (x : S2048x128.Idx → α) (off : Fin 2 → ℕ) (n : ℕ) (h : off = ![256 * n, 0]) (w : S256x128.Idx → α) (s : Fin 2048) (l : Fin 128) :
    VecWindow.put (s := S2048x128) x off S256x128.size w (ix2 s l) = if s.val / 256 = n then w (ix2 ⟨s.val % 256, by omega⟩ l) else x (ix2 s l) := by
  subst h
  unfold VecWindow.put
  by_cases e : s.val / 256 = n
  · rw [if_pos e, dif_pos (fun d => by
      match d with
      | ⟨0, _⟩ => show 256 * n ≤ s.val ∧ s.val < 256 * n + 256; omega
      | ⟨1, _⟩ => show 0 ≤ l.val ∧ l.val < 0 + 128; omega)]
    refine congrArg w (funext fun d => Fin.ext ?_)
    match d with
    | ⟨0, _⟩ => show s.val - 256 * n = s.val % 256; omega
    | ⟨1, _⟩ => show l.val - 0 = l.val; omega
  · rw [if_neg e, dif_neg (fun hd => e (by
      have h0 := hd (0 : Fin 2)
      change 256 * n ≤ s.val ∧ s.val < 256 * n + 256 at h0
      omega))]

theorem window_slot {α : Type} (x : S3x512x256.Idx → α) (off : Fin 3 → ℕ) (p : ℕ) (h : off = ![p, 0, 0]) (inb : ∀ a, off a + S1x512x256.size a ≤ S3x512x256.size a)
    (hp : p < 3) (i : Fin 1) (r : Fin 512) (j : Fin 256) :
    VecWindow.window (s := S3x512x256) x off S1x512x256.size inb (ix3 i r j) = x (ix3 ⟨p, hp⟩ r j) := by
  subst h
  refine congrArg x (funext fun d => Fin.ext ?_)
  match d with
  | ⟨0, _⟩ => show p + 1 * i.val = p; omega
  | ⟨1, _⟩ => show 0 + 1 * r.val = r.val; omega
  | ⟨2, _⟩ => show 0 + 1 * j.val = j.val; omega

theorem put_slot {α : Type} (x : S3x512x256.Idx → α) (off : Fin 3 → ℕ) (p : ℕ) (h : off = ![p, 0, 0]) (w : S1x512x256.Idx → α) (i : Fin 3) (r : Fin 512) (j : Fin 256) :
    VecWindow.put (s := S3x512x256) x off S1x512x256.size w (ix3 i r j) = if i.val = p then w (ix3 0 r j) else x (ix3 i r j) := by
  subst h
  unfold VecWindow.put
  by_cases e : i.val = p
  · rw [if_pos e, dif_pos (fun d => by
      match d with
      | ⟨0, _⟩ => show p ≤ i.val ∧ i.val < p + 1; omega
      | ⟨1, _⟩ => show 0 ≤ r.val ∧ r.val < 0 + 512; omega
      | ⟨2, _⟩ => show 0 ≤ j.val ∧ j.val < 0 + 256; omega)]
    refine congrArg w (funext fun d => Fin.ext ?_)
    match d with
    | ⟨0, _⟩ => show i.val - p = 0; omega
    | ⟨1, _⟩ => show r.val - 0 = r.val; omega
    | ⟨2, _⟩ => show j.val - 0 = j.val; omega
  · rw [if_neg e, dif_neg (fun hd => e (by
      have h0 := hd (0 : Fin 3)
      change p ≤ i.val ∧ i.val < p + 1 at h0
      omega))]

/-! ## The weights -/

variable (C : Ctx Ideal) (b : ℕ)

/-- The score of a row of the stack against a key, -/
def Z (r : Fin 512) (s : ℕ) : EReal := if h : s < 2048 then ∑ x, C.q (ix2 r x) * C.kn (ix2 ⟨s, h⟩ x) else 0

/-- whether the key comes before the row's query, -/
abbrev Causal (r : Fin 512) (s : ℕ) : Prop := s < 256 * b + r.val % 256

/-- the masked score, the logarithm of the share it takes and of the share it leaves, -/
def sc (r : Fin 512) (s : ℕ) : EReal := if Causal b r s then Z C r s else ⊥
def lb (r : Fin 512) (s : ℕ) : EReal := lsig (sc C b r s)
def lr (r : Fin 512) (s : ℕ) : EReal := lb C b r s - sc C b r s

/-- and the weight: the share taken of what the keys after it leave. -/
def wt (r : Fin 512) (s : ℕ) : EReal :=
  if Causal b r s then Ideal.exp (lb C b r s + (C.total (ix2 r 0) - ∑ x ∈ Finset.range (s + 1), lr C b r x)) else 0

/-- What is asked of what the loop's trips read. -/
structure Good : Prop where
  hb : b < 8
  qi : C.qi = BitVec.ofNat 32 b
  diag : C.diag = k0_pay71
  upto : C.upto = k0_pay69
  z : ∀ r s, IsReal (Z C r s)
  total : ∀ r, IsReal (C.total (ix2 r 0))

variable {C b} (G : Good C b)
include G

theorem score {n : ℕ} (hn : n ≤ b) (r : Fin 512) (j : Fin 256) :
    Z C r (256 * n + j.val) + bias b n (k0_pay71 (F := Ideal) (ix2 r j)) = sc C b r (256 * n + j.val) := by
  have hr := r.isLt
  have hj := j.isLt
  unfold bias sc Causal
  rcases Nat.lt_or_ge n b with h | h
  · rw [if_neg (by omega), if_neg (by omega), add_zero, if_pos (by omega)]
  · obtain rfl : n = b := by omega
    rw [if_pos rfl, diag_at]
    by_cases e : j.val < r.val % 256
    · rw [if_pos e, if_pos (by omega), add_zero]
    · rw [if_neg e, if_neg (by omega), EReal.add_bot]

theorem lb_bot {r : Fin 512} {s : ℕ} (h : ¬Causal b r s) : lb C b r s = ⊥ := by rw [lb, sc, if_neg h, lsig_bot]

theorem lr_real {r : Fin 512} {s : ℕ} (h : Causal b r s) : IsReal (lr C b r s) := by
  rw [lr, lb, sc, if_pos h]; exact (isReal_lsig (G.z r s)).sub (G.z r s)

/-- The inclusive sum over a tile of what its keys leave. -/
theorem up_eq {n : ℕ} {H L : FVec Ideal S512x256 .bf16} (hH : ∀ r (j : Fin 256), H (ix2 r j) = lr C b r (256 * n + j.val))
    (hL : ∀ r (j : Fin 256), L (ix2 r j) = lr C b r (256 * n + j.val) - lr C b r (256 * n + j.val)) (r : Fin 512) (j : Fin 256)
    (h : ∀ x ≤ j.val, Causal b r (256 * n + x)) :
    k0_pay26 (k0_pay9 C.upto H L) (ix2 r j) = ∑ x ∈ Finset.range (j.val + 1), lr C b r (256 * n + x) := by
  rw [up_at, G.upto]
  have e1 : ∑ x, H (ix2 r x) * k0_pay69 (F := Ideal) (ix2 x j) = ∑ x ∈ Finset.range (j.val + 1), lr C b r (256 * n + x) := by
    simp only [hH, upto_at, mul_ite, mul_one, mul_zero]
    rw [Fin.sum_univ_eq_sum_range (fun x => if x ≤ j.val then lr C b r (256 * n + x) else 0) 256, ← Finset.sum_filter]
    refine Finset.sum_congr (Finset.ext fun x => ?_) fun _ _ => rfl
    have := j.isLt
    simp only [Finset.mem_filter, Finset.mem_range]
    omega
  have e2 : ∑ x, L (ix2 r x) * k0_pay69 (F := Ideal) (ix2 x j) = 0 := by
    refine Finset.sum_eq_zero fun x _ => ?_
    rw [hL, upto_at]
    by_cases e : x.val ≤ j.val
    · rw [(lr_real G (h _ e)).sub_self, zero_mul]
    · rw [if_neg e, mul_zero]
  rw [e1, e2, add_zero]

/-- What holds before trip `k`. -/
structure Inv (D : FVec Ideal S2048x128 .f32) (k : ℕ) (S : St Ideal) : Prop where
  z : ∀ r (j : Fin 256), S.z (ix2 r j) = Z C r (256 * min b (k + 1) + j.val)
  lb : k ≤ b → ∀ r (j : Fin 256), S.lb (ix3 ⟨k % 3, Nat.mod_lt _ (by decide)⟩ r j) = lb C b r (256 * k + j.val)
  hi : k ≤ b → ∀ r (j : Fin 256), S.hi (ix2 r j) = lr C b r (256 * k + j.val)
  lo : k ≤ b → ∀ r (j : Fin 256), S.lo (ix2 r j) = lr C b r (256 * k + j.val) - lr C b r (256 * k + j.val)
  run : k ≤ b → ∀ r, S.run (ix2 r 0) = ∑ x ∈ Finset.range (256 * k), lr C b r x
  a : ∀ r (j : Fin 256), S.a (ix2 r j) = if k = 0 then 0 else wt C b r (256 * (k - 1) + j.val)
  dv : ∀ s l, S.dv (ix2 s l) = D (ix2 s l) + if s.val / 256 + 1 < k then ∑ r, wt C b r s.val * C.dy (ix2 r l) else 0

theorem addi_iv : ∀ k : Fin 8, Scalar.addi (Scf.iv 0#32 1#32 k.val) 1#32 = BitVec.ofNat 32 (k.val + 1) := by decide

variable (i : grid0.Coords) (hi : (i 1).val = b)
include hi

theorem wt_eq {n : ℕ} (hn : n ≤ b) {S : St Ideal} {D : FVec Ideal S2048x128 .f32} (I : Inv (b := b) (C := C) D n S) (B : FVec Ideal S512x256 .f32)
    (hB : ∀ r (j : Fin 256), B (ix2 r j) = lb C b r (256 * n + j.val)) (r : Fin 512) (j : Fin 256) :
    k0_pay92 C.total S.run (k0_pay26 (k0_pay9 C.upto S.hi S.lo)) B (ix2 r j) = wt C b r (256 * n + j.val) := by
  rw [weight_at, hB, wt]
  by_cases h : Causal b r (256 * n + j.val)
  · have hc : ∀ x ≤ 256 * n + j.val, Causal b r x := fun x hx => by unfold Causal at h ⊢; omega
    rw [if_pos h, up_eq G (I.hi hn) (I.lo hn) r j (fun x hx => hc _ (by omega)), I.run hn r, show 256 * n + j.val + 1 = 256 * n + (j.val + 1) from by omega,
      Finset.sum_range_add (fun x => lr C b r x) (256 * n) (j.val + 1)]
    have h1 := IsReal.sum (Finset.range (256 * n)) (f := fun x => lr C b r x) fun x hx => lr_real G (hc x (by have := Finset.mem_range.1 hx; omega))
    have h2 := IsReal.sum (Finset.range (j.val + 1)) (f := fun x => lr C b r (256 * n + x)) fun x hx => lr_real G (hc _ (by have := Finset.mem_range.1 hx; omega))
    obtain ⟨t, ht⟩ := G.total r
    obtain ⟨p, hp⟩ := h1
    obtain ⟨q, hq⟩ := h2
    rw [ht, hp, hq, ← EReal.coe_sub, ← EReal.coe_sub, ← EReal.coe_add, ← EReal.coe_sub, sub_sub]
  · rw [if_neg h, lb_bot G h, EReal.bot_add, Ideal.exp_bot]

theorem inv_succ (D : FVec Ideal S2048x128 .f32) (k : Fin (k0_t1_loop i).trips) (S : St Ideal) (I : Inv (b := b) (C := C) D k.val S) :
    Inv (b := b) (C := C) D (k.val + 1) (next i C k S) := by
  have hb := G.hb
  have ht := trips1 i
  have hk : k.val ≤ b := by have := k.isLt; omega
  have hw : Scalar.addi (Scf.iv 0#32 1#32 k.val) 1#32 = BitVec.ofNat 32 (k.val + 1) := addi_iv G ⟨k.val, by omega⟩
  have hs (hk' : k.val + 1 ≤ b) (r : Fin 512) (j : Fin 256) :
      k0_pay13 C.qi C.diag (Scf.iv 0#32 1#32 k.val) S.z (ix2 r j) = sc C b r (256 * (k.val + 1) + j.val) := by
    rw [G.qi, G.diag, score_at b (k.val + 1) hb (by omega) _ _ _ hw, I.z, show min b (k.val + 1) = k.val + 1 from by omega]
    exact score G hk' r j
  have hl (hk' : k.val + 1 ≤ b) (r : Fin 512) (j : Fin 256) :
      k0_pay14 C.qi C.diag (Scf.iv 0#32 1#32 k.val) S.z (ix2 r j) = lb C b r (256 * (k.val + 1) + j.val) := by
    rw [lb_at, hs hk']; rfl
  have hlb (r : Fin 512) (j : Fin 256) :
      k0_pay27 (VecWindow.window (VecWindow.put S.lb (k0_off5 i k 1#32) S1x512x256.size (k0_pay18 C.qi C.diag (Scf.iv 0#32 1#32 k.val) S.z)) (k0_off6 i k) S1x512x256.size (k0_off6_inb i k)) (ix2 r j)
        = lb C b r (256 * k.val + j.val) := by
    rw [lbk_at, window_slot _ _ _ (off6 i k) _ (Nat.mod_lt _ (by decide)), put_slot _ _ _ (off5_1 i k), if_neg (by show ¬k.val % 3 = (k.val + 1) % 3; omega)]
    exact I.lb hk r j
  refine ⟨fun r j => ?_, fun hk' r j => ?_, fun hk' r j => ?_, fun hk' r j => ?_, fun hk' r => ?_, fun r j => ?_, fun s l => ?_⟩
  · show k0_pay97 (k0_pay12 C.q (VecWindow.window C.kn (k0_off4 i k) S256x128.size (k0_off4_inb i k))) (ix2 r j) = _
    have hj := j.isLt
    rw [z_at, Z, dif_pos (by omega)]
    refine Finset.sum_congr rfl fun x _ => ?_
    rw [window_rows C.kn _ (min b (k.val + 2)) (by rw [off4, hi]) _ (by omega)]
  · show VecWindow.put S.lb (k0_off5 i k 1#32) S1x512x256.size (k0_pay18 C.qi C.diag (Scf.iv 0#32 1#32 k.val) S.z) (ix3 _ r j) = _
    rw [put_slot _ _ _ (off5_1 i k), if_pos rfl, lb3_at, hl hk']
  · show k0_pay19 (k0_pay16 C.qi C.diag (Scf.iv 0#32 1#32 k.val) S.z) (ix2 r j) = _
    rw [hi_at, hl hk', hs hk']; rfl
  · show k0_pay20 (k0_pay17 C.qi C.diag (Scf.iv 0#32 1#32 k.val) S.z) (ix2 r j) = _
    rw [lo_at, hl hk', hs hk']; rfl
  · show k0_pay98 S.run (k0_pay26 (k0_pay9 C.upto S.hi S.lo)) (ix2 r 0) = _
    rw [run_at, I.run hk, up_eq G (I.hi hk) (I.lo hk) r 255 (fun x hx => by
      have : x ≤ 255 := hx
      unfold Causal; omega), show 256 * (k.val + 1) = 256 * k.val + 256 from by omega, Finset.sum_range_add (fun x => lr C b r x) (256 * k.val) 256]
    rfl
  · show k0_pay92 C.total S.run (k0_pay26 (k0_pay9 C.upto S.hi S.lo)) _ (ix2 r j) = _
    rw [if_neg (by omega), wt_eq G i hi hk I _ hlb]
    rfl
  · show VecWindow.put S.dv (k0_off3 i k) S256x128.size (k0_pay11 C.dy (VecWindow.window S.dv (k0_off3 i k) S256x128.size (k0_off3_inb i k)) S.a) (ix2 s l) = _
    rw [put_rows _ _ _ (off3 i k)]
    by_cases e : s.val / 256 = k.val - 1
    · rw [if_pos e, dv_at, window_rows S.dv _ _ (off3 i k) _ (by omega)]
      have hsv : (⟨256 * (k.val - 1) + s.val % 256, by omega⟩ : Fin 2048) = s := Fin.ext (by show 256 * (k.val - 1) + s.val % 256 = s.val; omega)
      rw [hsv, I.dv, if_neg (by omega), add_zero]
      congr 1
      by_cases k0 : k.val = 0
      · rw [if_neg (by omega)]
        refine Finset.sum_eq_zero fun r _ => ?_
        rw [I.a, if_pos k0, zero_mul]
      · rw [if_pos (by omega)]
        refine Finset.sum_congr rfl fun r _ => ?_
        rw [I.a, if_neg k0]
        show wt C b r (256 * (k.val - 1) + s.val % 256) * _ = _
        rw [show 256 * (k.val - 1) + s.val % 256 = s.val from by omega]
    · rw [if_neg e, I.dv]
      congr 1
      by_cases e' : s.val / 256 + 1 < k.val
      · rw [if_pos e', if_pos (by omega)]
      · rw [if_neg e', if_neg (by omega)]

theorem inv_iter (D : FVec Ideal S2048x128 .f32) (S : St Ideal) (I : Inv (b := b) (C := C) D 0 S) : ∀ k ≤ b + 1, Inv (b := b) (C := C) D k (iter i C S k)
  | 0, _ => I
  | k + 1, h => by
    have hk : k < (k0_t1_loop i).trips := by have := trips1 i; omega
    have e := iter_succ i C S ⟨k, hk⟩
    rw [show iter i C S (k + 1) = next i C ⟨k, hk⟩ (iter i C S k) from e]
    exact inv_succ G i hi D ⟨k, hk⟩ _ (inv_iter D S I k (by omega))

/-- What a grid point's loop adds to the values' gradient. -/
theorem done_dv (D : FVec Ideal S2048x128 .f32) (S : St Ideal) (I : Inv (b := b) (C := C) D 0 S) (s : Fin 2048) (l : Fin 128) :
    (done i C S).dv (ix2 s l) = D (ix2 s l) + ∑ r, wt C b r s.val * C.dy (ix2 r l) := by
  have hb := G.hb
  have J := inv_iter G i hi D S I (k0_t1_loop i).trips (by have := trips1 i; omega)
  have ht : (k0_t1_loop i).trips = b + 1 := by have := trips1 i; omega
  show VecWindow.put (iter i C S (k0_t1_loop i).trips).dv (k0_off12 i) S256x128.size
    (k0_pay108 C.dy (VecWindow.window (iter i C S (k0_t1_loop i).trips).dv (k0_off12 i) S256x128.size (k0_off12_inb i)) (iter i C S (k0_t1_loop i).trips).a) (ix2 s l) = _
  generalize iter i C S (k0_t1_loop i).trips = E at J
  rw [ht] at J
  rw [put_rows _ _ b (by rw [off12, hi])]
  by_cases e : s.val / 256 = b
  · rw [if_pos e, dvl_at, window_rows E.dv _ b (by rw [off12, hi]) _ hb]
    have hsv : (⟨256 * b + s.val % 256, by omega⟩ : Fin 2048) = s := Fin.ext (by show 256 * b + s.val % 256 = s.val; omega)
    rw [hsv, J.dv, if_neg (by omega), add_zero]
    congr 1
    refine Finset.sum_congr rfl fun r _ => ?_
    rw [J.a, if_neg (by omega)]
    show wt C b r (256 * (b + 1 - 1) + s.val % 256) * _ = _
    rw [show 256 * (b + 1 - 1) + s.val % 256 = s.val from by omega]
  · rw [if_neg e, J.dv]
    congr 1
    by_cases e' : s.val / 256 + 1 < b + 1
    · rw [if_pos e']
    · rw [if_neg e']
      refine (Finset.sum_eq_zero fun r _ => ?_).symm
      rw [wt, if_neg (by unfold Causal; omega), zero_mul]

end Cert.AttnIdeal.Row

end
-- ==== Proof.AttnPoint.lean ====
/- The attention's gradient: a grid point in the reference's words, from what its blocks hold. -/
module

public import proofs.«01_k».proof.Proof.AttnWeights

@[expose] public section

set_option maxRecDepth 16384

noncomputable section

open Idealize.ShloMosaic

namespace Cert.AttnIdeal.Row

open Cert.AttnIdeal Cert.AttnIdeal.Gen Cert.AttnIdeal.Hand Cert.Consts Cert.Norm Cert.Real Cert.Attn

/-- What the blocks of head pair `p` and query block `b` hold of the arrays. -/
structure Reads (X : Fin 2048 → Fin 2816 → EReal) (G H : Fin 64 → EReal) (Y : Fin 2048 → Fin 1024 → EReal) (p b : ℕ) (I : Blk Ideal) : Prop where
  hp : p < 4
  hb : b < 8
  q : ∀ (a : Fin 256) (l : Fin 128), I.q (ix2 a l) = X ⟨256 * b + a.val, by omega⟩ ⟨768 + (128 * p + l.val), by omega⟩
  k : ∀ (s : Fin 2048) (l : Fin 128), I.k (ix2 s l) = X s ⟨1280 + (128 * p + l.val), by omega⟩
  total : ∀ (a : Fin 256) (l : Fin 128), I.total (ix2 a l) = tot X G H ⟨2 * p + l.val / 64, by omega⟩ ⟨256 * b + a.val, by omega⟩
  dy : ∀ (a : Fin 256) (l : Fin 128), I.dy (ix2 a l) = Y ⟨256 * b + a.val, by omega⟩ ⟨256 + (128 * p + l.val), by omega⟩
  gq : ∀ l : Fin 128, I.gq (ix2 0 l) = G ⟨l.val % 64, by omega⟩ * ((1 / 8 : ℝ) : EReal)
  gk : ∀ l : Fin 128, I.gk (ix2 0 l) = H ⟨l.val % 64, by omega⟩

theorem sum_stack (f : Fin 512 → EReal) (h : ℕ) (hh : h < 2) :
    (∑ r : Fin 512, if h = r.val / 256 then f r else 0) = ∑ a : Fin 256, f ⟨256 * h + a.val, by omega⟩ := by
  rw [← Finset.sum_filter]
  refine (Finset.sum_bij (fun a _ => (⟨256 * h + a.val, by omega⟩ : Fin 512)) (fun a _ => ?_) (fun a _ b _ hab => ?_) (fun x hx => ?_) (fun _ _ => rfl)).symm
  · rw [Finset.mem_filter]; exact ⟨Finset.mem_univ _, by show h = (256 * h + a.val) / 256; omega⟩
  · have : 256 * h + a.val = 256 * h + b.val := congrArg Fin.val hab
    exact Fin.ext (by omega)
  · have h1 := (Finset.mem_filter.1 hx).2
    exact ⟨⟨x.val % 256, by omega⟩, Finset.mem_univ _, Fin.ext (by show 256 * h + x.val % 256 = x.val; omega)⟩

/-- The head of a lane; the head and the query of a row of the stack. -/
def lhead {p : ℕ} (hp : p < 4) (l : Fin 128) : Fin 8 := ⟨2 * p + l.val / 64, by omega⟩
def rhead {p : ℕ} (hp : p < 4) (r : Fin 512) : Fin 8 := ⟨2 * p + r.val / 256, by omega⟩
def query {b : ℕ} (hb : b < 8) (r : Fin 512) : Fin 2048 := ⟨256 * b + r.val % 256, by omega⟩
def place (l : Fin 128) : Fin 64 := ⟨l.val % 64, by omega⟩

/-- What one query adds to the values' gradient at a key and a lane. -/
def part {p : ℕ} (X : Fin 2048 → Fin 2816 → EReal) (G H : Fin 64 → EReal) (Y : Fin 2048 → Fin 1024 → EReal) (hp : p < 4) (s : Fin 2048) (l : Fin 128) (t : ℕ) : EReal :=
  if h : t < 2048 then wgt X G H (lhead hp l) ⟨t, h⟩ s.val * Y ⟨t, h⟩ ⟨256 + (128 * p + l.val), by omega⟩ else 0

variable {X : Fin 2048 → Fin 2816 → EReal} {G H : Fin 64 → EReal} {Y : Fin 2048 → Fin 1024 → EReal} {p b : ℕ} {I : Blk Ideal}
  (R : Reads X G H Y p b I) (hX : ∀ t k, IsReal (X t k)) (hG : ∀ e, IsReal (G e)) (hH : ∀ e, IsReal (H e))

include R in
theorem rms_k (s : Fin 2048) (l : Fin 128) : rms I.k s l = rinv ((64 : ℝ) : EReal) eps (fun e => X s (kcol (lhead R.hp l) e)) := by
  unfold rms
  refine congrArg _ (funext fun e => (R.k _ _).trans (congrArg (X s) (Fin.ext ?_)))
  show 1280 + (128 * p + (e.val + 64 * (l.val / 64))) = 1280 + ((2 * p + l.val / 64) * 64 + e.val)
  omega

include R in
theorem rms_q (r : Fin 512) (l : Fin 128) :
    rms I.q (rowOf r) l = rinv ((64 : ℝ) : EReal) eps (fun e => X (query R.hb r) (qcol (lhead R.hp l) e)) := by
  unfold rms
  refine congrArg _ (funext fun e => (R.q _ _).trans (congrArg (X _) (Fin.ext ?_)))
  show 768 + (128 * p + (e.val + 64 * (l.val / 64))) = 768 + ((2 * p + l.val / 64) * 64 + e.val)
  omega

include R hX in
theorem new_kn (s : Fin 2048) (l : Fin 128) :
    k0_pay60 (F := Ideal) k0_pay54 k0_pay55 k0_pay56 k0_pay57 k0_pay58 I.k I.gk (ix2 s l) = kn X H s (lhead R.hp l) (place l) := by
  rw [kn_at _ _ (fun j => by idx_vars j; rw [R.k]; exact hX _ _), rms_k R, R.k, R.gk]
  unfold kn nrm
  congr 3
  exact Fin.ext (by show 1280 + (128 * p + l.val) = 1280 + ((2 * p + l.val / 64) * 64 + l.val % 64); omega)

include R hX in
theorem new_q (r : Fin 512) (l : Fin 128) :
    k0_pay66 (F := Ideal) (k0_pay65 k0_pay54 k0_pay55 k0_pay56 k0_pay57 k0_pay58 I.q I.gq) (ix2 r l)
      = if l.val / 64 = r.val / 256 then qn X G (query R.hb r) (lhead R.hp l) (place l) * ((1 / 8 : ℝ) : EReal) else 0 := by
  rw [q_at _ _ (fun j => by idx_vars j; rw [R.q]; exact hX _ _), rms_q R, R.q, R.gq, ← mul_assoc]
  have e : X ⟨256 * b + (rowOf r).val, by have := R.hb; omega⟩ ⟨768 + (128 * p + l.val), by have := R.hp; omega⟩
      = X (query R.hb r) (qcol (lhead R.hp l) (place l)) :=
    congrArg (X _) (Fin.ext (by show 768 + (128 * p + l.val) = 768 + ((2 * p + l.val / 64) * 64 + l.val % 64); omega))
  rw [e]
  rfl

variable (i : grid0.Coords) (hi : (i 1).val = b) (O : Out Ideal)
  (K : ∀ (s : Fin 2048) (l : Fin 128), (ctx i I O).kn (ix2 s l) = kn X H s (lhead R.hp l) (place l))

include hX hG hH K in
theorem score_of (r : Fin 512) (s : ℕ) : Z (ctx i I O) r s = zn X G H (rhead R.hp r) (query R.hb r) s := by
  unfold Z zn
  split
  · next hs =>
    have hp := R.hp
    have e : ∀ x, (ctx i I O).q (ix2 r x) * (ctx i I O).kn (ix2 ⟨s, hs⟩ x)
        = if x.val / 64 = (⟨r.val / 256, by omega⟩ : Fin 2).val then
            qn X G (query R.hb r) (lhead R.hp x) (place x) * ((1 / 8 : ℝ) : EReal) * kn X H ⟨s, hs⟩ (lhead R.hp x) (place x) else 0 := fun x => by
      rw [K]
      refine (congrArg (· * _) (new_q R hX r x)).trans ?_
      by_cases h : x.val / 64 = r.val / 256
      · rw [if_pos h, if_pos h]
      · rw [if_neg h, if_neg h, zero_mul]
    rw [Finset.sum_congr rfl fun x _ => e x,
      sum_half (fun x => qn X G (query R.hb r) (lhead R.hp x) (place x) * ((1 / 8 : ℝ) : EReal) * kn X H ⟨s, hs⟩ (lhead R.hp x) (place x)) ⟨r.val / 256, by omega⟩, z, mul_comm,
      coe_mul_sum (by norm_num)]
    refine Finset.sum_congr rfl fun x _ => ?_
    have h1 : lhead R.hp (lane ⟨r.val / 256, by omega⟩ x) = rhead R.hp r := Fin.ext (by show 2 * p + (x.val + 64 * (r.val / 256)) / 64 = 2 * p + r.val / 256; omega)
    have h2 : place (lane ⟨r.val / 256, by omega⟩ x) = x := Fin.ext (by show (x.val + 64 * (r.val / 256)) % 64 = x.val; omega)
    rw [h1, h2, mul_comm (qn _ _ _ _ _), mul_assoc]
  · rfl

include R in
theorem total_of (r : Fin 512) : (ctx i I O).total (ix2 r 0) = tot X G H (rhead R.hp r) (query R.hb r) := by
  have hw (o : ℕ) (ho : o = 0 ∨ o = 64) (inb) (a : Fin 256) : VecWindow.window (s := S256x128) I.total ![0, o] S256x1.size inb (ix2 a 0)
      = tot X G H ⟨2 * p + o / 64, by have := R.hp; omega⟩ ⟨256 * b + a.val, by have := R.hb; omega⟩ := by
    refine Eq.trans (congrArg I.total (funext fun d => Fin.ext ?_)) (R.total a ⟨o, by omega⟩)
    match d with
    | ⟨0, _⟩ => show 0 + 1 * a.val = a.val; omega
    | ⟨1, _⟩ => show o + 1 * 0 = o; omega
  show k0_pay68 _ _ (ix2 r 0) = _
  rw [total_at, hw 0 (.inl rfl), hw 64 (.inr rfl)]
  by_cases h : r.val < 256
  · rw [if_pos h]
    refine congrArg₂ (tot X G H) (Fin.ext ?_) rfl
    show 2 * p + 0 / 64 = 2 * p + r.val / 256; omega
  · rw [if_neg h]
    refine congrArg₂ (tot X G H) (Fin.ext ?_) rfl
    show 2 * p + 64 / 64 = 2 * p + r.val / 256; omega

include R in
theorem dy_of (r : Fin 512) (l : Fin 128) : (ctx i I O).dy (ix2 r l)
    = if l.val / 64 = r.val / 256 then Y (query R.hb r) ⟨256 + (128 * p + l.val), by have := R.hp; omega⟩ else 0 := by
  refine (dy_at I.dy r l).trans ?_
  rw [R.dy]
  rfl

include hX hG hH K hi in
theorem good_of : Good (ctx i I O) b where
  hb := R.hb
  qi := by rw [← hi]; rfl
  diag := rfl
  upto := rfl
  z r s := by rw [score_of R hX hG hH i O K]; exact isReal_zn hX hG hH _ _ _
  total r := by rw [total_of R]; exact isReal_tot hX hG hH _ _

include hX hG hH K hi in
theorem wt_of (r : Fin 512) (s : ℕ) : wt (ctx i I O) b r s = wgt X G H (rhead R.hp r) (query R.hb r) s := by
  unfold wt wgt
  refine if_ctx_congr Iff.rfl (fun h => ?_) fun _ => rfl
  have hl (x : ℕ) (hx : x ≤ s) : lr (ctx i I O) b r x = lsig (-zn X G H (rhead R.hp r) (query R.hb r) x) := by
    have hc : Causal b r x := lt_of_le_of_lt hx h
    rw [lr, lb, sc, if_pos hc, score_of R hX hG hH i O K, lsig_neg (isReal_zn hX hG hH _ _ _)]
  rw [total_of R, lb, sc, if_pos (show Causal b r s from h), score_of R hX hG hH i O K]
  congr 3
  exact Finset.sum_congr rfl fun x hx => hl x (by have := Finset.mem_range.1 hx; omega)

include hX hG hH K hi in
theorem adds (s : Fin 2048) (l : Fin 128) :
    ∑ r, wt (ctx i I O) b r s.val * (ctx i I O).dy (ix2 r l) = ∑ a ∈ Finset.range 256, part X G H Y R.hp s l (256 * b + a) := by
  have hb := R.hb
  have hp := R.hp
  have e : ∀ r : Fin 512, wt (ctx i I O) b r s.val * (ctx i I O).dy (ix2 r l)
      = if l.val / 64 = r.val / 256 then wgt X G H (rhead R.hp r) (query R.hb r) s.val * Y (query R.hb r) ⟨256 + (128 * p + l.val), by omega⟩ else 0 := fun r => by
    rw [dy_of R, wt_of R hX hG hH i hi O K, mul_ite, mul_zero]
  rw [Finset.sum_congr rfl fun r _ => e r,
    sum_stack (fun r : Fin 512 => wgt X G H (rhead R.hp r) (query R.hb r) s.val * Y (query R.hb r) ⟨256 + (128 * p + l.val), by omega⟩) (l.val / 64) (by omega), ← Fin.sum_univ_eq_sum_range (fun a => part X G H Y R.hp s l (256 * b + a)) 256]
  refine Finset.sum_congr rfl fun a _ => ?_
  rw [part, dif_pos (by omega)]
  have h1 : rhead R.hp (⟨256 * (l.val / 64) + a.val, by omega⟩ : Fin 512) = lhead R.hp l :=
    Fin.ext (by show 2 * p + (256 * (l.val / 64) + a.val) / 256 = 2 * p + l.val / 64; omega)
  have h2 : query R.hb (⟨256 * (l.val / 64) + a.val, by omega⟩ : Fin 512) = ⟨256 * b + a.val, by omega⟩ :=
    Fin.ext (by show 256 * b + (256 * (l.val / 64) + a.val) % 256 = 256 * b + a.val; omega)
  rw [h1, h2]

include hX hG hH K hi in
/-- What the loop starts from is what its first trip asks. -/
theorem inv_start : Inv (b := b) (C := ctx i I O) (kept (qiOf i) k0_pay62 O.dv) 0 (start i I O) := by
  have Gd := good_of R hX hG hH i hi O K
  have hS (r : Fin 512) (j : Fin 256) : k0_pay79 (ctx i I O).qi (ctx i I O).q (ctx i I O).diag (Hand.head i (ctx i I O)) (ix2 r j) = sc (ctx i I O) b r (256 * 0 + j.val) := by
    rw [Gd.qi, Gd.diag, score0_at _ R.hb, ← score Gd (Nat.zero_le b) r j, Z, dif_pos (by omega)]
    congr 1
    refine Finset.sum_congr rfl fun x _ => congrArg _ ?_
    exact window_rows _ _ 0 (off1_0 i) _ (by omega) j x
  have h0 := fun r (j : Fin 256) => lb0_at (k0_pay79 (ctx i I O).qi (ctx i I O).q (ctx i I O).diag (Hand.head i (ctx i I O)))
    (k0_pay80 (ctx i I O).qi (ctx i I O).q (ctx i I O).diag (Hand.head i (ctx i I O))) 0 r j (low0_at _ _ _ _ r j)
  refine ⟨fun r j => ?_, fun _ r j => ?_, fun _ r j => ?_, fun _ r j => ?_, fun _ r => ?_, fun r j => ?_, fun s l => ?_⟩
  · have hb := R.hb
    show k0_pay87 _ _ (ix2 r j) = _
    rw [z1_at, Z, dif_pos (by omega)]
    refine Finset.sum_congr rfl fun x _ => congrArg _ ?_
    rw [window_rows _ _ (min b 1) (by rw [off1_1, hi, min_comm]) _ (by omega)]
  · show VecWindow.put _ _ _ _ (ix3 _ r j) = _
    rw [put_slot _ _ 0 rfl, if_pos rfl]
    exact (h0 r j).1.trans (by rw [hS]; rfl)
  · exact (h0 r j).2.1.trans (by rw [hS]; rfl)
  · exact (h0 r j).2.2.trans (by rw [hS]; rfl)
  · exact (zero_at r 0 0 0 0).1
  · rw [if_pos rfl]; exact (zero_at r j 0 0 0).2.1
  · rw [if_neg (by omega), add_zero]; rfl

include hX hG hH K hi in
/-- The values' gradient after a grid point. -/
theorem dv_of (s : Fin 2048) (l : Fin 128) : (step i I O).dv (ix2 s l)
    = kept (qiOf i) (k0_pay62 (F := Ideal)) O.dv (ix2 s l) + ∑ a ∈ Finset.range 256, part X G H Y R.hp s l (256 * b + a) :=
  (done_dv (good_of R hX hG hH i hi O K) i hi _ _ (inv_start R hX hG hH i hi O K) s l).trans
    (congrArg _ (adds R hX hG hH i hi O K s l))

end Cert.AttnIdeal.Row

end
-- ==== Proof.AttnScores.lean ====
/- The attention's gradient: what the loop over the key tiles leaves of the scores' gradient, and of the normed queries' and keys'. -/
module

public import proofs.«01_k».proof.Proof.AttnWeights

@[expose] public section

set_option maxRecDepth 16384

noncomputable section

open Idealize.ShloMosaic

namespace Cert.AttnIdeal.Row

open Cert.AttnIdeal Cert.AttnIdeal.Gen Cert.AttnIdeal.Hand Cert.Consts Cert.Norm Cert.Real Cert.Attn

/-! ## The values by their places -/

theorem before_at (i j : Fin 256) : k0_pay70 (F := Ideal) (ix2 i j) = if i.val < j.val then 1 else 0 := by
  pointwise [k0_pay70]
  change FloatOps.sitofp (F := Ideal) FTy.f32 (BitVec.setWidth 32 (IntOp.cmpi CmpIPredicate.slt (BitVec.ofNat 32 i.val) (BitVec.ofNat 32 j.val))) = _
  rw [slt_at _ _ (by omega) (by omega), bit_at]

theorem run_before_at (U : FVec Ideal S256x256 .bf16) (H L : FVec Ideal S512x256 .bf16) (r : Fin 512) (j : Fin 256) :
    k0_pay21 (k0_pay8 U H L) (ix2 r j) = ∑ x, H (ix2 r x) * U (ix2 x j) + ∑ x, L (ix2 r x) * U (ix2 x j) := by
  pointwise [k0_pay21, k0_pay8]

theorem run_before_last_at (U : FVec Ideal S256x256 .bf16) (H L : FVec Ideal S512x256 .bf16) (r : Fin 512) (j : Fin 256) :
    k0_pay109 U H L (ix2 r j) = ∑ x, H (ix2 r x) * U (ix2 x j) + ∑ x, L (ix2 r x) * U (ix2 x j) := by
  pointwise [k0_pay109]

theorem dz_at (R : FVec Ideal S512x1 .f32) (B : FVec Ideal S1024x256 .f32) (D : FVec Ideal S512x256 .f32) (W : FVec Ideal S1x512x256 .f32) (r : Fin 512) (j : Fin 256) :
    k0_pay22 R B D W (ix2 r j) = D (ix2 r j) - Ideal.exp (W (ix3 0 r j)) * (D (ix2 r j) + (R (ix2 r 0) + k0_pay21 B (ix2 r j))) := by
  pointwise [k0_pay22]

theorem dz_last_at (R : FVec Ideal S512x1 .f32) (B D : FVec Ideal S512x256 .f32) (W : FVec Ideal S1x512x256 .f32) (r : Fin 512) (j : Fin 256) :
    k0_pay110 R D B W (ix2 r j) = D (ix2 r j) - Ideal.exp (W (ix3 0 r j)) * (D (ix2 r j) + (R (ix2 r 0) + B (ix2 r j))) := by
  pointwise [k0_pay110]

theorem dq_at (Z : FVec Ideal S512x256 .bf16) (Q : FVec Ideal S512x128 .f32) (K : FVec Ideal S256x128 .bf16) (r : Fin 512) (l : Fin 128) :
    k0_pay23 Z Q K (ix2 r l) = Q (ix2 r l) + ∑ x, Z (ix2 r x) * K (ix2 x l) := by
  pointwise [k0_pay23]

theorem dk_at (Q : FVec Ideal S512x128 .bf16) (Z : FVec Ideal S512x256 .bf16) (V : FVec Ideal S256x128 .f32) (s : Fin 256) (l : Fin 128) :
    k0_pay24 Q Z V (ix2 s l) = V (ix2 s l) + ∑ x, Z (ix2 x s) * Q (ix2 x l) := by
  pointwise [k0_pay24]

theorem dk_last_at (Q : FVec Ideal S512x128 .bf16) (R : FVec Ideal S512x1 .f32) (D B : FVec Ideal S512x256 .f32) (W : FVec Ideal S1x512x256 .f32) (V : FVec Ideal S256x128 .f32)
    (s : Fin 256) (l : Fin 128) :
    k0_pay111 Q R D B W V (ix2 s l) = V (ix2 s l) + ∑ x, k0_pay110 R D B W (ix2 x s) * Q (ix2 x l) := by
  pointwise [k0_pay111]

theorem gr_at (R : FVec Ideal S512x1 .f32) (D B : FVec Ideal S512x256 .f32) (r : Fin 512) (i : Fin 1) :
    k0_pay25 R D B (ix2 r i) = R (ix2 r i) + B (ix2 r 255) + D (ix2 r 255) := by
  pointwise [k0_pay25]

theorem da_at (Y : FVec Ideal S512x128 .bf16) (V : FVec Ideal S256x128 .bf16) (r : Fin 512) (j : Fin 256) :
    k0_pay10 Y V (ix2 r j) = ∑ x, Y (ix2 r x) * V (ix2 j x) := by
  pointwise [k0_pay10]

theorem g_at (T R : FVec Ideal S512x1 .f32) (D P B : FVec Ideal S512x256 .f32) (r : Fin 512) (j : Fin 256) :
    k0_pay93 T R D P B (ix2 r j) = D (ix2 r j) * k0_pay92 T R P B (ix2 r j) := by
  pointwise [k0_pay93, k0_pay92, k0_pay91]

theorem gh_at (T R : FVec Ideal S512x1 .f32) (D P B : FVec Ideal S512x256 .f32) (r : Fin 512) (j : Fin 256) :
    k0_pay95 T R D P B (ix2 r j) = D (ix2 r j) * k0_pay92 T R P B (ix2 r j) := by
  pointwise [k0_pay95, k0_pay94, k0_pay92, k0_pay91]

theorem gl_at (T R : FVec Ideal S512x1 .f32) (D P B : FVec Ideal S512x256 .f32) (r : Fin 512) (j : Fin 256) :
    k0_pay96 T R D P B (ix2 r j) = D (ix2 r j) * k0_pay92 T R P B (ix2 r j) - D (ix2 r j) * k0_pay92 T R P B (ix2 r j) := by
  pointwise [k0_pay96, k0_pay94, k0_pay92, k0_pay91]

theorem none_at (r : Fin 512) (j : Fin 256) (i : Fin 1) (s : Fin 2048) (l : Fin 128) :
    k0_pay89 (F := Ideal) (ix2 r i) = 0 ∧ k0_pay75 (F := Ideal) (ix2 r j) = 0 ∧ k0_pay76 (F := Ideal) (ix2 r j) = 0 ∧ k0_pay77 (F := Ideal) (ix2 r j) = 0
      ∧ k0_pay78 (F := Ideal) (ix2 r l) = 0 ∧ k0_pay61 (F := Ideal) (ix2 s l) = 0 := by
  refine ⟨?_, ?_, ?_, ?_, ?_, ?_⟩
  · pointwise [k0_pay89]
  · pointwise [k0_pay75]
  · pointwise [k0_pay76]
  · pointwise [k0_pay77]
  · pointwise [k0_pay78]
  · pointwise [k0_pay61]

/-! ## The scores' gradient -/

variable (C : Ctx Ideal) (b : ℕ)

/-- The weights' gradient of a row of the stack at a key, the same times the weight, the running sum of these up to a key, -/
def wda (r : Fin 512) (s : ℕ) : EReal := if h : s < 2048 then ∑ x, C.dy (ix2 r x) * C.v (ix2 ⟨s, h⟩ x) else 0
def wg (r : Fin 512) (s : ℕ) : EReal := wda C r s * wt C b r s
def wsum (r : Fin 512) (s : ℕ) : EReal := ∑ x ∈ Finset.range (s + 1), wg C b r x

/-- the score's gradient, and a normed key by its number. -/
def wdz (r : Fin 512) (s : ℕ) : EReal := wg C b r s - Ideal.exp (lb C b r s) * wsum C b r s
def wkn (s : ℕ) (l : Fin 128) : EReal := if h : s < 2048 then C.kn (ix2 ⟨s, h⟩ l) else 0

/-- What more is asked of what the trips read. -/
structure Fine : Prop where
  before : C.before = k0_pay70
  da : ∀ r s, IsReal (wda C r s)

variable {C b} (G : Good C b) (N : Fine C)
include G

theorem wt_real (r : Fin 512) (s : ℕ) : IsReal (wt C b r s) := by
  unfold wt
  split
  · next h =>
    have hc : ∀ x ≤ s, Causal b r x := fun x hx => by unfold Causal at h ⊢; omega
    refine IsReal.exp ?_
    rw [lb, sc, if_pos h]
    exact (isReal_lsig (G.z r s)).add ((G.total r).sub (IsReal.sum _ fun x hx => lr_real G (hc x (by have := Finset.mem_range.1 hx; omega))))
  · exact isReal_zero

include N

theorem wg_real (r : Fin 512) (s : ℕ) : IsReal (wg C b r s) := (N.da r s).mul (wt_real G r s)

omit N in
theorem wdz_late {r : Fin 512} {s : ℕ} (h : ¬Causal b r s) : wdz C b r s = 0 := by
  rw [wdz, wg, lb_bot G h, Ideal.exp_bot, wt, if_neg h, mul_zero, zero_mul, sub_zero]

/-- The sum over a tile's keys before one. -/
theorem bb_eq {n : ℕ} {H L : FVec Ideal S512x256 .bf16} (hH : ∀ r (j : Fin 256), H (ix2 r j) = wg C b r (256 * n + j.val))
    (hL : ∀ r (j : Fin 256), L (ix2 r j) = 0) (r : Fin 512) (j : Fin 256) :
    ∑ x, H (ix2 r x) * C.before (ix2 x j) + ∑ x, L (ix2 r x) * C.before (ix2 x j) = ∑ x ∈ Finset.range j.val, wg C b r (256 * n + x) := by
  rw [N.before]
  have e1 : ∑ x, H (ix2 r x) * k0_pay70 (F := Ideal) (ix2 x j) = ∑ x ∈ Finset.range j.val, wg C b r (256 * n + x) := by
    simp only [hH, before_at, mul_ite, mul_one, mul_zero]
    rw [Fin.sum_univ_eq_sum_range (fun x => if x < j.val then wg C b r (256 * n + x) else 0) 256, ← Finset.sum_filter]
    refine Finset.sum_congr (Finset.ext fun x => ?_) fun _ _ => rfl
    have := j.isLt
    simp only [Finset.mem_filter, Finset.mem_range]
    omega
  have e2 : ∑ x, L (ix2 r x) * k0_pay70 (F := Ideal) (ix2 x j) = 0 := Finset.sum_eq_zero fun x _ => by rw [hL, zero_mul]
  rw [e1, e2, add_zero]

/-- A tile's scores' gradient from what the trips keep of it. -/
theorem dz_eq (n : ℕ) (r : Fin 512) (j : Fin 256) (W : EReal) (hW : W = lb C b r (256 * n + j.val)) :
    wg C b r (256 * n + j.val) - Ideal.exp W * (wg C b r (256 * n + j.val)
      + (∑ x ∈ Finset.range (256 * n), wg C b r x + ∑ x ∈ Finset.range j.val, wg C b r (256 * n + x))) = wdz C b r (256 * n + j.val) := by
  rw [wdz, wsum, hW, Finset.sum_range_succ, Finset.sum_range_add (fun x => wg C b r x) (256 * n) j.val, add_comm (wg C b r (256 * n + j.val))]

omit G N in
/-- What holds before trip `k`. -/
structure Keep (C : Ctx Ideal) (b : ℕ) (D : FVec Ideal S2048x128 .f32) (k : ℕ) (S : St Ideal) : Prop where
  g : ∀ r (j : Fin 256), S.g (ix2 r j) = if k = 0 then 0 else wg C b r (256 * (k - 1) + j.val)
  gh : ∀ r (j : Fin 256), S.gh (ix2 r j) = if k = 0 then 0 else wg C b r (256 * (k - 1) + j.val)
  gl : ∀ r (j : Fin 256), S.gl (ix2 r j) = 0
  gr : ∀ r, S.gr (ix2 r 0) = ∑ x ∈ Finset.range (256 * (k - 1)), wg C b r x
  lb : 1 ≤ k → ∀ r (j : Fin 256), S.lb (ix3 ⟨(k + 2) % 3, Nat.mod_lt _ (by decide)⟩ r j) = lb C b r (256 * (k - 1) + j.val)
  dq : ∀ r l, S.dq (ix2 r l) = ∑ x ∈ Finset.range (256 * (k - 1)), wdz C b r x * wkn C x l
  dkn : ∀ s l, S.dkn (ix2 s l) = D (ix2 s l) + if s.val / 256 + 1 < k then ∑ r, wdz C b r s.val * C.q (ix2 r l) else 0

variable (i : grid0.Coords) (hi : (i 1).val = b)
include hi

omit N in
theorem lb_row {D : FVec Ideal S2048x128 .f32} (k : Fin (k0_t1_loop i).trips) (hk : k.val ≤ b) (S : St Ideal) (I : Inv (b := b) (C := C) D k.val S) (r : Fin 512) (j : Fin 256) :
    k0_pay27 (VecWindow.window (VecWindow.put S.lb (k0_off5 i k 1#32) S1x512x256.size (k0_pay18 C.qi C.diag (Scf.iv 0#32 1#32 k.val) S.z)) (k0_off6 i k) S1x512x256.size (k0_off6_inb i k)) (ix2 r j)
      = Row.lb C b r (256 * k.val + j.val) := by
  rw [lbk_at, window_slot _ _ _ (off6 i k) _ (Nat.mod_lt _ (by decide)), put_slot _ _ _ (off5_1 i k), if_neg (by show ¬k.val % 3 = (k.val + 1) % 3; omega)]
  exact I.lb hk r j

theorem keep_succ (D D' : FVec Ideal S2048x128 .f32) (k : Fin (k0_t1_loop i).trips) (S : St Ideal) (I : Inv (b := b) (C := C) D k.val S) (J : Keep C b D' k.val S) :
    Keep C b D' (k.val + 1) (next i C k S) := by
  have hb := G.hb
  have ht := trips1 i
  have hk : k.val ≤ b := by have := k.isLt; omega
  have hg (r : Fin 512) (j : Fin 256) :
      k0_pay10 C.dy (VecWindow.window C.v (k0_off2 i k) S256x128.size (k0_off2_inb i k)) (ix2 r j)
        * k0_pay92 C.total S.run (k0_pay26 (k0_pay9 C.upto S.hi S.lo)) (k0_pay27 (VecWindow.window (VecWindow.put S.lb (k0_off5 i k 1#32) S1x512x256.size (k0_pay18 C.qi C.diag (Scf.iv 0#32 1#32 k.val) S.z)) (k0_off6 i k) S1x512x256.size (k0_off6_inb i k))) (ix2 r j)
        = wg C b r (256 * k.val + j.val) := by
    have hj := j.isLt
    rw [wt_eq G i hi hk I _ (lb_row G i hi k hk S I), wg, da_at, wda, dif_pos (by omega)]
    refine congrArg (· * _) (Finset.sum_congr rfl fun x _ => congrArg _ ?_)
    exact window_rows C.v _ k.val (off2 i k) _ (by omega) j x
  have hbb (r : Fin 512) (j : Fin 256) : k0_pay21 (k0_pay8 C.before S.gh S.gl) (ix2 r j)
      = if k.val = 0 then 0 else ∑ x ∈ Finset.range j.val, wg C b r (256 * (k.val - 1) + x) := by
    rw [run_before_at]
    by_cases k0 : k.val = 0
    · rw [if_pos k0]
      simp only [J.gh, J.gl, k0, if_true, zero_mul, Finset.sum_const_zero, add_zero]
    · rw [if_neg k0]
      exact bb_eq G N (fun r j => by rw [J.gh, if_neg k0]) J.gl r j
  have hdz (r : Fin 512) (j : Fin 256) :
      k0_pay22 S.gr (k0_pay8 C.before S.gh S.gl) S.g (VecWindow.window (VecWindow.put S.lb (k0_off5 i k 1#32) S1x512x256.size (k0_pay18 C.qi C.diag (Scf.iv 0#32 1#32 k.val) S.z)) (k0_off5 i k 2#32) S1x512x256.size (k0_off5_inb i k 1)) (ix2 r j)
        = if k.val = 0 then 0 else wdz C b r (256 * (k.val - 1) + j.val) := by
    rw [dz_at, hbb, J.g, J.gr]
    by_cases k0 : k.val = 0
    · rw [if_pos k0, if_pos k0, if_pos k0, k0, Nat.zero_sub, Nat.mul_zero, Finset.range_zero, Finset.sum_empty, add_zero, add_zero, mul_zero, sub_zero]
    · rw [if_neg k0, if_neg k0, if_neg k0]
      refine dz_eq G N (k.val - 1) r j _ ?_
      rw [window_slot _ _ _ (off5_2 i k) _ (Nat.mod_lt _ (by decide)), put_slot _ _ _ (off5_1 i k), if_neg (by show ¬(k.val + 2) % 3 = (k.val + 1) % 3; omega)]
      exact J.lb (by omega) r j
  refine ⟨fun r j => ?_, fun r j => ?_, fun r j => ?_, fun r => ?_, fun _ r j => ?_, fun r l => ?_, fun s l => ?_⟩
  · show k0_pay93 _ _ _ _ _ (ix2 r j) = _
    rw [g_at, hg, if_neg (by omega)]; rfl
  · show k0_pay95 _ _ _ _ _ (ix2 r j) = _
    rw [gh_at, hg, if_neg (by omega)]; rfl
  · show k0_pay96 _ _ _ _ _ (ix2 r j) = _
    rw [gl_at, hg]
    exact (wg_real G N _ _).sub_self
  · show k0_pay25 S.gr S.g (k0_pay21 (k0_pay8 C.before S.gh S.gl)) (ix2 r 0) = _
    rw [gr_at, hbb, J.gr, J.g]
    by_cases k0 : k.val = 0
    · rw [if_pos k0, if_pos k0, k0, add_zero, add_zero]
    · rw [if_neg k0, if_neg k0, show 256 * (k.val + 1 - 1) = 256 * (k.val - 1) + 256 from by omega, Finset.sum_range_add (fun x => wg C b r x) (256 * (k.val - 1)) 256,
        Finset.sum_range_succ (fun x => wg C b r (256 * (k.val - 1) + x)) 255, add_assoc]
      rfl
  · show VecWindow.put S.lb (k0_off5 i k 1#32) S1x512x256.size (k0_pay18 C.qi C.diag (Scf.iv 0#32 1#32 k.val) S.z) (ix3 _ r j) = _
    rw [put_slot _ _ _ (off5_1 i k), if_neg (by show ¬(k.val + 1 + 2) % 3 = (k.val + 1) % 3; omega)]
    have h3 : (⟨(k.val + 1 + 2) % 3, Nat.mod_lt _ (by decide)⟩ : Fin 3) = ⟨k.val % 3, Nat.mod_lt _ (by decide)⟩ := Fin.ext (by show (k.val + 1 + 2) % 3 = k.val % 3; omega)
    rw [h3]
    exact I.lb hk r j
  · show k0_pay23 _ S.dq (VecWindow.window C.kn (k0_off3 i k) S256x128.size (k0_off3_inb i k)) (ix2 r l) = _
    rw [dq_at, J.dq]
    by_cases k0 : k.val = 0
    · rw [Finset.sum_eq_zero (s := (Finset.univ : Finset (Fin 256))) (fun x _ => by rw [hdz, if_pos k0, zero_mul]), k0, add_zero]
    · rw [show 256 * (k.val + 1 - 1) = 256 * (k.val - 1) + 256 from by omega, Finset.sum_range_add (fun x => wdz C b r x * wkn C x l) (256 * (k.val - 1)) 256]
      congr 1
      rw [← Fin.sum_univ_eq_sum_range (fun x => wdz C b r (256 * (k.val - 1) + x) * wkn C (256 * (k.val - 1) + x) l) 256]
      refine Finset.sum_congr rfl fun x _ => ?_
      have hx := x.isLt
      rw [hdz, if_neg k0, window_rows C.kn _ (k.val - 1) (off3 i k) _ (by omega), wkn, dif_pos (by omega)]
  · show VecWindow.put S.dkn (k0_off3 i k) S256x128.size (k0_pay24 C.q _ (VecWindow.window S.dkn (k0_off3 i k) S256x128.size (k0_off3_inb i k))) (ix2 s l) = _
    rw [put_rows _ _ _ (off3 i k)]
    by_cases e : s.val / 256 = k.val - 1
    · rw [if_pos e, dk_at, window_rows S.dkn _ _ (off3 i k) _ (by omega)]
      have hsv : (⟨256 * (k.val - 1) + s.val % 256, by omega⟩ : Fin 2048) = s := Fin.ext (by show 256 * (k.val - 1) + s.val % 256 = s.val; omega)
      rw [hsv, J.dkn, if_neg (by omega), add_zero]
      congr 1
      by_cases k0 : k.val = 0
      · rw [if_neg (by omega)]
        exact Finset.sum_eq_zero fun r _ => by rw [hdz, if_pos k0, zero_mul]
      · rw [if_pos (by omega)]
        refine Finset.sum_congr rfl fun r _ => ?_
        rw [hdz, if_neg k0]
        show wdz C b r (256 * (k.val - 1) + s.val % 256) * _ = _
        rw [show 256 * (k.val - 1) + s.val % 256 = s.val from by omega]
    · rw [if_neg e, J.dkn]
      congr 1
      by_cases e' : s.val / 256 + 1 < k.val
      · rw [if_pos e', if_pos (by omega)]
      · rw [if_neg e', if_neg (by omega)]

theorem keep_iter (D D' : FVec Ideal S2048x128 .f32) (S : St Ideal) (I : Inv (b := b) (C := C) D 0 S) (J : Keep C b D' 0 S) : ∀ k ≤ b + 1, Keep C b D' k (iter i C S k)
  | 0, _ => J
  | k + 1, h => by
    have hk : k < (k0_t1_loop i).trips := by have := trips1 i; omega
    have e := iter_succ i C S ⟨k, hk⟩
    rw [show iter i C S (k + 1) = next i C ⟨k, hk⟩ (iter i C S k) from e]
    exact keep_succ G N i hi D D' ⟨k, hk⟩ _ (inv_iter G i hi D S I k (by omega)) (keep_iter D D' S I J k (by omega))

variable (D D' : FVec Ideal S2048x128 .f32) (S : St Ideal) (I : Inv (b := b) (C := C) D 0 S) (J : Keep C b D' 0 S)
include I J

theorem keep_done : Keep C b D' (b + 1) (done i C S) := by
  have K := keep_iter G N i hi D D' S I J (k0_t1_loop i).trips (by have := trips1 i; omega)
  rw [show (k0_t1_loop i).trips = b + 1 by have := trips1 i; omega] at K
  refine ⟨?_, ?_, ?_, ?_, ?_, ?_, ?_⟩ <;> unfold done <;> rw [show (k0_t1_loop i).trips = b + 1 by have := trips1 i; omega]
  exacts [K.g, K.gh, K.gl, K.gr, K.lb, K.dq, K.dkn]

/-- The last tile's scores' gradient. -/
theorem last_dz (r : Fin 512) (j : Fin 256) :
    k0_pay110 (done i C S).gr (done i C S).g (k0_pay109 C.before (done i C S).gh (done i C S).gl)
      (VecWindow.window (done i C S).lb (k0_off13 i) S1x512x256.size (k0_off13_inb i)) (ix2 r j) = wdz C b r (256 * b + j.val) := by
  have K := keep_done G N i hi D D' S I J
  generalize done i C S = E at K
  rw [dz_last_at, run_before_last_at, K.g, K.gr, if_neg (by omega), bb_eq G N (n := b) (fun r j => by rw [K.gh, if_neg (by omega)]; rfl) K.gl r j]
  refine dz_eq G N b r j _ ?_
  rw [window_slot _ _ (b % 3) (by rw [off13, hi]) _ (Nat.mod_lt _ (by decide))]
  have h3 : (⟨b % 3, Nat.mod_lt _ (by decide)⟩ : Fin 3) = ⟨(b + 1 + 2) % 3, Nat.mod_lt _ (by decide)⟩ := Fin.ext (by show b % 3 = (b + 1 + 2) % 3; omega)
  rw [h3]
  exact K.lb (by omega) r j

/-- What a grid point's loop adds to the normed keys' gradient. -/
theorem done_dkn (s : Fin 2048) (l : Fin 128) :
    VecWindow.put (done i C S).dkn (k0_off12 i) S256x128.size
      (k0_pay111 C.q (done i C S).gr (done i C S).g (k0_pay109 C.before (done i C S).gh (done i C S).gl)
        (VecWindow.window (done i C S).lb (k0_off13 i) S1x512x256.size (k0_off13_inb i))
        (VecWindow.window (done i C S).dkn (k0_off12 i) S256x128.size (k0_off12_inb i))) (ix2 s l)
      = D' (ix2 s l) + ∑ r, wdz C b r s.val * C.q (ix2 r l) := by
  have hb := G.hb
  have K := keep_done G N i hi D D' S I J
  have hz := last_dz G N i hi D D' S I J
  generalize done i C S = E at K hz
  rw [put_rows _ _ b (by rw [off12, hi])]
  by_cases e : s.val / 256 = b
  · rw [if_pos e, dk_last_at, window_rows E.dkn _ b (by rw [off12, hi]) _ hb]
    have hsv : (⟨256 * b + s.val % 256, by omega⟩ : Fin 2048) = s := Fin.ext (by show 256 * b + s.val % 256 = s.val; omega)
    rw [hsv, K.dkn, if_neg (by omega), add_zero]
    congr 1
    refine Finset.sum_congr rfl fun r _ => ?_
    rw [hz]
    show wdz C b r (256 * b + s.val % 256) * _ = _
    rw [show 256 * b + s.val % 256 = s.val from by omega]
  · rw [if_neg e, K.dkn]
    congr 1
    by_cases e' : s.val / 256 + 1 < b + 1
    · rw [if_pos e']
    · rw [if_neg e']
      exact (Finset.sum_eq_zero fun r _ => by rw [wdz_late G (by unfold Causal; omega), zero_mul]).symm

/-- The normed queries' gradient of a row of the stack. -/
theorem done_dq (r : Fin 512) (l : Fin 128) :
    (done i C S).dq (ix2 r l) + ∑ x : Fin 256, k0_pay110 (done i C S).gr (done i C S).g (k0_pay109 C.before (done i C S).gh (done i C S).gl)
        (VecWindow.window (done i C S).lb (k0_off13 i) S1x512x256.size (k0_off13_inb i)) (ix2 r x)
        * VecWindow.window C.kn (k0_off12 i) S256x128.size (k0_off12_inb i) (ix2 x l)
      = ∑ x ∈ Finset.range 2048, wdz C b r x * wkn C x l := by
  have hb := G.hb
  have K := keep_done G N i hi D D' S I J
  have hz := last_dz G N i hi D D' S I J
  generalize done i C S = E at K hz
  have e : 2048 = 256 * b + 256 + (1792 - 256 * b) := by omega
  rw [K.dq, show Finset.range 2048 = Finset.range (256 * b + 256 + (1792 - 256 * b)) from congrArg _ e, Finset.sum_range_add (fun x => wdz C b r x * wkn C x l) (256 * b + 256),
    Finset.sum_eq_zero (s := Finset.range (1792 - 256 * b)) (fun x _ => by
      have hr : r.val % 256 < 256 := Nat.mod_lt _ (by decide)
      rw [wdz_late G (by unfold Causal; omega), zero_mul]),
    add_zero, Finset.sum_range_add (fun x => wdz C b r x * wkn C x l) (256 * b) 256]
  congr 1
  rw [← Fin.sum_univ_eq_sum_range (fun x => wdz C b r (256 * b + x) * wkn C (256 * b + x) l) 256]
  refine Finset.sum_congr rfl fun x _ => ?_
  have hx := x.isLt
  rw [hz, window_rows C.kn _ b (by rw [off12, hi]) _ hb, wkn, dif_pos (by omega)]

end Cert.AttnIdeal.Row

end
-- ==== Proof.AttnSlope.lean ====
/- The attention's gradient: the words for the scores' gradient and for the queries' and the keys', apart from either program. -/
module

public import proofs.«01_k».proof.Proof.AttnSpec

@[expose] public section

set_option maxRecDepth 16384

noncomputable section

open Idealize.ShloMosaic

namespace Cert.Attn

open Cert.Consts Cert.Norm Cert.Real

theorem lsig_coe (a : ℝ) : lsig (a : EReal) = ((min a 0 - Real.log (1 + Real.exp (0 - max a (-a))) : ℝ) : EReal) := by
  unfold lsig
  have h1 : 1 + Ideal.exp (0 - max (a : EReal) (-(a : EReal))) = ((1 + Real.exp (0 - max a (-a)) : ℝ) : EReal) := by
    rw [← EReal.coe_neg, ← EReal.coe_strictMono.monotone.map_max, ← EReal.coe_zero, ← EReal.coe_sub, Ideal.exp_coe, EReal.coe_add, EReal.coe_one]
  rw [h1, Ideal.log_coe, if_neg (by have := Real.exp_pos (0 - max a (-a)); linarith), EReal.coe_sub, EReal.coe_strictMono.monotone.map_min, EReal.coe_zero]

theorem exp_min (a u : ℝ) (hu : 0 < u) : Real.exp (min a 0 - Real.log u) = Real.exp (min a 0) / u := by
  rw [Real.exp_sub, Real.exp_log hu]

/-- The share taken and the share left are one together. -/
theorem shares (a : ℝ) : ∃ p q : ℝ, Ideal.exp (lsig (a : EReal)) = p ∧ Ideal.exp (lsig (-(a : EReal))) = q ∧ q = 1 - p := by
  refine ⟨_, _, by rw [lsig_coe, Ideal.exp_coe], by rw [← EReal.coe_neg, lsig_coe, Ideal.exp_coe], ?_⟩
  have hu : 0 < 1 + Real.exp (0 - max a (-a)) := by have := Real.exp_pos (0 - max a (-a)); linarith
  rw [neg_neg, max_comm (-a) a, exp_min _ _ hu, exp_min _ _ hu, eq_sub_iff_add_eq, ← add_div, div_eq_one_iff_eq hu.ne']
  rcases le_total a 0 with h | h
  · rw [min_eq_left h, min_eq_right (by linarith), max_eq_right (by linarith), Real.exp_zero, zero_sub, neg_neg]
  · rw [min_eq_right h, min_eq_left (by linarith), max_eq_left (by linarith), Real.exp_zero, zero_sub, add_comm]

theorem isReal_share {x : EReal} : IsReal x → IsReal (Ideal.exp (lsig x)) := fun h => (isReal_lsig h).exp

/-- What the reference adds up for a score's gradient: through the later keys' share and through the key's own. -/
theorem slope_eq {x g P : EReal} : IsReal x → IsReal g → IsReal P →
    -(-g + P) * Ideal.exp (lsig x) + -(-g * Ideal.exp (lsig (-x))) = g - Ideal.exp (lsig x) * P := fun ⟨a, ha⟩ ⟨b, hb⟩ ⟨c, hc⟩ => by
  obtain ⟨p, q, hp, hq, e⟩ := shares a
  rw [ha, hp, hq, hb, hc, e, ← EReal.coe_neg, ← EReal.coe_add, ← EReal.coe_neg, ← EReal.coe_mul, ← EReal.coe_mul, ← EReal.coe_neg, ← EReal.coe_add, ← EReal.coe_mul,
    ← EReal.coe_sub, EReal.coe_eq_coe_iff]
  ring

variable (X : Fin 2048 → Fin 2816 → EReal) (G H : Fin 64 → EReal) (Y : Fin 2048 → Fin 1024 → EReal)

/-- The columns of the values. -/
def vcol (h : Fin 8) (e : Fin 64) : Fin 2816 := ⟨1792 + (h.val * 64 + e.val), by omega⟩

/-- The weights' gradient, the same times the weight, and the scores' gradient; -/
def da (h : Fin 8) (t : Fin 2048) (s : ℕ) : EReal := if hs : s < 2048 then ∑ e, Y t (ycol h e) * X ⟨s, hs⟩ (vcol h e) else 0
def gs (h : Fin 8) (t : Fin 2048) (s : ℕ) : EReal := da X Y h t s * wgt X G H h t s
def dz (h : Fin 8) (t : Fin 2048) (s : ℕ) : EReal :=
  if s < t.val then gs X G H Y h t s - Ideal.exp (lsig (zn X G H h t s)) * ∑ x ∈ Finset.range (s + 1), gs X G H Y h t x else 0

/-- the gradients of the normed queries and keys, and of the queries and keys themselves. -/
def dqn (h : Fin 8) (t : Fin 2048) (e : Fin 64) : EReal := ∑ s : Fin 2048, dz X G H Y h t s.val * ((1 / 8 : ℝ) : EReal) * kn X H s h e
def dkn (h : Fin 8) (s : Fin 2048) (e : Fin 64) : EReal := ∑ t : Fin 2048, dz X G H Y h t s.val * ((1 / 8 : ℝ) : EReal) * qn X G t h e
def dqval (h : Fin 8) (t : Fin 2048) (e : Fin 64) : EReal :=
  back ((64 : ℝ) : EReal) eps (fun e => X t (qcol h e)) (fun e => dqn X G H Y h t e * G e) e
def dkval (h : Fin 8) (s : Fin 2048) (e : Fin 64) : EReal :=
  back ((64 : ℝ) : EReal) eps (fun e => X s (kcol h e)) (fun e => dkn X G H Y h s e * H e) e

/-- A query's and a head's part of the gradient of the queries' norm's weights, a key's of the keys' norm's, and these gradients. -/
def dgqt (e : Fin 64) (h : Fin 8) (t : Fin 2048) : EReal := X t (qcol h e) * rinv ((64 : ℝ) : EReal) eps (fun e => X t (qcol h e)) * dqn X G H Y h t e
def dgkt (e : Fin 64) (h : Fin 8) (s : Fin 2048) : EReal := X s (kcol h e) * rinv ((64 : ℝ) : EReal) eps (fun e => X s (kcol h e)) * dkn X G H Y h s e
def dgqval (e : Fin 64) : EReal := ∑ t : Fin 2048, ∑ h : Fin 8, dgqt X G H Y e h t
def dgkval (e : Fin 64) : EReal := ∑ s : Fin 2048, ∑ h : Fin 8, dgkt X G H Y e h s

variable {X G H Y} (hX : ∀ t k, IsReal (X t k)) (hG : ∀ e, IsReal (G e)) (hH : ∀ e, IsReal (H e)) (hY : ∀ t k, IsReal (Y t k))
include hX hG hH hY

theorem isReal_da (h : Fin 8) (t : Fin 2048) (s : ℕ) : IsReal (da X Y h t s) := by
  unfold da
  split
  exacts [IsReal.sum _ fun e _ => (hY _ _).mul (hX _ _), isReal_zero]

omit hY in
theorem isReal_wgt (h : Fin 8) (t : Fin 2048) (s : ℕ) : IsReal (wgt X G H h t s) :=
  IsReal.ite ((isReal_lsig (isReal_zn hX hG hH _ _ _)).add ((isReal_tot hX hG hH _ _).sub
    (IsReal.sum _ fun x _ => isReal_lsig (isReal_zn hX hG hH _ _ _).neg))).exp isReal_zero

theorem isReal_gs (h : Fin 8) (t : Fin 2048) (s : ℕ) : IsReal (gs X G H Y h t s) := (isReal_da hX hG hH hY h t s).mul (isReal_wgt hX hG hH h t s)

theorem isReal_dz (h : Fin 8) (t : Fin 2048) (s : ℕ) : IsReal (dz X G H Y h t s) :=
  IsReal.ite ((isReal_gs hX hG hH hY _ _ _).sub ((isReal_share (isReal_zn hX hG hH _ _ _)).mul (IsReal.sum _ fun x _ => isReal_gs hX hG hH hY _ _ _))) isReal_zero

omit hX hG hH hY in
theorem isReal_qn (hX : ∀ t k, IsReal (X t k)) (hG : ∀ e, IsReal (G e)) (t : Fin 2048) (h : Fin 8) (e : Fin 64) : IsReal (qn X G t h e) :=
  isReal_nrm (fun _ => hX _ _) hG e

omit hX hG hH hY in
theorem isReal_kn (hX : ∀ t k, IsReal (X t k)) (hH : ∀ e, IsReal (H e)) (t : Fin 2048) (h : Fin 8) (e : Fin 64) : IsReal (kn X H t h e) :=
  isReal_nrm (fun _ => hX _ _) hH e

theorem isReal_dqn (h : Fin 8) (t : Fin 2048) (e : Fin 64) : IsReal (dqn X G H Y h t e) :=
  IsReal.sum _ fun s _ => ((isReal_dz hX hG hH hY _ _ _).mul (isReal _)).mul (isReal_kn hX hH _ _ _)

theorem isReal_dkn (h : Fin 8) (s : Fin 2048) (e : Fin 64) : IsReal (dkn X G H Y h s e) :=
  IsReal.sum _ fun t _ => ((isReal_dz hX hG hH hY _ _ _).mul (isReal _)).mul (isReal_qn hX hG _ _ _)

end Cert.Attn

end
-- ==== Proof.AttnPointSlope.lean ====
/- The attention's gradient: the queries' and the keys' gradient of a grid point in the reference's words. -/
module

public import proofs.«01_k».proof.Proof.AttnPoint
public import proofs.«01_k».proof.Proof.AttnScores
public import proofs.«01_k».proof.Proof.AttnSlope

@[expose] public section

set_option maxRecDepth 16384

noncomputable section

open Idealize.ShloMosaic

namespace Cert.AttnIdeal.Row

open Cert.AttnIdeal Cert.AttnIdeal.Gen Cert.AttnIdeal.Hand Cert.Consts Cert.Norm Cert.Real Cert.Attn

/-! ## The values by their places -/

theorem q_pay (M : FVec Ideal S128x128 .bf16) (V W T U S : FVec Ideal S256x128 .f32) (a : Fin 256) (l : Fin 128) :
    k0_pay1 M V W T U S (ix2 a l) = U (ix2 a l) - V (ix2 a l) * (S (ix2 a l) * W (ix2 a l))
      * ((∑ x, T (ix2 a x) * V (ix2 a x) * M (ix2 x l) + ∑ x, (T (ix2 a x) * V (ix2 a x) - T (ix2 a x) * V (ix2 a x)) * M (ix2 x l)) * Ideal.ofBits FTy.f32 0x3C800000#32) := by
  pointwise [k0_pay1]

theorem gain_at (L : IVec S256x128 32) (R : FVec Ideal S512x1 .f32) (D B : FVec Ideal S512x256 .f32) (W : FVec Ideal S1x512x256 .f32) (Q : FVec Ideal S512x128 .f32)
    (K : FVec Ideal S256x128 .bf16) (G : FVec Ideal S1x128 .f32) (a : Fin 256) (l : Fin 128) :
    k0_pay113 L R D B W Q K G (ix2 a l) = k0_pay112 L R D B W Q K (ix2 a l) * G (ix2 0 l) := by
  pointwise [k0_pay113, k0_pay112]

theorem times_at (V : FVec Ideal S256x128 .f32) (L : IVec S256x128 32) (R : FVec Ideal S512x1 .f32) (D B : FVec Ideal S512x256 .f32) (W : FVec Ideal S1x512x256 .f32)
    (Q : FVec Ideal S512x128 .f32) (K : FVec Ideal S256x128 .bf16) (G : FVec Ideal S1x128 .f32) (a : Fin 256) (l : Fin 128) :
    k0_pay114 V L R D B W Q K G (ix2 a l) = V (ix2 a l) * k0_pay113 L R D B W Q K G (ix2 a l) := by
  pointwise [k0_pay114, k0_pay113, k0_pay112]

theorem square_at (V : FVec Ideal S256x128 .f32) (a : Fin 256) (l : Fin 128) : k0_pay115 V (ix2 a l) = V (ix2 a l) * V (ix2 a l) := by
  pointwise [k0_pay115]

theorem wide_at (X : FVec Ideal S256x128 .bf16) (a : Fin 256) (l : Fin 128) : (k0_pay63 (F := Ideal) X (ix2 a l) : EReal) = X (ix2 a l) := by
  pointwise [k0_pay63]

/-- The row of the stack of a query and a lane. -/
def stack (a : Fin 256) (l : Fin 128) : Fin 512 := ⟨256 * (l.val / 64) + a.val, by omega⟩

theorem unstack_at (R : FVec Ideal S512x1 .f32) (D B : FVec Ideal S512x256 .f32) (W : FVec Ideal S1x512x256 .f32) (Q : FVec Ideal S512x128 .f32)
    (K : FVec Ideal S256x128 .bf16) (a : Fin 256) (l : Fin 128) :
    k0_pay112 lanes R D B W Q K (ix2 a l) = Q (ix2 (stack a l) l) + ∑ x, k0_pay110 R D B W (ix2 (stack a l) x) * K (ix2 x l) := by
  pointwise [k0_pay112, lanes]
  rw [slt_at _ 64 (by omega) (by omega), select_at]
  by_cases h : l.val < 64
  · rw [if_pos h]
    have e : stack a l = ⟨a.val, by omega⟩ := Fin.ext (by show 256 * (l.val / 64) + a.val = a.val; omega)
    rw [e]
  · rw [if_neg h]
    have e : stack a l = ⟨256 + a.val, by omega⟩ := Fin.ext (by show 256 * (l.val / 64) + a.val = 256 + a.val; omega)
    rw [e]

theorem krms_at (X : FVec Ideal S2048x128 .bf16) (hX : ∀ j, IsReal (X j)) (s : Fin 2048) (l : Fin 128) : k0_pay51 hm X (ix2 s l) = rms X s l := by
  pointwise [k0_pay51, k0_pay50]
  exact inv_at X hX s l

theorem k_pay (M : FVec Ideal S128x128 .bf16) (X : FVec Ideal S2048x128 .bf16) (D : FVec Ideal S2048x128 .f32) (G : FVec Ideal S1x128 .f32) (s : Fin 2048) (l : Fin 128) :
    k0_pay52 M X D G (ix2 s l) = k0_pay51 M X (ix2 s l) * (D (ix2 s l) * G (ix2 0 l))
      - X (ix2 s l) * (k0_pay51 M X (ix2 s l) * k0_pay51 M X (ix2 s l) * k0_pay51 M X (ix2 s l))
      * ((∑ x, D (ix2 s x) * G (ix2 0 x) * X (ix2 s x) * M (ix2 x l)
        + ∑ x, (D (ix2 s x) * G (ix2 0 x) * X (ix2 s x) - D (ix2 s x) * G (ix2 0 x) * X (ix2 s x)) * M (ix2 x l)) * Ideal.ofBits FTy.f32 0x3C800000#32) := by
  pointwise [k0_pay52, k0_pay51, k0_pay50]

theorem lane_place (l : Fin 128) : lane (half l) (place l) = l := Fin.ext (by show l.val % 64 + 64 * (l.val / 64) = l.val; omega)

/-- A norm's derivative at a lane, with the mean over the lane's head taken by the matrix of the heads. -/
theorem back_at {n : ℕ} (X : FVec Ideal ⟨2, ![n, 128]⟩ .bf16) (hX : ∀ j, IsReal (X j)) (T : Fin 128 → EReal) (hT : ∀ x, IsReal (T x)) (r : Fin n) (l : Fin 128) :
    rms X r l * T l - X (ix2 r l) * (rms X r l * rms X r l * rms X r l)
      * ((∑ x, T x * X (ix2 r x) * hm (ix2 x l) + ∑ x, (T x * X (ix2 r x) - T x * X (ix2 r x)) * hm (ix2 x l)) * Ideal.ofBits FTy.f32 0x3C800000#32)
      = back ((64 : ℝ) : EReal) eps (fun e => X (ix2 r (lane (half l) e))) (fun e => T (lane (half l) e)) (place l) := by
  have h : ∑ x, T x * X (ix2 r x) * hm (ix2 x l) + ∑ x, (T x * X (ix2 r x) - T x * X (ix2 r x)) * hm (ix2 x l)
      = ∑ e : Fin 64, T (lane (half l) e) * X (ix2 r (lane (half l) e)) := by
    rw [Cert.SguIdeal.Rows.sum_rest _ _ (fun x => (hT x).mul (hX _)), add_zero]
    simp only [hm_at, mul_ite, mul_one, mul_zero]
    exact sum_half (fun x => T x * X (ix2 r x)) (half l)
  rw [h, ofBits_inv_64, back, lane_place, ← Ideal.div_coe (by norm_num)]
  rfl

/-- A query of a block, and the column of a lane's values. -/
def qrow {b : ℕ} (hb : b < 8) (a : Fin 256) : Fin 2048 := ⟨256 * b + a.val, by omega⟩
def vlane {p : ℕ} (hp : p < 4) (l : Fin 128) : Fin 2816 := ⟨1792 + (128 * p + l.val), by omega⟩

/-- What one query adds to the normed keys' gradient at a key and a lane. -/
def kpart {p : ℕ} (X : Fin 2048 → Fin 2816 → EReal) (G H : Fin 64 → EReal) (Y : Fin 2048 → Fin 1024 → EReal) (hp : p < 4) (s : Fin 2048) (l : Fin 128) (t : ℕ) : EReal :=
  if h : t < 2048 then dz X G H Y (lhead hp l) ⟨t, h⟩ s.val * ((1 / 8 : ℝ) : EReal) * qn X G ⟨t, h⟩ (lhead hp l) (place l) else 0

theorem lhead_lane {p : ℕ} (hp : p < 4) (l : Fin 128) (e : Fin 64) : lhead hp (lane (half l) e) = lhead hp l :=
  Fin.ext (by show 2 * p + (e.val + 64 * (l.val / 64)) / 64 = 2 * p + l.val / 64; omega)

theorem place_lane (h : Fin 2) (e : Fin 64) : place (lane h e) = e := Fin.ext (by show (e.val + 64 * h.val) % 64 = e.val; omega)

theorem rhead_stack {p : ℕ} (hp : p < 4) (a : Fin 256) (l : Fin 128) : rhead hp (stack a l) = lhead hp l :=
  Fin.ext (by show 2 * p + (256 * (l.val / 64) + a.val) / 256 = 2 * p + l.val / 64; omega)

theorem query_stack {b : ℕ} (hb : b < 8) (a : Fin 256) (l : Fin 128) : query hb (stack a l) = qrow hb a :=
  Fin.ext (by show 256 * b + (256 * (l.val / 64) + a.val) % 256 = 256 * b + a.val; omega)

variable {X : Fin 2048 → Fin 2816 → EReal} {G H : Fin 64 → EReal} {Y : Fin 2048 → Fin 1024 → EReal} {p b : ℕ} {I : Blk Ideal}
  (R : Reads X G H Y p b I) (V : ∀ (s : Fin 2048) (l : Fin 128), I.v (ix2 s l) = X s (vlane R.hp l))
  (hX : ∀ t k, IsReal (X t k)) (hG : ∀ e, IsReal (G e)) (hH : ∀ e, IsReal (H e)) (hY : ∀ t k, IsReal (Y t k))
  (i : grid0.Coords) (hi : (i 1).val = b) (O : Out Ideal)
  (K : ∀ (s : Fin 2048) (l : Fin 128), (ctx i I O).kn (ix2 s l) = kn X H s (lhead R.hp l) (place l))

include V in
theorem wda_of (r : Fin 512) (s : ℕ) : wda (ctx i I O) r s = da X Y (rhead R.hp r) (query R.hb r) s := by
  have hp := R.hp
  unfold wda da
  refine dite_congr rfl (fun hs => ?_) fun _ => rfl
  have e : ∀ x, (ctx i I O).dy (ix2 r x) * (ctx i I O).v (ix2 ⟨s, hs⟩ x)
      = if x.val / 64 = (⟨r.val / 256, by omega⟩ : Fin 2).val then Y (query R.hb r) ⟨256 + (128 * p + x.val), by omega⟩ * X ⟨s, hs⟩ (vlane hp x) else 0 := fun x => by
    rw [dy_of R, show (ctx i I O).v = I.v from rfl, V, ite_mul, zero_mul]
  rw [Finset.sum_congr rfl fun x _ => e x,
    sum_half (fun x => Y (query R.hb r) ⟨256 + (128 * p + x.val), by omega⟩ * X ⟨s, hs⟩ (vlane hp x)) ⟨r.val / 256, by omega⟩]
  refine Finset.sum_congr rfl fun x _ => congrArg₂ (· * ·) (congrArg _ (Fin.ext ?_)) (congrArg _ (Fin.ext ?_))
  · show 256 + (128 * p + (x.val + 64 * (r.val / 256))) = 256 + ((2 * p + r.val / 256) * 64 + x.val); omega
  · show 1792 + (128 * p + (x.val + 64 * (r.val / 256))) = 1792 + ((2 * p + r.val / 256) * 64 + x.val); omega

include V hX hG hH hY in
theorem fine_of : Fine (ctx i I O) := ⟨rfl, fun r s => by rw [wda_of R V]; exact isReal_da hX hG hH hY _ _ _⟩

include V hX hG hH K hi in
theorem wg_of (r : Fin 512) (s : ℕ) : wg (ctx i I O) b r s = gs X G H Y (rhead R.hp r) (query R.hb r) s := by
  rw [wg, gs, wda_of R V, wt_of R hX hG hH i hi O K]

include V hX hG hH K hi in
theorem wdz_of (r : Fin 512) (s : ℕ) : wdz (ctx i I O) b r s = dz X G H Y (rhead R.hp r) (query R.hb r) s := by
  by_cases hc : Causal b r s
  · rw [dz, if_pos (show s < (query R.hb r).val from hc), wdz, wg_of R V hX hG hH i hi O K, lb, sc, if_pos hc, score_of R hX hG hH i O K, wsum]
    congr 2
    exact Finset.sum_congr rfl fun x _ => wg_of R V hX hG hH i hi O K r x
  · rw [wdz_late (good_of R hX hG hH i hi O K) hc, dz, if_neg (show ¬s < (query R.hb r).val from hc)]

omit K in
theorem keep_start : Keep (ctx i I O) b (kept (qiOf i) k0_pay61 O.dkn) 0 (start i I O) := by
  refine ⟨fun r j => ?_, fun r j => ?_, fun r j => ?_, fun r => ?_, fun h => absurd h (by decide), fun r l => ?_, fun s l => ?_⟩
  · rw [if_pos rfl]; exact (none_at r j 0 0 0).2.1
  · rw [if_pos rfl]; exact (none_at r j 0 0 0).2.2.1
  · exact (none_at r j 0 0 0).2.2.2.1
  · exact (none_at r 0 0 0 0).1
  · exact (none_at r 0 0 0 l).2.2.2.2.1
  · rw [if_neg (by omega), add_zero]; rfl

include V hX hG hH K hi in
theorem adds_k (s : Fin 2048) (l : Fin 128) :
    ∑ r, wdz (ctx i I O) b r s.val * (ctx i I O).q (ix2 r l) = ∑ a ∈ Finset.range 256, kpart X G H Y R.hp s l (256 * b + a) := by
  have hb := R.hb
  have e : ∀ r : Fin 512, wdz (ctx i I O) b r s.val * (ctx i I O).q (ix2 r l)
      = if l.val / 64 = r.val / 256 then dz X G H Y (rhead R.hp r) (query R.hb r) s.val * ((1 / 8 : ℝ) : EReal) * qn X G (query R.hb r) (lhead R.hp l) (place l) else 0 := fun r => by
    rw [wdz_of R V hX hG hH i hi O K]
    refine (congrArg (_ * ·) (new_q R hX r l)).trans ?_
    rw [mul_ite, mul_zero, mul_comm (qn _ _ _ _ _), mul_assoc]
  rw [Finset.sum_congr rfl fun r _ => e r,
    sum_stack (fun r : Fin 512 => dz X G H Y (rhead R.hp r) (query R.hb r) s.val * ((1 / 8 : ℝ) : EReal) * qn X G (query R.hb r) (lhead R.hp l) (place l)) (l.val / 64) (by omega),
    ← Fin.sum_univ_eq_sum_range (fun a => kpart X G H Y R.hp s l (256 * b + a)) 256]
  refine Finset.sum_congr rfl fun a _ => ?_
  rw [kpart, dif_pos (by omega)]
  have h1 := rhead_stack R.hp a l
  have h2 := query_stack R.hb a l
  unfold qrow at h2
  unfold stack at h1 h2
  rw [h1, h2]

include V hX hG hH hY K hi in
/-- The normed keys' gradient after a grid point. -/
theorem dkn_of (s : Fin 2048) (l : Fin 128) : (step i I O).dkn (ix2 s l)
    = kept (qiOf i) (k0_pay61 (F := Ideal)) O.dkn (ix2 s l) + ∑ a ∈ Finset.range 256, kpart X G H Y R.hp s l (256 * b + a) :=
  (done_dkn (good_of R hX hG hH i hi O K) (fine_of R V hX hG hH hY i O) i hi _ _ _ (inv_start R hX hG hH i hi O K) (keep_start i O) s l).trans
    (congrArg _ (adds_k R V hX hG hH i hi O K s l))

include V hX hG hH hY K hi in
/-- The normed queries' gradient at a query and a lane, which the kernel keeps without the scores' factor. -/
theorem dqn_eighth (a : Fin 256) (l : Fin 128) : ((1 / 8 : ℝ) : EReal) * Hand.dqn i (ctx i I O) (done i (ctx i I O) (start i I O)) (ix2 a l)
    = Attn.dqn X G H Y (lhead R.hp l) (qrow R.hb a) (place l) := by
  have h : Hand.dqn i (ctx i I O) (done i (ctx i I O) (start i I O)) (ix2 a l)
      = ∑ x ∈ Finset.range 2048, wdz (ctx i I O) b (stack a l) x * wkn (ctx i I O) x l :=
    (unstack_at _ _ _ _ _ _ a l).trans
      (done_dq (good_of R hX hG hH i hi O K) (fine_of R V hX hG hH hY i O) i hi _ _ _ (inv_start R hX hG hH i hi O K) (keep_start i O) (stack a l) l)
  have e : ∀ s : Fin 2048, wdz (ctx i I O) b (stack a l) s.val * wkn (ctx i I O) s.val l
      = dz X G H Y (lhead R.hp l) (qrow R.hb a) s.val * kn X H s (lhead R.hp l) (place l) := fun s => by
    rw [wdz_of R V hX hG hH i hi O K, rhead_stack, query_stack, wkn, dif_pos s.isLt, K]
  rw [h, ← Fin.sum_univ_eq_sum_range (fun x => wdz (ctx i I O) b (stack a l) x * wkn (ctx i I O) x l) 2048, Finset.sum_congr rfl fun s _ => e s,
    coe_mul_sum (by norm_num), Attn.dqn]
  exact Finset.sum_congr rfl fun s _ => by rw [← mul_assoc, mul_comm ((1 / 8 : ℝ) : EReal)]

include V hX hG hH hY K hi in
theorem dqn_of (a : Fin 256) (l : Fin 128) : Hand.dqn i (ctx i I O) (done i (ctx i I O) (start i I O)) (ix2 a l) * I.gq (ix2 0 l)
    = Attn.dqn X G H Y (lhead R.hp l) (qrow R.hb a) (place l) * G (place l) := by
  rw [← dqn_eighth R V hX hG hH hY i hi O K a l, R.gq, mul_comm (G _) _, ← mul_assoc, mul_comm (Hand.dqn _ _ _ _) _]
  rfl

include V hX hG hH hY K hi in
/-- The queries' gradient a grid point writes. -/
theorem dq_of (a : Fin 256) (l : Fin 128) : (step i I O).dq (ix2 a l)
    = dqval X G H Y (lhead R.hp l) (qrow R.hb a) (place l) := by
  have hb := R.hb
  have hp := R.hp
  have hq : ∀ j, IsReal (I.q j) := fun j => by idx_vars j; rw [R.q]; exact hX _ _
  have hD := fun (l : Fin 128) => dqn_of R V hX hG hH hY i hi O K a l
  have hT : ∀ l : Fin 128, IsReal (Hand.dqn i (ctx i I O) (done i (ctx i I O) (start i I O)) (ix2 a l) * I.gq (ix2 0 l)) := fun l => by
    rw [hD]; exact (isReal_dqn hX hG hH hY _ _ _).mul (hG _)
  have hB := back_at I.q hq (fun l => Hand.dqn i (ctx i I O) (done i (ctx i I O) (start i I O)) (ix2 a l) * I.gq (ix2 0 l)) hT a l
  refine Eq.trans ?_ (hB.trans ?_)
  · show k0_pay1 _ _ _ _ _ _ (ix2 a l) = _
    rw [q_pay, times_at, square_at, qinv_at I.q hq]
    have hw : k0_pay63 (F := Ideal) I.q = (I.q : FVec Ideal S256x128 .bf16) := funext fun j => by idx_vars j; exact wide_at I.q j0 j1
    rw [hw]
    simp only [gain_at]
    rfl
  · unfold dqval
    simp only [hD, lhead_lane, place_lane]
    refine congrArg (fun f => back _ _ f _ _) (funext fun e => ?_)
    rw [R.q]
    refine congrArg (X _) (Fin.ext ?_)
    show 768 + (128 * p + (e.val + 64 * (l.val / 64))) = 768 + ((2 * p + l.val / 64) * 64 + e.val)
    omega

include hX hG hH hY in
/-- The keys' gradient, from the whole of the normed keys'. -/
theorem dk_of (D : FVec Ideal S2048x128 .f32) (s : Fin 2048) (hD : ∀ l : Fin 128, D (ix2 s l) = Attn.dkn X G H Y (lhead R.hp l) s (place l)) (l : Fin 128) :
    k0_pay52 hm I.k D I.gk (ix2 s l) = dkval X G H Y (lhead R.hp l) s (place l) := by
  have hp := R.hp
  have hk : ∀ j, IsReal (I.k j) := fun j => by idx_vars j; rw [R.k]; exact hX _ _
  have hT : ∀ l : Fin 128, IsReal (D (ix2 s l) * I.gk (ix2 0 l)) := fun l => by
    rw [hD, R.gk]; exact (isReal_dkn hX hG hH hY _ _ _).mul (hH _)
  rw [k_pay, krms_at I.k hk, back_at I.k hk (fun l => D (ix2 s l) * I.gk (ix2 0 l)) hT s l]
  unfold dkval
  simp only [hD, R.gk, lhead_lane, place_lane]
  refine congrArg₂ (fun f g => back _ _ f g _) (funext fun e => ?_) (funext fun e => congrArg (_ * H ·) (place_lane _ e))
  rw [R.k]
  refine congrArg (X _) (Fin.ext ?_)
  show 1280 + (128 * p + (e.val + 64 * (l.val / 64))) = 1280 + ((2 * p + l.val / 64) * 64 + e.val)
  omega

end Cert.AttnIdeal.Row

end
-- ==== Proof.AttnGains.lean ====
/- The attention's gradient: the gradients of the two norms' weights, which the grid points add up one after the other. -/
module

public import proofs.«01_k».proof.Proof.AttnPointSlope

@[expose] public section

set_option maxRecDepth 16384

noncomputable section

open Idealize.ShloMosaic

namespace Cert.AttnIdeal.Row

open Cert.AttnIdeal Cert.AttnIdeal.Gen Cert.AttnIdeal.Hand Cert.Consts Cert.Norm Cert.Real Cert.Attn

/-! ## The values by their places -/

theorem qgain_at (V W D : FVec Ideal S256x128 .f32) (l : Fin 128) :
    k0_pay2 V W D (ix2 0 l) = (∑ a, D (ix2 a l) * (V (ix2 a l) * W (ix2 a l))) * Ideal.ofBits FTy.f32 0x3E000000#32 := by
  pointwise [k0_pay2]

theorem qmore_at (V W D : FVec Ideal S256x128 .f32) (A : FVec Ideal S1x128 .f32) (l : Fin 128) : k0_pay3 V W D A (ix2 0 l) = A (ix2 0 l) + k0_pay2 V W D (ix2 0 l) := by
  pointwise [k0_pay3, k0_pay2]

theorem kgain_at (T : FVec Ideal S2048x128 .f32) (l : Fin 128) : k0_pay4 T (ix2 0 l) = ∑ s, T (ix2 s l) := by
  pointwise [k0_pay4]

theorem kmore_at (T : FVec Ideal S2048x128 .f32) (A : FVec Ideal S1x128 .f32) (l : Fin 128) : k0_pay6 T A (ix2 0 l) = A (ix2 0 l) + k0_pay4 T (ix2 0 l) := by
  pointwise [k0_pay6, k0_pay4]

theorem kterm_at (M : FVec Ideal S128x128 .bf16) (X : FVec Ideal S2048x128 .bf16) (D : FVec Ideal S2048x128 .f32) (s : Fin 2048) (l : Fin 128) :
    k0_pay53 M X D (ix2 s l) = D (ix2 s l) * (X (ix2 s l) * k0_pay51 M X (ix2 s l)) := by
  pointwise [k0_pay53, k0_pay51, k0_pay50]

/-- A word's remainder by 64. -/
def rem64 (w : BitVec 32) : BitVec 32 :=
  Scalar.select
    (IntOp.andi
      (IntOp.xori (IntOp.cmpi CmpIPredicate.slt (IntOp.remsi ArithUnit.vector w (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector w (Scalar.select (Scalar.cmpi CmpIPredicate.eq 64#32 0#32) 1#32 64#32)) 0#32))
    (IntOp.addi (IntOp.remsi ArithUnit.vector w (Scalar.select (Scalar.cmpi CmpIPredicate.eq 64#32 0#32) 1#32 64#32)) (Scalar.select (Scalar.cmpi CmpIPredicate.eq 64#32 0#32) 1#32 64#32))
    (IntOp.remsi ArithUnit.vector w (Scalar.select (Scalar.cmpi CmpIPredicate.eq 64#32 0#32) 1#32 64#32))

theorem rem64_eq (k : Fin 128) : rem64 (BitVec.ofNat 32 k.val) = BitVec.ofNat 32 (k.val % 64) := by
  revert k
  decide +kernel

/-- The lanes of the two heads that stand for the same column of a head. -/
theorem twin_at (x l : Fin 128) : k0_pay48 (F := Ideal) (ix2 x l) = if x.val % 64 = l.val % 64 then 1 else 0 := by
  pointwise [k0_pay48]
  change FloatOps.sitofp (F := Ideal) FTy.f32 (BitVec.setWidth 32 (IntOp.cmpi CmpIPredicate.eq (rem64 (BitVec.ofNat 32 x.val)) (rem64 (BitVec.ofNat 32 l.val)))) = _
  rw [rem64_eq, rem64_eq, eq_at _ _ (by omega) (by omega), bit_at]

theorem qtwice_at (A : FVec Ideal S1x128 .f32) (i : Fin 1) (l : Fin 128) : k0_pay49 A (ix2 i l) = ∑ x, A (ix2 i x) * k0_pay48 (F := Ideal) (ix2 x l) := by
  pointwise [k0_pay49, k0_pay48]

theorem ktwice_at (M : FVec Ideal S128x128 .f32) (A : FVec Ideal S1x128 .f32) (i : Fin 1) (l : Fin 128) : k0_pay7 M A (ix2 i l) = ∑ x, A (ix2 i x) * M (ix2 x l) := by
  pointwise [k0_pay7]

/-! ## Sums over tiles -/

theorem sum_tiles (f : ℕ → EReal) (b a : ℕ) : ∑ x ∈ Finset.range (b * a), f x = ∑ p ∈ Finset.range a, ∑ q ∈ Finset.range b, f (b * p + q) := by
  induction a with
  | zero => rfl
  | succ a ih => rw [Nat.mul_succ, Finset.sum_range_add, ih, Finset.sum_range_succ]

/-- A quantity of a head and a position, by their numbers. -/
def atn (f : Fin 8 → Fin 2048 → EReal) (h t : ℕ) : EReal := if e : h < 8 ∧ t < 2048 then f ⟨h, e.1⟩ ⟨t, e.2⟩ else 0

theorem sum_heads (f : Fin 8 → Fin 2048 → EReal) :
    ∑ k ∈ Finset.range 2, ∑ p ∈ Finset.range 4, ∑ t ∈ Finset.range 2048, atn f (2 * p + k) t = ∑ t, ∑ h, f h t := by
  rw [Finset.sum_comm, ← sum_tiles (fun h => ∑ t ∈ Finset.range 2048, atn f h t) 2 4, Finset.sum_comm (s := (Finset.univ : Finset (Fin 2048))),
    ← Fin.sum_univ_eq_sum_range (fun h => ∑ t ∈ Finset.range 2048, atn f h t) 8]
  refine Finset.sum_congr rfl fun h _ => ?_
  rw [← Fin.sum_univ_eq_sum_range (fun t => atn f h.val t) 2048]
  exact Finset.sum_congr rfl fun t _ => by rw [atn, dif_pos ⟨h.isLt, t.isLt⟩]

theorem sum_points (f : Fin 8 → Fin 2048 → EReal) (k : ℕ) :
    ∑ n ∈ Finset.range 32, ∑ a ∈ Finset.range 256, atn f (2 * (n / 8) + k) (256 * (n % 8) + a)
      = ∑ p ∈ Finset.range 4, ∑ t ∈ Finset.range 2048, atn f (2 * p + k) t := by
  rw [show (32 : ℕ) = 8 * 4 from rfl, sum_tiles _ 8 4]
  refine Finset.sum_congr rfl fun p _ => ?_
  rw [show (2048 : ℕ) = 256 * 8 from rfl, sum_tiles _ 256 8]
  refine Finset.sum_congr rfl fun b hb => ?_
  have := Finset.mem_range.1 hb
  rw [show (8 * p + b) / 8 = p by omega, show (8 * p + b) % 8 = b by omega]

/-- The two lanes of a head's column added. -/
theorem sum_twin (A : Fin 128 → EReal) (B : ℕ → ℕ → EReal) (hA : ∀ x, A x = B (x.val / 64) (x.val % 64)) (l : Fin 128) :
    ∑ x, A x * k0_pay48 (F := Ideal) (ix2 x l) = ∑ k ∈ Finset.range 2, B k (l.val % 64) := by
  have e : ∀ x : Fin 128, A x * k0_pay48 (F := Ideal) (ix2 x l) = if x.val % 64 = l.val % 64 then B (x.val / 64) (x.val % 64) else 0 := fun x => by
    rw [twin_at, hA, mul_ite, mul_one, mul_zero]
  rw [Finset.sum_congr rfl fun x _ => e x, Fin.sum_univ_eq_sum_range (fun x => if x % 64 = l.val % 64 then B (x / 64) (x % 64) else 0) 128]
  refine (sum_tiles (fun x => if x % 64 = l.val % 64 then B (x / 64) (x % 64) else 0) 64 2).trans ?_
  refine Finset.sum_congr rfl fun k _ => ?_
  refine (Finset.sum_congr rfl fun q hq => ?_).trans ((Finset.sum_ite_eq' (Finset.range 64) (l.val % 64) fun q => B k q).trans (if_pos (Finset.mem_range.2 (by omega))))
  have := Finset.mem_range.1 hq
  rw [show (64 * k + q) % 64 = q by omega, show (64 * k + q) / 64 = k by omega]

/-! ## What a grid point adds -/

/-- The two gradients before the last point's addition of the heads. -/
def qsum (i : grid0.Coords) (I : Blk Ideal) (O : Out Ideal) : FVec Ideal S1x128 .f32 :=
  if k0_cond3 i = 1#1 then k0_pay3 (k0_pay63 I.q) (k0_pay64 k0_pay54 k0_pay55 k0_pay56 k0_pay57 k0_pay58 I.q) (Hand.dqn i (ctx i I O) (done i (ctx i I O) (start i I O)))
    (if k0_cond2 i = 1#1 then k0_pay2 (k0_pay63 I.q) (k0_pay64 k0_pay54 k0_pay55 k0_pay56 k0_pay57 k0_pay58 I.q) (Hand.dqn i (ctx i I O) (done i (ctx i I O) (start i I O))) else O.dgq)
  else if k0_cond2 i = 1#1 then k0_pay2 (k0_pay63 I.q) (k0_pay64 k0_pay54 k0_pay55 k0_pay56 k0_pay57 k0_pay58 I.q) (Hand.dqn i (ctx i I O) (done i (ctx i I O) (start i I O))) else O.dgq

def ksum (i : grid0.Coords) (I : Blk Ideal) (O : Out Ideal) : FVec Ideal S1x128 .f32 :=
  if k0_cond6 i = 1#1 then k0_pay6 (k0_pay53 hm I.k (step i I O).dkn) (if k0_cond5 i = 1#1 then k0_pay4 (k0_pay53 hm I.k (step i I O).dkn) else O.dgk)
  else if k0_cond5 i = 1#1 then k0_pay4 (k0_pay53 hm I.k (step i I O).dkn) else O.dgk

theorem step_dgq (i : grid0.Coords) (I : Blk Ideal) (O : Out Ideal) :
    (step i I O).dgq = if k0_cond4 i = 1#1 then (if k0_cond7 i = 1#1 then k0_pay49 (qsum i I O) else qsum i I O) else qsum i I O := rfl

theorem step_dgk (i : grid0.Coords) (I : Blk Ideal) (O : Out Ideal) :
    (step i I O).dgk = if k0_cond4 i = 1#1 then (if k0_cond7 i = 1#1 then k0_pay7 k0_pay48 (ksum i I O) else ksum i I O) else O.dgk := by
  unfold ksum step hm
  rfl

theorem atn_q {p b : ℕ} (hp : p < 4) (hb : b < 8) (f : Fin 8 → Fin 2048 → EReal) (l : Fin 128) (a : Fin 256) :
    atn f (2 * p + l.val / 64) (256 * b + a.val) = f (lhead hp l) (qrow hb a) := by
  rw [atn, dif_pos ⟨by omega, by omega⟩]
  rfl

theorem atn_k {p : ℕ} (hp : p < 4) (f : Fin 8 → Fin 2048 → EReal) (l : Fin 128) (s : Fin 2048) :
    atn f (2 * p + l.val / 64) s.val = f (lhead hp l) s := by
  rw [atn, dif_pos ⟨by omega, s.isLt⟩]
  rfl

variable {X : Fin 2048 → Fin 2816 → EReal} {G H : Fin 64 → EReal} {Y : Fin 2048 → Fin 1024 → EReal} {p b : ℕ} {I : Blk Ideal}
  (R : Reads X G H Y p b I) (V : ∀ (s : Fin 2048) (l : Fin 128), I.v (ix2 s l) = X s (vlane R.hp l))
  (hX : ∀ t k, IsReal (X t k)) (hG : ∀ e, IsReal (G e)) (hH : ∀ e, IsReal (H e)) (hY : ∀ t k, IsReal (Y t k))
  (i : grid0.Coords) (hi : (i 1).val = b) (O : Out Ideal)
  (K : ∀ (s : Fin 2048) (l : Fin 128), (ctx i I O).kn (ix2 s l) = kn X H s (lhead R.hp l) (place l))

include V hX hG hH hY K hi in
theorem qgain_of (l : Fin 128) :
    k0_pay2 (k0_pay63 I.q) (k0_pay64 (F := Ideal) k0_pay54 k0_pay55 k0_pay56 k0_pay57 k0_pay58 I.q) (Hand.dqn i (ctx i I O) (done i (ctx i I O) (start i I O))) (ix2 0 l)
      = ∑ a ∈ Finset.range 256, atn (dgqt X G H Y (place l)) (2 * p + l.val / 64) (256 * b + a) := by
  have hb := R.hb
  have hp := R.hp
  have hq : ∀ j, IsReal (I.q j) := fun j => by idx_vars j; rw [R.q]; exact hX _ _
  rw [qgain_at, ofBits_eighth, mul_comm, coe_mul_sum (by norm_num), ← Fin.sum_univ_eq_sum_range (fun a => atn (dgqt X G H Y (place l)) (2 * p + l.val / 64) (256 * b + a)) 256]
  refine Finset.sum_congr rfl fun a _ => ?_
  rw [atn_q R.hp R.hb, ← mul_assoc, dqn_eighth R V hX hG hH hY i hi O K a l, qinv_at I.q hq, wide_at, dgqt, mul_comm]
  refine congrArg (· * _) (congrArg₂ (· * ·) ?_ ?_)
  · rw [R.q]
    refine congrArg (X _) (Fin.ext ?_)
    show 768 + (128 * p + l.val) = 768 + ((2 * p + l.val / 64) * 64 + l.val % 64); omega
  · unfold rms
    refine congrArg _ (funext fun e => ?_)
    rw [R.q]
    refine congrArg (X _) (Fin.ext ?_)
    show 768 + (128 * p + (e.val + 64 * (l.val / 64))) = 768 + ((2 * p + l.val / 64) * 64 + e.val); omega

include hX hG hH hY in
theorem kgain_of (D : FVec Ideal S2048x128 .f32) (hD : ∀ (s : Fin 2048) (l : Fin 128), D (ix2 s l) = Attn.dkn X G H Y (lhead R.hp l) s (place l)) (l : Fin 128) :
    k0_pay4 (k0_pay53 hm I.k D) (ix2 0 l) = ∑ s ∈ Finset.range 2048, atn (dgkt X G H Y (place l)) (2 * p + l.val / 64) s := by
  have hp := R.hp
  have hk : ∀ j, IsReal (I.k j) := fun j => by idx_vars j; rw [R.k]; exact hX _ _
  rw [kgain_at, ← Fin.sum_univ_eq_sum_range (fun s => atn (dgkt X G H Y (place l)) (2 * p + l.val / 64) s) 2048]
  refine Finset.sum_congr rfl fun s _ => ?_
  rw [atn_k R.hp, kterm_at, krms_at I.k hk, rms_k R, hD, R.k, dgkt, mul_comm]
  refine congrArg (· * _) (congrArg (· * _) (congrArg (X _) (Fin.ext ?_)))
  show 1280 + (128 * p + l.val) = 1280 + ((2 * p + l.val / 64) * 64 + l.val % 64); omega

end Cert.AttnIdeal.Row

end
-- ==== Proof.AttnHost.lean ====
/- The attention's gradient: what the host leaves for the kernel, at an index. -/
module

public import proofs.«01_k».proof.Proof.Gen.AttnIdeal.Frame
public import proofs.«01_k».proof.Proof.AttnSpec
public import Idealize.ShloMosaic.Lib.StableHlo.ReadAt

@[expose] public section

set_option maxRecDepth 16384

noncomputable section

open Idealize.ShloMosaic Idealize.ShloMosaic.TcCoe

namespace Cert.AttnIdeal.Host

open Cert.AttnIdeal Cert.AttnIdeal.Gen Cert.Consts Cert.Norm Cert.Real Cert.Attn

variable (m : (ℓ : Loc nD τ sig) → Buf (Elt Ideal) ℓ) (c : Dev nD)

def xf (t : Fin 2048) (k : Fin 2816) : EReal := m ((c : Thread nD τ).loc main_arg0) (ix3 0 t k)
def gf (e : Fin 64) : EReal := m ((c : Thread nD τ).loc main_arg1) (ix1 e)
def hf (e : Fin 64) : EReal := m ((c : Thread nD τ).loc main_arg2) (ix1 e)
def yf (t : Fin 2048) (k : Fin 1024) : EReal := m ((c : Thread nD τ).loc main_arg3) (ix3 0 t k)

theorem v61 (t : Fin 2048) (k : Fin 2816) : V m c main_v61 (ix2 t k) = xf m c t k := by
  unfold V
  simp only [List.flatten_cons, List.flatten_nil, List.append_nil]
  after_reads_at
  rfl

theorem v59 (t : Fin 2048) (k : Fin 1024) : V m c main_v59 (ix2 t k) = yf m c t k := by
  unfold V
  simp only [List.flatten_cons, List.flatten_nil, List.append_nil]
  after_reads_at
  rfl

theorem v53 (i : Fin 1) (k : Fin 128) : V m c main_v53 (ix2 i k) = gf m c ⟨k.val % 64, by omega⟩ * ((1 / 8 : ℝ) : EReal) := by
  unfold V
  simp only [List.flatten_cons, List.flatten_nil, List.append_nil]
  after_reads_at
  rw [ofBits_eighth]
  rfl

theorem v57 (i : Fin 1) (k : Fin 128) : V m c main_v57 (ix2 i k) = hf m c ⟨k.val % 64, by omega⟩ := by
  unfold V
  simp only [List.flatten_cons, List.flatten_nil, List.append_nil]
  after_reads_at
  rfl

variable {m c} (hX : ∀ t k, IsReal (xf m c t k)) (hG : ∀ e, IsReal (gf m c e)) (hH : ∀ e, IsReal (hf m c e))

theorem tot_fin (h : Fin 8) (t : Fin 2048) : tot (xf m c) (gf m c) (hf m c) h t
    = ∑ x : Fin 2048, if x.val < t.val then lsig (-z (xf m c) (gf m c) (hf m c) h t x) else 0 := by
  have ht := t.isLt
  have e (x : Fin 2048) : (if x.val < t.val then lsig (-z (xf m c) (gf m c) (hf m c) h t x) else 0)
      = (fun x => if x < t.val then lsig (-zn (xf m c) (gf m c) (hf m c) h t x) else 0) x.val := by
    show _ = if x.val < t.val then lsig (-zn (xf m c) (gf m c) (hf m c) h t x.val) else 0
    rw [zn, dif_pos x.isLt]
  rw [Finset.sum_congr rfl fun x _ => e x, Fin.sum_univ_eq_sum_range (fun x => if x < t.val then lsig (-zn (xf m c) (gf m c) (hf m c) h t x) else 0), ← Finset.sum_filter, tot]
  refine Finset.sum_congr (Finset.ext fun x => ?_) fun _ _ => rfl
  simp only [Finset.mem_filter, Finset.mem_range]
  omega

theorem x_at (t : Fin 2048) (k : Fin 2816) : m (c, Proc.tc.devRef main_arg0) (ix3 0 t k) = xf m c t k := rfl
theorem g_at (e : Fin 64) : m (c, Proc.tc.devRef main_arg1) (ix1 e) = gf m c e := rfl
theorem h_at (e : Fin 64) : m (c, Proc.tc.devRef main_arg2) (ix1 e) = hf m c e := rfl

theorem z_form (q : ℕ) (hq : q < 8) (t x : Fin 2048) :
    (∑ e : Fin 64, xf m c t ⟨768 + (q * 64 + e.val), by omega⟩
          * Ideal.rsqrt (Ideal.div (∑ e : Fin 64, xf m c t ⟨768 + (q * 64 + e.val), by omega⟩ * xf m c t ⟨768 + (q * 64 + e.val), by omega⟩) ((64 : ℝ) : EReal)
            + Ideal.ofBits .f32 0x358637BD#32) * gf m c e
        * (xf m c x ⟨1280 + (q * 64 + e.val), by omega⟩
          * Ideal.rsqrt (Ideal.div (∑ e : Fin 64, xf m c x ⟨1280 + (q * 64 + e.val), by omega⟩ * xf m c x ⟨1280 + (q * 64 + e.val), by omega⟩) ((64 : ℝ) : EReal)
            + Ideal.ofBits .f32 0x358637BD#32) * hf m c e)) * ((1 / 8 : ℝ) : EReal)
      = z (xf m c) (gf m c) (hf m c) ⟨q, hq⟩ t x := rfl

include hX hG hH in
theorem v47 (t : Fin 2048) (k : Fin 512) : V m c main_v47 (ix2 t k) = tot (xf m c) (gf m c) (hf m c) ⟨k.val / 64, by omega⟩ t := by
  unfold V
  simp only [List.flatten_cons, List.flatten_nil, List.append_nil]
  after_reads_at
  have hk : k.val / 64 < 8 := by omega
  simp only [ofBits_64, ofBits_eighth, x_at, g_at, h_at]
  simp only [z_form (k.val / 64) hk]
  rw [tot_fin]
  refine Finset.sum_congr rfl fun x _ => ?_
  have hz := (isReal_z hX hG hH ⟨k.val / 64, hk⟩ t x).neg
  generalize z (xf m c) (gf m c) (hf m c) ⟨k.val / 64, hk⟩ t x = Z at hz
  have hx := x.isLt
  have ht := t.isLt
  rw [slt_at _ _ (by omega) (by omega), select_at]
  refine congrArg₂ (fun a b => if x.val < t.val then a else b) ?_ Ideal.ofBits_zero_f32
  rw [if_neg fun h => h rfl]
  exact softplus_neg hz

end Cert.AttnIdeal.Host

end
-- ==== Proof.AttnRef.lean ====
/- The attention's gradient by the chain rule: what each value of the reference is at an index. -/
module

public import proofs.«01_k».proof.Proof.Gen.AttnRefIdeal.Read
public import proofs.«01_k».proof.Proof.AttnSpec

@[expose] public section

set_option maxRecDepth 16384

noncomputable section

open Idealize.ShloMosaic

namespace Cert.AttnRefIdeal.Rows

open Cert.AttnRefIdeal Cert.AttnRefIdeal.Read Cert.Consts Cert.Norm Cert.Real Cert.Attn

/-! ## A running sum from the end -/

theorem foldl_add {α : Type} (f : α → EReal) (l : List α) (x : EReal) : l.foldl (fun a b => a + f b) x = x + (l.map f).sum := by
  induction l generalizing x with
  | nil => simp
  | cons b l ih => rw [List.foldl_cons, ih, List.map_cons, List.sum_cons, add_assoc]

theorem numel_row : (⟨4, ![1, 1, 1, 2048]⟩ : Shape).numel = 2048 := by decide

theorem symm_row (n : Fin (⟨4, ![1, 1, 1, 2048]⟩ : Shape).numel) :
    (⟨4, ![1, 1, 1, 2048]⟩ : Shape).rowMajor.symm n = ix4 (0 : Fin 1) (0 : Fin 1) (0 : Fin 1) (n.cast numel_row) :=
  ((⟨4, ![1, 1, 1, 2048]⟩ : Shape).rowMajor.symm_apply_eq).2 (Fin.ext (by
    rw [Shape.rowMajor_val_four]
    show n.val = ((0 * 1 + 0) * 1 + 0) * 2048 + n.val
    omega))

theorem suffix_at (x : FVec Ideal S1x8x2048x2048 .f32) (init : FVec Ideal S_ .f32) (hi : ∀ j, init j = 0) (h) (hu) (i : Fin 1) (a : Fin 8) (t s : Fin 2048) :
    Host.reduceWindowAdd ![1, 1, 1, 2048] ![1, 1, 1, 1] ![0, 0, 0, 0] ![0, 0, 0, 2047] x init h hu (ix4 i a t s)
      = ∑ w : Fin 2048, if hw : s.val + w.val < 2048 then x (ix4 i a t ⟨s.val + w.val, hw⟩) else 0 := by
  unfold Host.reduceWindowAdd
  change Ideal.hostReduceWindowAdd _ _ _ _ h x _ _ = _
  unfold Ideal.hostReduceWindowAdd Host.reduceWindow
  simp only [hi]
  refine (foldl_add _ _ _).trans ?_
  rw [zero_add, ← Fin.sum_univ_def]
  refine Fintype.sum_equiv (finCongr numel_row) _ _ fun n => ?_
  have h0 : ((⟨4, ![1, 1, 1, 2048]⟩ : Shape).rowMajor.symm n 0).val = 0 := by rw [symm_row]; rfl
  have h1 : ((⟨4, ![1, 1, 1, 2048]⟩ : Shape).rowMajor.symm n 1).val = 0 := by rw [symm_row]; rfl
  have h2 : ((⟨4, ![1, 1, 1, 2048]⟩ : Shape).rowMajor.symm n 2).val = 0 := by rw [symm_row]; rfl
  have h3 : ((⟨4, ![1, 1, 1, 2048]⟩ : Shape).rowMajor.symm n 3).val = n.val := by rw [symm_row]; rfl
  have hn : ((finCongr numel_row) n).val = n.val := rfl
  have hia := i.isLt
  have haa := a.isLt
  have hta := t.isLt
  split_ifs with p q q
  · refine congrArg x (funext fun d => Fin.ext ?_)
    match d with
    | ⟨0, _⟩ => show i.val * 1 + ((⟨4, ![1, 1, 1, 2048]⟩ : Shape).rowMajor.symm n 0).val - 0 = i.val; omega
    | ⟨1, _⟩ => show a.val * 1 + ((⟨4, ![1, 1, 1, 2048]⟩ : Shape).rowMajor.symm n 1).val - 0 = a.val; omega
    | ⟨2, _⟩ => show t.val * 1 + ((⟨4, ![1, 1, 1, 2048]⟩ : Shape).rowMajor.symm n 2).val - 0 = t.val; omega
    | ⟨3, _⟩ => show s.val * 1 + ((⟨4, ![1, 1, 1, 2048]⟩ : Shape).rowMajor.symm n 3).val - 0 = s.val + n.val; omega
  · have p3 := (p 3).2
    change s.val * 1 + ((⟨4, ![1, 1, 1, 2048]⟩ : Shape).rowMajor.symm n 3).val - 0 < 2048 at p3
    exact absurd (by omega) q
  · refine absurd (fun d => ?_) p
    match d with
    | ⟨0, _⟩ => show 0 ≤ _ ∧ i.val * 1 + ((⟨4, ![1, 1, 1, 2048]⟩ : Shape).rowMajor.symm n 0).val - 0 < 1; omega
    | ⟨1, _⟩ => show 0 ≤ _ ∧ a.val * 1 + ((⟨4, ![1, 1, 1, 2048]⟩ : Shape).rowMajor.symm n 1).val - 0 < 8; omega
    | ⟨2, _⟩ => show 0 ≤ _ ∧ t.val * 1 + ((⟨4, ![1, 1, 1, 2048]⟩ : Shape).rowMajor.symm n 2).val - 0 < 2048; omega
    | ⟨3, _⟩ => show 0 ≤ _ ∧ s.val * 1 + ((⟨4, ![1, 1, 1, 2048]⟩ : Shape).rowMajor.symm n 3).val - 0 < 2048; omega
  · rfl

variable (X : FVec Ideal S1x2048x2816 .f32) (G H : FVec Ideal S64 .f32) (Y : FVec Ideal S1x2048x1024 .f32)

/-! ## The arrays by their places -/

def xf (t : Fin 2048) (k : Fin 2816) : EReal := X (ix3 0 t k)
def gf (e : Fin 64) : EReal := G (ix1 e)
def yf (t : Fin 2048) (k : Fin 1024) : EReal := Y (ix3 0 t k)

/-! ## The scores -/

theorem v3 (i : Fin 1) (t : Fin 2048) (h : Fin 8) (e : Fin 64) : val_main_v3 (F := Ideal) X (ix4 i t h e) = xf X t (qcol h e) := by
  pointwise [val_main_v3, val_main_v0]
  rfl

theorem v10 (i : Fin 1) (t : Fin 2048) (h : Fin 8) (j : Fin 1) : val_main_v10 (F := Ideal) X (ix4 i t h j) = msq ((64 : ℝ) : EReal) eps (fun e => xf X t (qcol h e)) := by
  pointwise [val_main_v10, val_main_v9, val_main_v8, val_main_v7, val_main_v6, val_main_v5, val_main_v4, v3, val_main_cst, val_main_cst_0, val_main_cst_1]
  rw [ofBits_64]
  rfl

theorem v19 (i : Fin 1) (t : Fin 2048) (h : Fin 8) (e : Fin 64) : val_main_v19 (F := Ideal) X G (ix4 i t h e) = qn (xf X) (gf G) t h e := by
  pointwise [val_main_v19, val_main_v18, val_main_v17, val_main_v16, val_main_v15, val_main_v11, v10, v3]
  rfl

theorem v20 (i : Fin 1) (t : Fin 2048) (h : Fin 8) (e : Fin 64) : val_main_v20 (F := Ideal) X (ix4 i t h e) = xf X t (kcol h e) := by
  pointwise [val_main_v20, val_main_v1]
  rfl

theorem v27 (i : Fin 1) (t : Fin 2048) (h : Fin 8) (j : Fin 1) : val_main_v27 (F := Ideal) X (ix4 i t h j) = msq ((64 : ℝ) : EReal) eps (fun e => xf X t (kcol h e)) := by
  pointwise [val_main_v27, val_main_v26, val_main_v25, val_main_v24, val_main_v23, val_main_v22, val_main_v21, v20, val_main_cst_3, val_main_cst_4, val_main_cst_5]
  rw [ofBits_64]
  rfl

theorem v36 (i : Fin 1) (t : Fin 2048) (h : Fin 8) (e : Fin 64) : val_main_v36 (F := Ideal) X H (ix4 i t h e) = kn (xf X) (gf H) t h e := by
  pointwise [val_main_v36, val_main_v35, val_main_v34, val_main_v33, val_main_v32, val_main_v28, v27, v20]
  rfl

theorem v40 (i : Fin 1) (h : Fin 8) (t s : Fin 2048) : val_main_v40 (F := Ideal) X G H (ix4 i h t s) = z (xf X) (gf G) (gf H) h t s := by
  pointwise [val_main_v40, val_main_v39, val_main_v38, v19, v36, val_main_cst_7]
  rw [ofBits_eighth]
  rfl

theorem v47 (t s : Fin 2048) : val_main_v47 (F := Ideal) (ix2 t s) = BitVec.ofBool (decide (s.val < t.val)) := by
  pointwise [val_main_v47, val_main_v46, val_main_v45, val_main_v44, val_main_v43, val_main_v42, val_main_v41]
  rw [slt_at _ _ (by omega) (by omega)]

variable {X G H} (hX : ∀ t k, IsReal (xf X t k)) (hG : ∀ e, IsReal (gf G e)) (hH : ∀ e, IsReal (gf H e))
include hX hG hH

/-- The softplus of the negative score, of which the negative is the logarithm of the sigmoid. -/
theorem soft0 (i : Fin 1) (h : Fin 8) (t s : Fin 2048) : val_main_call0_v1_0 (F := Ideal) X G H (ix4 i h t s) = -lsig (z (xf X) (gf G) (gf H) h t s) := by
  have hz := isReal_z hX hG hH h t s
  rw [← softplus_neg hz, neg_neg]
  pointwise [val_main_call0_v1_0, val_main_call0_call0_v11, val_main_call0_call0_v10, val_main_call0_call0_v9, val_main_call0_call0_v8, val_main_call0_call0_v7,
    val_main_call0_call0_v6, val_main_call0_call0_v5, val_main_call0_call0_v4, val_main_call0_call0_v3, val_main_call0_call0_v2, val_main_call0_call0_v1, val_main_call0_call0_v0,
    val_main_call0_v0, val_main_call0_call0_cst, v40]
  rw [if_neg fun h => h rfl]
  rfl

theorem soft1 (i : Fin 1) (h : Fin 8) (t s : Fin 2048) : val_main_call1_v1_0 (F := Ideal) X G H (ix4 i h t s) = -lsig (-z (xf X) (gf G) (gf H) h t s) := by
  have hz := (isReal_z hX hG hH h t s).neg
  rw [← softplus_neg hz, neg_neg]
  pointwise [val_main_call1_v1_0, val_main_call1_call0_v11, val_main_call1_call0_v10, val_main_call1_call0_v9, val_main_call1_call0_v8, val_main_call1_call0_v7,
    val_main_call1_call0_v6, val_main_call1_call0_v5, val_main_call1_call0_v4, val_main_call1_call0_v3, val_main_call1_call0_v2, val_main_call1_call0_v1, val_main_call1_call0_v0,
    val_main_call1_v0, val_main_call1_call0_cst, val_main_v49, v40]
  rw [if_neg fun h => h rfl]
  rfl

theorem v48 (i : Fin 1) (h : Fin 8) (t s : Fin 2048) : val_main_v48_0 (F := Ideal) X G H (ix4 i h t s) = lsig (z (xf X) (gf G) (gf H) h t s) := by
  pointwise [val_main_v48_0, soft0 hX hG hH]
  exact neg_neg _

theorem v50 (i : Fin 1) (h : Fin 8) (t s : Fin 2048) : val_main_v50_0 (F := Ideal) X G H (ix4 i h t s) = lsig (-z (xf X) (gf G) (gf H) h t s) := by
  pointwise [val_main_v50_0, soft1 hX hG hH]
  exact neg_neg _

theorem v51 (i : Fin 1) (h : Fin 8) (t s : Fin 2048) :
    val_main_v51_0 (F := Ideal) X G H (ix4 i h t s) = if s.val < t.val then lsig (-z (xf X) (gf G) (gf H) h t s) else 0 := by
  pointwise [val_main_v51_0, val_main_v51_1, val_main_call2_v2, val_main_call2_v0, val_main_cst_8, v47, v50 hX hG hH]
  show (if _ then _ else Ideal.ofBits .f32 0x00000000#32) = _
  rw [Ideal.ofBits_zero_f32]

omit hX hG hH in
theorem sub_at (x y : EReal) : FloatOps.subf (F := Ideal) (φ := .f32) x y = x - y := rfl

omit hX hG hH in
theorem real_eq (a b c : ℝ) : ((b : EReal) + c) - c = (a : EReal) + b - a := by
  rw [← EReal.coe_add, ← EReal.coe_sub, ← EReal.coe_add, ← EReal.coe_sub]
  congr 1
  ring

omit hX hG hH in
theorem tail (L : ℕ → EReal) (s d n : ℕ) (hn : d < n) :
    ∑ w ∈ Finset.range n, (if s + w < s + 1 + d then L (s + w) else 0) = ∑ x ∈ Finset.range d, L (s + 1 + x) + L s := by
  obtain ⟨r, rfl⟩ : ∃ r, n = d + r + 1 := ⟨n - d - 1, by omega⟩
  rw [Finset.sum_range_succ', add_zero, if_pos (by omega), Finset.sum_range_add (fun w => if s + (w + 1) < s + 1 + d then L (s + (w + 1)) else 0) d r,
    Finset.sum_eq_zero (s := Finset.range r) fun x _ => if_neg (by omega), add_zero]
  congr 1
  refine Finset.sum_congr rfl fun x hx => ?_
  have := Finset.mem_range.1 hx
  rw [if_pos (by omega), show s + (x + 1) = s + 1 + x from by omega]

omit hX hG hH in
theorem after_eq (L : ℕ → EReal) (hr : ∀ x, IsReal (L x)) (s t n : ℕ) (hst : s < t) (hn : t ≤ n) :
    (∑ w ∈ Finset.range n, if s + w < t then L (s + w) else 0) - L s = ∑ x ∈ Finset.range t, L x - ∑ x ∈ Finset.range (s + 1), L x := by
  obtain ⟨d, rfl⟩ : ∃ d, t = s + 1 + d := ⟨t - (s + 1), by omega⟩
  rw [tail L s d n (by omega), Finset.sum_range_add L (s + 1) d]
  obtain ⟨a, ha⟩ := IsReal.sum (Finset.range (s + 1)) fun x _ => hr x
  obtain ⟨b, hb⟩ := IsReal.sum (Finset.range d) fun x _ => hr (s + 1 + x)
  obtain ⟨c, hc⟩ := hr s
  rw [ha, hb, hc]
  exact real_eq a b c

theorem v52 (i : Fin 1) (h : Fin 8) (t s : Fin 2048) :
    val_main_v52 (F := Ideal) X G H (ix4 i h t s) = ∑ w ∈ Finset.range 2048, if s.val + w < t.val then lsig (-zn (xf X) (gf G) (gf H) h t (s.val + w)) else 0 := by
  unfold val_main_v52
  rw [suffix_at _ _ (fun j => by
    show Ideal.ofBits .f32 0x00000000#32 = 0
    exact Ideal.ofBits_zero_f32), ← Fin.sum_univ_eq_sum_range (fun w => if s.val + w < t.val then lsig (-zn (xf X) (gf G) (gf H) h t (s.val + w)) else 0)]
  refine Finset.sum_congr rfl fun w _ => ?_
  have ht := t.isLt
  by_cases e : s.val + w.val < 2048
  · rw [dif_pos e, v51 hX hG hH, zn, dif_pos e]
  · rw [dif_neg e, if_neg (by omega)]

/-- The sum of what the keys after a key leave, as the sum of all less the sum up to it. -/
theorem later (i : Fin 1) (h : Fin 8) (t s : Fin 2048) (hst : s.val < t.val) :
    val_main_v53 (F := Ideal) X G H (ix4 i h t s)
      = tot (xf X) (gf G) (gf H) h t - ∑ x ∈ Finset.range (s.val + 1), lsig (-zn (xf X) (gf G) (gf H) h t x) := by
  have h51 : val_main_v51_0 (F := Ideal) X G H (ix4 i h t s) = lsig (-zn (xf X) (gf G) (gf H) h t s.val) := by
    rw [v51 hX hG hH, if_pos hst, zn, dif_pos s.isLt]
  rw [val_main_v53_apply (F := Ideal), h51, v52 hX hG hH, sub_at]
  exact after_eq (fun x => lsig (-zn (xf X) (gf G) (gf H) h t x)) (fun x => isReal_lsig (isReal_zn hX hG hH h t x).neg) s.val t.val 2048 hst (le_of_lt t.isLt)

/-- The weight before its mask, of a key before the query. -/
theorem v55 (i : Fin 1) (h : Fin 8) (t s : Fin 2048) (e : s.val < t.val) : val_main_v55 (F := Ideal) X G H (ix4 i h t s) = wgt (xf X) (gf G) (gf H) h t s.val := by
  unfold wgt
  rw [if_pos e, ← later hX hG hH i h t s e, zn, dif_pos s.isLt]
  pointwise [val_main_v55, val_main_v54, v48 hX hG hH]

theorem v56 (i : Fin 1) (h : Fin 8) (t s : Fin 2048) : val_main_v56_0 (F := Ideal) X G H (ix4 i h t s) = wgt (xf X) (gf G) (gf H) h t s.val := by
  by_cases e : s.val < t.val
  · rw [← v55 hX hG hH i h t s e]
    pointwise [val_main_v56_0, val_main_v56_1, v47]
    rw [if_pos e]
  · unfold wgt
    rw [if_neg e]
    pointwise [val_main_v56_0, val_main_v56_1, val_main_call4_v2, val_main_call4_v0, val_main_cst_9, v47]
    rw [if_neg e]
    exact Ideal.ofBits_zero_f32

/-- The head of a column of the results, and its place there. -/
def hd (c : Fin 512) : Fin 8 := ⟨c.val / 64, by omega⟩
def ln (c : Fin 512) : Fin 64 := ⟨c.val % 64, by omega⟩

/-- The values' gradient. -/
theorem v132 (s : Fin 2048) (c : Fin 512) : val_main_v132 (F := Ideal) X G H Y (ix2 s c) = dval (xf X) (gf G) (gf H) (yf Y) (hd c) s (ln c) := by
  pointwise [val_main_v132, val_main_v131, val_main_v82, val_main_v65, val_main_v64, val_main_v62, val_main_v61, val_main_v60, v56 hX hG hH]
  unfold dval
  refine Finset.sum_congr rfl fun t _ => ?_
  rw [mul_comm]
  refine congrArg₂ (· * ·) rfl (congrArg Y (congrArg (ix3 0 t) (Fin.ext ?_)))
  show 256 + c.val = 256 + (c.val / 64 * 64 + c.val % 64)
  omega

end Cert.AttnRefIdeal.Rows

end
-- ==== Proof.AttnRefSlope.lean ====
/- The attention's gradient by the chain rule: the reference's queries', keys' and norm weights' gradients at an index. -/
module

public import proofs.«01_k».proof.Proof.AttnRef
public import proofs.«01_k».proof.Proof.AttnSlope

@[expose] public section

set_option maxRecDepth 16384

noncomputable section

open Idealize.ShloMosaic

namespace Cert.AttnRefIdeal.Rows

open Cert.AttnRefIdeal Cert.AttnRefIdeal.Read Cert.Consts Cert.Norm Cert.Real Cert.Attn

/-! ## A running sum from the start -/

theorem prefix_at (x : FVec Ideal S1x8x2048x2048 .f32) (init : FVec Ideal S_ .f32) (hi : ∀ j, init j = 0) (h) (hu) (i : Fin 1) (a : Fin 8) (t s : Fin 2048) :
    Host.reduceWindowAdd ![1, 1, 1, 2048] ![1, 1, 1, 1] ![0, 0, 0, 2047] ![0, 0, 0, 0] x init h hu (ix4 i a t s)
      = ∑ w : Fin 2048, if hw : 2047 ≤ s.val + w.val then x (ix4 i a t ⟨s.val + w.val - 2047, by omega⟩) else 0 := by
  unfold Host.reduceWindowAdd
  change Ideal.hostReduceWindowAdd _ _ _ _ h x _ _ = _
  unfold Ideal.hostReduceWindowAdd Host.reduceWindow
  simp only [hi]
  refine (foldl_add _ _ _).trans ?_
  rw [zero_add, ← Fin.sum_univ_def]
  refine Fintype.sum_equiv (finCongr numel_row) _ _ fun n => ?_
  have h0 : ((⟨4, ![1, 1, 1, 2048]⟩ : Shape).rowMajor.symm n 0).val = 0 := by rw [symm_row]; rfl
  have h1 : ((⟨4, ![1, 1, 1, 2048]⟩ : Shape).rowMajor.symm n 1).val = 0 := by rw [symm_row]; rfl
  have h2 : ((⟨4, ![1, 1, 1, 2048]⟩ : Shape).rowMajor.symm n 2).val = 0 := by rw [symm_row]; rfl
  have h3 : ((⟨4, ![1, 1, 1, 2048]⟩ : Shape).rowMajor.symm n 3).val = n.val := by rw [symm_row]; rfl
  have hn : ((finCongr numel_row) n).val = n.val := rfl
  have hn2 : n.val < 2048 := ((finCongr numel_row) n).isLt
  have hia := i.isLt
  have haa := a.isLt
  have hta := t.isLt
  have hsa := s.isLt
  split_ifs with p q q
  · refine congrArg x (funext fun d => Fin.ext ?_)
    match d with
    | ⟨0, _⟩ => show i.val * 1 + ((⟨4, ![1, 1, 1, 2048]⟩ : Shape).rowMajor.symm n 0).val - 0 = i.val; omega
    | ⟨1, _⟩ => show a.val * 1 + ((⟨4, ![1, 1, 1, 2048]⟩ : Shape).rowMajor.symm n 1).val - 0 = a.val; omega
    | ⟨2, _⟩ => show t.val * 1 + ((⟨4, ![1, 1, 1, 2048]⟩ : Shape).rowMajor.symm n 2).val - 0 = t.val; omega
    | ⟨3, _⟩ => show s.val * 1 + ((⟨4, ![1, 1, 1, 2048]⟩ : Shape).rowMajor.symm n 3).val - 2047 = s.val + n.val - 2047; omega
  · have p3 := (p 3).1
    change 2047 ≤ s.val * 1 + ((⟨4, ![1, 1, 1, 2048]⟩ : Shape).rowMajor.symm n 3).val at p3
    exact absurd (by omega) q
  · refine absurd (fun d => ?_) p
    match d with
    | ⟨0, _⟩ => show 0 ≤ _ ∧ i.val * 1 + ((⟨4, ![1, 1, 1, 2048]⟩ : Shape).rowMajor.symm n 0).val - 0 < 1; omega
    | ⟨1, _⟩ => show 0 ≤ _ ∧ a.val * 1 + ((⟨4, ![1, 1, 1, 2048]⟩ : Shape).rowMajor.symm n 1).val - 0 < 8; omega
    | ⟨2, _⟩ => show 0 ≤ _ ∧ t.val * 1 + ((⟨4, ![1, 1, 1, 2048]⟩ : Shape).rowMajor.symm n 2).val - 0 < 2048; omega
    | ⟨3, _⟩ => show 2047 ≤ s.val * 1 + ((⟨4, ![1, 1, 1, 2048]⟩ : Shape).rowMajor.symm n 3).val ∧ s.val * 1 + ((⟨4, ![1, 1, 1, 2048]⟩ : Shape).rowMajor.symm n 3).val - 2047 < 2048; omega
  · rfl

theorem prefix_eq (f : ℕ → EReal) (s : ℕ) (hs : s < 2048) :
    (∑ w ∈ Finset.range 2048, if 2047 ≤ s + w then f (s + w - 2047) else 0) = ∑ x ∈ Finset.range (s + 1), f x := by
  rw [show Finset.range 2048 = Finset.range (2047 - s + (s + 1)) from congrArg _ (by omega),
    Finset.sum_range_add (fun w => if 2047 ≤ s + w then f (s + w - 2047) else 0) (2047 - s) (s + 1),
    Finset.sum_eq_zero (s := Finset.range (2047 - s)) fun x hx => if_neg (by have := Finset.mem_range.1 hx; omega), zero_add]
  refine Finset.sum_congr rfl fun x _ => ?_
  rw [if_pos (by omega), show s + (2047 - s + x) - 2047 = x from by omega]

/-- A host sum over the two axes of one, read at an index of the axes kept. -/
theorem row_at (h : S1x2048x8x1.ReducesTo [0, 3] S2048x8) (v : S1x2048x8x1.Idx → EReal) (init : EReal) (t : Fin 2048) (a : Fin 8) :
    Ideal.hostReduceAdd h v init (ix2 t a) = init + v (ix4 0 t a 0) := by
  refine congrArg (init + ·) ((Finset.sum_filter_eq_sum_of_fiber _ (fun _ : Unit => (ix4 0 t a 0 : S1x2048x8x1.Idx)) (fun _ _ _ => rfl)
    (fun q => ⟨fun e => ⟨(), ?_⟩, ?_⟩) v).trans (Fintype.sum_unique _))
  · funext d
    apply Fin.ext
    match d with
    | ⟨0, _⟩ => exact (Nat.lt_one_iff.1 (q 0).isLt).symm
    | ⟨1, _⟩ => exact (congrArg Fin.val (congrFun e 0)).symm
    | ⟨2, _⟩ => exact (congrArg Fin.val (congrFun e 1)).symm
    | ⟨3, _⟩ => exact (Nat.lt_one_iff.1 (q 3).isLt).symm
  · rintro ⟨_, rfl⟩
    funext d
    apply Fin.ext
    match d with
    | ⟨0, _⟩ => rfl
    | ⟨1, _⟩ => rfl

/-- A host sum over positions and heads, read at a lane; and one over axes of one. -/
theorem lanes_at (h : S1x2048x8x64.ReducesTo [1, 2] S1x64) (v : S1x2048x8x64.Idx → EReal) (init : EReal) (e : Fin 64) :
    Ideal.hostReduceAdd h v init (ix2 0 e) = init + ∑ t : Fin 2048, ∑ a : Fin 8, v (ix4 0 t a e) := by
  refine congrArg (init + ·) ((Finset.sum_filter_eq_sum_of_fiber _ (fun p : Fin 2048 × Fin 8 => (ix4 0 p.1 p.2 e : S1x2048x8x64.Idx))
    (fun _ _ e => Prod.ext (congrFun e 1) (congrFun e 2)) (fun q => ⟨fun e => ⟨(q 1, q 2), ?_⟩, ?_⟩) v).trans (Fintype.sum_prod_type _))
  · funext d
    apply Fin.ext
    match d with
    | ⟨0, _⟩ => exact (Nat.lt_one_iff.1 (q 0).isLt).symm
    | ⟨1, _⟩ => rfl
    | ⟨2, _⟩ => rfl
    | ⟨3, _⟩ => exact (congrArg Fin.val (congrFun e 1)).symm
  · rintro ⟨_, rfl⟩
    funext d
    apply Fin.ext
    match d with
    | ⟨0, _⟩ => rfl
    | ⟨1, _⟩ => rfl

theorem lane_at (h : S1x1x1x64.ReducesTo [0, 1, 2] S64) (v : S1x1x1x64.Idx → EReal) (init : EReal) (e : Fin 64) :
    Ideal.hostReduceAdd h v init (ix1 e) = init + v (ix4 0 0 0 e) := by
  refine congrArg (init + ·) ((Finset.sum_filter_eq_sum_of_fiber _ (fun _ : Unit => (ix4 0 0 0 e : S1x1x1x64.Idx)) (fun _ _ _ => rfl)
    (fun q => ⟨fun e => ⟨(), ?_⟩, ?_⟩) v).trans (Fintype.sum_unique _))
  · funext d
    apply Fin.ext
    match d with
    | ⟨0, _⟩ => exact (Nat.lt_one_iff.1 (q 0).isLt).symm
    | ⟨1, _⟩ => exact (Nat.lt_one_iff.1 (q 1).isLt).symm
    | ⟨2, _⟩ => exact (Nat.lt_one_iff.1 (q 2).isLt).symm
    | ⟨3, _⟩ => exact (congrArg Fin.val (congrFun e 0)).symm
  · rintro ⟨_, rfl⟩
    funext d
    apply Fin.ext
    match d with
    | ⟨0, _⟩ => rfl

theorem ofBits_top : Ideal.ofBits .f32 0x7F800000#32 = ⊤ := by simp [Ideal.ofBits, Ideal.ieee]

theorem ne_top {x : EReal} : IsReal x → x ≠ Ideal.ofBits .f32 0x7F800000#32 := fun ⟨a, ha⟩ => by
  rw [ofBits_top, ha]
  exact EReal.coe_ne_top a

theorem less_soft {x : EReal} : IsReal x → -x - -lsig x = lsig (-x) := fun h => by
  rw [← lsig_neg h]
  obtain ⟨p, hp⟩ := isReal_lsig h
  obtain ⟨a, rfl⟩ := h
  rw [hp, ← EReal.coe_neg, ← EReal.coe_neg, ← EReal.coe_sub, ← EReal.coe_sub]
  congr 1
  ring

variable {X : FVec Ideal S1x2048x2816 .f32} {G H : FVec Ideal S64 .f32} {Y : FVec Ideal S1x2048x1024 .f32}
  (hX : ∀ t k, IsReal (xf X t k)) (hG : ∀ e, IsReal (gf G e)) (hH : ∀ e, IsReal (gf H e)) (hY : ∀ t k, IsReal (yf Y t k))
include hX hG hH

theorem left0 (i : Fin 1) (h : Fin 8) (t s : Fin 2048) : val_main_v48_1 (F := Ideal) X G H (ix4 i h t s) = Ideal.exp (lsig (-z (xf X) (gf G) (gf H) h t s)) := by
  have hz := isReal_z hX hG hH h t s
  pointwise [val_main_v48_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_v0, val_main_call0_call0_cst_0, val_main_call0_call0_cst_1, val_main_call0_call0_cst_2,
    val_main_call0_call0_cst_3, soft0 hX hG hH, v40]
  rw [if_neg (ne_top hz.neg), if_neg (ne_top (isReal_lsig hz).neg), less_soft hz]

theorem left1 (i : Fin 1) (h : Fin 8) (t s : Fin 2048) : val_main_v50_1 (F := Ideal) X G H (ix4 i h t s) = Ideal.exp (lsig (z (xf X) (gf G) (gf H) h t s)) := by
  have hz := isReal_z hX hG hH h t s
  pointwise [val_main_v50_1, val_main_call1_call0_v21, val_main_call1_call0_v20, val_main_call1_call0_v19, val_main_call1_call0_v18, val_main_call1_call0_v17, val_main_call1_call0_v16,
    val_main_call1_call0_v15, val_main_call1_call0_v14, val_main_call1_call0_v13, val_main_call1_v0, val_main_call1_call0_cst_0, val_main_call1_call0_cst_1, val_main_call1_call0_cst_2,
    val_main_call1_call0_cst_3, soft1 hX hG hH, val_main_v49, v40]
  rw [if_neg (ne_top hz.neg.neg), if_neg (ne_top (isReal_lsig hz.neg).neg), less_soft hz.neg, neg_neg]

/-- The weights' gradient times the weight. -/
theorem v67 (i : Fin 1) (h : Fin 8) (t s : Fin 2048) : val_main_v67 (F := Ideal) X G H Y (ix4 i h t s) = gs (xf X) (gf G) (gf H) (yf Y) h t s.val := by
  unfold gs da
  rw [dif_pos s.isLt]
  by_cases e : s.val < t.val
  · rw [← v55 hX hG hH i h t s e]
    pointwise [val_main_v67, val_main_v66, val_main_v63, val_main_v62, val_main_v61, val_main_v60, val_main_v37, val_main_v2, val_main_v56_1, v47]
    rw [if_pos e]
    refine congrArg (· * _) (Finset.sum_congr rfl fun x _ => congrArg₂ (· * ·) (congrArg Y (congrArg (ix3 0 t) (Fin.ext ?_))) (congrArg X (congrArg (ix3 0 s) (Fin.ext ?_))))
    · show 256 + (h.val * 64 + x.val) = 256 + (h.val * 64 + x.val); rfl
    · show 1792 + (h.val * 64 + x.val) = 1792 + (h.val * 64 + x.val); rfl
  · unfold wgt
    rw [if_neg e, mul_zero]
    pointwise [val_main_v67, val_main_v66, val_main_call5_v0, val_main_call5_cst, val_main_v56_1, v47]
    rw [if_neg e]
    exact zero_mul _

theorem v69 (i : Fin 1) (h : Fin 8) (t s : Fin 2048) :
    val_main_v69 (F := Ideal) X G H Y (ix4 i h t s) = ∑ x ∈ Finset.range (s.val + 1), gs (xf X) (gf G) (gf H) (yf Y) h t x := by
  unfold val_main_v69
  rw [prefix_at _ _ (fun j => by
    show Ideal.ofBits .f32 0x00000000#32 = 0
    exact Ideal.ofBits_zero_f32), ← prefix_eq _ s.val s.isLt,
    ← Fin.sum_univ_eq_sum_range (fun w => if 2047 ≤ s.val + w then gs (xf X) (gf G) (gf H) (yf Y) h t (s.val + w - 2047) else 0)]
  refine Finset.sum_congr rfl fun w _ => ?_
  by_cases e : 2047 ≤ s.val + w.val
  · rw [dif_pos e, if_pos e, v67 hX hG hH]
  · rw [dif_neg e, if_neg e]

include hY

/-- The scores' gradient. -/
theorem v75 (i : Fin 1) (h : Fin 8) (t s : Fin 2048) : val_main_v75 (F := Ideal) X G H Y (ix4 i h t s) = dz (xf X) (gf G) (gf H) (yf Y) h t s.val := by
  have hg := fun x => isReal_gs hX hG hH hY h t x
  unfold dz
  by_cases e : s.val < t.val
  · rw [if_pos e, zn, dif_pos s.isLt, ← slope_eq (isReal_z hX hG hH h t s) (hg s.val) (IsReal.sum _ fun x _ => hg x)]
    pointwise [val_main_v75, val_main_v74, val_main_v73, val_main_v72, val_main_v71, val_main_v70, val_main_v68, val_main_call8_v0, val_main_call8_v1, val_main_call9_v0, val_main_call9_v1,
      val_main_v51_1, v47, v67 hX hG hH, v69 hX hG hH, left0 hX hG hH, left1 hX hG hH]
    rw [if_pos e]
    exact congrArg (· + _) (neg_neg _)
  · have h0 : gs (xf X) (gf G) (gf H) (yf Y) h t s.val = 0 := by rw [gs, wgt, if_neg e, mul_zero]
    rw [if_neg e]
    pointwise [val_main_v75, val_main_v74, val_main_v73, val_main_v72, val_main_v71, val_main_call7_v0, val_main_call7_cst, val_main_call8_v0, val_main_call8_v1, val_main_call9_v0, val_main_call9_v1,
      val_main_v51_1, v47, v67 hX hG hH]
    rw [if_neg e, h0, neg_zero, zero_mul, zero_mul, neg_zero, neg_zero, add_zero]

/-- The normed queries' and keys' gradients. -/
theorem v81 (i : Fin 1) (t : Fin 2048) (h : Fin 8) (e : Fin 64) : val_main_v81 (F := Ideal) X G H Y (ix4 i t h e) = dqn (xf X) (gf G) (gf H) (yf Y) h t e := by
  pointwise [val_main_v81, val_main_v80, val_main_v77, val_main_v76, val_main_cst_10, v75 hX hG hH hY, v36]
  rw [ofBits_eighth]
  rfl

theorem v79 (i : Fin 1) (t : Fin 2048) (h : Fin 8) (e : Fin 64) : val_main_v79 (F := Ideal) X G H Y (ix4 i t h e) = dkn (xf X) (gf G) (gf H) (yf Y) h t e := by
  pointwise [val_main_v79, val_main_v78, val_main_v77, val_main_v76, val_main_cst_10, v75 hX hG hH hY, v19]
  rw [ofBits_eighth]
  rfl

theorem v118 (i : Fin 1) (t : Fin 2048) (h : Fin 8) (j : Fin 1) : val_main_v118 (F := Ideal) X G H Y (ix4 i t h j)
    = through ((64 : ℝ) : EReal) eps ((-(1 / 2) : ℝ) : EReal) (fun e => xf X t (qcol h e)) (fun e => dqn (xf X) (gf G) (gf H) (yf Y) h t e * gf G e) := by
  pointwise [val_main_v118, val_main_v117, val_main_v116, val_main_v113, val_main_v112, val_main_v111, val_main_v109, val_main_v108,
    val_main_v17, val_main_v14, val_main_v13, val_main_v12, val_main_v11, val_main_cst_2, val_main_cst_18, val_main_cst_19, v10, v3, v81 hX hG hH hY, through]
  rw [ofBits_64, ofBits_neg_half]
  rfl

/-- The queries' gradient. -/
theorem v125 (i : Fin 1) (t : Fin 2048) (h : Fin 8) (e : Fin 64) : val_main_v125 (F := Ideal) X G H Y (ix4 i t h e) = dqval (xf X) (gf G) (gf H) (yf Y) h t e := by
  obtain ⟨p, hp, he⟩ := eps_pos
  have hb := back_eq (c := 64) (by norm_num) hp (fun e => xf X t (qcol h e)) (fun e => dqn (xf X) (gf G) (gf H) (yf Y) h t e * gf G e) e 0
  rw [← he, zero_add, zero_add] at hb
  refine Eq.trans ?_ hb
  have hr (j : Fin 1) : val_main_v119 (F := Ideal) X G H Y (ix2 t h) = val_main_v118 (F := Ideal) X G H Y (ix4 0 t h 0) := by
    pointwise [val_main_v119, val_main_cst_20]
    exact (row_at _ _ _ t h).trans (zero_add _)
  pointwise [val_main_v125, val_main_v124, val_main_v123, val_main_v122, val_main_v121, val_main_v120, val_main_v115, val_main_v114, val_main_v109, val_main_v108,
    val_main_v17, val_main_v11, v10, v3, v81 hX hG hH hY]
  rw [hr 0, v118 hX hG hH hY]
  rfl

theorem v128 (t : Fin 2048) (c : Fin 512) : val_main_v128 (F := Ideal) X G H Y (ix2 t c) = dqval (xf X) (gf G) (gf H) (yf Y) (hd c) t (ln c) := by
  pointwise [val_main_v128, val_main_v127, val_main_v126, v125 hX hG hH hY]
  rfl

theorem v96 (i : Fin 1) (t : Fin 2048) (h : Fin 8) (j : Fin 1) : val_main_v96 (F := Ideal) X G H Y (ix4 i t h j)
    = through ((64 : ℝ) : EReal) eps ((-(1 / 2) : ℝ) : EReal) (fun e => xf X t (kcol h e)) (fun e => dkn (xf X) (gf G) (gf H) (yf Y) h t e * gf H e) := by
  pointwise [val_main_v96, val_main_v95, val_main_v94, val_main_v91, val_main_v90, val_main_v89, val_main_v87, val_main_v86,
    val_main_v34, val_main_v31, val_main_v30, val_main_v29, val_main_v28, val_main_cst_6, val_main_cst_13, val_main_cst_14, v27, v20, v79 hX hG hH hY, through]
  rw [ofBits_64, ofBits_neg_half]
  rfl

/-- The keys' gradient. -/
theorem v103 (i : Fin 1) (t : Fin 2048) (h : Fin 8) (e : Fin 64) : val_main_v103 (F := Ideal) X G H Y (ix4 i t h e) = dkval (xf X) (gf G) (gf H) (yf Y) h t e := by
  obtain ⟨p, hp, he⟩ := eps_pos
  have hb := back_eq (c := 64) (by norm_num) hp (fun e => xf X t (kcol h e)) (fun e => dkn (xf X) (gf G) (gf H) (yf Y) h t e * gf H e) e 0
  rw [← he, zero_add, zero_add] at hb
  refine Eq.trans ?_ hb
  have hr (j : Fin 1) : val_main_v97 (F := Ideal) X G H Y (ix2 t h) = val_main_v96 (F := Ideal) X G H Y (ix4 0 t h 0) := by
    pointwise [val_main_v97, val_main_cst_15]
    exact (row_at _ _ _ t h).trans (zero_add _)
  pointwise [val_main_v103, val_main_v102, val_main_v101, val_main_v100, val_main_v99, val_main_v98, val_main_v93, val_main_v92, val_main_v87, val_main_v86,
    val_main_v34, val_main_v28, v27, v20, v79 hX hG hH hY]
  rw [hr 0, v96 hX hG hH hY]
  rfl

theorem v130 (t : Fin 2048) (c : Fin 512) : val_main_v130 (F := Ideal) X G H Y (ix2 t c) = dkval (xf X) (gf G) (gf H) (yf Y) (hd c) t (ln c) := by
  pointwise [val_main_v130, val_main_v129, val_main_v104, v103 hX hG hH hY]
  rfl

theorem v106 (e : Fin 64) : val_main_v106 (F := Ideal) X G H Y (ix2 0 e) = dgqval (xf X) (gf G) (gf H) (yf Y) e := by
  pointwise [val_main_v106, val_main_cst_16]
  refine (lanes_at _ _ _ e).trans ((zero_add _).trans ?_)
  unfold dgqval
  refine Finset.sum_congr rfl fun t _ => Finset.sum_congr rfl fun h _ => ?_
  pointwise [val_main_v105, val_main_v16, val_main_v15, val_main_v11, v10, v3, v81 hX hG hH hY]
  rfl

theorem v84 (e : Fin 64) : val_main_v84 (F := Ideal) X G H Y (ix2 0 e) = dgkval (xf X) (gf G) (gf H) (yf Y) e := by
  pointwise [val_main_v84, val_main_cst_11]
  refine (lanes_at _ _ _ e).trans ((zero_add _).trans ?_)
  unfold dgkval
  refine Finset.sum_congr rfl fun t _ => Finset.sum_congr rfl fun h _ => ?_
  pointwise [val_main_v83, val_main_v33, val_main_v32, val_main_v28, v27, v20, v79 hX hG hH hY]
  rfl

theorem v110 (e : Fin 64) : val_main_v110 (F := Ideal) X G H Y (ix1 e) = dgqval (xf X) (gf G) (gf H) (yf Y) e := by
  pointwise [val_main_v110, val_main_cst_17]
  refine (lane_at _ _ _ e).trans ((zero_add _).trans ?_)
  pointwise [val_main_v107, v106 hX hG hH hY]

theorem v88 (e : Fin 64) : val_main_v88 (F := Ideal) X G H Y (ix1 e) = dgkval (xf X) (gf G) (gf H) (yf Y) e := by
  pointwise [val_main_v88, val_main_cst_12]
  refine (lane_at _ _ _ e).trans ((zero_add _).trans ?_)
  pointwise [val_main_v85, v84 hX hG hH hY]

/-- The gradients of the norms' weights, over the lanes of two heads. -/
theorem v136 (i : Fin 1) (l : Fin 128) : val_main_v136 (F := Ideal) X G H Y (ix2 i l) = dgqval (xf X) (gf G) (gf H) (yf Y) ⟨l.val % 64, by omega⟩ := by
  pointwise [val_main_v136, val_main_v135, val_main_v134, val_main_v133, v110 hX hG hH hY]

theorem v140 (i : Fin 1) (l : Fin 128) : val_main_v140 (F := Ideal) X G H Y (ix2 i l) = dgkval (xf X) (gf G) (gf H) (yf Y) ⟨l.val % 64, by omega⟩ := by
  pointwise [val_main_v140, val_main_v139, val_main_v138, val_main_v137, v88 hX hG hH hY]

end Cert.AttnRefIdeal.Rows

end
-- ==== Proof.AttnGrid.lean ====
/- The attention's gradient over the whole grid: what each point's blocks hold, and the queries', the keys' and the values' gradient. -/
module

public import proofs.«01_k».proof.Proof.AttnPointSlope
public import proofs.«01_k».proof.Proof.AttnHost
public import proofs.«01_k».proof.Proof.AttnFrame
public import proofs.«01_k».proof.Proof.AttnRefSlope
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.AttnIdeal.Value

open Cert.AttnIdeal Cert.AttnIdeal.Gen Cert.AttnIdeal.Hand Cert.AttnIdeal.Row Cert.AttnIdeal.Host Cert.Real Cert.Attn

variable (m : (ℓ : Loc nD τ sig) → Buf (Elt Ideal) ℓ) (c : Dev nD) (t : Fin cfg0.N)

/-- The windows' blocks: a point's head pair and block of queries. -/
theorem idx : ∀ t : Fin cfg0.N, win0_0.index t = ![t.val % 8, 6 + t.val / 8] ∧ win0_1.index t = ![0, 10 + t.val / 8]
    ∧ win0_3.index t = ![t.val % 8, t.val / 8] ∧ win0_4.index t = ![t.val % 8, 2 + t.val / 8]
    ∧ win0_5.index t = ![0, 0] ∧ win0_6.index t = ![0, 0] ∧ win0_9.index t = ![0, t.val / 8]
    ∧ win0_2.index t = ![0, 14 + t.val / 8] ∧ win0_7.index t = ![t.val % 8, t.val / 8] ∧ win0_8.index t = ![0, t.val / 8] :=
  (by decide +kernel : ∀ t : Fin grid0.N, _)

theorem block : ∀ t : Fin cfg0.N, (grid0.coords t 1).val = t.val % 8 :=
  (by decide +kernel : ∀ t : Fin grid0.N, (grid0.coords t 1).val = t.val % 8)

theorem pair_lt (t : Fin cfg0.N) : t.val / 8 < 4 := by
  have : t.val < 32 := t.isLt
  omega

theorem blk_q (a : Fin 256) (l : Fin 128) : iblk m c 0 t (ix2 a l)
    = xf m c ⟨256 * (t.val % 8) + a.val, by omega⟩ ⟨768 + (128 * (t.val / 8) + l.val), by have := pair_lt t; omega⟩ := by
  rw [← v61]
  blk_point [iblk, idx t]

theorem blk_k (s : Fin 2048) (l : Fin 128) : iblk m c 1 t (ix2 s l)
    = xf m c s ⟨1280 + (128 * (t.val / 8) + l.val), by have := pair_lt t; omega⟩ := by
  rw [← v61]
  blk_point [iblk, idx t]

theorem blk_v (s : Fin 2048) (l : Fin 128) : (blocks m c t).v (ix2 s l)
    = xf m c s (vlane (pair_lt t) l) := by
  dsimp only [blocks]
  rw [← v61]
  blk_point [iblk, idx t]
  show (14 + t.val / 8) * 128 + l.val = 1792 + (128 * (t.val / 8) + l.val)
  omega

theorem blk_dy (a : Fin 256) (l : Fin 128) : iblk m c 4 t (ix2 a l)
    = yf m c ⟨256 * (t.val % 8) + a.val, by omega⟩ ⟨256 + (128 * (t.val / 8) + l.val), by have := pair_lt t; omega⟩ := by
  rw [← v59]
  blk_point [iblk, idx t]

theorem blk_gq (l : Fin 128) : iblk m c 5 t (ix2 0 l) = gf m c ⟨l.val % 64, by omega⟩ * ((1 / 8 : ℝ) : EReal) := by
  rw [← v53 m c 0 l]
  blk_point [iblk, idx t]

theorem blk_gk (l : Fin 128) : iblk m c 6 t (ix2 0 l) = hf m c ⟨l.val % 64, by omega⟩ := by
  rw [← v57 m c 0 l]
  blk_point [iblk, idx t]

variable {m c}
variable (hX : ∀ t k, IsReal (xf m c t k)) (hG : ∀ e, IsReal (gf m c e)) (hH : ∀ e, IsReal (hf m c e))

include hX hG hH

theorem blk_total (a : Fin 256) (l : Fin 128) : iblk m c 3 t (ix2 a l)
    = tot (xf m c) (gf m c) (hf m c) ⟨2 * (t.val / 8) + l.val / 64, by have := pair_lt t; omega⟩ ⟨256 * (t.val % 8) + a.val, by omega⟩ := by
  have hp := pair_lt t
  have e := v47 hX hG hH ⟨256 * (t.val % 8) + a.val, by omega⟩ ⟨128 * (t.val / 8) + l.val, by omega⟩
  have h : (⟨(128 * (t.val / 8) + l.val) / 64, by omega⟩ : Fin 8) = ⟨2 * (t.val / 8) + l.val / 64, by omega⟩ :=
    Fin.ext (by show (128 * (t.val / 8) + l.val) / 64 = 2 * (t.val / 8) + l.val / 64; omega)
  rw [← h]
  refine Eq.trans ?_ e
  blk_point [iblk, idx t]

theorem reads : Reads (xf m c) (gf m c) (hf m c) (yf m c) (t.val / 8) (t.val % 8) (blocks m c t) := by
  refine ⟨pair_lt t, Nat.mod_lt _ (by decide), ?_, ?_, ?_, ?_, ?_, ?_⟩ <;> dsimp only [blocks]
  · exact blk_q m c t
  · exact blk_k m c t
  · exact blk_total t hX hG hH
  · exact blk_dy m c t
  · exact blk_gq m c t
  · exact blk_gk m c t

/-- The normed keys a point works with: those of its head pair, computed by the pair's first block of queries. -/
theorem keys (n : ℕ) : ∀ (hn : n < cfg0.N) (s : Fin 2048) (l : Fin 128),
    (ctx (grid0.coords ⟨n, hn⟩) (blocks m c ⟨n, hn⟩) (upTo m c n)).kn (ix2 s l)
      = kn (xf m c) (hf m c) s (lhead (pair_lt ⟨n, hn⟩) l) (place l) := by
  induction n with
  | zero =>
      intro hn s l
      show (kept (qiOf (grid0.coords ⟨0, hn⟩)) _ _ : FVec Ideal S2048x128 .bf16) (ix2 s l) = _
      rw [kept, if_pos ((first_iff ⟨0, hn⟩).2 rfl)]
      exact new_kn (reads ⟨0, hn⟩ hX hG hH) hX s l
  | succ n ih =>
      intro hn s l
      show (kept (qiOf (grid0.coords ⟨n + 1, hn⟩)) _ _ : FVec Ideal S2048x128 .bf16) (ix2 s l) = _
      by_cases h : (n + 1) % 8 = 0
      · rw [kept, if_pos ((first_iff ⟨n + 1, hn⟩).2 h)]
        exact new_kn (reads ⟨n + 1, hn⟩ hX hG hH) hX s l
      · have hn' : n < cfg0.N := Nat.lt_of_succ_lt hn
        rw [kept, if_neg (fun e => h ((first_iff ⟨n + 1, hn⟩).1 e)), upTo_succ m c ⟨n, hn'⟩]
        refine (ih hn' s l).trans ?_
        congr 1
        exact Fin.ext (by show 2 * (n / 8) + l.val / 64 = 2 * ((n + 1) / 8) + l.val / 64; omega)

/-- The values' gradient after a point: what the blocks of queries of its head pair so far add. -/
theorem values (n : ℕ) : ∀ (hn : n < cfg0.N) (s : Fin 2048) (l : Fin 128), (upTo m c (n + 1)).dv (ix2 s l)
    = ∑ x ∈ Finset.range (256 * (n % 8 + 1)), part (xf m c) (gf m c) (hf m c) (yf m c) (pair_lt ⟨n, hn⟩) s l x := by
  have one (n : ℕ) (hn : n < cfg0.N) (s : Fin 2048) (l : Fin 128) : (upTo m c (n + 1)).dv (ix2 s l)
      = kept (qiOf (grid0.coords ⟨n, hn⟩)) (k0_pay62 (F := Ideal)) (upTo m c n).dv (ix2 s l)
        + ∑ a ∈ Finset.range 256, part (xf m c) (gf m c) (hf m c) (yf m c) (pair_lt ⟨n, hn⟩) s l (256 * (n % 8) + a) := by
    rw [upTo_succ m c ⟨n, hn⟩]
    exact dv_of (reads ⟨n, hn⟩ hX hG hH) hX hG hH (grid0.coords ⟨n, hn⟩) (block ⟨n, hn⟩) (upTo m c n) (keys hX hG hH n hn) s l
  have start (n : ℕ) (hn : n < cfg0.N) (h : n % 8 = 0) (s : Fin 2048) (l : Fin 128) : (upTo m c (n + 1)).dv (ix2 s l)
      = ∑ x ∈ Finset.range (256 * (n % 8 + 1)), part (xf m c) (gf m c) (hf m c) (yf m c) (pair_lt ⟨n, hn⟩) s l x := by
    rw [one n hn, kept, if_pos ((first_iff ⟨n, hn⟩).2 h), (zero_at 0 0 0 s l).2.2, zero_add, h]
    exact Finset.sum_congr rfl fun a _ => by rw [Nat.mul_zero, Nat.zero_add]
  induction n with
  | zero => exact fun hn s l => start 0 hn rfl s l
  | succ n ih =>
      intro hn s l
      by_cases h : (n + 1) % 8 = 0
      · exact start (n + 1) hn h s l
      · have hn' : n < cfg0.N := Nat.lt_of_succ_lt hn
        rw [one (n + 1) hn, kept, if_neg (fun e => h ((first_iff ⟨n + 1, hn⟩).1 e)), ih hn' s l]
        have e : 256 * ((n + 1) % 8 + 1) = 256 * (n % 8 + 1) + 256 := by omega
        have e' : 256 * ((n + 1) % 8) = 256 * (n % 8 + 1) := by omega
        rw [e, e', Finset.sum_range_add]
        refine congrArg (· + _) (Finset.sum_congr rfl fun x _ => ?_)
        have hp : lhead (pair_lt ⟨n, hn'⟩) l = lhead (pair_lt ⟨n + 1, hn⟩) l :=
          Fin.ext (by show 2 * (n / 8) + l.val / 64 = 2 * ((n + 1) / 8) + l.val / 64; omega)
        unfold part
        rw [hp]
        refine dite_congr rfl (fun _ => ?_) fun _ => rfl
        congr 2
        exact Fin.ext (by show 256 + (128 * (n / 8) + l.val) = 256 + (128 * ((n + 1) / 8) + l.val); omega)

/-- The whole of them at a key and a lane is the reference's. -/
theorem whole {p : ℕ} (hp : p < 4) (s : Fin 2048) (l : Fin 128) (col : Fin 512) (hc : col.val = 128 * p + l.val) :
    ∑ x ∈ Finset.range 2048, part (xf m c) (gf m c) (hf m c) (yf m c) hp s l x
      = dval (xf m c) (gf m c) (hf m c) (yf m c) (Cert.AttnRefIdeal.Rows.hd col) s (Cert.AttnRefIdeal.Rows.ln col) := by
  rw [← Fin.sum_univ_eq_sum_range (fun x => part (xf m c) (gf m c) (hf m c) (yf m c) hp s l x) 2048, dval]
  refine Finset.sum_congr rfl fun x _ => ?_
  rw [part, dif_pos x.isLt]
  have h1 : lhead hp l = Cert.AttnRefIdeal.Rows.hd col := Fin.ext (by show 2 * p + l.val / 64 = col.val / 64; omega)
  have h2 : (⟨256 + (128 * p + l.val), by omega⟩ : Fin 1024) = ycol (Cert.AttnRefIdeal.Rows.hd col) (Cert.AttnRefIdeal.Rows.ln col) :=
    Fin.ext (by show 256 + (128 * p + l.val) = 256 + (col.val / 64 * 64 + col.val % 64); omega)
  rw [h1, h2]

omit hX hG hH in
theorem out_at (v : FVec Ideal S2048x128 .f32) (s : Fin 2048) (l : Fin 128) : k0_pay5 (F := Ideal) v (ix2 s l) = v (ix2 s l) := by
  pointwise [k0_pay5]

theorem final_dv : (dats m 0 c).arrAt 9 cfg0.N = Cert.AttnRefIdeal.Read.val_main_v132 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after9]
  idx_vars y
  have h7 := (by decide +kernel : ∀ t : Fin grid0.N, win0_9.flush t = true → t.val % 8 = 7) t hf
  have hp := pair_lt t
  rw [show ((View.whole main_v62_2).slice (win0_9.rect t)).emb (ix2 y0 y1) = ix2 y0 ⟨128 * (t.val / 8) + y1.val, by omega⟩ by blk_ext [idx t],
    Cert.AttnRefIdeal.Rows.v132 _ hX hG hH, upTo_succ m c t]
  show (if k0_cond4 (grid0.coords t) = 1#1 then k0_pay5 (step (grid0.coords t) (blocks m c t) (upTo m c t.val)).dv else _) (ix2 y0 y1) = _
  rw [if_pos ((cond4_iff t).2 h7), out_at, ← upTo_succ m c t, values hX hG hH t.val t.isLt, h7]
  exact whole hX hG hH _ y0 y1 ⟨128 * (t.val / 8) + y1.val, by omega⟩ rfl

variable (hY : ∀ t k, IsReal (yf m c t k))
include hY

/-- The normed keys' gradient after a point: what the blocks of queries of its head pair so far add. -/
theorem slopes (n : ℕ) : ∀ (hn : n < cfg0.N) (s : Fin 2048) (l : Fin 128), (upTo m c (n + 1)).dkn (ix2 s l)
    = ∑ x ∈ Finset.range (256 * (n % 8 + 1)), kpart (xf m c) (gf m c) (hf m c) (yf m c) (pair_lt ⟨n, hn⟩) s l x := by
  have one (n : ℕ) (hn : n < cfg0.N) (s : Fin 2048) (l : Fin 128) : (upTo m c (n + 1)).dkn (ix2 s l)
      = kept (qiOf (grid0.coords ⟨n, hn⟩)) (k0_pay61 (F := Ideal)) (upTo m c n).dkn (ix2 s l)
        + ∑ a ∈ Finset.range 256, kpart (xf m c) (gf m c) (hf m c) (yf m c) (pair_lt ⟨n, hn⟩) s l (256 * (n % 8) + a) := by
    rw [upTo_succ m c ⟨n, hn⟩]
    exact dkn_of (reads ⟨n, hn⟩ hX hG hH) (blk_v m c ⟨n, hn⟩) hX hG hH hY (grid0.coords ⟨n, hn⟩) (block ⟨n, hn⟩) (upTo m c n) (keys hX hG hH n hn) s l
  have start (n : ℕ) (hn : n < cfg0.N) (h : n % 8 = 0) (s : Fin 2048) (l : Fin 128) : (upTo m c (n + 1)).dkn (ix2 s l)
      = ∑ x ∈ Finset.range (256 * (n % 8 + 1)), kpart (xf m c) (gf m c) (hf m c) (yf m c) (pair_lt ⟨n, hn⟩) s l x := by
    rw [one n hn, kept, if_pos ((first_iff ⟨n, hn⟩).2 h), (none_at 0 0 0 s l).2.2.2.2.2, zero_add, h]
    exact Finset.sum_congr rfl fun a _ => by rw [Nat.mul_zero, Nat.zero_add]
  induction n with
  | zero => exact fun hn s l => start 0 hn rfl s l
  | succ n ih =>
      intro hn s l
      by_cases h : (n + 1) % 8 = 0
      · exact start (n + 1) hn h s l
      · have hn' : n < cfg0.N := Nat.lt_of_succ_lt hn
        rw [one (n + 1) hn, kept, if_neg (fun e => h ((first_iff ⟨n + 1, hn⟩).1 e)), ih hn' s l,
          show 256 * ((n + 1) % 8 + 1) = 256 * (n % 8 + 1) + 256 by omega, show 256 * ((n + 1) % 8) = 256 * (n % 8 + 1) by omega, Finset.sum_range_add]
        have hp : lhead (pair_lt ⟨n, hn'⟩) l = lhead (pair_lt ⟨n + 1, hn⟩) l :=
          Fin.ext (by show 2 * (n / 8) + l.val / 64 = 2 * ((n + 1) / 8) + l.val / 64; omega)
        unfold kpart
        rw [hp]

/-- The whole of it at a key and a lane. -/
theorem whole_slope (h7 : t.val % 8 = 7) (s : Fin 2048) (l : Fin 128) : (upTo m c (t.val + 1)).dkn (ix2 s l)
    = Attn.dkn (xf m c) (gf m c) (hf m c) (yf m c) (lhead (pair_lt t) l) s (place l) := by
  rw [slopes hX hG hH hY t.val t.isLt, h7, Attn.dkn, show 256 * (7 + 1) = 2048 from rfl,
    ← Fin.sum_univ_eq_sum_range (fun x => kpart (xf m c) (gf m c) (hf m c) (yf m c) (pair_lt t) s l x) 2048]
  exact Finset.sum_congr rfl fun x _ => by rw [kpart, dif_pos x.isLt]

omit hX hG hH hY in
/-- A head pair's lane is a column of the eight heads. -/
theorem col_at (l : Fin 128) (col : Fin 512) (hc : col.val = 128 * (t.val / 8) + l.val) :
    Cert.AttnRefIdeal.Rows.hd col = lhead (pair_lt t) l ∧ Cert.AttnRefIdeal.Rows.ln col = place l :=
  ⟨Fin.ext (by show col.val / 64 = 2 * (t.val / 8) + l.val / 64; omega), Fin.ext (by show col.val % 64 = l.val % 64; omega)⟩

theorem final_dq : (dats m 0 c).arrAt 7 cfg0.N = Cert.AttnRefIdeal.Read.val_main_v128 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after7]
  idx_vars y
  have hp := pair_lt t
  rw [show ((View.whole main_v62_0).slice (win0_7.rect t)).emb (ix2 y0 y1) = ix2 ⟨256 * (t.val % 8) + y0.val, by omega⟩ ⟨128 * (t.val / 8) + y1.val, by omega⟩ by blk_ext [idx t],
    Cert.AttnRefIdeal.Rows.v128 hX hG hH hY, upTo_succ m c t, (col_at t y1 _ rfl).1, (col_at t y1 _ rfl).2]
  exact dq_of (reads t hX hG hH) (blk_v m c t) hX hG hH hY (grid0.coords t) (block t) (upTo m c t.val) (keys hX hG hH t.val t.isLt) y0 y1

theorem final_dk : (dats m 0 c).arrAt 8 cfg0.N = Cert.AttnRefIdeal.Read.val_main_v130 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  blk_simp
  rw [after8]
  idx_vars y
  have h7 := (by decide +kernel : ∀ t : Fin grid0.N, win0_8.flush t = true → t.val % 8 = 7) t hf
  have hp := pair_lt t
  have hD := fun l => whole_slope t hX hG hH hY h7 y0 l
  rw [show ((View.whole main_v62_1).slice (win0_8.rect t)).emb (ix2 y0 y1) = ix2 y0 ⟨128 * (t.val / 8) + y1.val, by omega⟩ by blk_ext [idx t],
    Cert.AttnRefIdeal.Rows.v130 hX hG hH hY, upTo_succ m c t, (col_at t y1 _ rfl).1, (col_at t y1 _ rfl).2]
  rw [upTo_succ m c t] at hD
  show (if k0_cond4 (grid0.coords t) = 1#1 then k0_pay52 hm (blocks m c t).k (step (grid0.coords t) (blocks m c t) (upTo m c t.val)).dkn (blocks m c t).gk else _) (ix2 y0 y1) = _
  rw [if_pos ((cond4_iff t).2 h7)]
  exact dk_of (reads t hX hG hH) hX hG hH hY _ y0 hD y1

end Cert.AttnIdeal.Value

end
-- ==== Proof.AttnTotal.lean ====
/- The attention's gradient over the whole grid: the gradients of the two norms' weights. -/
module

public import proofs.«01_k».proof.Proof.AttnGains
public import proofs.«01_k».proof.Proof.AttnGrid

@[expose] public section

set_option maxRecDepth 16384

noncomputable section

open Idealize.ShloMosaic Idealize.ShloMosaic.TcCoe Idealize.ShloMosaic.Tactic Idealize.SL.Sem
open Idealize.ShloMosaic.Pipeline (Dat)

namespace Cert.AttnIdeal.Value

open Cert.AttnIdeal Cert.AttnIdeal.Gen Cert.AttnIdeal.Hand Cert.AttnIdeal.Row Cert.AttnIdeal.Host Cert.Real Cert.Attn

/-- Both gradients have one block. -/
theorem idx_gain : ∀ t : Fin cfg0.N, win0_10.index t = ![0, 0] ∧ win0_11.index t = ![0, 0] :=
  (by decide +kernel : ∀ t : Fin grid0.N, _)

theorem cond3_iff : ∀ t : Fin cfg0.N, k0_cond3 (grid0.coords t) = 1#1 ↔ t.val ≠ 0 :=
  (by decide +kernel : ∀ t : Fin grid0.N, k0_cond3 (grid0.coords t) = 1#1 ↔ t.val ≠ 0)

theorem cond6_iff : ∀ t : Fin cfg0.N, k0_cond6 (grid0.coords t) = 1#1 ↔ ¬t.val < 8 :=
  (by decide +kernel : ∀ t : Fin grid0.N, k0_cond6 (grid0.coords t) = 1#1 ↔ ¬t.val < 8)

theorem cond7_iff : ∀ t : Fin cfg0.N, t.val % 8 = 7 → (k0_cond7 (grid0.coords t) = 1#1 ↔ t.val = 31) :=
  (by decide +kernel : ∀ t : Fin grid0.N, t.val % 8 = 7 → (k0_cond7 (grid0.coords t) = 1#1 ↔ t.val = 31))

variable {m : (ℓ : Loc nD τ sig) → Buf (Elt Ideal) ℓ} {c : Dev nD}
  (hX : ∀ t k, IsReal (xf m c t k)) (hG : ∀ e, IsReal (gf m c e)) (hH : ∀ e, IsReal (hf m c e)) (hY : ∀ t k, IsReal (yf m c t k))

include hX hG hH hY

/-! ## The queries' norm -/

theorem qsum_at (t : Fin cfg0.N) (l : Fin 128) : qsum (grid0.coords t) (blocks m c t) (upTo m c t.val) (ix2 0 l)
    = (if t.val = 0 then 0 else (upTo m c t.val).dgq (ix2 0 l))
      + ∑ a ∈ Finset.range 256, atn (dgqt (xf m c) (gf m c) (hf m c) (yf m c) (place l)) (2 * (t.val / 8) + l.val / 64) (256 * (t.val % 8) + a) := by
  have e := qgain_of (reads t hX hG hH) (blk_v m c t) hX hG hH hY (grid0.coords t) (block t) (upTo m c t.val) (keys hX hG hH t.val t.isLt) l
  by_cases h : t.val = 0
  · rw [qsum, if_neg (fun e => (cond3_iff t).1 e h), if_pos ((cond2_iff t).2 h), if_pos h, zero_add]
    exact e
  · rw [qsum, if_pos ((cond3_iff t).2 h), if_neg (fun e => h ((cond2_iff t).1 e)), if_neg h, qmore_at]
    exact congrArg (_ + ·) e

/-- The points up to one have added what they hold. -/
theorem qsum_all (n : ℕ) : ∀ (hn : n < cfg0.N) (l : Fin 128), qsum (grid0.coords ⟨n, hn⟩) (blocks m c ⟨n, hn⟩) (upTo m c n) (ix2 0 l)
    = ∑ k ∈ Finset.range (n + 1), ∑ a ∈ Finset.range 256,
        atn (dgqt (xf m c) (gf m c) (hf m c) (yf m c) (place l)) (2 * (k / 8) + l.val / 64) (256 * (k % 8) + a) := by
  induction n with
  | zero =>
      intro hn l
      rw [qsum_at hX hG hH hY ⟨0, hn⟩ l, if_pos rfl, zero_add, Finset.sum_range_one]
  | succ n ih =>
      intro hn l
      have hn' : n < cfg0.N := Nat.lt_of_succ_lt hn
      have h31 : ¬n = 31 := by
        have : n + 1 < 32 := hn
        omega
      have e : (upTo m c (n + 1)).dgq = qsum (grid0.coords ⟨n, hn'⟩) (blocks m c ⟨n, hn'⟩) (upTo m c n) := by
        rw [upTo_succ m c ⟨n, hn'⟩, step_dgq]
        by_cases h4 : k0_cond4 (grid0.coords ⟨n, hn'⟩) = 1#1
        · rw [if_pos h4, if_neg (fun h => h31 ((cond7_iff ⟨n, hn'⟩ ((cond4_iff ⟨n, hn'⟩).1 h4)).1 h))]
        · rw [if_neg h4]
      rw [qsum_at hX hG hH hY ⟨n + 1, hn⟩ l, if_neg (Nat.succ_ne_zero n), e, ih hn' l, Finset.sum_range_succ _ (n + 1)]

omit hX hG hH hY in
theorem place_lt (x : Fin 128) (h : x.val % 64 % 64 < 64) : (⟨x.val % 64 % 64, h⟩ : Fin 64) = place x :=
  Fin.ext (Nat.mod_mod _ _)

theorem final_dgq : (dats m 0 c).arrAt 10 cfg0.N = Cert.AttnRefIdeal.Read.val_main_v136 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 10 _ (by decide +kernel) fun t hl y => ?_
  blk_simp
  rw [after10]
  idx_vars y
  have h31 := (by decide +kernel : ∀ t : Fin grid0.N, win0_10.flush t = true → t.val = 31) t hl
  rw [show ((View.whole main_v62_3).slice (win0_10.rect t)).emb (ix2 y0 y1) = ix2 y0 y1 by blk_ext [idx_gain t], Cert.AttnRefIdeal.Rows.v136 hX hG hH hY]
  obtain rfl : t = ⟨31, by decide⟩ := Fin.ext h31
  obtain rfl : y0 = 0 := Subsingleton.elim _ _
  have h7 : (⟨31, by decide⟩ : Fin cfg0.N).val % 8 = 7 := rfl
  rw [upTo_succ m c ⟨31, by decide⟩, step_dgq, if_pos ((cond4_iff _).2 h7), if_pos ((cond7_iff _ h7).2 rfl), qtwice_at]
  refine (sum_twin _ (fun k q => ∑ n ∈ Finset.range 32, ∑ a ∈ Finset.range 256,
    atn (dgqt (xf m c) (gf m c) (hf m c) (yf m c) ⟨q % 64, Nat.mod_lt _ (by decide)⟩) (2 * (n / 8) + k) (256 * (n % 8) + a))
    (fun x => ?_) y1).trans ?_
  · rw [place_lt]
    exact qsum_all hX hG hH hY 31 (by decide) x
  · rw [place_lt, dgqval, ← sum_heads]
    exact Finset.sum_congr rfl fun k _ => sum_points _ k

/-! ## The keys' norm -/

theorem ksum_at (t : Fin cfg0.N) (h7 : t.val % 8 = 7) (l : Fin 128) : ksum (grid0.coords t) (blocks m c t) (upTo m c t.val) (ix2 0 l)
    = (if t.val < 8 then 0 else (upTo m c t.val).dgk (ix2 0 l))
      + ∑ s ∈ Finset.range 2048, atn (dgkt (xf m c) (gf m c) (hf m c) (yf m c) (place l)) (2 * (t.val / 8) + l.val / 64) s := by
  have hD := whole_slope t hX hG hH hY h7
  rw [upTo_succ m c t] at hD
  have e := kgain_of (reads t hX hG hH) hX hG hH hY (step (grid0.coords t) (blocks m c t) (upTo m c t.val)).dkn hD l
  by_cases h : t.val < 8
  · rw [ksum, if_neg (fun e => (cond6_iff t).1 e h), if_pos ((cond5_iff t).2 h), if_pos h, zero_add]
    exact e
  · rw [ksum, if_pos ((cond6_iff t).2 h), if_neg (fun e => h ((cond5_iff t).1 e)), if_neg h, kmore_at]
    exact congrArg (_ + ·) e

omit hX hG hH hY in
/-- Only the last block of queries of a head pair adds. -/
theorem ksum_carry {p : ℕ} (hp : p < 4) (j : ℕ) : j ≤ 7 → (upTo m c (8 * p + j)).dgk = (upTo m c (8 * p)).dgk := by
  induction j with
  | zero => exact fun _ => rfl
  | succ j ih =>
      intro hj
      have hn : 8 * p + j < cfg0.N := by
        show 8 * p + j < 32
        omega
      show (upTo m c (8 * p + j + 1)).dgk = _
      rw [upTo_succ m c ⟨8 * p + j, hn⟩, step_dgk, if_neg (fun h => by
        have := (cond4_iff ⟨8 * p + j, hn⟩).1 h
        dsimp only at this
        omega)]
      exact ih (by omega)

theorem ksum_all (p : ℕ) : ∀ (hn : 8 * p + 7 < cfg0.N) (l : Fin 128), ksum (grid0.coords ⟨8 * p + 7, hn⟩) (blocks m c ⟨8 * p + 7, hn⟩) (upTo m c (8 * p + 7)) (ix2 0 l)
    = ∑ q ∈ Finset.range (p + 1), ∑ s ∈ Finset.range 2048, atn (dgkt (xf m c) (gf m c) (hf m c) (yf m c) (place l)) (2 * q + l.val / 64) s := by
  induction p with
  | zero =>
      intro hn l
      rw [ksum_at hX hG hH hY ⟨8 * 0 + 7, hn⟩ rfl l, if_pos (by show 7 < 8; omega), zero_add, Finset.sum_range_one]
      dsimp only
  | succ p ih =>
      intro hn l
      have h32 : 8 * (p + 1) + 7 < 32 := hn
      have hn' : 8 * p + 7 < cfg0.N := by
        show 8 * p + 7 < 32
        omega
      have h7 : 8 * p + 7 < 32 ∧ (8 * p + 7) % 8 = 7 := by omega
      have e : (upTo m c (8 * (p + 1))).dgk = ksum (grid0.coords ⟨8 * p + 7, hn'⟩) (blocks m c ⟨8 * p + 7, hn'⟩) (upTo m c (8 * p + 7)) := by
        show (upTo m c (8 * p + 7 + 1)).dgk = _
        rw [upTo_succ m c ⟨8 * p + 7, hn'⟩, step_dgk, if_pos ((cond4_iff ⟨8 * p + 7, hn'⟩).2 h7.2),
          if_neg (fun h => by
            have := (cond7_iff ⟨8 * p + 7, hn'⟩ h7.2).1 h
            dsimp only at this
            omega)]
      rw [ksum_at hX hG hH hY ⟨8 * (p + 1) + 7, hn⟩ (by show (8 * (p + 1) + 7) % 8 = 7; omega) l, if_neg (by show ¬8 * (p + 1) + 7 < 8; omega)]
      dsimp only
      rw [ksum_carry (by omega) 7 (le_refl 7), e, ih hn' l, Finset.sum_range_succ _ (p + 1), show (8 * (p + 1) + 7) / 8 = p + 1 by omega]

theorem final_dgk : (dats m 0 c).arrAt 11 cfg0.N = Cert.AttnRefIdeal.Read.val_main_v140 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 11 _ (by decide +kernel) fun t hl y => ?_
  blk_simp
  rw [after11]
  idx_vars y
  have h31 := (by decide +kernel : ∀ t : Fin grid0.N, win0_11.flush t = true → t.val = 31) t hl
  rw [show ((View.whole main_v62_4).slice (win0_11.rect t)).emb (ix2 y0 y1) = ix2 y0 y1 by blk_ext [idx_gain t], Cert.AttnRefIdeal.Rows.v140 hX hG hH hY]
  obtain rfl : t = ⟨31, by decide⟩ := Fin.ext h31
  obtain rfl : y0 = 0 := Subsingleton.elim _ _
  have h7 : (⟨31, by decide⟩ : Fin cfg0.N).val % 8 = 7 := rfl
  rw [upTo_succ m c ⟨31, by decide⟩, step_dgk, if_pos ((cond4_iff _).2 h7), if_pos ((cond7_iff _ h7).2 rfl), ktwice_at]
  refine (sum_twin _ (fun k q => ∑ p ∈ Finset.range 4, ∑ s ∈ Finset.range 2048,
    atn (dgkt (xf m c) (gf m c) (hf m c) (yf m c) ⟨q % 64, Nat.mod_lt _ (by decide)⟩) (2 * p + k) s)
    (fun x => ?_) y1).trans ?_
  · rw [place_lt]
    exact ksum_all hX hG hH hY 3 (by decide) x
  · rw [place_lt, dgkval, ← sum_heads]
    rfl

end Cert.AttnIdeal.Value

end
-- ==== Proof.Attn.lean ====
/- The attention's gradient: the reference's run, the kernel's named constant, and the equality of the five gradients. -/
module

public import proofs.«01_k».proof.Defs
public import proofs.«01_k».proof.Proof.AttnFrame
public import proofs.«01_k».proof.Proof.AttnTotal
public import proofs.«01_k».proof.Proof.Gen.Pre_finite_attn
public import proofs.«01_k».proof.Proof.Finite
public import Idealize.ShloMosaic.Lib.Pipeline.ValueKit
public import proofs.«01_k».proof.Proof.Gen.AttnRefIdeal.Run
public import proofs.«01_k».proof.Proof.Gen.AttnRefIdeal.Read
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Real

namespace Cert.Proof

theorem quiescent_AttnRefIdeal : quiescent_AttnRefIdeal := fun m ρ _ =>
  (θ_run Cert.AttnRefIdeal.defs _ _).mono (fun r h => ⟨fun c => (h c).2.2.2.2.2, sem_eq_zero_of_no_sems (by decide) r.2⟩)
    (Cert.AttnRefIdeal.Value.run (F := Ideal) m ρ)

/-- The name of the kernel's constant: what masks a score. -/
theorem preserves_Attn_AttnIdeal : preserves_Attn_AttnIdeal :=
  IdealRules.named_const.statement Cert.AttnIdeal.κ _ _ _ _ rfl

/-- A result of the reference at equal arguments. -/
theorem same {A B C D : Type} (f : A → B → B → C → D) {x x' : A} {g g' h h' : B} {y y' : C} (h0 : x' = x) (h1 : g' = g) (h2 : h' = h) (h3 : y' = y) :
    f x' g' h' y' = f x g h y := by
  rw [h0, h1, h2, h3]

set_option maxHeartbeats 2000000 in
/-- The attention: on finite arguments the gradients of the queries, the keys, the values and the two norms' weights of the kernel are the reference's over the reals. -/
theorem algebraic_AttnIdeal_AttnRefIdeal : algebraic_AttnIdeal_AttnRefIdeal_pre_finite_attn := by
  pair_intro
  · run_from Cert.AttnIdeal.Hand.run_main m g
    · exact Cert.AttnIdeal.Gen.V_main_arg0 m c
    · exact Cert.AttnIdeal.Gen.V_main_arg1 m c
    · exact Cert.AttnIdeal.Gen.V_main_arg2 m c
    · exact Cert.AttnIdeal.Gen.V_main_arg3 m c
  · have hX (c) (t k) : IsReal (Cert.AttnIdeal.Host.xf m c t k) := Finite.isReal_of_ones _ _ _ (hpre c).1 _
    have hG (c) (e) : IsReal (Cert.AttnIdeal.Host.gf m c e) := Finite.isReal_of_ones _ _ _ (hpre c).2.1 _
    have hH (c) (e) : IsReal (Cert.AttnIdeal.Host.hf m c e) := Finite.isReal_of_ones _ _ _ (hpre c).2.2.1 _
    have hY (c) (t k) : IsReal (Cert.AttnIdeal.Host.yf m c t k) := Finite.isReal_of_ones _ _ _ (hpre c).2.2.2 _
    have dq (c) := Cert.AttnIdeal.Value.final_dq (m := m) (c := c) (hX c) (hG c) (hH c) (hY c)
    have dk (c) := Cert.AttnIdeal.Value.final_dk (m := m) (c := c) (hX c) (hG c) (hH c) (hY c)
    have dv (c) := Cert.AttnIdeal.Value.final_dv (m := m) (c := c) (hX c) (hG c) (hH c)
    have dgq (c) := Cert.AttnIdeal.Value.final_dgq (m := m) (c := c) (hX c) (hG c) (hH c) (hY c)
    have dgk (c) := Cert.AttnIdeal.Value.final_dgk (m := m) (c := c) (hX c) (hG c) (hH c) (hY c)
    run_from Cert.AttnRefIdeal.Value.run m' g'
    · obtain ⟨h0, h1, h2, h3⟩ := hagree c
      rw [Cert.AttnRefIdeal.Read.val_main_v128_eq]
      refine (same (Cert.AttnRefIdeal.Read.val_main_v128 (F := Ideal)) h0 h1 h2 h3).trans ?_
      exact (dq c).symm
    · obtain ⟨h0, h1, h2, h3⟩ := hagree c
      rw [Cert.AttnRefIdeal.Read.val_main_v130_eq]
      refine (same (Cert.AttnRefIdeal.Read.val_main_v130 (F := Ideal)) h0 h1 h2 h3).trans ?_
      exact (dk c).symm
    · obtain ⟨h0, h1, h2, h3⟩ := hagree c
      rw [Cert.AttnRefIdeal.Read.val_main_v132_eq]
      refine (same (Cert.AttnRefIdeal.Read.val_main_v132 (F := Ideal)) h0 h1 h2 h3).trans ?_
      exact (dv c).symm
    · obtain ⟨h0, h1, h2, h3⟩ := hagree c
      rw [Cert.AttnRefIdeal.Read.val_main_v136_eq]
      refine (same (Cert.AttnRefIdeal.Read.val_main_v136 (F := Ideal)) h0 h1 h2 h3).trans ?_
      exact (dgq c).symm
    · obtain ⟨h0, h1, h2, h3⟩ := hagree c
      rw [Cert.AttnRefIdeal.Read.val_main_v140_eq]
      refine (same (Cert.AttnRefIdeal.Read.val_main_v140 (F := Ideal)) h0 h1 h2 h3).trans ?_
      exact (dgk c).symm

end Cert.Proof

end
-- ==== Proof.Ffn.lean ====
/- The second feed-forward product, fused with the squared relu and the residual: a grid point stores a block of rows and columns. -/
module

public import proofs.«01_k».proof.Defs
public import proofs.«01_k».proof.Proof.Gen.FfnIdeal.Frame
public import proofs.«01_k».proof.Proof.Gen.FfnRefIdeal.Run
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen
open Cert.FfnRefIdeal.Read

variable (m : (ℓ : Loc nD τ sig) → Buf (Elt Ideal) ℓ)

/-- The windows' block indices in closed form. -/
theorem idx : ∀ t : Fin cfg0.N, win0_0.index t = ![t.val % 4, 0] ∧ win0_1.index t = ![0, t.val / 4] ∧ win0_2.index t = ![t.val % 4, t.val / 4]
    ∧ win0_3.index t = ![t.val % 4, t.val / 4] :=
  (by decide +kernel : ∀ t : Fin grid0.N, _)

/-- The reference's result, of the kernel's arguments. -/
def out (c : Dev nD) := val_main_v3 (F := Ideal) (m ((c : Thread nD τ).loc main_arg0)) (m ((c : Thread nD τ).loc main_arg1)) (m ((c : Thread nD τ).loc main_arg2))

/-- What a grid point stores is the reference's result on its block. -/
theorem point (c : Dev nD) (t : Fin cfg0.N) (y : S512x512.Idx) :
    k0_pay1 (F := Ideal) (iblk m c 0 t) (iblk m c 1 t) (iblk m c 2 t) y = out m c (((cfg0.win 3).blk t).view.emb y) := by
  pointwise [k0_pay1, out, val_main_v3, val_main_v2, val_main_v1, val_main_v0, val_main_call0_v0, val_main_call0_cst]
  refine congrArg₂ (· + ·) ?_ (Fin.sum_fin_congr fun k => ?_)
  · blk_point [iblk, V, idx t]
  · blk_point [iblk, V, idx t]

/-- The kernel's result is the reference's. -/
theorem final (c : Dev nD) : (dats m 0 c).arrAt 3 cfg0.N = out m c := by
  refine (dats m 0 c).arrAt_eq_of_covers 3 _ (by decide +kernel) fun t hf y => ?_
  blk_simp
  rw [after0_3]
  frame_out
  exact point m c t y

end Cert.FfnIdeal.Value

namespace Cert.Proof

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel and the reference's line agree over the reals. -/
theorem algebraic_FfnIdeal_FfnRefIdeal : algebraic_FfnIdeal_FfnRefIdeal := by
  pair_intro
  · run_from Cert.FfnIdeal.Gen.run_main m g
  · run_from Cert.FfnRefIdeal.Value.run m' g'
    exact (Cert.FfnIdeal.Value.final m c).symm

end Cert.Proof
-- ==== Proof.Embed.lean ====
/- The gated per-layer input embedding: a grid point stores a block of columns of the embedding and of the residual with the gated embedding. -/
module

public import proofs.«01_k».proof.Defs
public import proofs.«01_k».proof.Proof.Gen.EmbedIdeal.Frame
public import proofs.«01_k».proof.Proof.Gen.EmbedRefIdeal.Run
public import proofs.«01_k».proof.Proof.Gen.EmbedRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.EmbedIdeal.Value

open Cert.EmbedIdeal Cert.EmbedIdeal.Gen
open Cert.EmbedRefIdeal.Read

variable (m : (ℓ : Loc nD τ sig) → Buf (Elt Ideal) ℓ)

/-- The windows' block indices in closed form. -/
theorem idx : ∀ t : Fin cfg0.N, win0_0.index t = ![0, 0] ∧ win0_1.index t = ![t.val, 0, 0] ∧ win0_2.index t = ![0, t.val]
    ∧ win0_3.index t = ![0, t.val] ∧ win0_4.index t = ![0, t.val] ∧ win0_5.index t = ![0, t.val] :=
  (by decide +kernel : ∀ t : Fin grid0.N, _)

/-- The reference's results, of the kernel's arguments. -/
def sum (c : Dev nD) := val_main_v8 (F := Ideal) (m ((c : Thread nD τ).loc main_arg0)) (m ((c : Thread nD τ).loc main_arg1))
  (m ((c : Thread nD τ).loc main_arg2)) (m ((c : Thread nD τ).loc main_arg3))
def emb (c : Dev nD) := val_main_v9 (F := Ideal) (m ((c : Thread nD τ).loc main_arg2)) (m ((c : Thread nD τ).loc main_arg3))

/-- A grid point's block of the embedding. -/
theorem emb_at (c : Dev nD) (t : Fin cfg0.N) (r : Fin 2048) (k : Fin 256) (ht : 256 * t.val + k.val < 1024) :
    (k0_pay1 (F := Ideal) (iblk m c 0 t) (iblk m c 1 t) (ix2 r k) : EReal) = emb m c (ix2 r ⟨256 * t.val + k.val, ht⟩) := by
  pointwise [k0_pay1, emb, val_main_v9, val_main_v0]
  refine Fin.sum_fin_congr fun q => ?_
  blk_point [iblk, V, idx t]

theorem sum_at (c : Dev nD) (t : Fin cfg0.N) (r : Fin 2048) (k : Fin 256) (ht : 256 * t.val + k.val < 1024) :
    k0_pay2 (F := Ideal) (iblk m c 0 t) (iblk m c 1 t) (iblk m c 2 t) (iblk m c 3 t) (ix2 r k) = sum m c (ix2 r ⟨256 * t.val + k.val, ht⟩) := by
  pointwise [k0_pay2, emb_at m c t r k ht, sum, val_main_v8, val_main_v7, val_main_v6, val_main_v5, val_main_v4, val_main_v3, val_main_v2, val_main_v1,
    val_main_cst, val_main_cst_0]
  refine congrArg₂ (· + ·) ?_ (congrArg₂ (· * ·) ?_ rfl)
  · blk_point [iblk, V, idx t]
  · refine congrArg Ideal.logistic (?_ : _ = m ((c : Thread nD τ).loc main_arg1) (ix2 r ⟨256 * t.val + k.val, ht⟩))
    blk_point [iblk, V, idx t]

theorem lt (t : Fin cfg0.N) (k : Fin 256) : 256 * t.val + k.val < 1024 := by
  have : t.val < 4 := lt_of_lt_of_eq t.isLt N_0
  omega

theorem final_sum (c : Dev nD) : (dats m 0 c).arrAt 4 cfg0.N = sum m c := by
  refine (dats m 0 c).arrAt_eq_of_covers 4 _ (by decide +kernel) fun t hf y => ?_
  blk_simp
  rw [after0_4]
  frame_out
  idx_vars y
  exact (sum_at m c t y0 y1 (lt t y1)).trans (congrArg _ (show _ = ((View.whole main_v5_0).slice (win0_4.rect t)).emb (ix2 y0 y1) by blk_ext [idx t]))

theorem final_emb (c : Dev nD) : (dats m 0 c).arrAt 5 cfg0.N = emb m c := by
  refine (dats m 0 c).arrAt_eq_of_covers 5 _ (by decide +kernel) fun t hf y => ?_
  blk_simp
  rw [after0_5]
  frame_out
  idx_vars y
  refine Eq.trans ?_ ((emb_at m c t y0 y1 (lt t y1)).trans (congrArg _ (show _ = ((View.whole main_v5_1).slice (win0_5.rect t)).emb (ix2 y0 y1) by blk_ext [idx t])))
  pointwise [k0_pay3]

end Cert.EmbedIdeal.Value

namespace Cert.Proof

theorem quiescent_EmbedRefIdeal : quiescent_EmbedRefIdeal := fun m ρ _ =>
  (θ_run Cert.EmbedRefIdeal.defs _ _).mono (fun r h => ⟨fun c => (h c).2.2, sem_eq_zero_of_no_sems (by decide) r.2⟩)
    (Cert.EmbedRefIdeal.Value.run (F := Ideal) m ρ)

/-- The kernel and the reference's lines agree over the reals. -/
theorem algebraic_EmbedIdeal_EmbedRefIdeal : algebraic_EmbedIdeal_EmbedRefIdeal := by
  pair_intro
  · run_from Cert.EmbedIdeal.Gen.run_main m g
  · run_from Cert.EmbedRefIdeal.Value.run m' g'
    · exact (Cert.EmbedIdeal.Value.final_sum m c).symm
    · exact (Cert.EmbedIdeal.Value.final_emb m c).symm

end Cert.Proof
-- ==== Proof.Gated.lean ====
/- The gated short convolution: the kernel rotates a block of rows and masks its beginning where the reference pads and cuts. The call
   writes the first 256 columns of its array, and the host keeps those. -/
module

public import proofs.«01_k».proof.Defs
public import proofs.«01_k».proof.Proof.Gen.GatedIdeal.Frame
public import proofs.«01_k».proof.Proof.Gen.GatedRefIdeal.Run
public import proofs.«01_k».proof.Proof.Gen.GatedRefIdeal.Read
public import proofs.«01_k».proof.Proof.Conv
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GatedRefIdeal.Rows

open Cert.GatedRefIdeal Cert.GatedRefIdeal.Gen Cert.GatedRefIdeal.Read Cert.ConvShift Cert.Consts

variable (X : FVec Ideal S1x2048x2816 .f32) (W : FVec Ideal S3x256 .f32)

/-- The gated input, and the convolution's output, at a row and a column. -/
def bx (k : Fin 256) (r : Fin 2048) : EReal := X (ix3 0 r ⟨256 + k.val, by omega⟩) * X (ix3 0 r ⟨512 + k.val, by omega⟩)
def cv (k : Fin 256) (r : Fin 2048) : EReal := W (ix2 0 k) * down 2 (bx X k) r + W (ix2 1 k) * down 1 (bx X k) r + W (ix2 2 k) * bx X k r

theorem gated_in (r : Fin 2048) (k : Fin 256) : val_main_v3 (F := Ideal) X (ix3 0 r k) = bx X k r := by
  pointwise [val_main_v3, val_main_v2, val_main_v1, bx]

theorem two_down (r : Fin 2048) (k : Fin 256) : val_main_v8 (F := Ideal) X (ix3 0 r k) = down 2 (bx X k) r := by
  pointwise [val_main_v8, val_main_v5, val_main_v4, val_main_cst, down]
  by_cases h : r.val < 2
  · rw [dif_pos h, dif_neg (by omega)]
  · rw [dif_neg h, dif_pos (by omega), gated_in]

theorem one_down (r : Fin 2048) (k : Fin 256) : val_main_v14 (F := Ideal) X (ix3 0 r k) = down 1 (bx X k) r := by
  pointwise [val_main_v14, val_main_v5, val_main_v4, val_main_cst, down]
  by_cases h : r.val < 1
  · rw [dif_pos (by omega), dif_neg (by omega)]
  · rw [dif_neg (by omega), dif_pos (by omega), gated_in]
    exact congrArg _ (Fin.ext (show 1 + r.val - 2 = r.val - 1 by omega))

theorem none_down (r : Fin 2048) (k : Fin 256) : val_main_v21 (F := Ideal) X (ix3 0 r k) = bx X k r := by
  pointwise [val_main_v21, val_main_v5, val_main_v4, val_main_cst]
  exact gated_in X r k

/-- The result. -/
theorem out (r : Fin 2048) (k : Fin 256) : val_main_v28 (F := Ideal) X W (ix2 r k) = X (ix3 0 r ⟨k.val, by omega⟩) * cv X W k r := by
  pointwise [val_main_v28, val_main_v27, val_main_v26, val_main_v25, val_main_v24, val_main_v23, val_main_v22, val_main_v20, val_main_v19,
    val_main_v18, val_main_v17, val_main_v16, val_main_v15, val_main_v13, val_main_v12, val_main_v11, val_main_v10, val_main_v9, val_main_v7,
    val_main_v6, val_main_v0, two_down, one_down, none_down, cv]

end Cert.GatedRefIdeal.Rows

namespace Cert.GatedIdeal.Value

open Cert.GatedIdeal Cert.GatedIdeal.Gen Cert.ConvShift
open Cert.GatedRefIdeal.Read

/-- What the one store leaves, at a row and a column. -/
theorem pay (W : FVec Ideal S3x256 .f32) (B H A : FVec Ideal S2048x256 .bf16) (r : Fin 2048) (k : Fin 256) :
    k0_pay1 (F := Ideal) W B H A (ix2 r k) = A (ix2 r k) * (W (ix2 0 k) * down 2 (fun r => B (ix2 r k) * H (ix2 r k)) r
      + W (ix2 1 k) * down 1 (fun r => B (ix2 r k) * H (ix2 r k)) r + W (ix2 2 k) * (B (ix2 r k) * H (ix2 r k))) := by
  pointwise [k0_pay1]
  word_cmp
  unfold down
  refine congrArg₂ (· * ·) rfl (congrArg₂ (· + ·) (congrArg₂ (· + ·) ?_ ?_) rfl)
  · by_cases h : 2 ≤ r.val
    · rw [if_pos h, dif_pos h]
      exact congrArg (fun q => W (ix2 0 k) * (B (ix2 q k) * H (ix2 q k))) (Fin.ext (show (r.val + 2048 - 2) % 2048 = r.val - 2 by omega))
    · rw [if_neg h, dif_neg h, mul_zero]
  · by_cases h : 1 ≤ r.val
    · rw [if_pos h, dif_pos h]
      exact congrArg (fun q => W (ix2 1 k) * (B (ix2 q k) * H (ix2 q k))) (Fin.ext (show (r.val + 2048 - 1) % 2048 = r.val - 1 by omega))
    · rw [if_neg h, dif_neg h, mul_zero]

variable (m : (ℓ : Loc nD τ sig) → Buf (Elt Ideal) ℓ)

/-- The windows' block indices in closed form. -/
theorem idx : ∀ t : Fin cfg0.N, win0_0.index t = ![0, 0] ∧ win0_1.index t = ![0, 1] ∧ win0_2.index t = ![0, 2]
    ∧ win0_3.index t = ![0, 0] ∧ win0_4.index t = ![0, 0] :=
  (by decide +kernel : ∀ t : Fin grid0.N, _)

/-- The arguments, as the reference's arrays. -/
def X (c : Dev nD) : FVec Ideal Cert.GatedRefIdeal.S1x2048x2816 .f32 := m ((c : Thread nD τ).loc main_arg0)
def W (c : Dev nD) : FVec Ideal Cert.GatedRefIdeal.S3x256 .f32 := m ((c : Thread nD τ).loc main_arg1)

/-- A block of 256 columns. -/
def xcols (c : Dev nD) (o : ℕ) (h : o + 256 ≤ 2816) : FVec Ideal S2048x256 .bf16 := fun j => X m c (ix3 0 (j 0) ⟨o + (j 1).val, by have : (j 1).val < 256 := (j 1).isLt; omega⟩)

/-- The array the columns are staged from. -/
theorem arr (c : Dev nD) : V m c main_v1 = (fun j => X m c (ix3 0 (j 0) (j 1)) : FVec Ideal S2048x2816 .bf16) := by
  simp only [V, V0, hostOps0, List.flatten_cons, List.flatten_nil, List.append_nil]
  after_results
  funext j
  idx_vars j
  unfold X
  pointwise

/-- The blocks of the one grid point. -/
theorem blk0 (c : Dev nD) (t : Fin cfg0.N) : iblk m c 0 t = xcols m c 0 (by omega) := by
  unfold iblk; rw [show V m c (Pipeline.arrRef spec0 0) = _ from arr m c]; funext j; idx_vars j; unfold xcols; blk_point [idx t]
theorem blk1 (c : Dev nD) (t : Fin cfg0.N) : iblk m c 1 t = xcols m c 256 (by omega) := by
  unfold iblk; rw [show V m c (Pipeline.arrRef spec0 1) = _ from arr m c]; funext j; idx_vars j; unfold xcols; blk_point [idx t]
theorem blk2 (c : Dev nD) (t : Fin cfg0.N) : iblk m c 2 t = xcols m c 512 (by omega) := by
  unfold iblk; rw [show V m c (Pipeline.arrRef spec0 2) = _ from arr m c]; funext j; idx_vars j; unfold xcols; blk_point [idx t]
theorem blk3 (c : Dev nD) (t : Fin cfg0.N) : iblk m c 3 t = W m c := by
  funext j; idx_vars j; unfold W; blk_point [iblk, V, idx t]

/-- The reference's result, and the array that begins with it. -/
def out (c : Dev nD) := val_main_v28 (F := Ideal) (X m c) (W m c)
def wide (c : Dev nD) : FVec Ideal S2048x1024 .bf16 := fun j => if h : (j 1).val < 256 then out m c (ix2 (j 0) ⟨(j 1).val, h⟩) else 0

theorem final (c : Dev nD) : (dats m 0 c).arrAt 4 cfg0.N
    = fun i : S2048x1024.Idx => if (i 1).val / 256 = 0 then wide m c i else (dats m 0 c).A 4 i := by
  refine (dats m 0 c).arrAt_eq_of_coversWhere 4 (wide m c) (fun β => β (1 : Fin 2) = 0) (by decide +kernel) (fun t hf y => ?_) (fun j => Iff.rfl)
  blk_simp
  rw [after0_4, blk0, blk1, blk2, blk3]
  frame_out
  idx_vars y
  refine (pay _ _ _ _ y0 y1).trans ?_
  have he : ((View.whole main_v2).slice (win0_4.rect t)).emb (ix2 y0 y1) = (ix2 y0 ⟨y1.val, by omega⟩ : S2048x1024.Idx) := by blk_ext [idx t]
  refine Eq.trans ?_ (congrArg (wide m c) he).symm
  unfold wide
  refine Eq.trans ?_ (dif_pos y1.isLt).symm
  refine Eq.trans ?_ (Cert.GatedRefIdeal.Rows.out _ _ y0 y1).symm
  exact congrArg (fun q => X m c (ix3 0 y0 q) * _) (Fin.ext (Nat.zero_add _))

/-- The columns the host keeps. -/
theorem kept (c : Dev nD) : extractStridedSlice S2048x256 ![0, 0] ((dats m 0 c).arrAt 4 cfg0.N : FVec Ideal S2048x1024 .bf16) slices_S2048x1024_S2048x256_0_0
    = out m c := by
  rw [final]
  funext j
  idx_vars j
  pointwise [wide]
  rw [if_pos (Nat.div_eq_of_lt j1.isLt)]

/-- What the host's line leaves. -/
theorem tail (c : Dev nD) : Pipeline.afterTail₀ cfgs (dats m) 0 (V0 m) [hostOps1] c main_v3 = out m c := by
  unfold Pipeline.afterTail₀
  simp only [hostOps1, List.flatten_cons, List.flatten_nil, List.append_nil]
  after_results
  refine Eq.trans (congrArg (fun A : FVec Ideal S2048x1024 .bf16 => extractStridedSlice S2048x256 ![0, 0] A slices_S2048x1024_S2048x256_0_0) ?_) (kept m c)
  exact (dats m 0 c).withArrays_arrAt sharedIn0 (V0 m c) (A_eq m c) 4

end Cert.GatedIdeal.Value

namespace Cert.Proof

theorem quiescent_GatedRefIdeal : quiescent_GatedRefIdeal := fun m ρ _ =>
  (θ_run Cert.GatedRefIdeal.defs _ _).mono (fun r h => ⟨fun c => (h c).2, sem_eq_zero_of_no_sems (by decide) r.2⟩)
    (Cert.GatedRefIdeal.Value.run (F := Ideal) m ρ)

/-- The convolution's kernel and the reference's lines agree over the reals. -/
theorem algebraic_GatedIdeal_GatedRefIdeal : algebraic_GatedIdeal_GatedRefIdeal := by
  pair_intro
  · run_from Cert.GatedIdeal.Gen.run_main m g
    · exact Cert.GatedIdeal.Gen.W_main_arg0 m _ c
  · run_from Cert.GatedRefIdeal.Value.run m' g'
    exact (Cert.GatedIdeal.Value.tail m c).symm

end Cert.Proof
-- ==== Proof.Mix.lean ====
/- The spatial gating: the kernel norms a block of rows by heads, mixes each chunk of 128 rows by the heads' triangular weights, and writes
   the product with the other operand into the last 256 columns of an array whose other columns it leaves. -/
module

public import proofs.«01_k».proof.Defs
public import proofs.«01_k».proof.Proof.Gen.MixIdeal.Frame
public import proofs.«01_k».proof.Proof.Gen.MixRefIdeal.Run
public import proofs.«01_k».proof.Proof.Gen.MixRefIdeal.Read
public import proofs.«01_k».proof.Proof.Gen.Pre_finite_mix
public import proofs.«01_k».proof.Proof.SguBlocks
public import proofs.«01_k».proof.Proof.Finite
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixRefIdeal.Rows

open Cert.MixRefIdeal Cert.MixRefIdeal.Gen Cert.MixRefIdeal.Read Cert.Consts Cert.Norm Cert.Real Cert.Gelu
open Cert.SguRefIdeal.Rows (cu cv x ri vn low wm sv row chunk pos cell hd lane)

variable (X : FVec Ideal S1x2048x2816 .f32) (G : FVec Ideal S256 .f32) (W : FVec Ideal S4x128x128 .f32) (B : FVec Ideal S4x128 .f32)
  (Y : FVec Ideal S1x2048x1024 .f32)

theorem first (i : Fin 1) (r : Fin 2048) (k : Fin 256) : val_main_v9 (F := Ideal) X (ix3 i r k) = gelu (cu X r k) := by
  rw [← gelu_eq, ← rootHalf_eq]
  pointwise [val_main_v9, val_main_v8, val_main_v7, val_main_v6, val_main_v5, val_main_v4, val_main_v3, val_main_v2, val_main_v0, val_main_cst, val_main_cst_0]
  rw [ofBits_half]
  rfl

theorem second (i : Fin 1) (r : Fin 2048) (h : Fin 4) (e : Fin 64) : val_main_v18 (F := Ideal) X (ix4 i r h e) = x X r h e := by
  unfold x
  rw [← gelu_eq, ← rootHalf_eq]
  pointwise [val_main_v18, val_main_v17, val_main_v16, val_main_v15, val_main_v14, val_main_v13, val_main_v12, val_main_v11, val_main_v10,
    val_main_v1, val_main_cst_1, val_main_cst_2]
  rw [ofBits_half]
  rfl

theorem root (i : Fin 1) (r : Fin 2048) (h : Fin 4) (j : Fin 1) : val_main_v27 (F := Ideal) X (ix4 i r h j) = ri X r h := by
  pointwise [val_main_v27, val_main_v26, val_main_v25, val_main_v24, val_main_v23, val_main_v22, val_main_v21, val_main_v20, second, val_main_cst_3,
    val_main_cst_4, val_main_cst_5]
  rw [ofBits_64]
  rfl

theorem normed (i : Fin 1) (c : Fin 16) (s : Fin 128) (h : Fin 4) (e : Fin 64) : val_main_v33 (F := Ideal) X G (ix5 i c s h e) = vn X G (row c s) h e := by
  pointwise [val_main_v33, val_main_v32, val_main_v31, val_main_v30, val_main_v29, val_main_v28, val_main_v19, second, root]
  rfl

theorem triangle (t s : Fin 128) : val_main_v35 (F := Ideal) (ix2 t s) = low t s :=
  Cert.SguRefIdeal.Rows.v44 t s

theorem weight (h : Fin 4) (t s : Fin 128) : val_main_v38 (F := Ideal) W (ix3 h t s) = wm W h t s := by
  pointwise [val_main_v38, val_main_v37, val_main_v36, triangle]
  rfl

theorem gate (i : Fin 1) (r : Fin 2048) (k : Fin 256) : val_main_v46 (F := Ideal) X G W B (ix3 i r k) = sv X G W B r k := by
  pointwise [val_main_v46, val_main_v45, val_main_v44, val_main_v43, val_main_v42, val_main_v41, val_main_v40, val_main_v39, normed, weight]
  rfl

/-- The result: the columns kept, and the product of the two operands. -/
theorem out (r : Fin 2048) (q : Fin 1024) : val_main_v51 (F := Ideal) X G W B Y (ix2 r q)
    = if h : q.val < 768 then Y (ix3 0 r q) else gelu (cu X r ⟨q.val - 768, by omega⟩) * sv X G W B r ⟨q.val - 768, by omega⟩ := by
  pointwise [val_main_v51, val_main_v50, val_main_v49, val_main_v48, val_main_v47, first, gate]

end Cert.MixRefIdeal.Rows

namespace Cert.MixIdeal.Rows

open Cert.MixIdeal Cert.MixIdeal.Gen Cert.Consts Cert.Norm Cert.Real Cert.Gelu
open Cert.SguIdeal.Rows (mix mix_eq row head)

theorem root_half : (Named.named (F := Ideal) κ "root_half" (φ := .f32) 0x3F3504F3#32) = rootHalf :=
  IdealRules.named_const.ideal_named_scalar _ _ _ _ rfl

theorem unit (U : FVec Ideal S512x256 .bf16) (r : Fin 512) (k : Fin 256) : k0_pay7 (F := Ideal) (k0_pay2 U) (ix2 r k) = gelu (U (ix2 r k)) := by
  pointwise [k0_pay7, k0_pay2, root_half, gelu]
  rw [ofBits_half]
  rfl

/-- The words of the heads and of the triangle are those of the gradient's kernel. -/
theorem head_eq (i : Fin 128) (k : Fin 256) : k0_pay9 (ix2 i k) = BitVec.ofNat 32 (k.val / 64) := head i k
theorem tri_eq : k0_pay10 = Cert.SguIdeal.Gen.k0_pay25 := rfl

/-- So are the normed values. -/
theorem normed_eq (C : FVec Ideal S512x256 .bf16) :
    k0_pay8 (F := Ideal) (k0_pay3 C) k0_pay4 (iota .tc S256x256 32 [1] iota_S256x256_d1_w32) 64#32 k0_pay5 k0_pay6 1#32 0#32
      = Cert.SguIdeal.Gen.k0_pay23 (Cert.SguIdeal.Gen.k0_pay15 C) Cert.SguIdeal.Gen.k0_pay16 (iota .tc Cert.SguIdeal.S256x256 32 [1] iota_S256x256_d1_w32)
        64#32 Cert.SguIdeal.Gen.k0_pay17 Cert.SguIdeal.Gen.k0_pay18 1#32 0#32 := by
  simp only [k0_pay8, Cert.SguIdeal.Gen.k0_pay23, Cert.SguIdeal.Gen.k0_pay22, Cert.SguIdeal.Gen.k0_pay21, Cert.SguIdeal.Gen.k0_pay19, root_half,
    Cert.SguIdeal.Rows.root_half]
  rfl

variable (P N : FVec Ideal S512x256 .f32) (G : FVec Ideal S1x256 .f32) (V : FVec Ideal S512x256 .bf16) (b : FVec Ideal S128x256 .f32)
  (w0 w1 w2 w3 : FVec Ideal S1x128x128 .f32)

/-- What each chunk's store leaves. -/
theorem chunk0 (i : Fin 128) (k : Fin 256) :
    k0_pay18 (F := Ideal) (k0_pay16 k0_pay9 k0_pay10 (k0_pay12 N G) (k0_pay13 b) (k0_pay14 w0) k0_pay15 (constant S128x256 .f32 0#32) w1 w2 w3) (k0_pay17 P) (ix2 i k)
      = P (ix2 (row 0 (by decide) i) k) * mix (k0_pay11 (F := Ideal) N G) b w0 w1 w2 w3 0 (by decide) i k := by
  have hp : k0_pay15 (ix2 i k) = IntOp.cmpi CmpIPredicate.eq (BitVec.ofNat 32 (k.val / 64)) 0#32 := by
    rw [← head_eq i k]
    rfl
  rw [mix_eq]
  pointwise [k0_pay18, k0_pay17, k0_pay16, k0_pay14, k0_pay13, k0_pay12, k0_pay11, head_eq, tri_eq, hp]
  simp only [row, zero_add]

theorem chunk1 (i : Fin 128) (k : Fin 256) :
    k0_pay23 (F := Ideal) P k0_pay9 k0_pay10 (k0_pay19 V) (k0_pay20 k0_pay9 k0_pay10 V b w0 w1) (k0_pay21 k0_pay10 w2) (k0_pay22 k0_pay9)
        (constant S128x256 .f32 0#32) w3 (ix2 i k)
      = P (ix2 (row 128 (by decide) i) k) * mix V b w0 w1 w2 w3 128 (by decide) i k := by
  rw [mix_eq]
  pointwise [k0_pay23, k0_pay22, k0_pay21, k0_pay20, k0_pay19, head_eq, tri_eq]
  rfl

theorem chunk2 (i : Fin 128) (k : Fin 256) :
    k0_pay28 (F := Ideal) P k0_pay9 k0_pay10 (k0_pay24 V) (k0_pay25 k0_pay9 k0_pay10 V b w0) (k0_pay26 w1) k0_pay27 w2 w3 (ix2 i k)
      = P (ix2 (row 256 (by decide) i) k) * mix V b w0 w1 w2 w3 256 (by decide) i k := by
  rw [mix_eq]
  pointwise [k0_pay28, k0_pay27, k0_pay26, k0_pay25, k0_pay24, head_eq, tri_eq]
  rfl

theorem chunk3 (i : Fin 128) (k : Fin 256) :
    k0_pay1 (F := Ideal) P k0_pay9 k0_pay10 (k0_pay29 V) (k0_pay31 k0_pay9 k0_pay10 (k0_pay29 V) (k0_pay30 b) w0 w1 w2) (k0_pay32 w3) k0_pay33 (ix2 i k)
      = P (ix2 (row 384 (by decide) i) k) * mix V b w0 w1 w2 w3 384 (by decide) i k := by
  rw [mix_eq]
  pointwise [k0_pay1, k0_pay33, k0_pay32, k0_pay31, k0_pay30, k0_pay29, head_eq, tri_eq]
  rfl

end Cert.MixIdeal.Rows

namespace Cert.MixIdeal.Value

open Cert.MixIdeal Cert.MixIdeal.Gen Cert.Consts Cert.Norm Cert.Real Cert.Gelu
open Cert.SguIdeal.Blocks (rr Ub Cb Gb bb wb)

variable (m : (ℓ : Loc nD τ sig) → Buf (Elt Ideal) ℓ)

/-- The windows' block indices in closed form. -/
theorem idx : ∀ t : Fin cfg0.N, win0_0.index t = ![t.val, 9] ∧ win0_1.index t = ![t.val, 10] ∧ win0_2.index t = ![0, 0]
    ∧ win0_3.index t = ![0, 0, 0] ∧ win0_4.index t = ![0, 0] ∧ win0_5.index t = ![t.val, 3] :=
  (by decide +kernel : ∀ t : Fin grid0.N, _)

/-- The arguments, as the reference's arrays. -/
def X (c : Dev nD) : FVec Ideal Cert.SguIdeal.S1x2048x2816 .f32 := m ((c : Thread nD τ).loc main_arg0)
def G (c : Dev nD) : FVec Ideal Cert.SguIdeal.S256 .f32 := m ((c : Thread nD τ).loc main_arg1)
def W (c : Dev nD) : FVec Ideal Cert.SguIdeal.S4x128x128 .f32 := m ((c : Thread nD τ).loc main_arg2)
def B (c : Dev nD) : FVec Ideal Cert.SguIdeal.S4x128 .f32 := m ((c : Thread nD τ).loc main_arg3)
def Y (c : Dev nD) : FVec Ideal Cert.MixRefIdeal.S1x2048x1024 .f32 := m ((c : Thread nD τ).loc main_arg4)

def g (t : Fin cfg0.N) : Fin 4 := ⟨t.val, lt_of_lt_of_eq t.isLt N_0⟩

/-- The arrays that the host's lines leave. -/
theorem arr_proj (c : Dev nD) : V m c main_v4 = (fun j => X m c (ix3 0 (j 0) (j 1)) : FVec Ideal S2048x2816 .bf16) := by
  simp only [V, hostOps0, List.flatten_cons, List.flatten_nil, List.append_nil]
  after_results
  funext j
  idx_vars j
  unfold X
  pointwise
theorem arr_gain (c : Dev nD) : V m c main_v5 = (fun j => G m c (ix1 (j 1)) : FVec Ideal S1x256 .f32) := by
  simp only [V, hostOps0, List.flatten_cons, List.flatten_nil, List.append_nil]
  after_results
  funext j
  idx_vars j
  unfold G
  pointwise
theorem arr_weight (c : Dev nD) : V m c main_arg2 = (W m c : FVec Ideal S4x128x128 .f32) := by
  simp only [V, hostOps0, List.flatten_cons, List.flatten_nil, List.append_nil]
  after_results
  unfold W
  rfl
theorem arr_bias (c : Dev nD) : V m c main_v2 = (fun j => B m c (ix2 (Cert.SguIdeal.Rows.hd (j 1)) (j 0)) : FVec Ideal S128x256 .f32) := by
  simp only [V, hostOps0, List.flatten_cons, List.flatten_nil, List.append_nil]
  after_results
  funext j
  idx_vars j
  unfold B Cert.SguIdeal.Rows.hd
  pointwise
theorem arr_rest (c : Dev nD) : V m c main_v8 = (fun j => Y m c (ix3 0 (j 0) (j 1)) : FVec Ideal S2048x1024 .bf16) := by
  simp only [V, hostOps0, List.flatten_cons, List.flatten_nil, List.append_nil]
  after_results
  funext j
  idx_vars j
  unfold Y
  pointwise
  rfl

/-- The blocks of a grid point. -/
theorem blk0 (c : Dev nD) (t : Fin cfg0.N) : iblk m c 0 t = Ub (X m c) (g t) := by
  unfold iblk; rw [show V m c (Pipeline.arrRef spec0 0) = _ from arr_proj m c]; funext j; idx_vars j
  unfold Ub g Cert.SguRefIdeal.Rows.cu rr; blk_point [idx t]
theorem blk1 (c : Dev nD) (t : Fin cfg0.N) : iblk m c 1 t = Cb (X m c) (g t) := by
  unfold iblk; rw [show V m c (Pipeline.arrRef spec0 1) = _ from arr_proj m c]; funext j; idx_vars j
  unfold Cb g Cert.SguRefIdeal.Rows.cv rr; blk_point [idx t]
theorem blk2 (c : Dev nD) (t : Fin cfg0.N) : iblk m c 2 t = Gb (G m c) := by
  unfold iblk; rw [show V m c (Pipeline.arrRef spec0 2) = _ from arr_gain m c]; funext j; idx_vars j; unfold Gb; blk_point [idx t]
theorem blk4 (c : Dev nD) (t : Fin cfg0.N) : iblk m c 4 t = bb (B m c) := by
  unfold iblk; rw [show V m c (Pipeline.arrRef spec0 4) = _ from arr_bias m c]; funext j; idx_vars j; unfold bb Cert.SguIdeal.Rows.hd; blk_point [idx t]

theorem w0 (c : Dev nD) (t : Fin cfg0.N) : View.ld (iblk m c 3 t) (Rect.unit ![0, 0, 0] ![1, 128, 128] inb_S4x128x128_S1x128x128_0_0_0) = wb (W m c) 0 := by
  funext j; idx_vars j; unfold W wb; blk_point [iblk, V, idx t]
theorem w1 (c : Dev nD) (t : Fin cfg0.N) : View.ld (iblk m c 3 t) (Rect.unit ![1, 0, 0] ![1, 128, 128] inb_S4x128x128_S1x128x128_1_0_0) = wb (W m c) 1 := by
  funext j; idx_vars j; unfold W wb; blk_point [iblk, V, idx t]
theorem w2 (c : Dev nD) (t : Fin cfg0.N) : View.ld (iblk m c 3 t) (Rect.unit ![2, 0, 0] ![1, 128, 128] inb_S4x128x128_S1x128x128_2_0_0) = wb (W m c) 2 := by
  funext j; idx_vars j; unfold W wb; blk_point [iblk, V, idx t]
theorem w3 (c : Dev nD) (t : Fin cfg0.N) : View.ld (iblk m c 3 t) (Rect.unit ![3, 0, 0] ![1, 128, 128] inb_S4x128x128_S1x128x128_3_0_0) = wb (W m c) 3 := by
  funext j; idx_vars j; unfold W wb; blk_point [iblk, V, idx t]

variable (c : Dev nD) (hX : ∀ r k, IsReal (Cert.SguRefIdeal.Rows.cv (X m c) r k))

/-- The argument with every column before the normed operand's set to zero: the gate reads none of those. -/
def Xv : FVec Ideal Cert.SguIdeal.S1x2048x2816 .f32 := fun j => if 2560 ≤ (j 2).val then X m c j else 0

theorem cv_Xv : Cert.SguRefIdeal.Rows.cv (Xv m c) = Cert.SguRefIdeal.Rows.cv (X m c) := by
  funext r k
  exact if_pos (Nat.le_add_right 2560 k.val)

theorem sv_Xv : Cert.SguRefIdeal.Rows.sv (Xv m c) = Cert.SguRefIdeal.Rows.sv (X m c) := by
  funext G W B r k
  unfold Cert.SguRefIdeal.Rows.sv Cert.SguRefIdeal.Rows.vn Cert.SguRefIdeal.Rows.ri Cert.SguRefIdeal.Rows.x
  rw [cv_Xv]

theorem Cb_Xv (t : Fin 4) : Cb (Xv m c) t = Cb (X m c) t := by
  unfold Cb
  rw [cv_Xv]

include hX in
theorem real_Xv (j : Cert.SguIdeal.S1x2048x2816.Idx) : IsReal (Xv m c j) := by
  unfold Xv
  split_ifs with h
  on_goal 2 => exact isReal_zero
  idx_vars j
  have hj : 2560 ≤ j2.val := h
  have hk : j2.val < 2816 := j2.isLt
  have := hX j1 ⟨j2.val - 2560, by omega⟩
  unfold Cert.SguRefIdeal.Rows.cv at this
  obtain rfl : j0 = 0 := Subsingleton.elim _ _
  rwa [show (⟨2560 + (j2.val - 2560), by omega⟩ : Fin 2816) = j2 from Fin.ext (Nat.add_sub_of_le hj)] at this

/-- The reference's result. -/
def out := Cert.MixRefIdeal.Read.val_main_v51 (F := Ideal) (X m c) (G m c) (W m c) (B m c) (Y m c)

include hX in
/-- A row of a chunk. -/
theorem chunk_at (t : Fin cfg0.N) {o : ℕ} (ho : o ≤ 384) (hq : o % 128 = 0) (i : Fin 128) (k : Fin 256) :
    k0_pay7 (F := Ideal) (k0_pay2 (Ub (X m c) (g t))) (ix2 (Cert.SguIdeal.Rows.row o ho i) k)
        * Cert.SguIdeal.Rows.mix (k0_pay11 (F := Ideal) (k0_pay8 (k0_pay3 (Cb (X m c) (g t))) k0_pay4 (iota .tc S256x256 32 [1] iota_S256x256_d1_w32) 64#32
          k0_pay5 k0_pay6 1#32 0#32) (Gb (G m c))) (bb (B m c)) (wb (W m c) 0) (wb (W m c) 1) (wb (W m c) 2) (wb (W m c) 3) o ho i k
      = out m c (ix2 (rr (g t) (Cert.SguIdeal.Rows.row o ho i)) ⟨768 + k.val, by omega⟩) := by
  rw [Rows.normed_eq, Rows.unit]
  unfold out
  rw [Cert.MixRefIdeal.Rows.out, dif_neg (by simp)]
  have hk : (⟨768 + k.val - 768, by omega⟩ : Fin 256) = k := Fin.ext (Nat.add_sub_cancel_left _ _)
  rw [hk]
  rw [← sv_Xv, ← Cb_Xv]
  exact congrArg (_ * ·) (Cert.SguIdeal.Blocks.mix_at (g t) (real_Xv m c hX) ho hq i k)

include hX in
theorem final : (dats m 0 c).arrAt 5 cfg0.N = out m c := by
  have hw : (dats m 0 c).arrAt 5 cfg0.N = fun i : S2048x1024.Idx => if (i 1).val / 256 = 3 then out m c i else (dats m 0 c).A 5 i := by
    refine (dats m 0 c).arrAt_eq_of_coversWhere 5 (out m c) (fun β => β (1 : Fin 2) = 3) (by decide +kernel) (fun t hf y => ?_) (fun j => Iff.rfl)
    blk_simp
    rw [after0_5]
    unfold outsAt0
    frame_out
    rw [blk0, blk1, blk2, blk4]
    idx_vars y
    have he : ((View.whole main_v8).slice (win0_5.rect t)).emb (ix2 y0 y1) = (ix2 (rr (g t) y0) ⟨768 + y1.val, by omega⟩ : S2048x1024.Idx) := by
      unfold rr g; blk_ext [idx t]
    refine Eq.trans ?_ (congrArg (out m c) he).symm
    canon_tiles x h
    all_goals
      idx_vars x
      obtain rfl : x1 = y1 := Fin.ext h1.symm
    · obtain rfl : y0 = Cert.SguIdeal.Rows.row 384 (by decide) x0 := Fin.ext h0
      refine (Rows.chunk3 _ _ _ _ _ _ _ x0 x1).trans ?_
      rw [w0, w1, w2, w3]
      exact chunk_at m c hX t (by decide) (by decide) x0 x1
    · obtain rfl : y0 = Cert.SguIdeal.Rows.row 256 (by decide) x0 := Fin.ext h0
      refine (Rows.chunk2 _ _ _ _ _ _ _ x0 x1).trans ?_
      rw [w0, w1, w2, w3]
      exact chunk_at m c hX t (by decide) (by decide) x0 x1
    · obtain rfl : y0 = Cert.SguIdeal.Rows.row 128 (by decide) x0 := Fin.ext h0
      refine (Rows.chunk1 _ _ _ _ _ _ _ x0 x1).trans ?_
      rw [w0, w1, w2, w3]
      exact chunk_at m c hX t (by decide) (by decide) x0 x1
    · obtain rfl : y0 = Cert.SguIdeal.Rows.row 0 (by decide) x0 := Fin.ext (h0.trans (Nat.zero_add _).symm)
      refine (Rows.chunk0 _ _ _ _ _ _ _ _ x0 x1).trans ?_
      rw [w0, w1, w2, w3]
      exact chunk_at m c hX t (by decide) (by decide) x0 x1
  rw [hw]
  funext i
  idx_vars i
  by_cases h : i1.val / 256 = 3
  · exact if_pos h
  · refine (if_neg h).trans ?_
    rw [show (dats m 0 c).A 5 = _ from arr_rest m c]
    unfold out
    rw [Cert.MixRefIdeal.Rows.out, dif_pos (by omega)]
    rfl

end Cert.MixIdeal.Value

namespace Cert.Proof

theorem preserves_Mix_MixIdeal : preserves_Mix_MixIdeal :=
  IdealRules.named_const.statement Cert.MixIdeal.κ _ _ _ _ rfl

theorem quiescent_MixRefIdeal : quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The spatial gating: where the normed operand is finite the kernel's result is the reference's over the reals. -/
theorem algebraic_MixIdeal_MixRefIdeal : algebraic_MixIdeal_MixRefIdeal_pre_finite_mix := by
  pair_intro
  · run_from Cert.MixIdeal.Gen.run_main m g
  · have hX (c) (r : Fin 2048) (k : Fin 256) : Cert.Real.IsReal (Cert.SguRefIdeal.Rows.cv (Cert.MixIdeal.Value.X m c) r k) := by
      have h := Finite.isReal_of_ones _ _ _ (hpre c) (ix3 0 r k)
      pointwise at h
      exact h
    run_from Cert.MixRefIdeal.Value.run m' g'
    · obtain ⟨h0, h1, h2, h3, h4⟩ := hagree c
      rw [Cert.MixRefIdeal.Read.val_main_v51_eq, h0, h1, h2, h3, h4]
      exact (Cert.MixIdeal.Value.final m c (hX c)).symm

end Cert.Proof
-- ==== Proof.lean ====
/- The claim, put together. Every call has a module of its own, named after it; each holds the kernel's result arrays, read,
   and the equality with the reference's results. The kernels' frames are the generated ones but the attention's. -/
module

public import proofs.«01_k».proof.Defs
public import proofs.«01_k».proof.Proof.Gen.Relu.Frame
public import proofs.«01_k».proof.Proof.Relu
public import proofs.«01_k».proof.Proof.Gen.Dw2.Frame
public import proofs.«01_k».proof.Proof.Dw2
public import proofs.«01_k».proof.Proof.Gen.Conv.Frame
public import proofs.«01_k».proof.Proof.Conv
public import proofs.«01_k».proof.Proof.Gen.Loss.Frame
public import proofs.«01_k».proof.Proof.Loss
public import proofs.«01_k».proof.Proof.Gen.Norm2.Frame
public import proofs.«01_k».proof.Proof.Norm2
public import proofs.«01_k».proof.Proof.Gen.Norm1.Frame
public import proofs.«01_k».proof.Proof.Norm1
public import proofs.«01_k».proof.Proof.Gen.Ple.Frame
public import proofs.«01_k».proof.Proof.Ple
public import proofs.«01_k».proof.Proof.Gen.Sgu.Frame
public import proofs.«01_k».proof.Proof.Sgu
public import proofs.«01_k».proof.Proof.AttnSame
public import proofs.«01_k».proof.Proof.Attn
public import proofs.«01_k».proof.Proof.Gen.Ffn.Frame
public import proofs.«01_k».proof.Proof.Ffn
public import proofs.«01_k».proof.Proof.Gen.Embed.Frame
public import proofs.«01_k».proof.Proof.Embed
public import proofs.«01_k».proof.Proof.Gen.Gated.Frame
public import proofs.«01_k».proof.Proof.Gated
public import proofs.«01_k».proof.Proof.Gen.Mix.Frame
public import proofs.«01_k».proof.Proof.Mix

@[expose] public section

noncomputable section

namespace Cert.Proof

open Idealize.ShloMosaic Idealize.SL.Sem

theorem claim : Cert.Claim := ⟨
  Cert.Relu.Gen.facts, Cert.ReluIdeal.Gen.facts, Cert.ReluRefIdeal.Gen.facts,
  Cert.Dw2.Gen.facts, Cert.Dw2Ideal.Gen.facts, Cert.Dw2RefIdeal.Gen.facts,
  Cert.Conv.Gen.facts, Cert.ConvIdeal.Gen.facts, Cert.ConvRefIdeal.Gen.facts,
  Cert.Loss.Gen.facts, Cert.LossIdeal.Gen.facts, Cert.LossRefIdeal.Gen.facts,
  Cert.Norm2.Gen.facts, Cert.Norm2Ideal.Gen.facts, Cert.Norm2RefIdeal.Gen.facts,
  Cert.Norm1.Gen.facts, Cert.Norm1Ideal.Gen.facts, Cert.Norm1RefIdeal.Gen.facts,
  Cert.Ple.Gen.facts, Cert.PleIdeal.Gen.facts, Cert.PleRefIdeal.Gen.facts,
  Cert.Sgu.Gen.facts, Cert.SguIdeal.Gen.facts, Cert.SguRefIdeal.Gen.facts,
  Cert.Attn.Gen.facts, Cert.AttnIdeal.Gen.facts, Cert.AttnRefIdeal.Gen.facts,
  Cert.Ffn.Gen.facts, Cert.FfnIdeal.Gen.facts, Cert.FfnRefIdeal.Gen.facts,
  Cert.Embed.Gen.facts, Cert.EmbedIdeal.Gen.facts, Cert.EmbedRefIdeal.Gen.facts,
  Cert.Gated.Gen.facts, Cert.GatedIdeal.Gen.facts, Cert.GatedRefIdeal.Gen.facts,
  Cert.Mix.Gen.facts, Cert.MixIdeal.Gen.facts, Cert.MixRefIdeal.Gen.facts,
  Cert.Pre_finite_sgu.Gen.facts,
  Cert.Pre_finite_attn.Gen.facts,
  Cert.Pre_finite_mix.Gen.facts,
  fun m ρ _ => Cert.Relu.Gen.frame m ρ, fun m ρ _ => Cert.ReluIdeal.Gen.frame m ρ, quiescent_ReluRefIdeal,
  fun m ρ _ => Cert.Dw2.Gen.frame m ρ, fun m ρ _ => Cert.Dw2Ideal.Gen.frame m ρ, quiescent_Dw2RefIdeal,
  fun m ρ _ => Cert.Conv.Gen.frame m ρ, fun m ρ _ => Cert.ConvIdeal.Gen.frame m ρ, quiescent_ConvRefIdeal,
  fun m ρ _ => Cert.Loss.Gen.frame m ρ, fun m ρ _ => Cert.LossIdeal.Gen.frame m ρ, quiescent_LossRefIdeal,
  fun m ρ _ => Cert.Norm2.Gen.frame m ρ, fun m ρ _ => Cert.Norm2Ideal.Gen.frame m ρ, quiescent_Norm2RefIdeal,
  fun m ρ _ => Cert.Norm1.Gen.frame m ρ, fun m ρ _ => Cert.Norm1Ideal.Gen.frame m ρ, quiescent_Norm1RefIdeal,
  fun m ρ _ => Cert.Ple.Gen.frame m ρ, fun m ρ _ => Cert.PleIdeal.Gen.frame m ρ, quiescent_PleRefIdeal,
  fun m ρ _ => Cert.Sgu.Gen.frame m ρ, fun m ρ _ => Cert.SguIdeal.Gen.frame m ρ, fun m ρ _ => Cert.SguIdeal.Gen.frame m ρ,
  quiescent_SguRefIdeal, fun m ρ _ => quiescent_SguRefIdeal m ρ trivial,
  fun m ρ _ => Cert.Attn.Hand.frame_run m ρ, fun m ρ _ => Cert.AttnIdeal.Hand.frame_run m ρ, fun m ρ _ => Cert.AttnIdeal.Hand.frame_run m ρ,
  quiescent_AttnRefIdeal, fun m ρ _ => quiescent_AttnRefIdeal m ρ trivial,
  fun m ρ _ => Cert.Ffn.Gen.frame m ρ, fun m ρ _ => Cert.FfnIdeal.Gen.frame m ρ, quiescent_FfnRefIdeal,
  fun m ρ _ => Cert.Embed.Gen.frame m ρ, fun m ρ _ => Cert.EmbedIdeal.Gen.frame m ρ, quiescent_EmbedRefIdeal,
  fun m ρ _ => Cert.Gated.Gen.frame m ρ, fun m ρ _ => Cert.GatedIdeal.Gen.frame m ρ, quiescent_GatedRefIdeal,
  fun m ρ _ => Cert.Mix.Gen.frame m ρ, fun m ρ _ => Cert.MixIdeal.Gen.frame m ρ, fun m ρ _ => Cert.MixIdeal.Gen.frame m ρ,
  quiescent_MixRefIdeal, fun m ρ _ => quiescent_MixRefIdeal m ρ trivial,
  (trivial : preserves_Relu_ReluIdeal), algebraic_ReluIdeal_ReluRefIdeal,
  (trivial : preserves_Dw2_Dw2Ideal), algebraic_Dw2Ideal_Dw2RefIdeal,
  (trivial : preserves_Conv_ConvIdeal), algebraic_ConvIdeal_ConvRefIdeal,
  (trivial : preserves_Loss_LossIdeal), algebraic_LossIdeal_LossRefIdeal,
  (trivial : preserves_Norm2_Norm2Ideal), algebraic_Norm2Ideal_Norm2RefIdeal,
  (trivial : preserves_Norm1_Norm1Ideal), algebraic_Norm1Ideal_Norm1RefIdeal,
  (trivial : preserves_Ple_PleIdeal), algebraic_PleIdeal_PleRefIdeal,
  preserves_Sgu_SguIdeal, algebraic_SguIdeal_SguRefIdeal,
  preserves_Attn_AttnIdeal, algebraic_AttnIdeal_AttnRefIdeal,
  (trivial : preserves_Ffn_FfnIdeal), algebraic_FfnIdeal_FfnRefIdeal,
  (trivial : preserves_Embed_EmbedIdeal), algebraic_EmbedIdeal_EmbedRefIdeal,
  (trivial : preserves_Gated_GatedIdeal), algebraic_GatedIdeal_GatedRefIdeal,
  preserves_Mix_MixIdeal, algebraic_MixIdeal_MixRefIdeal⟩

end Cert.Proof

end
